-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_cached [hPre_finite_cached : Cert.Pre_finite_cached.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_cached [hPre_finite_cached : Cert.Pre_finite_cached.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_cached.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_cached [hKernel8Ideal : Cert.Kernel8Ideal.Facts] [hPre_finite_cached : Cert.Pre_finite_cached.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_cached m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_cached [hReference8Ideal : Cert.Reference8Ideal.Facts] [hPre_finite_cached : Cert.Pre_finite_cached.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_cached m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_on_written_pre_finite_qk [hKernelIdeal : Cert.KernelIdeal.Facts] [hReferenceIdeal : Cert.ReferenceIdeal.Facts] [hPre_finite_qk : Cert.Pre_finite_qk.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 1024]⟩ : Shape).Idx, (Cert.On_written.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v0_0) i = v0 c i)
          ∧ (∀ i : (⟨4, ![32, 2, 256, 1024]⟩ : Shape).Idx, (Cert.On_written.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v0_1) i = v1 c i)
          ∧ (∀ i : (⟨4, ![32, 2, 256, 1024]⟩ : Shape).Idx, (Cert.On_written.fn (F := Ideal) (m ((c.tc : Thread Cert.KernelIdeal.nD Cert.KernelIdeal.τ).loc Cert.KernelIdeal.main_arg0))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 1024]⟩ : Shape).Idx, (Cert.On_written.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v24) i = v0 c i)
          ∧ (∀ i : (⟨4, ![32, 2, 256, 1024]⟩ : Shape).Idx, (Cert.On_written.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v29) i = v1 c i)
          ∧ (∀ i : (⟨4, ![32, 2, 256, 1024]⟩ : Shape).Idx, (Cert.On_written.fn (F := Ideal) (m ((c.tc : Thread Cert.KernelIdeal.nD Cert.KernelIdeal.τ).loc Cert.KernelIdeal.main_arg0))).2.2 i = 1#1 → r.2.mem ((c.tc : Thread Cert.ReferenceIdeal.nD Cert.ReferenceIdeal.τ).loc Cert.ReferenceIdeal.main_v34) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v70) = v0 c
          ∧ r.2.mem ((c.tc : Thread Cert.Reference7Ideal.nD Cert.Reference7Ideal.τ).loc Cert.Reference7Ideal.main_v90) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal_on_written_cached_pre_finite_cached [hKernel8Ideal : Cert.Kernel8Ideal.Facts] [hReference8Ideal : Cert.Reference8Ideal.Facts] [hPre_finite_cached : Cert.Pre_finite_cached.Facts] [hOn_written_cached : Cert.On_written_cached.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_cached m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          (∀ i : (⟨2, ![12288, 1024]⟩ : Shape).Idx, (Cert.On_written_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 i = 1#1 → r.2.mem ((c.tc : Thread Cert.Kernel8Ideal.nD Cert.Kernel8Ideal.τ).loc Cert.Kernel8Ideal.main_v0_0) i = v0 c i)
          ∧ (∀ i : (⟨4, ![32, 2, 256, 1024]⟩ : Shape).Idx, (Cert.On_written_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.1 i = 1#1 → r.2.mem ((c.tc : Thread Cert.Kernel8Ideal.nD Cert.Kernel8Ideal.τ).loc Cert.Kernel8Ideal.main_v0_1) i = v1 c i)
          ∧ (∀ i : (⟨4, ![32, 2, 256, 1024]⟩ : Shape).Idx, (Cert.On_written_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.2 i = 1#1 → r.2.mem ((c.tc : Thread Cert.Kernel8Ideal.nD Cert.Kernel8Ideal.τ).loc Cert.Kernel8Ideal.main_v0_2) i = v2 c i)
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨2, ![12288, 1024]⟩ : Shape).Idx, (Cert.On_written_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 i = 1#1 → r.2.mem ((c.tc : Thread Cert.Reference8Ideal.nD Cert.Reference8Ideal.τ).loc Cert.Reference8Ideal.main_v24) i = v0 c i)
          ∧ (∀ i : (⟨4, ![32, 2, 256, 1024]⟩ : Shape).Idx, (Cert.On_written_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.1 i = 1#1 → r.2.mem ((c.tc : Thread Cert.Reference8Ideal.nD Cert.Reference8Ideal.τ).loc Cert.Reference8Ideal.main_v30) i = v1 c i)
          ∧ (∀ i : (⟨4, ![32, 2, 256, 1024]⟩ : Shape).Idx, (Cert.On_written_cached.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2.2 i = 1#1 → r.2.mem ((c.tc : Thread Cert.Reference8Ideal.nD Cert.Reference8Ideal.τ).loc Cert.Reference8Ideal.main_v36) i = v2 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v42) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_qk : Cert.Pre_finite_qk.Facts) (hPre_finite_cached : Cert.Pre_finite_cached.Facts) (hOn_written : Cert.On_written.Facts) (hOn_written_cached : Cert.On_written_cached.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_cached (hKernel8Ideal := hKernel8Ideal) (hPre_finite_cached := hPre_finite_cached)
    ∧ quiescent_Reference8Ideal (hReference8Ideal := hReference8Ideal)
    ∧ quiescent_Reference8Ideal_pre_finite_cached (hReference8Ideal := hReference8Ideal) (hPre_finite_cached := hPre_finite_cached)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_written_pre_finite_qk (hKernelIdeal := hKernelIdeal) (hReferenceIdeal := hReferenceIdeal) (hPre_finite_qk := hPre_finite_qk) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_on_written_cached_pre_finite_cached (hKernel8Ideal := hKernel8Ideal) (hReference8Ideal := hReference8Ideal) (hPre_finite_cached := hPre_finite_cached) (hOn_written_cached := hOn_written_cached)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_written.lean ====
abbrev S12288x12816 : Shape := ⟨2, ![12288, 12816]⟩
abbrev S12288x1024 : Shape := ⟨2, ![12288, 1024]⟩
abbrev S_ : Shape := ⟨0, ![]⟩
abbrev S32x2x256x1024 : Shape := ⟨4, ![32, 2, 256, 1024]⟩

class Facts : Prop where
  bcast_S_S12288x1024 : S_.BroadcastsInDim S12288x1024 (![] : Fin 0 → Fin S12288x1024.rank)
  bcast_S_S32x2x256x1024 : S_.BroadcastsInDim S32x2x256x1024 (![] : Fin 0 → Fin S32x2x256x1024.rank)

variable [Facts]

def fn {F : FTy → Type} [FloatOps F] (main_arg0 : FVec F S12288x12816 .f32) : IVec S12288x1024 1 × IVec S32x2x256x1024 1 × IVec S32x2x256x1024 1 :=
  let main_v0 : IVec S12288x1024 32 := iotaInDim S12288x1024 32 0
  let main_c : IVec S_ 32 := constantI S_ 32 8192#32
  let main_v1 : IVec S12288x1024 32 := broadcastInDim S12288x1024 ![] bcast_S_S12288x1024 main_c
  let main_v2 : IVec S12288x1024 1 := cmpi .slt main_v0 main_v1
  let main_v3 : IVec S32x2x256x1024 32 := iotaInDim S32x2x256x1024 32 1
  let main_c_0 : IVec S_ 32 := constantI S_ 32 1#32
  let main_v4 : IVec S32x2x256x1024 32 := broadcastInDim S32x2x256x1024 ![] bcast_S_S32x2x256x1024 main_c_0
  let main_v5 : IVec S32x2x256x1024 1 := cmpi .slt main_v3 main_v4
  (main_v2, main_v5, main_v5)
-- ==== On_written_cached.lean ====
abbrev S12288x12816 : Shape := ⟨2, ![12288, 12816]⟩
abbrev S32x2x256x1024 : Shape := ⟨4, ![32, 2, 256, 1024]⟩
abbrev S12288x1024 : Shape := ⟨2, ![12288, 1024]⟩
abbrev S_ : Shape := ⟨0, ![]⟩

class Facts : Prop where
  bcast_S_S12288x1024 : S_.BroadcastsInDim S12288x1024 (![] : Fin 0 → Fin S12288x1024.rank)
  bcast_S_S32x2x256x1024 : S_.BroadcastsInDim S32x2x256x1024 (![] : Fin 0 → Fin S32x2x256x1024.rank)

variable [Facts]

def fn {F : FTy → Type} [FloatOps F] (main_arg0 : FVec F S12288x12816 .f32) (main_arg1 : FVec F S32x2x256x1024 .f32) (main_arg2 : FVec F S32x2x256x1024 .f32) : IVec S12288x1024 1 × IVec S32x2x256x1024 1 × IVec S32x2x256x1024 1 :=
  let main_v0 : IVec S12288x1024 32 := iotaInDim S12288x1024 32 0
  let main_c : IVec S_ 32 := constantI S_ 32 8192#32
  let main_v1 : IVec S12288x1024 32 := broadcastInDim S12288x1024 ![] bcast_S_S12288x1024 main_c
  let main_v2 : IVec S12288x1024 1 := cmpi .slt main_v0 main_v1
  let main_v3 : IVec S32x2x256x1024 32 := iotaInDim S32x2x256x1024 32 1
  let main_c_0 : IVec S_ 32 := constantI S_ 32 2#32
  let main_v4 : IVec S32x2x256x1024 32 := broadcastInDim S32x2x256x1024 ![] bcast_S_S32x2x256x1024 main_c_0
  let main_v5 : IVec S32x2x256x1024 1 := cmpi .slt main_v3 main_v4
  (main_v2, main_v5, main_v5)
-- ==== Pre_finite_cached.lean ====
abbrev S12288x12816 : Shape := ⟨2, ![12288, 12816]⟩
abbrev S32x2x256x1024 : Shape := ⟨4, ![32, 2, 256, 1024]⟩
abbrev S8192x2048 : Shape := ⟨2, ![8192, 2048]⟩
abbrev S_ : Shape := ⟨0, ![]⟩

class Facts : Prop where
  slices_S12288x12816_S8192x2048_0_0 : S12288x12816.Slices ![0, 0] S8192x2048
  bcast_S_S8192x2048 : S_.BroadcastsInDim S8192x2048 (![] : Fin 0 → Fin S8192x2048.rank)

variable [Facts]

def fn {F : FTy → Type} [FloatOps F] (main_arg0 : FVec F S12288x12816 .f32) (main_arg1 : FVec F S32x2x256x1024 .f32) (main_arg2 : FVec F S32x2x256x1024 .f32) : IVec S8192x2048 1 :=
  let main_v0 : FVec F S8192x2048 .f32 := (extractStridedSlice S8192x2048 ![0, 0] · slices_S12288x12816_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  main_v3
-- ==== Pre_finite_qk.lean ====
abbrev S12288x12816 : Shape := ⟨2, ![12288, 12816]⟩
abbrev S8192x2048 : Shape := ⟨2, ![8192, 2048]⟩
abbrev S_ : Shape := ⟨0, ![]⟩

class Facts : Prop where
  slices_S12288x12816_S8192x2048_0_0 : S12288x12816.Slices ![0, 0] S8192x2048
  bcast_S_S8192x2048 : S_.BroadcastsInDim S8192x2048 (![] : Fin 0 → Fin S8192x2048.rank)

variable [Facts]

def fn {F : FTy → Type} [FloatOps F] (main_arg0 : FVec F S12288x12816 .f32) : IVec S8192x2048 1 :=
  let main_v0 : FVec F S8192x2048 .f32 := (extractStridedSlice S8192x2048 ![0, 0] · slices_S12288x12816_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  main_v3
-- ==== Kernel.lean ====
abbrev S12288x12816 : Shape := ⟨2, ![12288, 12816]⟩
abbrev S12288x1024 : Shape := ⟨2, ![12288, 1024]⟩
abbrev S32x2x256x1024 : Shape := ⟨4, ![32, 2, 256, 1024]⟩
abbrev S256x1024 : Shape := ⟨2, ![256, 1024]⟩
abbrev S1x1x256x1024 : Shape := ⟨4, ![1, 1, 256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S12288x12816, .f32⟩
  | .hbm, ⟨1, _⟩ => ⟨S12288x1024, .bf16⟩
  | .hbm, ⟨2, _⟩ => ⟨S32x2x256x1024, .f32⟩
  | .hbm, ⟨3, _⟩ => ⟨S32x2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1x256x1024, .f32⟩
  | .local _ .vmem, ⟨9, _⟩ => ⟨S1x1x256x1024, .f32⟩
  | .local _ .vmem, ⟨10, _⟩ => ⟨S1x1x256x1024, .f32⟩
  | .local _ .vmem, ⟨11, _⟩ => ⟨S1x1x256x1024, .f32⟩
  | _, _ => ⟨S12288x12816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S12288x12816 : Shape := ⟨2, ![12288, 12816]⟩
abbrev S8192x1024 : Shape := ⟨2, ![8192, 1024]⟩
abbrev S32x256x8x128 : Shape := ⟨4, ![32, 256, 8, 128]⟩
abbrev S_ : Shape := ⟨0, ![]⟩
abbrev S32x8x256x256 : Shape := ⟨4, ![32, 8, 256, 256]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S12288x1024 : Shape := ⟨2, ![12288, 1024]⟩
abbrev S32x256x1024 : Shape := ⟨3, ![32, 256, 1024]⟩
abbrev S32x1x256x1024 : Shape := ⟨4, ![32, 1, 256, 1024]⟩
abbrev S32x2x256x1024 : Shape := ⟨4, ![32, 2, 256, 1024]⟩

abbrev nBuf : Space → Nat
  | .hbm => 44
  | .vmem => 0
  | .smem => 0
  | _ => 0

abbrev bufTy : (tb : Table) → Fin (tcTables nBuf tb) → BufTy
  | .hbm, ⟨0, _⟩ => ⟨S12288x12816, .f32⟩
  | .hbm, ⟨1, _⟩ => ⟨S8192x1024, .f32⟩
  | .hbm, ⟨2, _⟩ => ⟨S32x256x8x128, .f32⟩
  | .hbm, ⟨3, _⟩ => ⟨S8192x1024, .f32⟩
  | .hbm, ⟨4, _⟩ => ⟨S32x256x8x128, .f32⟩
  | .hbm, ⟨5, _⟩ => ⟨S8192x1024, .f32⟩
  | .hbm, ⟨6, _⟩ => ⟨S32x256x8x128, .f32⟩
  | .hbm, ⟨7, _⟩ => ⟨S_, .f32⟩
  | .hbm, ⟨8, _⟩ => ⟨S32x256x8x128, .f32⟩
  | .hbm, ⟨9, _⟩ => ⟨S32x256x8x128, .f32⟩
  | .hbm, ⟨10, _⟩ => ⟨S32x8x256x256, .f32⟩
  | .hbm, ⟨11, _⟩ => ⟨S_, .f32⟩
  | .hbm, ⟨12, _⟩ => ⟨S32x8x256, .f32⟩
  | .hbm, ⟨13, _⟩ => ⟨S_, .f32⟩
  | .hbm, ⟨14, _⟩ => ⟨S32x8x256, .f32⟩
  | .hbm, ⟨15, _⟩ => ⟨S32x8x256, .f32⟩
  | .hbm, ⟨16, _⟩ => ⟨S32x8x256x1, .f32⟩
  | .hbm, ⟨17, _⟩ => ⟨S32x8x256x256, .f32⟩
  | .hbm, ⟨18, _⟩ => ⟨S32x8x256x256, .f32⟩
  | .hbm, ⟨19, _⟩ => ⟨S32x8x256x256, .f32⟩
  | .hbm, ⟨20, _⟩ => ⟨S_, .f32⟩
  | .hbm, ⟨21, _⟩ => ⟨S32x8x256, .f32⟩
  | .hbm, ⟨22, _⟩ => ⟨S32x8x256x1, .f32⟩
  | .hbm, ⟨23, _⟩ => ⟨S32x8x256x256, .f32⟩
  | .hbm, ⟨24, _⟩ => ⟨S32x8x256x256, .f32⟩
  | .hbm, ⟨25, _⟩ => ⟨S32x8x128x256, .f32⟩
  | .hbm, ⟨26, _⟩ => ⟨S32x256x8x128, .f32⟩
  | .hbm, ⟨27, _⟩ => ⟨S8192x1024, .f32⟩
  | .hbm, ⟨28, _⟩ => ⟨S8192x1024, .bf16⟩
  | .hbm, ⟨29, _⟩ => ⟨S_, .i32⟩
  | .hbm, ⟨30, _⟩ => ⟨S_, .bf16⟩
  | .hbm, ⟨31, _⟩ => ⟨S12288x1024, .bf16⟩
  | .hbm, ⟨32, _⟩ => ⟨S32x256x1024, .f32⟩
  | .hbm, ⟨33, _⟩ => ⟨S_, .f32⟩
  | .hbm, ⟨34, _⟩ => ⟨S32x256x1024, .f32⟩
  | .hbm, ⟨35, _⟩ => ⟨S32x1x256x1024, .f32⟩
  | .hbm, ⟨36, _⟩ => ⟨S32x1x256x1024, .f32⟩
  | .hbm, ⟨37, _⟩ => ⟨S32x2x256x1024, .f32⟩
  | .hbm, ⟨38, _⟩ => ⟨S32x256x1024, .f32⟩
  | .hbm, ⟨39, _⟩ => ⟨S_, .f32⟩
  | .hbm, ⟨40, _⟩ => ⟨S32x256x1024, .f32⟩
  | .hbm, ⟨41, _⟩ => ⟨S32x1x256x1024, .f32⟩
  | .hbm, ⟨42, _⟩ => ⟨S32x1x256x1024, .f32⟩
  | .hbm, ⟨43, _⟩ => ⟨S32x2x256x1024, .f32⟩
  | _, _ => ⟨S12288x12816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_call0_v0 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel2.lean ====
abbrev S12288x2048 : Shape := ⟨2, ![12288, 2048]⟩
abbrev S2x2048x12816 : Shape := ⟨3, ![2, 2048, 12816]⟩
abbrev S2x12816x2048 : Shape := ⟨3, ![2, 12816, 2048]⟩
abbrev S12288x12816 : Shape := ⟨2, ![12288, 12816]⟩
abbrev S1536x2048 : Shape := ⟨2, ![1536, 2048]⟩
abbrev S1x1024x2048 : Shape := ⟨3, ![1, 1024, 2048]⟩
abbrev S1536x1024 : Shape := ⟨2, ![1536, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S2x2048x12816, .f32⟩
  | .hbm, ⟨2, _⟩ => ⟨S2x12816x2048, .f32⟩
  | .hbm, ⟨3, _⟩ => ⟨S12288x12816, .f32⟩
  | .local _ .vmem, ⟨0, _⟩ => ⟨S1536x2048, .bf16⟩
  | .local _ .vmem, ⟨1, _⟩ => ⟨S1536x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1536x1024, .f32⟩
  | .local _ .vmem, ⟨5, _⟩ => ⟨S1536x1024, .f32⟩
  | .local _ .vmem, ⟨6, _⟩ => ⟨S1024x2048, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S12288x2048 : Shape := ⟨2, ![12288, 2048]⟩
abbrev S2x2048x12816 : Shape := ⟨3, ![2, 2048, 12816]⟩
abbrev S1x2048x12816 : Shape := ⟨3, ![1, 2048, 12816]⟩
abbrev S2048x12816 : Shape := ⟨2, ![2048, 12816]⟩
abbrev S12288x12816 : Shape := ⟨2, ![12288, 12816]⟩

abbrev nBuf : Space → Nat
  | .hbm => 6
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2x2048x12816, .f32⟩
  | .hbm, ⟨2, _⟩ => ⟨S12288x2048, .f32⟩
  | .hbm, ⟨3, _⟩ => ⟨S1x2048x12816, .f32⟩
  | .hbm, ⟨4, _⟩ => ⟨S2048x12816, .f32⟩
  | .hbm, ⟨5, _⟩ => ⟨S12288x12816, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S12288x2048 : Shape := ⟨2, ![12288, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x1x11264 : Shape := ⟨3, ![2, 1, 11264]⟩
abbrev S12288x5632 : Shape := ⟨2, ![12288, 5632]⟩
abbrev S1024x2048 : Shape := ⟨2, ![1024, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S2048x512 : Shape := ⟨2, ![2048, 512]⟩
abbrev S3x512 : Shape := ⟨2, ![3, 512]⟩
abbrev S1x512 : Shape := ⟨2, ![1, 512]⟩
abbrev S16x1 : Shape := ⟨2, ![16, 1]⟩
abbrev S16x512 : Shape := ⟨2, ![16, 512]⟩

abbrev nBuf : Space → Nat
  | .hbm => 6
  | .vmem => 18
  | .smem => 0
  | _ => 0

abbrev bufTy : (tb : Table) → Fin (tcTables nBuf tb) → BufTy
  | .hbm, ⟨0, _⟩ => ⟨S12288x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x1x11264, .f32⟩
  | .hbm, ⟨5, _⟩ => ⟨S12288x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S12288x2048 : Shape := ⟨2, ![12288, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S8192x2048 : Shape := ⟨2, ![8192, 2048]⟩
abbrev S32x256x2048 : Shape := ⟨3, ![32, 256, 2048]⟩
abbrev S4096x2048 : Shape := ⟨2, ![4096, 2048]⟩
abbrev S4x1024x2048 : Shape := ⟨3, ![4, 1024, 2048]⟩
abbrev S1x2048x11264 : Shape := ⟨3, ![1, 2048, 11264]⟩
abbrev S2048x11264 : Shape := ⟨2, ![2048, 11264]⟩
abbrev S32x256x11264 : Shape := ⟨3, ![32, 256, 11264]⟩
abbrev S_ : Shape := ⟨0, ![]⟩
abbrev S32x258x11264 : Shape := ⟨3, ![32, 258, 11264]⟩
abbrev S1x1x11264 : Shape := ⟨3, ![1, 1, 11264]⟩
abbrev S11264 : Shape := ⟨1, ![11264]⟩
abbrev S1x11264 : Shape := ⟨2, ![1, 11264]⟩
abbrev S32x256x5632 : Shape := ⟨3, ![32, 256, 5632]⟩
abbrev S4x1024x11264 : Shape := ⟨3, ![4, 1024, 11264]⟩
abbrev S4x1026x11264 : Shape := ⟨3, ![4, 1026, 11264]⟩
abbrev S4x1024x5632 : Shape := ⟨3, ![4, 1024, 5632]⟩
abbrev S8192x5632 : Shape := ⟨2, ![8192, 5632]⟩
abbrev S4096x5632 : Shape := ⟨2, ![4096, 5632]⟩
abbrev S12288x5632 : Shape := ⟨2, ![12288, 5632]⟩

abbrev nBuf : Space → Nat
  | .hbm => 107
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S8192x2048, .bf16⟩
  | .hbm, ⟨5, _⟩ => ⟨S32x256x2048, .bf16⟩
  | .hbm, ⟨6, _⟩ => ⟨S4096x2048, .bf16⟩
  | .hbm, ⟨7, _⟩ => ⟨S4x1024x2048, .bf16⟩
  | .hbm, ⟨8, _⟩ => ⟨S32x256x2048, .f32⟩
  | .hbm, ⟨9, _⟩ => ⟨S1x2048x11264, .f32⟩
  | .hbm, ⟨10, _⟩ => ⟨S2048x11264, .f32⟩
  | .hbm, ⟨11, _⟩ => ⟨S32x256x11264, .f32⟩
  | .hbm, ⟨12, _⟩ => ⟨S_, .i32⟩
  | .hbm, ⟨13, _⟩ => ⟨S_, .f32⟩
  | .hbm, ⟨14, _⟩ => ⟨S32x258x11264, .f32⟩
  | .hbm, ⟨15, _⟩ => ⟨S32x256x11264, .f32⟩
  | .hbm, ⟨16, _⟩ => ⟨S1x1x11264, .f32⟩
  | .hbm, ⟨17, _⟩ => ⟨S11264, .f32⟩
  | .hbm, ⟨18, _⟩ => ⟨S1x1x11264, .f32⟩
  | .hbm, ⟨19, _⟩ => ⟨S32x256x11264, .f32⟩
  | .hbm, ⟨20, _⟩ => ⟨S32x256x11264, .f32⟩
  | .hbm, ⟨21, _⟩ => ⟨S_, .f32⟩
  | .hbm, ⟨22, _⟩ => ⟨S32x256x11264, .f32⟩
  | .hbm, ⟨23, _⟩ => ⟨S32x256x11264, .f32⟩
  | .hbm, ⟨24, _⟩ => ⟨S32x256x11264, .f32⟩
  | .hbm, ⟨25, _⟩ => ⟨S1x1x11264, .f32⟩
  | .hbm, ⟨26, _⟩ => ⟨S11264, .f32⟩
  | .hbm, ⟨27, _⟩ => ⟨S1x1x11264, .f32⟩
  | .hbm, ⟨28, _⟩ => ⟨S32x256x11264, .f32⟩
  | .hbm, ⟨29, _⟩ => ⟨S32x256x11264, .f32⟩
  | .hbm, ⟨30, _⟩ => ⟨S32x256x11264, .f32⟩
  | .hbm, ⟨31, _⟩ => ⟨S32x256x11264, .f32⟩
  | .hbm, ⟨32, _⟩ => ⟨S1x1x11264, .f32⟩
  | .hbm, ⟨33, _⟩ => ⟨S11264, .f32⟩
  | .hbm, ⟨34, _⟩ => ⟨S1x1x11264, .f32⟩
  | .hbm, ⟨35, _⟩ => ⟨S32x256x11264, .f32⟩
  | .hbm, ⟨36, _⟩ => ⟨S32x256x11264, .f32⟩
  | .hbm, ⟨37, _⟩ => ⟨S32x256x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S32x256x11264, .f32⟩
  | .hbm, ⟨42, _⟩ => ⟨S32x256x11264, .f32⟩
  | .hbm, ⟨43, _⟩ => ⟨S32x256x5632, .f32⟩
  | .hbm, ⟨44, _⟩ => ⟨S32x256x5632, .f32⟩
  | .hbm, ⟨45, _⟩ => ⟨S32x256x5632, .f32⟩
  | .hbm, ⟨46, _⟩ => ⟨S_, .f32⟩
  | .hbm, ⟨47, _⟩ => ⟨S32x256x5632, .f32⟩
  | .hbm, ⟨48, _⟩ => ⟨S32x256x5632, .f32⟩
  | .hbm, ⟨49, _⟩ => ⟨S_, .f32⟩
  | .hbm, ⟨50, _⟩ => ⟨S32x256x5632, .f32⟩
  | .hbm, ⟨51, _⟩ => ⟨S32x256x5632, .f32⟩
  | .hbm, ⟨52, _⟩ => ⟨S32x256x5632, .f32⟩
  | .hbm, ⟨53, _⟩ => ⟨S32x256x5632, .f32⟩
  | .hbm, ⟨54, _⟩ => ⟨S32x256x5632, .f32⟩
  | .hbm, ⟨55, _⟩ => ⟨S32x256x5632, .bf16⟩
  | .hbm, ⟨56, _⟩ => ⟨S4x1024x2048, .f32⟩
  | .hbm, ⟨57, _⟩ => ⟨S1x2048x11264, .f32⟩
  | .hbm, ⟨58, _⟩ => ⟨S2048x11264, .f32⟩
  | .hbm, ⟨59, _⟩ => ⟨S4x1024x11264, .f32⟩
  | .hbm, ⟨60, _⟩ => ⟨S_, .i32⟩
  | .hbm, ⟨61, _⟩ => ⟨S_, .f32⟩
  | .hbm, ⟨62, _⟩ => ⟨S4x1026x11264, .f32⟩
  | .hbm, ⟨63, _⟩ => ⟨S4x1024x11264, .f32⟩
  | .hbm, ⟨64, _⟩ => ⟨S1x1x11264, .f32⟩
  | .hbm, ⟨65, _⟩ => ⟨S11264, .f32⟩
  | .hbm, ⟨66, _⟩ => ⟨S1x1x11264, .f32⟩
  | .hbm, ⟨67, _⟩ => ⟨S4x1024x11264, .f32⟩
  | .hbm, ⟨68, _⟩ => ⟨S4x1024x11264, .f32⟩
  | .hbm, ⟨69, _⟩ => ⟨S_, .f32⟩
  | .hbm, ⟨70, _⟩ => ⟨S4x1024x11264, .f32⟩
  | .hbm, ⟨71, _⟩ => ⟨S4x1024x11264, .f32⟩
  | .hbm, ⟨72, _⟩ => ⟨S4x1024x11264, .f32⟩
  | .hbm, ⟨73, _⟩ => ⟨S1x1x11264, .f32⟩
  | .hbm, ⟨74, _⟩ => ⟨S11264, .f32⟩
  | .hbm, ⟨75, _⟩ => ⟨S1x1x11264, .f32⟩
  | .hbm, ⟨76, _⟩ => ⟨S4x1024x11264, .f32⟩
  | .hbm, ⟨77, _⟩ => ⟨S4x1024x11264, .f32⟩
  | .hbm, ⟨78, _⟩ => ⟨S4x1024x11264, .f32⟩
  | .hbm, ⟨79, _⟩ => ⟨S4x1024x11264, .f32⟩
  | .hbm, ⟨80, _⟩ => ⟨S1x1x11264, .f32⟩
  | .hbm, ⟨81, _⟩ => ⟨S11264, .f32⟩
  | .hbm, ⟨82, _⟩ => ⟨S1x1x11264, .f32⟩
  | .hbm, ⟨83, _⟩ => ⟨S4x1024x11264, .f32⟩
  | .hbm, ⟨84, _⟩ => ⟨S4x1024x11264, .f32⟩
  | .hbm, ⟨85, _⟩ => ⟨S4x1024x11264, .f32⟩
  | .hbm, ⟨86, _⟩ => ⟨S1x11264, .f32⟩
  | .hbm, ⟨87, _⟩ => ⟨S11264, .f32⟩
  | .hbm, ⟨88, _⟩ => ⟨S1x1x11264, .f32⟩
  | .hbm, ⟨89, _⟩ => ⟨S4x1024x11264, .f32⟩
  | .hbm, ⟨90, _⟩ => ⟨S4x1024x11264, .f32⟩
  | .hbm, ⟨91, _⟩ => ⟨S4x1024x5632, .f32⟩
  | .hbm, ⟨92, _⟩ => ⟨S4x1024x5632, .f32⟩
  | .hbm, ⟨93, _⟩ => ⟨S4x1024x5632, .f32⟩
  | .hbm, ⟨94, _⟩ => ⟨S_, .f32⟩
  | .hbm, ⟨95, _⟩ => ⟨S4x1024x5632, .f32⟩
  | .hbm, ⟨96, _⟩ => ⟨S4x1024x5632, .f32⟩
  | .hbm, ⟨97, _⟩ => ⟨S_, .f32⟩
  | .hbm, ⟨98, _⟩ => ⟨S4x1024x5632, .f32⟩
  | .hbm, ⟨99, _⟩ => ⟨S4x1024x5632, .f32⟩
  | .hbm, ⟨100, _⟩ => ⟨S4x1024x5632, .f32⟩
  | .hbm, ⟨101, _⟩ => ⟨S4x1024x5632, .f32⟩
  | .hbm, ⟨102, _⟩ => ⟨S4x1024x5632, .f32⟩
  | .hbm, ⟨103, _⟩ => ⟨S4x1024x5632, .bf16⟩
  | .hbm, ⟨104, _⟩ => ⟨S8192x5632, .bf16⟩
  | .hbm, ⟨105, _⟩ => ⟨S4096x5632, .bf16⟩
  | .hbm, ⟨106, _⟩ => ⟨S12288x5632, .bf16⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_0 : Ref sig .tc := ⟨.hbm, 60, rfl⟩
abbrev main_call2_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_1 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== Kernel4.lean ====
abbrev S12288x5632 : Shape := ⟨2, ![12288, 5632]⟩
abbrev S2x5632x2048 : Shape := ⟨3, ![2, 5632, 2048]⟩
abbrev S12288x2048 : Shape := ⟨2, ![12288, 2048]⟩
abbrev S16x1x12288 : Shape := ⟨3, ![16, 1, 12288]⟩
abbrev S2x2048 : Shape := ⟨2, ![2, 2048]⟩
abbrev S2x1x2048 : Shape := ⟨3, ![2, 1, 2048]⟩
abbrev S256x5632 : Shape := ⟨2, ![256, 5632]⟩
abbrev S1x5632x2048 : Shape := ⟨3, ![1, 5632, 2048]⟩
abbrev S256x2048 : Shape := ⟨2, ![256, 2048]⟩
abbrev S1x1x2048 : Shape := ⟨3, ![1, 1, 2048]⟩
abbrev S1x2048 : Shape := ⟨2, ![1, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S12288x5632, .bf16⟩
  | .hbm, ⟨1, _⟩ => ⟨S2x5632x2048, .f32⟩
  | .hbm, ⟨2, _⟩ => ⟨S12288x2048, .f32⟩
  | .hbm, ⟨3, _⟩ => ⟨S16x1x12288, .f32⟩
  | .hbm, ⟨4, _⟩ => ⟨S2x2048, .f32⟩
  | .hbm, ⟨5, _⟩ => ⟨S2x5632x2048, .bf16⟩
  | .hbm, ⟨6, _⟩ => ⟨S2x1x2048, .f32⟩
  | .hbm, ⟨7, _⟩ => ⟨S12288x2048, .f32⟩
  | .hbm, ⟨8, _⟩ => ⟨S12288x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S12288x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c0_i32_8 : BitVec 32 := 0#32
  let c5_i32 : BitVec 32 := 5#32
  let c0_i32_9 : BitVec 32 := 0#32
  ![v21.toNat, c0_i32_8.toNat, c5_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c0_i32_7 : BitVec 32 := 0#32
  let c1_i32_8 : BitVec 32 := 1#32
  let c0_i32_9 : BitVec 32 := 0#32
  ![v21.toNat, c0_i32_7.toNat, c1_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S12288x5632 : Shape := ⟨2, ![12288, 5632]⟩
abbrev S2x5632x2048 : Shape := ⟨3, ![2, 5632, 2048]⟩
abbrev S12288x2048 : Shape := ⟨2, ![12288, 2048]⟩
abbrev S16x1x12288 : Shape := ⟨3, ![16, 1, 12288]⟩
abbrev S2x2048 : Shape := ⟨2, ![2, 2048]⟩
abbrev S8192x5632 : Shape := ⟨2, ![8192, 5632]⟩
abbrev S32x256x5632 : Shape := ⟨3, ![32, 256, 5632]⟩
abbrev S4096x5632 : Shape := ⟨2, ![4096, 5632]⟩
abbrev S4x1024x5632 : Shape := ⟨3, ![4, 1024, 5632]⟩
abbrev S8192x2048 : Shape := ⟨2, ![8192, 2048]⟩
abbrev S32x256x2048 : Shape := ⟨3, ![32, 256, 2048]⟩
abbrev S4096x2048 : Shape := ⟨2, ![4096, 2048]⟩
abbrev S4x1024x2048 : Shape := ⟨3, ![4, 1024, 2048]⟩
abbrev S8x1x2048 : Shape := ⟨3, ![8, 1, 2048]⟩
abbrev S8x2048 : Shape := ⟨2, ![8, 2048]⟩
abbrev S1x2048 : Shape := ⟨2, ![1, 2048]⟩
abbrev S4x2048 : Shape := ⟨2, ![4, 2048]⟩
abbrev S1x1x2048 : Shape := ⟨3, ![1, 1, 2048]⟩
abbrev S1x5632x2048 : Shape := ⟨3, ![1, 5632, 2048]⟩
abbrev S5632x2048 : Shape := ⟨2, ![5632, 2048]⟩
abbrev S2048 : Shape := ⟨1, ![2048]⟩
abbrev S_ : Shape := ⟨0, ![]⟩
abbrev S32x256 : Shape := ⟨2, ![32, 256]⟩
abbrev S32x256x1 : Shape := ⟨3, ![32, 256, 1]⟩
abbrev S4x1x2048 : Shape := ⟨3, ![4, 1, 2048]⟩
abbrev S4x1024 : Shape := ⟨2, ![4, 1024]⟩
abbrev S4x1024x1 : Shape := ⟨3, ![4, 1024, 1]⟩

abbrev nBuf : Space → Nat
  | .hbm => 103
  | .vmem => 0
  | .smem => 0
  | _ => 0

abbrev bufTy : (tb : Table) → Fin (tcTables nBuf tb) → BufTy
  | .hbm, ⟨0, _⟩ => ⟨S12288x5632, .bf16⟩
  | .hbm, ⟨1, _⟩ => ⟨S2x5632x2048, .f32⟩
  | .hbm, ⟨2, _⟩ => ⟨S12288x2048, .f32⟩
  | .hbm, ⟨3, _⟩ => ⟨S16x1x12288, .f32⟩
  | .hbm, ⟨4, _⟩ => ⟨S2x2048, .f32⟩
  | .hbm, ⟨5, _⟩ => ⟨S8192x5632, .bf16⟩
  | .hbm, ⟨6, _⟩ => ⟨S32x256x5632, .bf16⟩
  | .hbm, ⟨7, _⟩ => ⟨S4096x5632, .bf16⟩
  | .hbm, ⟨8, _⟩ => ⟨S4x1024x5632, .bf16⟩
  | .hbm, ⟨9, _⟩ => ⟨S8192x2048, .f32⟩
  | .hbm, ⟨10, _⟩ => ⟨S32x256x2048, .f32⟩
  | .hbm, ⟨11, _⟩ => ⟨S4096x2048, .f32⟩
  | .hbm, ⟨12, _⟩ => ⟨S4x1024x2048, .f32⟩
  | .hbm, ⟨13, _⟩ => ⟨S8x1x2048, .f32⟩
  | .hbm, ⟨14, _⟩ => ⟨S8x2048, .f32⟩
  | .hbm, ⟨15, _⟩ => ⟨S1x2048, .f32⟩
  | .hbm, ⟨16, _⟩ => ⟨S4x2048, .f32⟩
  | .hbm, ⟨17, _⟩ => ⟨S8x1x2048, .f32⟩
  | .hbm, ⟨18, _⟩ => ⟨S8x2048, .f32⟩
  | .hbm, ⟨19, _⟩ => ⟨S1x2048, .f32⟩
  | .hbm, ⟨20, _⟩ => ⟨S4x2048, .f32⟩
  | .hbm, ⟨21, _⟩ => ⟨S8x1x2048, .f32⟩
  | .hbm, ⟨22, _⟩ => ⟨S8x2048, .f32⟩
  | .hbm, ⟨23, _⟩ => ⟨S1x2048, .f32⟩
  | .hbm, ⟨24, _⟩ => ⟨S4x2048, .f32⟩
  | .hbm, ⟨25, _⟩ => ⟨S1x1x2048, .f32⟩
  | .hbm, ⟨26, _⟩ => ⟨S32x256x5632, .f32⟩
  | .hbm, ⟨27, _⟩ => ⟨S1x5632x2048, .f32⟩
  | .hbm, ⟨28, _⟩ => ⟨S5632x2048, .f32⟩
  | .hbm, ⟨29, _⟩ => ⟨S32x256x2048, .f32⟩
  | .hbm, ⟨30, _⟩ => ⟨S32x256x2048, .f32⟩
  | .hbm, ⟨31, _⟩ => ⟨S32x256x2048, .f32⟩
  | .hbm, ⟨32, _⟩ => ⟨S32x256x2048, .f32⟩
  | .hbm, ⟨33, _⟩ => ⟨S1x2048, .f32⟩
  | .hbm, ⟨34, _⟩ => ⟨S2048, .f32⟩
  | .hbm, ⟨35, _⟩ => ⟨S32x256x2048, .f32⟩
  | .hbm, ⟨36, _⟩ => ⟨S_, .f32⟩
  | .hbm, ⟨37, _⟩ => ⟨S32x256, .f32⟩
  | .hbm, ⟨38, _⟩ => ⟨S32x256x1, .f32⟩
  | .hbm, ⟨39, _⟩ => ⟨S_, .f32⟩
  | .hbm, ⟨40, _⟩ => ⟨S32x256x1, .f32⟩
  | .hbm, ⟨41, _⟩ => ⟨S32x256x1, .f32⟩
  | .hbm, ⟨42, _⟩ => ⟨S_, .f32⟩
  | .hbm, ⟨43, _⟩ => ⟨S32x256x1, .f32⟩
  | .hbm, ⟨44, _⟩ => ⟨S32x256x1, .f32⟩
  | .hbm, ⟨45, _⟩ => ⟨S32x256x1, .f32⟩
  | .hbm, ⟨46, _⟩ => ⟨S32x256x2048, .f32⟩
  | .hbm, ⟨47, _⟩ => ⟨S32x256x2048, .f32⟩
  | .hbm, ⟨48, _⟩ => ⟨S1x1x2048, .f32⟩
  | .hbm, ⟨49, _⟩ => ⟨S32x256x2048, .f32⟩
  | .hbm, ⟨50, _⟩ => ⟨S32x256x2048, .f32⟩
  | .hbm, ⟨51, _⟩ => ⟨S1x1x2048, .f32⟩
  | .hbm, ⟨52, _⟩ => ⟨S_, .f32⟩
  | .hbm, ⟨53, _⟩ => ⟨S1x1x2048, .f32⟩
  | .hbm, ⟨54, _⟩ => ⟨S1x1x2048, .f32⟩
  | .hbm, ⟨55, _⟩ => ⟨S32x256x2048, .f32⟩
  | .hbm, ⟨56, _⟩ => ⟨S32x256x2048, .f32⟩
  | .hbm, ⟨57, _⟩ => ⟨S1x1x2048, .f32⟩
  | .hbm, ⟨58, _⟩ => ⟨S32x256x2048, .f32⟩
  | .hbm, ⟨59, _⟩ => ⟨S32x256x2048, .f32⟩
  | .hbm, ⟨60, _⟩ => ⟨S32x256x2048, .bf16⟩
  | .hbm, ⟨61, _⟩ => ⟨S4x1x2048, .f32⟩
  | .hbm, ⟨62, _⟩ => ⟨S4x1024x5632, .f32⟩
  | .hbm, ⟨63, _⟩ => ⟨S1x5632x2048, .f32⟩
  | .hbm, ⟨64, _⟩ => ⟨S5632x2048, .f32⟩
  | .hbm, ⟨65, _⟩ => ⟨S4x1024x2048, .f32⟩
  | .hbm, ⟨66, _⟩ => ⟨S4x1024x2048, .f32⟩
  | .hbm, ⟨67, _⟩ => ⟨S4x1024x2048, .f32⟩
  | .hbm, ⟨68, _⟩ => ⟨S4x1024x2048, .f32⟩
  | .hbm, ⟨69, _⟩ => ⟨S1x2048, .f32⟩
  | .hbm, ⟨70, _⟩ => ⟨S2048, .f32⟩
  | .hbm, ⟨71, _⟩ => ⟨S4x1024x2048, .f32⟩
  | .hbm, ⟨72, _⟩ => ⟨S_, .f32⟩
  | .hbm, ⟨73, _⟩ => ⟨S4x1024, .f32⟩
  | .hbm, ⟨74, _⟩ => ⟨S4x1024x1, .f32⟩
  | .hbm, ⟨75, _⟩ => ⟨S_, .f32⟩
  | .hbm, ⟨76, _⟩ => ⟨S4x1024x1, .f32⟩
  | .hbm, ⟨77, _⟩ => ⟨S4x1024x1, .f32⟩
  | .hbm, ⟨78, _⟩ => ⟨S_, .f32⟩
  | .hbm, ⟨79, _⟩ => ⟨S4x1024x1, .f32⟩
  | .hbm, ⟨80, _⟩ => ⟨S4x1024x1, .f32⟩
  | .hbm, ⟨81, _⟩ => ⟨S4x1024x1, .f32⟩
  | .hbm, ⟨82, _⟩ => ⟨S4x1024x2048, .f32⟩
  | .hbm, ⟨83, _⟩ => ⟨S4x1024x2048, .f32⟩
  | .hbm, ⟨84, _⟩ => ⟨S1x1x2048, .f32⟩
  | .hbm, ⟨85, _⟩ => ⟨S4x1024x2048, .f32⟩
  | .hbm, ⟨86, _⟩ => ⟨S4x1024x2048, .f32⟩
  | .hbm, ⟨87, _⟩ => ⟨S4x1x2048, .f32⟩
  | .hbm, ⟨88, _⟩ => ⟨S_, .f32⟩
  | .hbm, ⟨89, _⟩ => ⟨S4x1x2048, .f32⟩
  | .hbm, ⟨90, _⟩ => ⟨S4x1x2048, .f32⟩
  | .hbm, ⟨91, _⟩ => ⟨S4x1024x2048, .f32⟩
  | .hbm, ⟨92, _⟩ => ⟨S4x1024x2048, .f32⟩
  | .hbm, ⟨93, _⟩ => ⟨S4x1x2048, .f32⟩
  | .hbm, ⟨94, _⟩ => ⟨S4x1024x2048, .f32⟩
  | .hbm, ⟨95, _⟩ => ⟨S4x1024x2048, .f32⟩
  | .hbm, ⟨96, _⟩ => ⟨S4x1024x2048, .bf16⟩
  | .hbm, ⟨97, _⟩ => ⟨S8192x2048, .f32⟩
  | .hbm, ⟨98, _⟩ => ⟨S4096x2048, .f32⟩
  | .hbm, ⟨99, _⟩ => ⟨S12288x2048, .f32⟩
  | .hbm, ⟨100, _⟩ => ⟨S8192x2048, .bf16⟩
  | .hbm, ⟨101, _⟩ => ⟨S4096x2048, .bf16⟩
  | .hbm, ⟨102, _⟩ => ⟨S12288x2048, .bf16⟩
  | _, _ => ⟨S12288x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_3 : Ref sig .tc := ⟨.hbm, 72, rfl⟩
abbrev main_v63 : Ref sig .tc := ⟨.hbm, 73, rfl⟩
abbrev main_v64 : Ref sig .tc := ⟨.hbm, 74, rfl⟩
abbrev main_cst_4 : Ref sig .tc := ⟨.hbm, 75, rfl⟩
abbrev main_v65 : Ref sig .tc := ⟨.hbm, 76, rfl⟩
abbrev main_v66 : Ref sig .tc := ⟨.hbm, 77, rfl⟩
abbrev main_cst_5 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩

abbrev nD : Nat := 1
abbrev τ : Topo := Topo.v7x

variable {F : FTy → Type} [FloatOps F]
-- ==== Kernel5.lean ====
abbrev S12288x1024 : Shape := ⟨2, ![12288, 1024]⟩
abbrev S12288x512 : Shape := ⟨2, ![12288, 512]⟩
abbrev S12288x12816 : Shape := ⟨2, ![12288, 12816]⟩
abbrev S2x6144 : Shape := ⟨2, ![2, 6144]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S12288x2048 : Shape := ⟨2, ![12288, 2048]⟩
abbrev S16x1x12288 : Shape := ⟨3, ![16, 1, 12288]⟩
abbrev S2x2048 : Shape := ⟨2, ![2, 2048]⟩
abbrev S2x1x6144 : Shape := ⟨3, ![2, 1, 6144]⟩
abbrev S2x1x2048 : Shape := ⟨3, ![2, 1, 2048]⟩
abbrev S256x1024 : Shape := ⟨2, ![256, 1024]⟩
abbrev S256x512 : Shape := ⟨2, ![256, 512]⟩
abbrev S256x6656 : Shape := ⟨2, ![256, 6656]⟩
abbrev S1x1x6144 : Shape := ⟨3, ![1, 1, 6144]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S256x2048 : Shape := ⟨2, ![256, 2048]⟩
abbrev S1x1x2048 : Shape := ⟨3, ![1, 1, 2048]⟩
abbrev S256x6144 : Shape := ⟨2, ![256, 6144]⟩
abbrev S1x6144 : Shape := ⟨2, ![1, 6144]⟩
abbrev S1024x2048 : Shape := ⟨2, ![1024, 2048]⟩
abbrev S512x2048 : Shape := ⟨2, ![512, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 20
  | .vmem => 26
  | .smem => 0
  | _ => 0

abbrev bufTy : (tb : Table) → Fin (tcTables nBuf tb) → BufTy
  | .hbm, ⟨0, _⟩ => ⟨S12288x1024, .bf16⟩
  | .hbm, ⟨1, _⟩ => ⟨S12288x512, .bf16⟩
  | .hbm, ⟨2, _⟩ => ⟨S12288x512, .bf16⟩
  | .hbm, ⟨3, _⟩ => ⟨S12288x12816, .f32⟩
  | .hbm, ⟨4, _⟩ => ⟨S2x6144, .f32⟩
  | .hbm, ⟨5, _⟩ => ⟨S2x1024x2048, .f32⟩
  | .hbm, ⟨6, _⟩ => ⟨S2x512x2048, .f32⟩
  | .hbm, ⟨7, _⟩ => ⟨S2x512x2048, .f32⟩
  | .hbm, ⟨8, _⟩ => ⟨S2x2048x2048, .f32⟩
  | .hbm, ⟨9, _⟩ => ⟨S12288x2048, .f32⟩
  | .hbm, ⟨10, _⟩ => ⟨S16x1x12288, .f32⟩
  | .hbm, ⟨11, _⟩ => ⟨S2x2048, .f32⟩
  | .hbm, ⟨12, _⟩ => ⟨S2x1024x2048, .bf16⟩
  | .hbm, ⟨13, _⟩ => ⟨S2x512x2048, .bf16⟩
  | .hbm, ⟨14, _⟩ => ⟨S2x512x2048, .bf16⟩
  | .hbm, ⟨15, _⟩ => ⟨S2x2048x2048, .bf16⟩
  | .hbm, ⟨16, _⟩ => ⟨S2x1x6144, .f32⟩
  | .hbm, ⟨17, _⟩ => ⟨S2x1x2048, .f32⟩
  | .hbm, ⟨18, _⟩ => ⟨S12288x2048, .f32⟩
  | .hbm, ⟨19, _⟩ => ⟨S12288x2048, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x6656, .f32⟩
  | .local _ .vmem, ⟨7, _⟩ => ⟨S256x6656, .f32⟩
  | .local _ .vmem, ⟨8, _⟩ => ⟨S1x1x6144, .f32⟩
  | .local _ .vmem, ⟨9, _⟩ => ⟨S1x1024x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048x2048, .bf16⟩
  | .local _ .vmem, ⟨13, _⟩ => ⟨S256x2048, .f32⟩
  | .local _ .vmem, ⟨14, _⟩ => ⟨S256x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c0_i32_7 : BitVec 32 := 0#32
  let c2_i32 : BitVec 32 := 2#32
  let c0_i32_8 : BitVec 32 := 0#32
  ![v21.toNat, c0_i32_7.toNat, c2_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c0_i32_7 : BitVec 32 := 0#32
  let c3_i32 : BitVec 32 := 3#32
  let c0_i32_8 : BitVec 32 := 0#32
  ![v21.toNat, c0_i32_7.toNat, c3_i32.toNat]

def cc0_transform_13 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c0_i32_7 : BitVec 32 := 0#32
  let c4_i32_8 : BitVec 32 := 4#32
  let c0_i32_9 : BitVec 32 := 0#32
  ![v21.toNat, c0_i32_7.toNat, c4_i32_8.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6656 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S12288x1024 : Shape := ⟨2, ![12288, 1024]⟩
abbrev S12288x512 : Shape := ⟨2, ![12288, 512]⟩
abbrev S12288x12816 : Shape := ⟨2, ![12288, 12816]⟩
abbrev S2x6144 : Shape := ⟨2, ![2, 6144]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S12288x2048 : Shape := ⟨2, ![12288, 2048]⟩
abbrev S16x1x12288 : Shape := ⟨3, ![16, 1, 12288]⟩
abbrev S2x2048 : Shape := ⟨2, ![2, 2048]⟩
abbrev S12288x6144 : Shape := ⟨2, ![12288, 6144]⟩
abbrev S1x6144 : Shape := ⟨2, ![1, 6144]⟩
abbrev S6144 : Shape := ⟨1, ![6144]⟩
abbrev S_ : Shape := ⟨0, ![]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩
abbrev S8x1x2048 : Shape := ⟨3, ![8, 1, 2048]⟩
abbrev S8x2048 : Shape := ⟨2, ![8, 2048]⟩
abbrev S1x2048 : Shape := ⟨2, ![1, 2048]⟩
abbrev S4x2048 : Shape := ⟨2, ![4, 2048]⟩
abbrev S1x1x2048 : Shape := ⟨3, ![1, 1, 2048]⟩
abbrev S32x256x2048 : Shape := ⟨3, ![32, 256, 2048]⟩
abbrev S4x1x2048 : Shape := ⟨3, ![4, 1, 2048]⟩
abbrev S4x1024x2048 : Shape := ⟨3, ![4, 1024, 2048]⟩
abbrev S8192x2048 : Shape := ⟨2, ![8192, 2048]⟩
abbrev S4096x2048 : Shape := ⟨2, ![4096, 2048]⟩
abbrev S1x2048x2048 : Shape := ⟨3, ![1, 2048, 2048]⟩
abbrev S2048x2048 : Shape := ⟨2, ![2048, 2048]⟩
abbrev S12288 : Shape := ⟨1, ![12288]⟩
abbrev S12288x1 : Shape := ⟨2, ![12288, 1]⟩
abbrev S2048 : Shape := ⟨1, ![2048]⟩

abbrev nBuf : Space → Nat
  | .hbm => 108
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x512, .bf16⟩
  | .hbm, ⟨2, _⟩ => ⟨S12288x512, .bf16⟩
  | .hbm, ⟨3, _⟩ => ⟨S12288x12816, .f32⟩
  | .hbm, ⟨4, _⟩ => ⟨S2x6144, .f32⟩
  | .hbm, ⟨5, _⟩ => ⟨S2x1024x2048, .f32⟩
  | .hbm, ⟨6, _⟩ => ⟨S2x512x2048, .f32⟩
  | .hbm, ⟨7, _⟩ => ⟨S2x512x2048, .f32⟩
  | .hbm, ⟨8, _⟩ => ⟨S2x2048x2048, .f32⟩
  | .hbm, ⟨9, _⟩ => ⟨S12288x2048, .f32⟩
  | .hbm, ⟨10, _⟩ => ⟨S16x1x12288, .f32⟩
  | .hbm, ⟨11, _⟩ => ⟨S2x2048, .f32⟩
  | .hbm, ⟨12, _⟩ => ⟨S12288x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S12288x6144, .f32⟩
  | .hbm, ⟨17, _⟩ => ⟨S12288x6144, .f32⟩
  | .hbm, ⟨18, _⟩ => ⟨S12288x6144, .f32⟩
  | .hbm, ⟨19, _⟩ => ⟨S12288x6144, .f32⟩
  | .hbm, ⟨20, _⟩ => ⟨S_, .f32⟩
  | .hbm, ⟨21, _⟩ => ⟨S12288x6144, .f32⟩
  | .hbm, ⟨22, _⟩ => ⟨S12288x6144, .f32⟩
  | .hbm, ⟨23, _⟩ => ⟨S_, .f32⟩
  | .hbm, ⟨24, _⟩ => ⟨S12288x6144, .f32⟩
  | .hbm, ⟨25, _⟩ => ⟨S12288x6144, .f32⟩
  | .hbm, ⟨26, _⟩ => ⟨S12288x2048, .f32⟩
  | .hbm, ⟨27, _⟩ => ⟨S12288x1024, .f32⟩
  | .hbm, ⟨28, _⟩ => ⟨S1x1024x2048, .f32⟩
  | .hbm, ⟨29, _⟩ => ⟨S1024x2048, .f32⟩
  | .hbm, ⟨30, _⟩ => ⟨S12288x2048, .f32⟩
  | .hbm, ⟨31, _⟩ => ⟨S12288x2048, .f32⟩
  | .hbm, ⟨32, _⟩ => ⟨S12288x2048, .f32⟩
  | .hbm, ⟨33, _⟩ => ⟨S12288x512, .f32⟩
  | .hbm, ⟨34, _⟩ => ⟨S1x512x2048, .f32⟩
  | .hbm, ⟨35, _⟩ => ⟨S512x2048, .f32⟩
  | .hbm, ⟨36, _⟩ => ⟨S12288x2048, .f32⟩
  | .hbm, ⟨37, _⟩ => ⟨S12288x2048, .f32⟩
  | .hbm, ⟨38, _⟩ => ⟨S12288x2048, .f32⟩
  | .hbm, ⟨39, _⟩ => ⟨S12288x2048, .f32⟩
  | .hbm, ⟨40, _⟩ => ⟨S12288x512, .f32⟩
  | .hbm, ⟨41, _⟩ => ⟨S1x512x2048, .f32⟩
  | .hbm, ⟨42, _⟩ => ⟨S512x2048, .f32⟩
  | .hbm, ⟨43, _⟩ => ⟨S12288x2048, .f32⟩
  | .hbm, ⟨44, _⟩ => ⟨S12288x2048, .f32⟩
  | .hbm, ⟨45, _⟩ => ⟨S12288x2048, .f32⟩
  | .hbm, ⟨46, _⟩ => ⟨S8x1x2048, .f32⟩
  | .hbm, ⟨47, _⟩ => ⟨S8x2048, .f32⟩
  | .hbm, ⟨48, _⟩ => ⟨S1x2048, .f32⟩
  | .hbm, ⟨49, _⟩ => ⟨S4x2048, .f32⟩
  | .hbm, ⟨50, _⟩ => ⟨S1x1x2048, .f32⟩
  | .hbm, ⟨51, _⟩ => ⟨S32x256x2048, .f32⟩
  | .hbm, ⟨52, _⟩ => ⟨S4x1x2048, .f32⟩
  | .hbm, ⟨53, _⟩ => ⟨S4x1024x2048, .f32⟩
  | .hbm, ⟨54, _⟩ => ⟨S8192x2048, .f32⟩
  | .hbm, ⟨55, _⟩ => ⟨S4096x2048, .f32⟩
  | .hbm, ⟨56, _⟩ => ⟨S12288x2048, .f32⟩
  | .hbm, ⟨57, _⟩ => ⟨S8x1x2048, .f32⟩
  | .hbm, ⟨58, _⟩ => ⟨S8x2048, .f32⟩
  | .hbm, ⟨59, _⟩ => ⟨S1x2048, .f32⟩
  | .hbm, ⟨60, _⟩ => ⟨S4x2048, .f32⟩
  | .hbm, ⟨61, _⟩ => ⟨S1x1x2048, .f32⟩
  | .hbm, ⟨62, _⟩ => ⟨S32x256x2048, .f32⟩
  | .hbm, ⟨63, _⟩ => ⟨S4x1x2048, .f32⟩
  | .hbm, ⟨64, _⟩ => ⟨S4x1024x2048, .f32⟩
  | .hbm, ⟨65, _⟩ => ⟨S8192x2048, .f32⟩
  | .hbm, ⟨66, _⟩ => ⟨S4096x2048, .f32⟩
  | .hbm, ⟨67, _⟩ => ⟨S12288x2048, .f32⟩
  | .hbm, ⟨68, _⟩ => ⟨S8x1x2048, .f32⟩
  | .hbm, ⟨69, _⟩ => ⟨S8x2048, .f32⟩
  | .hbm, ⟨70, _⟩ => ⟨S1x2048, .f32⟩
  | .hbm, ⟨71, _⟩ => ⟨S4x2048, .f32⟩
  | .hbm, ⟨72, _⟩ => ⟨S1x1x2048, .f32⟩
  | .hbm, ⟨73, _⟩ => ⟨S32x256x2048, .f32⟩
  | .hbm, ⟨74, _⟩ => ⟨S4x1x2048, .f32⟩
  | .hbm, ⟨75, _⟩ => ⟨S4x1024x2048, .f32⟩
  | .hbm, ⟨76, _⟩ => ⟨S8192x2048, .f32⟩
  | .hbm, ⟨77, _⟩ => ⟨S4096x2048, .f32⟩
  | .hbm, ⟨78, _⟩ => ⟨S12288x2048, .f32⟩
  | .hbm, ⟨79, _⟩ => ⟨S1x2048x2048, .f32⟩
  | .hbm, ⟨80, _⟩ => ⟨S2048x2048, .f32⟩
  | .hbm, ⟨81, _⟩ => ⟨S12288x2048, .f32⟩
  | .hbm, ⟨82, _⟩ => ⟨S12288x2048, .f32⟩
  | .hbm, ⟨83, _⟩ => ⟨S12288x2048, .f32⟩
  | .hbm, ⟨84, _⟩ => ⟨S12288x2048, .f32⟩
  | .hbm, ⟨85, _⟩ => ⟨S_, .f32⟩
  | .hbm, ⟨86, _⟩ => ⟨S12288, .f32⟩
  | .hbm, ⟨87, _⟩ => ⟨S12288x1, .f32⟩
  | .hbm, ⟨88, _⟩ => ⟨S_, .f32⟩
  | .hbm, ⟨89, _⟩ => ⟨S12288x1, .f32⟩
  | .hbm, ⟨90, _⟩ => ⟨S12288x1, .f32⟩
  | .hbm, ⟨91, _⟩ => ⟨S_, .f32⟩
  | .hbm, ⟨92, _⟩ => ⟨S12288x1, .f32⟩
  | .hbm, ⟨93, _⟩ => ⟨S12288x1, .f32⟩
  | .hbm, ⟨94, _⟩ => ⟨S12288x1, .f32⟩
  | .hbm, ⟨95, _⟩ => ⟨S12288x2048, .f32⟩
  | .hbm, ⟨96, _⟩ => ⟨S12288x2048, .f32⟩
  | .hbm, ⟨97, _⟩ => ⟨S1x2048, .f32⟩
  | .hbm, ⟨98, _⟩ => ⟨S2048, .f32⟩
  | .hbm, ⟨99, _⟩ => ⟨S1x2048, .f32⟩
  | .hbm, ⟨100, _⟩ => ⟨S12288x2048, .f32⟩
  | .hbm, ⟨101, _⟩ => ⟨S12288x2048, .f32⟩
  | .hbm, ⟨102, _⟩ => ⟨S_, .f32⟩
  | .hbm, ⟨103, _⟩ => ⟨S12288x2048, .f32⟩
  | .hbm, ⟨104, _⟩ => ⟨S12288x2048, .f32⟩
  | .hbm, ⟨105, _⟩ => ⟨S12288x2048, .f32⟩
  | .hbm, ⟨106, _⟩ => ⟨S12288x2048, .f32⟩
  | .hbm, ⟨107, _⟩ => ⟨S12288x2048, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_1 : Ref sig .tc := ⟨.hbm, 85, rfl⟩
abbrev main_v71 : Ref sig .tc := ⟨.hbm, 86, rfl⟩
abbrev main_v72 : Ref sig .tc := ⟨.hbm, 87, rfl⟩
abbrev main_cst_2 : Ref sig .tc := ⟨.hbm, 88, rfl⟩
abbrev main_v73 : Ref sig .tc := ⟨.hbm, 89, rfl⟩
abbrev main_v74 : Ref sig .tc := ⟨.hbm, 90, rfl⟩
abbrev main_cst_3 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_4 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Kernel6.lean ====
abbrev S12288x5632 : Shape := ⟨2, ![12288, 5632]⟩
abbrev S2x5632x2048 : Shape := ⟨3, ![2, 5632, 2048]⟩
abbrev S12288x2048 : Shape := ⟨2, ![12288, 2048]⟩
abbrev S16x1x12288 : Shape := ⟨3, ![16, 1, 12288]⟩
abbrev S2048 : Shape := ⟨1, ![2048]⟩
abbrev S1x2048 : Shape := ⟨2, ![1, 2048]⟩
abbrev S8192x2048 : Shape := ⟨2, ![8192, 2048]⟩
abbrev S4096x2048 : Shape := ⟨2, ![4096, 2048]⟩
abbrev S256x5632 : Shape := ⟨2, ![256, 5632]⟩
abbrev S1x5632x2048 : Shape := ⟨3, ![1, 5632, 2048]⟩
abbrev S256x2048 : Shape := ⟨2, ![256, 2048]⟩
abbrev S1x1x2048 : Shape := ⟨3, ![1, 1, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S12288x5632, .bf16⟩
  | .hbm, ⟨1, _⟩ => ⟨S2x5632x2048, .f32⟩
  | .hbm, ⟨2, _⟩ => ⟨S12288x2048, .f32⟩
  | .hbm, ⟨3, _⟩ => ⟨S16x1x12288, .f32⟩
  | .hbm, ⟨4, _⟩ => ⟨S2048, .f32⟩
  | .hbm, ⟨5, _⟩ => ⟨S2x5632x2048, .bf16⟩
  | .hbm, ⟨6, _⟩ => ⟨S1x2048, .f32⟩
  | .hbm, ⟨7, _⟩ => ⟨S8192x2048, .f32⟩
  | .hbm, ⟨8, _⟩ => ⟨S4096x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S12288x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c32_i32 : BitVec 32 := 32#32
  let v24 : BitVec 1 := Scalar.cmpi .slt arg0 c32_i32
  let v25 : BitVec 32 := Scalar.extui v24
  let c0_i32 : BitVec 32 := 0#32
  let v26 : BitVec 1 := Scalar.cmpi .ne v25 c0_i32
  v26

def k0_cond2 (i : grid0.Coords) : BitVec 1 :=
  let arg0 : BitVec 32 := BitVec.ofNat 32 (i 0).val
  let c32_i32 : BitVec 32 := 32#32
  let v24 : BitVec 1 := Scalar.cmpi .slt arg0 c32_i32
  let v_true : BitVec 1 := 1#1
  let v27 : BitVec 1 := Scalar.xori v24 v_true
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 v20
  let c0_i32_7 : BitVec 32 := 0#32
  let c5_i32 : BitVec 32 := 5#32
  let c0_i32_8 : BitVec 32 := 0#32
  ![v21.toNat, c0_i32_7.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S12288x5632 : Shape := ⟨2, ![12288, 5632]⟩
abbrev S2x5632x2048 : Shape := ⟨3, ![2, 5632, 2048]⟩
abbrev S12288x2048 : Shape := ⟨2, ![12288, 2048]⟩
abbrev S16x1x12288 : Shape := ⟨3, ![16, 1, 12288]⟩
abbrev S2048 : Shape := ⟨1, ![2048]⟩
abbrev S8192x5632 : Shape := ⟨2, ![8192, 5632]⟩
abbrev S32x256x5632 : Shape := ⟨3, ![32, 256, 5632]⟩
abbrev S4096x5632 : Shape := ⟨2, ![4096, 5632]⟩
abbrev S4x1024x5632 : Shape := ⟨3, ![4, 1024, 5632]⟩
abbrev S8192x2048 : Shape := ⟨2, ![8192, 2048]⟩
abbrev S32x256x2048 : Shape := ⟨3, ![32, 256, 2048]⟩
abbrev S4096x2048 : Shape := ⟨2, ![4096, 2048]⟩
abbrev S4x1024x2048 : Shape := ⟨3, ![4, 1024, 2048]⟩
abbrev S8x1x2048 : Shape := ⟨3, ![8, 1, 2048]⟩
abbrev S8x2048 : Shape := ⟨2, ![8, 2048]⟩
abbrev S1x2048 : Shape := ⟨2, ![1, 2048]⟩
abbrev S4x2048 : Shape := ⟨2, ![4, 2048]⟩
abbrev S1x1x2048 : Shape := ⟨3, ![1, 1, 2048]⟩
abbrev S1x5632x2048 : Shape := ⟨3, ![1, 5632, 2048]⟩
abbrev S5632x2048 : Shape := ⟨2, ![5632, 2048]⟩
abbrev S_ : Shape := ⟨0, ![]⟩
abbrev S32x256 : Shape := ⟨2, ![32, 256]⟩
abbrev S32x256x1 : Shape := ⟨3, ![32, 256, 1]⟩
abbrev S4x1x2048 : Shape := ⟨3, ![4, 1, 2048]⟩
abbrev S4x1024 : Shape := ⟨2, ![4, 1024]⟩
abbrev S4x1024x1 : Shape := ⟨3, ![4, 1024, 1]⟩

abbrev nBuf : Space → Nat
  | .hbm => 67
  | .vmem => 0
  | .smem => 0
  | _ => 0

abbrev bufTy : (tb : Table) → Fin (tcTables nBuf tb) → BufTy
  | .hbm, ⟨0, _⟩ => ⟨S12288x5632, .bf16⟩
  | .hbm, ⟨1, _⟩ => ⟨S2x5632x2048, .f32⟩
  | .hbm, ⟨2, _⟩ => ⟨S12288x2048, .f32⟩
  | .hbm, ⟨3, _⟩ => ⟨S16x1x12288, .f32⟩
  | .hbm, ⟨4, _⟩ => ⟨S2048, .f32⟩
  | .hbm, ⟨5, _⟩ => ⟨S8192x5632, .bf16⟩
  | .hbm, ⟨6, _⟩ => ⟨S32x256x5632, .bf16⟩
  | .hbm, ⟨7, _⟩ => ⟨S4096x5632, .bf16⟩
  | .hbm, ⟨8, _⟩ => ⟨S4x1024x5632, .bf16⟩
  | .hbm, ⟨9, _⟩ => ⟨S8192x2048, .f32⟩
  | .hbm, ⟨10, _⟩ => ⟨S32x256x2048, .f32⟩
  | .hbm, ⟨11, _⟩ => ⟨S4096x2048, .f32⟩
  | .hbm, ⟨12, _⟩ => ⟨S4x1024x2048, .f32⟩
  | .hbm, ⟨13, _⟩ => ⟨S8x1x2048, .f32⟩
  | .hbm, ⟨14, _⟩ => ⟨S8x2048, .f32⟩
  | .hbm, ⟨15, _⟩ => ⟨S1x2048, .f32⟩
  | .hbm, ⟨16, _⟩ => ⟨S4x2048, .f32⟩
  | .hbm, ⟨17, _⟩ => ⟨S1x1x2048, .f32⟩
  | .hbm, ⟨18, _⟩ => ⟨S32x256x5632, .f32⟩
  | .hbm, ⟨19, _⟩ => ⟨S1x5632x2048, .f32⟩
  | .hbm, ⟨20, _⟩ => ⟨S5632x2048, .f32⟩
  | .hbm, ⟨21, _⟩ => ⟨S32x256x2048, .f32⟩
  | .hbm, ⟨22, _⟩ => ⟨S32x256x2048, .f32⟩
  | .hbm, ⟨23, _⟩ => ⟨S32x256x2048, .f32⟩
  | .hbm, ⟨24, _⟩ => ⟨S32x256x2048, .f32⟩
  | .hbm, ⟨25, _⟩ => ⟨S32x256x2048, .f32⟩
  | .hbm, ⟨26, _⟩ => ⟨S_, .f32⟩
  | .hbm, ⟨27, _⟩ => ⟨S32x256, .f32⟩
  | .hbm, ⟨28, _⟩ => ⟨S32x256x1, .f32⟩
  | .hbm, ⟨29, _⟩ => ⟨S_, .f32⟩
  | .hbm, ⟨30, _⟩ => ⟨S32x256x1, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S32x256x1, .f32⟩
  | .hbm, ⟨36, _⟩ => ⟨S32x256x2048, .f32⟩
  | .hbm, ⟨37, _⟩ => ⟨S32x256x2048, .f32⟩
  | .hbm, ⟨38, _⟩ => ⟨S1x1x2048, .f32⟩
  | .hbm, ⟨39, _⟩ => ⟨S32x256x2048, .f32⟩
  | .hbm, ⟨40, _⟩ => ⟨S32x256x2048, .f32⟩
  | .hbm, ⟨41, _⟩ => ⟨S8192x2048, .f32⟩
  | .hbm, ⟨42, _⟩ => ⟨S4x1x2048, .f32⟩
  | .hbm, ⟨43, _⟩ => ⟨S4x1024x5632, .f32⟩
  | .hbm, ⟨44, _⟩ => ⟨S1x5632x2048, .f32⟩
  | .hbm, ⟨45, _⟩ => ⟨S5632x2048, .f32⟩
  | .hbm, ⟨46, _⟩ => ⟨S4x1024x2048, .f32⟩
  | .hbm, ⟨47, _⟩ => ⟨S4x1024x2048, .f32⟩
  | .hbm, ⟨48, _⟩ => ⟨S4x1024x2048, .f32⟩
  | .hbm, ⟨49, _⟩ => ⟨S4x1024x2048, .f32⟩
  | .hbm, ⟨50, _⟩ => ⟨S4x1024x2048, .f32⟩
  | .hbm, ⟨51, _⟩ => ⟨S_, .f32⟩
  | .hbm, ⟨52, _⟩ => ⟨S4x1024, .f32⟩
  | .hbm, ⟨53, _⟩ => ⟨S4x1024x1, .f32⟩
  | .hbm, ⟨54, _⟩ => ⟨S_, .f32⟩
  | .hbm, ⟨55, _⟩ => ⟨S4x1024x1, .f32⟩
  | .hbm, ⟨56, _⟩ => ⟨S4x1024x1, .f32⟩
  | .hbm, ⟨57, _⟩ => ⟨S_, .f32⟩
  | .hbm, ⟨58, _⟩ => ⟨S4x1024x1, .f32⟩
  | .hbm, ⟨59, _⟩ => ⟨S4x1024x1, .f32⟩
  | .hbm, ⟨60, _⟩ => ⟨S4x1024x1, .f32⟩
  | .hbm, ⟨61, _⟩ => ⟨S4x1024x2048, .f32⟩
  | .hbm, ⟨62, _⟩ => ⟨S4x1024x2048, .f32⟩
  | .hbm, ⟨63, _⟩ => ⟨S1x1x2048, .f32⟩
  | .hbm, ⟨64, _⟩ => ⟨S4x1024x2048, .f32⟩
  | .hbm, ⟨65, _⟩ => ⟨S4x1024x2048, .f32⟩
  | .hbm, ⟨66, _⟩ => ⟨S4096x2048, .f32⟩
  | _, _ => ⟨S12288x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Kernel7.lean ====
abbrev S12288x1024 : Shape := ⟨2, ![12288, 1024]⟩
abbrev S12288x512 : Shape := ⟨2, ![12288, 512]⟩
abbrev S12288x12816 : Shape := ⟨2, ![12288, 12816]⟩
abbrev S2x6144 : Shape := ⟨2, ![2, 6144]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S8192x2048 : Shape := ⟨2, ![8192, 2048]⟩
abbrev S4096x2048 : Shape := ⟨2, ![4096, 2048]⟩
abbrev S16x1x12288 : Shape := ⟨3, ![16, 1, 12288]⟩
abbrev S2x2048 : Shape := ⟨2, ![2, 2048]⟩
abbrev S2x1x6144 : Shape := ⟨3, ![2, 1, 6144]⟩
abbrev S2x1x2048 : Shape := ⟨3, ![2, 1, 2048]⟩
abbrev S12288x2048 : Shape := ⟨2, ![12288, 2048]⟩
abbrev S256x1024 : Shape := ⟨2, ![256, 1024]⟩
abbrev S256x512 : Shape := ⟨2, ![256, 512]⟩
abbrev S256x6656 : Shape := ⟨2, ![256, 6656]⟩
abbrev S1x1x6144 : Shape := ⟨3, ![1, 1, 6144]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S256x2048 : Shape := ⟨2, ![256, 2048]⟩
abbrev S1x1x2048 : Shape := ⟨3, ![1, 1, 2048]⟩
abbrev S256x6144 : Shape := ⟨2, ![256, 6144]⟩
abbrev S1x6144 : Shape := ⟨2, ![1, 6144]⟩
abbrev S1024x2048 : Shape := ⟨2, ![1024, 2048]⟩
abbrev S512x2048 : Shape := ⟨2, ![512, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 21
  | .vmem => 28
  | .smem => 0
  | _ => 0

abbrev bufTy : (tb : Table) → Fin (tcTables nBuf tb) → BufTy
  | .hbm, ⟨0, _⟩ => ⟨S12288x1024, .bf16⟩
  | .hbm, ⟨1, _⟩ => ⟨S12288x512, .bf16⟩
  | .hbm, ⟨2, _⟩ => ⟨S12288x512, .bf16⟩
  | .hbm, ⟨3, _⟩ => ⟨S12288x12816, .f32⟩
  | .hbm, ⟨4, _⟩ => ⟨S2x6144, .f32⟩
  | .hbm, ⟨5, _⟩ => ⟨S2x1024x2048, .f32⟩
  | .hbm, ⟨6, _⟩ => ⟨S2x512x2048, .f32⟩
  | .hbm, ⟨7, _⟩ => ⟨S2x512x2048, .f32⟩
  | .hbm, ⟨8, _⟩ => ⟨S2x2048x2048, .f32⟩
  | .hbm, ⟨9, _⟩ => ⟨S8192x2048, .f32⟩
  | .hbm, ⟨10, _⟩ => ⟨S4096x2048, .f32⟩
  | .hbm, ⟨11, _⟩ => ⟨S16x1x12288, .f32⟩
  | .hbm, ⟨12, _⟩ => ⟨S2x2048, .f32⟩
  | .hbm, ⟨13, _⟩ => ⟨S2x1024x2048, .bf16⟩
  | .hbm, ⟨14, _⟩ => ⟨S2x512x2048, .bf16⟩
  | .hbm, ⟨15, _⟩ => ⟨S2x512x2048, .bf16⟩
  | .hbm, ⟨16, _⟩ => ⟨S2x2048x2048, .bf16⟩
  | .hbm, ⟨17, _⟩ => ⟨S2x1x6144, .f32⟩
  | .hbm, ⟨18, _⟩ => ⟨S2x1x2048, .f32⟩
  | .hbm, ⟨19, _⟩ => ⟨S12288x2048, .f32⟩
  | .hbm, ⟨20, _⟩ => ⟨S12288x2048, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x6656, .f32⟩
  | .local _ .vmem, ⟨7, _⟩ => ⟨S256x6656, .f32⟩
  | .local _ .vmem, ⟨8, _⟩ => ⟨S1x1x6144, .f32⟩
  | .local _ .vmem, ⟨9, _⟩ => ⟨S1x1024x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x2048x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .bf16⟩
  | .local _ .vmem, ⟨27, _⟩ => ⟨S256x2048, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c0_i32_8 : BitVec 32 := 0#32
  let c2_i32 : BitVec 32 := 2#32
  let c0_i32_9 : BitVec 32 := 0#32
  ![v21.toNat, c0_i32_8.toNat, c2_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c0_i32_8 : BitVec 32 := 0#32
  let c3_i32 : BitVec 32 := 3#32
  let c0_i32_9 : BitVec 32 := 0#32
  ![v21.toNat, c0_i32_8.toNat, c3_i32.toNat]

def cc0_transform_14 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let v21 : BitVec 32 := Scalar.addi c0_i32_7 v20
  let c0_i32_8 : BitVec 32 := 0#32
  let c4_i32_9 : BitVec 32 := 4#32
  let c0_i32_10 : BitVec 32 := 0#32
  ![v21.toNat, c0_i32_8.toNat, c4_i32_9.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6656 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S12288x1024 : Shape := ⟨2, ![12288, 1024]⟩
abbrev S12288x512 : Shape := ⟨2, ![12288, 512]⟩
abbrev S12288x12816 : Shape := ⟨2, ![12288, 12816]⟩
abbrev S2x6144 : Shape := ⟨2, ![2, 6144]⟩
abbrev S2x1024x2048 : Shape := ⟨3, ![2, 1024, 2048]⟩
abbrev S2x512x2048 : Shape := ⟨3, ![2, 512, 2048]⟩
abbrev S2x2048x2048 : Shape := ⟨3, ![2, 2048, 2048]⟩
abbrev S8192x2048 : Shape := ⟨2, ![8192, 2048]⟩
abbrev S4096x2048 : Shape := ⟨2, ![4096, 2048]⟩
abbrev S16x1x12288 : Shape := ⟨3, ![16, 1, 12288]⟩
abbrev S2x2048 : Shape := ⟨2, ![2, 2048]⟩
abbrev S12288x2048 : Shape := ⟨2, ![12288, 2048]⟩
abbrev S12288x6144 : Shape := ⟨2, ![12288, 6144]⟩
abbrev S1x6144 : Shape := ⟨2, ![1, 6144]⟩
abbrev S6144 : Shape := ⟨1, ![6144]⟩
abbrev S_ : Shape := ⟨0, ![]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩
abbrev S8x1x2048 : Shape := ⟨3, ![8, 1, 2048]⟩
abbrev S8x2048 : Shape := ⟨2, ![8, 2048]⟩
abbrev S1x2048 : Shape := ⟨2, ![1, 2048]⟩
abbrev S4x2048 : Shape := ⟨2, ![4, 2048]⟩
abbrev S1x1x2048 : Shape := ⟨3, ![1, 1, 2048]⟩
abbrev S32x256x2048 : Shape := ⟨3, ![32, 256, 2048]⟩
abbrev S4x1x2048 : Shape := ⟨3, ![4, 1, 2048]⟩
abbrev S4x1024x2048 : Shape := ⟨3, ![4, 1024, 2048]⟩
abbrev S1x2048x2048 : Shape := ⟨3, ![1, 2048, 2048]⟩
abbrev S2048x2048 : Shape := ⟨2, ![2048, 2048]⟩
abbrev S12288 : Shape := ⟨1, ![12288]⟩
abbrev S12288x1 : Shape := ⟨2, ![12288, 1]⟩
abbrev S2048 : Shape := ⟨1, ![2048]⟩

abbrev nBuf : Space → Nat
  | .hbm => 110
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x512, .bf16⟩
  | .hbm, ⟨2, _⟩ => ⟨S12288x512, .bf16⟩
  | .hbm, ⟨3, _⟩ => ⟨S12288x12816, .f32⟩
  | .hbm, ⟨4, _⟩ => ⟨S2x6144, .f32⟩
  | .hbm, ⟨5, _⟩ => ⟨S2x1024x2048, .f32⟩
  | .hbm, ⟨6, _⟩ => ⟨S2x512x2048, .f32⟩
  | .hbm, ⟨7, _⟩ => ⟨S2x512x2048, .f32⟩
  | .hbm, ⟨8, _⟩ => ⟨S2x2048x2048, .f32⟩
  | .hbm, ⟨9, _⟩ => ⟨S8192x2048, .f32⟩
  | .hbm, ⟨10, _⟩ => ⟨S4096x2048, .f32⟩
  | .hbm, ⟨11, _⟩ => ⟨S16x1x12288, .f32⟩
  | .hbm, ⟨12, _⟩ => ⟨S2x2048, .f32⟩
  | .hbm, ⟨13, _⟩ => ⟨S12288x2048, .f32⟩
  | .hbm, ⟨14, _⟩ => ⟨S12288x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S12288x6144, .f32⟩
  | .hbm, ⟨19, _⟩ => ⟨S12288x6144, .f32⟩
  | .hbm, ⟨20, _⟩ => ⟨S12288x6144, .f32⟩
  | .hbm, ⟨21, _⟩ => ⟨S12288x6144, .f32⟩
  | .hbm, ⟨22, _⟩ => ⟨S_, .f32⟩
  | .hbm, ⟨23, _⟩ => ⟨S12288x6144, .f32⟩
  | .hbm, ⟨24, _⟩ => ⟨S12288x6144, .f32⟩
  | .hbm, ⟨25, _⟩ => ⟨S_, .f32⟩
  | .hbm, ⟨26, _⟩ => ⟨S12288x6144, .f32⟩
  | .hbm, ⟨27, _⟩ => ⟨S12288x6144, .f32⟩
  | .hbm, ⟨28, _⟩ => ⟨S12288x2048, .f32⟩
  | .hbm, ⟨29, _⟩ => ⟨S12288x1024, .f32⟩
  | .hbm, ⟨30, _⟩ => ⟨S1x1024x2048, .f32⟩
  | .hbm, ⟨31, _⟩ => ⟨S1024x2048, .f32⟩
  | .hbm, ⟨32, _⟩ => ⟨S12288x2048, .f32⟩
  | .hbm, ⟨33, _⟩ => ⟨S12288x2048, .f32⟩
  | .hbm, ⟨34, _⟩ => ⟨S12288x2048, .f32⟩
  | .hbm, ⟨35, _⟩ => ⟨S12288x512, .f32⟩
  | .hbm, ⟨36, _⟩ => ⟨S1x512x2048, .f32⟩
  | .hbm, ⟨37, _⟩ => ⟨S512x2048, .f32⟩
  | .hbm, ⟨38, _⟩ => ⟨S12288x2048, .f32⟩
  | .hbm, ⟨39, _⟩ => ⟨S12288x2048, .f32⟩
  | .hbm, ⟨40, _⟩ => ⟨S12288x2048, .f32⟩
  | .hbm, ⟨41, _⟩ => ⟨S12288x2048, .f32⟩
  | .hbm, ⟨42, _⟩ => ⟨S12288x512, .f32⟩
  | .hbm, ⟨43, _⟩ => ⟨S1x512x2048, .f32⟩
  | .hbm, ⟨44, _⟩ => ⟨S512x2048, .f32⟩
  | .hbm, ⟨45, _⟩ => ⟨S12288x2048, .f32⟩
  | .hbm, ⟨46, _⟩ => ⟨S12288x2048, .f32⟩
  | .hbm, ⟨47, _⟩ => ⟨S12288x2048, .f32⟩
  | .hbm, ⟨48, _⟩ => ⟨S8x1x2048, .f32⟩
  | .hbm, ⟨49, _⟩ => ⟨S8x2048, .f32⟩
  | .hbm, ⟨50, _⟩ => ⟨S1x2048, .f32⟩
  | .hbm, ⟨51, _⟩ => ⟨S4x2048, .f32⟩
  | .hbm, ⟨52, _⟩ => ⟨S1x1x2048, .f32⟩
  | .hbm, ⟨53, _⟩ => ⟨S32x256x2048, .f32⟩
  | .hbm, ⟨54, _⟩ => ⟨S4x1x2048, .f32⟩
  | .hbm, ⟨55, _⟩ => ⟨S4x1024x2048, .f32⟩
  | .hbm, ⟨56, _⟩ => ⟨S8192x2048, .f32⟩
  | .hbm, ⟨57, _⟩ => ⟨S4096x2048, .f32⟩
  | .hbm, ⟨58, _⟩ => ⟨S12288x2048, .f32⟩
  | .hbm, ⟨59, _⟩ => ⟨S8x1x2048, .f32⟩
  | .hbm, ⟨60, _⟩ => ⟨S8x2048, .f32⟩
  | .hbm, ⟨61, _⟩ => ⟨S1x2048, .f32⟩
  | .hbm, ⟨62, _⟩ => ⟨S4x2048, .f32⟩
  | .hbm, ⟨63, _⟩ => ⟨S1x1x2048, .f32⟩
  | .hbm, ⟨64, _⟩ => ⟨S32x256x2048, .f32⟩
  | .hbm, ⟨65, _⟩ => ⟨S4x1x2048, .f32⟩
  | .hbm, ⟨66, _⟩ => ⟨S4x1024x2048, .f32⟩
  | .hbm, ⟨67, _⟩ => ⟨S8192x2048, .f32⟩
  | .hbm, ⟨68, _⟩ => ⟨S4096x2048, .f32⟩
  | .hbm, ⟨69, _⟩ => ⟨S12288x2048, .f32⟩
  | .hbm, ⟨70, _⟩ => ⟨S8x1x2048, .f32⟩
  | .hbm, ⟨71, _⟩ => ⟨S8x2048, .f32⟩
  | .hbm, ⟨72, _⟩ => ⟨S1x2048, .f32⟩
  | .hbm, ⟨73, _⟩ => ⟨S4x2048, .f32⟩
  | .hbm, ⟨74, _⟩ => ⟨S1x1x2048, .f32⟩
  | .hbm, ⟨75, _⟩ => ⟨S32x256x2048, .f32⟩
  | .hbm, ⟨76, _⟩ => ⟨S4x1x2048, .f32⟩
  | .hbm, ⟨77, _⟩ => ⟨S4x1024x2048, .f32⟩
  | .hbm, ⟨78, _⟩ => ⟨S8192x2048, .f32⟩
  | .hbm, ⟨79, _⟩ => ⟨S4096x2048, .f32⟩
  | .hbm, ⟨80, _⟩ => ⟨S12288x2048, .f32⟩
  | .hbm, ⟨81, _⟩ => ⟨S1x2048x2048, .f32⟩
  | .hbm, ⟨82, _⟩ => ⟨S2048x2048, .f32⟩
  | .hbm, ⟨83, _⟩ => ⟨S12288x2048, .f32⟩
  | .hbm, ⟨84, _⟩ => ⟨S12288x2048, .f32⟩
  | .hbm, ⟨85, _⟩ => ⟨S12288x2048, .f32⟩
  | .hbm, ⟨86, _⟩ => ⟨S12288x2048, .f32⟩
  | .hbm, ⟨87, _⟩ => ⟨S_, .f32⟩
  | .hbm, ⟨88, _⟩ => ⟨S12288, .f32⟩
  | .hbm, ⟨89, _⟩ => ⟨S12288x1, .f32⟩
  | .hbm, ⟨90, _⟩ => ⟨S_, .f32⟩
  | .hbm, ⟨91, _⟩ => ⟨S12288x1, .f32⟩
  | .hbm, ⟨92, _⟩ => ⟨S12288x1, .f32⟩
  | .hbm, ⟨93, _⟩ => ⟨S_, .f32⟩
  | .hbm, ⟨94, _⟩ => ⟨S12288x1, .f32⟩
  | .hbm, ⟨95, _⟩ => ⟨S12288x1, .f32⟩
  | .hbm, ⟨96, _⟩ => ⟨S12288x1, .f32⟩
  | .hbm, ⟨97, _⟩ => ⟨S12288x2048, .f32⟩
  | .hbm, ⟨98, _⟩ => ⟨S12288x2048, .f32⟩
  | .hbm, ⟨99, _⟩ => ⟨S1x2048, .f32⟩
  | .hbm, ⟨100, _⟩ => ⟨S2048, .f32⟩
  | .hbm, ⟨101, _⟩ => ⟨S1x2048, .f32⟩
  | .hbm, ⟨102, _⟩ => ⟨S12288x2048, .f32⟩
  | .hbm, ⟨103, _⟩ => ⟨S12288x2048, .f32⟩
  | .hbm, ⟨104, _⟩ => ⟨S_, .f32⟩
  | .hbm, ⟨105, _⟩ => ⟨S12288x2048, .f32⟩
  | .hbm, ⟨106, _⟩ => ⟨S12288x2048, .f32⟩
  | .hbm, ⟨107, _⟩ => ⟨S12288x2048, .f32⟩
  | .hbm, ⟨108, _⟩ => ⟨S12288x2048, .f32⟩
  | .hbm, ⟨109, _⟩ => ⟨S12288x2048, .bf16⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_1 : Ref sig .tc := ⟨.hbm, 87, rfl⟩
abbrev main_v72 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_cst_3 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_4 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩

abbrev nD : Nat := 1
abbrev τ : Topo := Topo.v7x

variable {F : FTy → Type} [FloatOps F]
-- ==== Kernel8.lean ====
abbrev S12288x12816 : Shape := ⟨2, ![12288, 12816]⟩
abbrev S32x2x256x1024 : Shape := ⟨4, ![32, 2, 256, 1024]⟩
abbrev S12288x1024 : Shape := ⟨2, ![12288, 1024]⟩
abbrev S256x1024 : Shape := ⟨2, ![256, 1024]⟩
abbrev S1x1x256x1024 : Shape := ⟨4, ![1, 1, 256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S12288x12816, .f32⟩
  | .hbm, ⟨1, _⟩ => ⟨S32x2x256x1024, .f32⟩
  | .hbm, ⟨2, _⟩ => ⟨S32x2x256x1024, .f32⟩
  | .hbm, ⟨3, _⟩ => ⟨S12288x1024, .bf16⟩
  | .hbm, ⟨4, _⟩ => ⟨S32x2x256x1024, .f32⟩
  | .hbm, ⟨5, _⟩ => ⟨S32x2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1x256x1024, .f32⟩
  | .local _ .vmem, ⟨9, _⟩ => ⟨S1x1x256x1024, .f32⟩
  | .local _ .vmem, ⟨10, _⟩ => ⟨S1x1x256x1024, .f32⟩
  | .local _ .vmem, ⟨11, _⟩ => ⟨S1x1x256x1024, .f32⟩
  | _, _ => ⟨S12288x12816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S12288x12816 : Shape := ⟨2, ![12288, 12816]⟩
abbrev S32x2x256x1024 : Shape := ⟨4, ![32, 2, 256, 1024]⟩
abbrev S8192x1024 : Shape := ⟨2, ![8192, 1024]⟩
abbrev S32x256x8x128 : Shape := ⟨4, ![32, 256, 8, 128]⟩
abbrev S_ : Shape := ⟨0, ![]⟩
abbrev S32x8x256x256 : Shape := ⟨4, ![32, 8, 256, 256]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S12288x1024 : Shape := ⟨2, ![12288, 1024]⟩
abbrev S32x1x256x1024 : Shape := ⟨4, ![32, 1, 256, 1024]⟩
abbrev S32x256x1024 : Shape := ⟨3, ![32, 256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S12288x12816, .f32⟩
  | .hbm, ⟨1, _⟩ => ⟨S32x2x256x1024, .f32⟩
  | .hbm, ⟨2, _⟩ => ⟨S32x2x256x1024, .f32⟩
  | .hbm, ⟨3, _⟩ => ⟨S8192x1024, .f32⟩
  | .hbm, ⟨4, _⟩ => ⟨S32x256x8x128, .f32⟩
  | .hbm, ⟨5, _⟩ => ⟨S8192x1024, .f32⟩
  | .hbm, ⟨6, _⟩ => ⟨S32x256x8x128, .f32⟩
  | .hbm, ⟨7, _⟩ => ⟨S8192x1024, .f32⟩
  | .hbm, ⟨8, _⟩ => ⟨S32x256x8x128, .f32⟩
  | .hbm, ⟨9, _⟩ => ⟨S_, .f32⟩
  | .hbm, ⟨10, _⟩ => ⟨S32x256x8x128, .f32⟩
  | .hbm, ⟨11, _⟩ => ⟨S32x256x8x128, .f32⟩
  | .hbm, ⟨12, _⟩ => ⟨S32x8x256x256, .f32⟩
  | .hbm, ⟨13, _⟩ => ⟨S_, .f32⟩
  | .hbm, ⟨14, _⟩ => ⟨S32x8x256, .f32⟩
  | .hbm, ⟨15, _⟩ => ⟨S_, .f32⟩
  | .hbm, ⟨16, _⟩ => ⟨S32x8x256, .f32⟩
  | .hbm, ⟨17, _⟩ => ⟨S32x8x256, .f32⟩
  | .hbm, ⟨18, _⟩ => ⟨S32x8x256x1, .f32⟩
  | .hbm, ⟨19, _⟩ => ⟨S32x8x256x256, .f32⟩
  | .hbm, ⟨20, _⟩ => ⟨S32x8x256x256, .f32⟩
  | .hbm, ⟨21, _⟩ => ⟨S32x8x256x256, .f32⟩
  | .hbm, ⟨22, _⟩ => ⟨S_, .f32⟩
  | .hbm, ⟨23, _⟩ => ⟨S32x8x256, .f32⟩
  | .hbm, ⟨24, _⟩ => ⟨S32x8x256x1, .f32⟩
  | .hbm, ⟨25, _⟩ => ⟨S32x8x256x256, .f32⟩
  | .hbm, ⟨26, _⟩ => ⟨S32x8x256x256, .f32⟩
  | .hbm, ⟨27, _⟩ => ⟨S32x8x128x256, .f32⟩
  | .hbm, ⟨28, _⟩ => ⟨S32x256x8x128, .f32⟩
  | .hbm, ⟨29, _⟩ => ⟨S8192x1024, .f32⟩
  | .hbm, ⟨30, _⟩ => ⟨S8192x1024, .bf16⟩
  | .hbm, ⟨31, _⟩ => ⟨S_, .i32⟩
  | .hbm, ⟨32, _⟩ => ⟨S_, .bf16⟩
  | .hbm, ⟨33, _⟩ => ⟨S12288x1024, .bf16⟩
  | .hbm, ⟨34, _⟩ => ⟨S32x1x256x1024, .f32⟩
  | .hbm, ⟨35, _⟩ => ⟨S32x256x1024, .f32⟩
  | .hbm, ⟨36, _⟩ => ⟨S32x256x1024, .f32⟩
  | .hbm, ⟨37, _⟩ => ⟨S32x1x256x1024, .f32⟩
  | .hbm, ⟨38, _⟩ => ⟨S32x1x256x1024, .f32⟩
  | .hbm, ⟨39, _⟩ => ⟨S32x2x256x1024, .f32⟩
  | .hbm, ⟨40, _⟩ => ⟨S32x1x256x1024, .f32⟩
  | .hbm, ⟨41, _⟩ => ⟨S32x256x1024, .f32⟩
  | .hbm, ⟨42, _⟩ => ⟨S32x256x1024, .f32⟩
  | .hbm, ⟨43, _⟩ => ⟨S32x1x256x1024, .f32⟩
  | .hbm, ⟨44, _⟩ => ⟨S32x1x256x1024, .f32⟩
  | .hbm, ⟨45, _⟩ => ⟨S32x2x256x1024, .f32⟩
  | _, _ => ⟨S12288x12816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel9.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2x12288x8, .f32⟩
  | .hbm, ⟨18, _⟩ => ⟨S2x8x12288, .f32⟩
  | .hbm, ⟨19, _⟩ => ⟨S2x1x12288, .f32⟩
  | .hbm, ⟨20, _⟩ => ⟨S2x8x12288, .f32⟩
  | .hbm, ⟨21, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel10.lean ====
abbrev S8192x2048 : Shape := ⟨2, ![8192, 2048]⟩
abbrev S4096x2048 : Shape := ⟨2, ![4096, 2048]⟩
abbrev S16x1x12288 : Shape := ⟨3, ![16, 1, 12288]⟩
abbrev S2x2048 : Shape := ⟨2, ![2, 2048]⟩
abbrev S2x1x2048 : Shape := ⟨3, ![2, 1, 2048]⟩
abbrev S12288x2048 : Shape := ⟨2, ![12288, 2048]⟩
abbrev S1024x2048 : Shape := ⟨2, ![1024, 2048]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S16x1x12288, .f32⟩
  | .hbm, ⟨3, _⟩ => ⟨S2x2048, .f32⟩
  | .hbm, ⟨4, _⟩ => ⟨S2x1x2048, .f32⟩
  | .hbm, ⟨5, _⟩ => ⟨S12288x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1024x2048, .bf16⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let v21 : BitVec 32 := Scalar.addi c0_i32_8 v20
  let c0_i32_9 : BitVec 32 := 0#32
  let c0_i32_10 : BitVec 32 := 0#32
  let c0_i32_11 : BitVec 32 := 0#32
  ![v21.toNat, c0_i32_9.toNat, c0_i32_10.toNat]

def cc0_transform_4 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let v21 : BitVec 32 := Scalar.addi c0_i32_8 v20
  let c0_i32_9 : BitVec 32 := 0#32
  let c1_i32_10 : BitVec 32 := 1#32
  let c0_i32_11 : BitVec 32 := 0#32
  ![v21.toNat, c0_i32_9.toNat, c1_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x2048 : Shape := ⟨2, ![8192, 2048]⟩
abbrev S4096x2048 : Shape := ⟨2, ![4096, 2048]⟩
abbrev S16x1x12288 : Shape := ⟨3, ![16, 1, 12288]⟩
abbrev S2x2048 : Shape := ⟨2, ![2, 2048]⟩
abbrev S8x1x2048 : Shape := ⟨3, ![8, 1, 2048]⟩
abbrev S8x2048 : Shape := ⟨2, ![8, 2048]⟩
abbrev S1x2048 : Shape := ⟨2, ![1, 2048]⟩
abbrev S4x2048 : Shape := ⟨2, ![4, 2048]⟩
abbrev S1x1x2048 : Shape := ⟨3, ![1, 1, 2048]⟩
abbrev S32x256x2048 : Shape := ⟨3, ![32, 256, 2048]⟩
abbrev S4x1x2048 : Shape := ⟨3, ![4, 1, 2048]⟩
abbrev S4x1024x2048 : Shape := ⟨3, ![4, 1024, 2048]⟩
abbrev S12288x2048 : Shape := ⟨2, ![12288, 2048]⟩
abbrev S_ : Shape := ⟨0, ![]⟩
abbrev S12288 : Shape := ⟨1, ![12288]⟩
abbrev S12288x1 : Shape := ⟨2, ![12288, 1]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S16x1x12288, .f32⟩
  | .hbm, ⟨3, _⟩ => ⟨S2x2048, .f32⟩
  | .hbm, ⟨4, _⟩ => ⟨S8x1x2048, .f32⟩
  | .hbm, ⟨5, _⟩ => ⟨S8x2048, .f32⟩
  | .hbm, ⟨6, _⟩ => ⟨S1x2048, .f32⟩
  | .hbm, ⟨7, _⟩ => ⟨S4x2048, .f32⟩
  | .hbm, ⟨8, _⟩ => ⟨S1x1x2048, .f32⟩
  | .hbm, ⟨9, _⟩ => ⟨S32x256x2048, .f32⟩
  | .hbm, ⟨10, _⟩ => ⟨S4x1x2048, .f32⟩
  | .hbm, ⟨11, _⟩ => ⟨S4x1024x2048, .f32⟩
  | .hbm, ⟨12, _⟩ => ⟨S8192x2048, .f32⟩
  | .hbm, ⟨13, _⟩ => ⟨S4096x2048, .f32⟩
  | .hbm, ⟨14, _⟩ => ⟨S12288x2048, .f32⟩
  | .hbm, ⟨15, _⟩ => ⟨S8x1x2048, .f32⟩
  | .hbm, ⟨16, _⟩ => ⟨S8x2048, .f32⟩
  | .hbm, ⟨17, _⟩ => ⟨S1x2048, .f32⟩
  | .hbm, ⟨18, _⟩ => ⟨S4x2048, .f32⟩
  | .hbm, ⟨19, _⟩ => ⟨S1x1x2048, .f32⟩
  | .hbm, ⟨20, _⟩ => ⟨S32x256x2048, .f32⟩
  | .hbm, ⟨21, _⟩ => ⟨S4x1x2048, .f32⟩
  | .hbm, ⟨22, _⟩ => ⟨S4x1024x2048, .f32⟩
  | .hbm, ⟨23, _⟩ => ⟨S8192x2048, .f32⟩
  | .hbm, ⟨24, _⟩ => ⟨S4096x2048, .f32⟩
  | .hbm, ⟨25, _⟩ => ⟨S12288x2048, .f32⟩
  | .hbm, ⟨26, _⟩ => ⟨S12288x2048, .f32⟩
  | .hbm, ⟨27, _⟩ => ⟨S12288x2048, .f32⟩
  | .hbm, ⟨28, _⟩ => ⟨S_, .f32⟩
  | .hbm, ⟨29, _⟩ => ⟨S12288, .f32⟩
  | .hbm, ⟨30, _⟩ => ⟨S12288x1, .f32⟩
  | .hbm, ⟨31, _⟩ => ⟨S_, .f32⟩
  | .hbm, ⟨32, _⟩ => ⟨S12288x1, .f32⟩
  | .hbm, ⟨33, _⟩ => ⟨S12288x1, .f32⟩
  | .hbm, ⟨34, _⟩ => ⟨S_, .f32⟩
  | .hbm, ⟨35, _⟩ => ⟨S12288x1, .f32⟩
  | .hbm, ⟨36, _⟩ => ⟨S12288x1, .f32⟩
  | .hbm, ⟨37, _⟩ => ⟨S12288x1, .f32⟩
  | .hbm, ⟨38, _⟩ => ⟨S12288x2048, .f32⟩
  | .hbm, ⟨39, _⟩ => ⟨S12288x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S12288x2048, .f32⟩
  | .hbm, ⟨44, _⟩ => ⟨S12288x2048, .f32⟩
  | .hbm, ⟨45, _⟩ => ⟨S_, .f32⟩
  | .hbm, ⟨46, _⟩ => ⟨S12288x2048, .f32⟩
  | .hbm, ⟨47, _⟩ => ⟨S12288x2048, .f32⟩
  | .hbm, ⟨48, _⟩ => ⟨S12288x2048, .f32⟩
  | .hbm, ⟨49, _⟩ => ⟨S12288x2048, .f32⟩
  | .hbm, ⟨50, _⟩ => ⟨S12288x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Proof.Softmax.lean ====
/-
  The arithmetic of one attention row over the extended reals: scores that are real numbers have positive real weights,
  so dividing the weighted sum of the values by the sum of the weights is weighting the values by the quotients.
-/
module

public import Idealize.ShloMosaic.PureOps.Ideal
public import Idealize.ShloMosaic.Lib.IdealHost

@[expose] public section

noncomputable section

namespace Cert.Softmax

open Idealize.ShloMosaic

/-- The largest of a row's scores, as a running maximum from −∞ finds it. -/
def top {n : Nat} (s : Fin n → EReal) : EReal := (Finset.univ : Finset (Fin n)).fold max ⊥ s

/-- The weight of score `k` before the row is normalised. -/
def weight {n : Nat} (s : Fin n → EReal) (k : Fin n) : EReal := Ideal.exp (s k - top s)

/-- The sum of a row's weights. -/
def total {n : Nat} (s : Fin n → EReal) : EReal := ∑ k, weight s k

/-- An extended real is finite. -/
def Fin' (x : EReal) : Prop := x ≠ ⊥ ∧ x ≠ ⊤

theorem fin_coe (r : ℝ) : Fin' (r : EReal) := ⟨EReal.coe_ne_bot r, EReal.coe_ne_top r⟩

theorem Fin'.exists_coe {x : EReal} (h : Fin' x) : ∃ r : ℝ, x = r := ⟨x.toReal, (EReal.coe_toReal h.2 h.1).symm⟩

theorem Fin'.mul {x y : EReal} (hx : Fin' x) (hy : Fin' y) : Fin' (x * y) := by
  obtain ⟨a, rfl⟩ := hx.exists_coe; obtain ⟨b, rfl⟩ := hy.exists_coe
  rw [← EReal.coe_mul]; exact fin_coe _

theorem Fin'.sub {x y : EReal} (hx : Fin' x) (hy : Fin' y) : Fin' (x - y) := by
  obtain ⟨a, rfl⟩ := hx.exists_coe; obtain ⟨b, rfl⟩ := hy.exists_coe
  rw [← EReal.coe_sub]; exact fin_coe _

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem fin_sum {ι : Type*} (S : Finset ι) {f : ι → EReal} (h : ∀ i, Fin' (f i)) : Fin' (∑ i ∈ S, f i) := by
  choose g hg using fun i => (h i).exists_coe
  rw [Finset.sum_congr rfl fun i _ => hg i, ← coe_sum]; exact fin_coe _

/-- The largest of finitely many (at least one) finite scores is finite. -/
theorem fin_top {n : Nat} [NeZero n] {s : Fin n → EReal} (h : ∀ k, Fin' (s k)) : Fin' (top s) := by
  constructor
  · have : ⊥ < top s := (Finset.lt_fold_max (b := ⊥) (f := s) _).2 (Or.inr ⟨0, Finset.mem_univ _, bot_lt_iff_ne_bot.2 (h 0).1⟩)
    exact ne_of_gt this
  · have : top s < ⊤ := (Finset.fold_max_lt (b := ⊥) (f := s) _).2 ⟨bot_lt_top, fun k _ => lt_top_iff_ne_top.2 (h k).2⟩
    exact ne_of_lt this

/-- A finite score's weight is a positive real. -/
theorem weight_pos {n : Nat} [NeZero n] {s : Fin n → EReal} (h : ∀ k, Fin' (s k)) (k : Fin n) :
    ∃ r : ℝ, 0 < r ∧ weight s k = r := by
  obtain ⟨a, ha⟩ := ((h k).sub (fin_top h)).exists_coe
  exact ⟨Real.exp a, Real.exp_pos a, by rw [weight, ha]; rfl⟩

/-- … and so is their sum. -/
theorem total_pos {n : Nat} [NeZero n] {s : Fin n → EReal} (h : ∀ k, Fin' (s k)) : ∃ r : ℝ, 0 < r ∧ total s = r := by
  choose g hg0 hg using weight_pos h
  exact ⟨∑ k, g k, Finset.sum_pos (fun k _ => hg0 k) ⟨0, Finset.mem_univ _⟩,
    by rw [total, Finset.sum_congr rfl fun k _ => hg k, ← coe_sum]⟩

/-- A nonnegative real factor distributes over a sum of extended reals. -/
theorem sum_mul_coe {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- Normalising after the values are summed is normalising each weight first, whatever extended reals the values are. -/
theorem attend {n : Nat} [NeZero n] {s : Fin n → EReal} (h : ∀ k, Fin' (s k)) (v : Fin n → EReal) :
    Ideal.div (∑ k, weight s k * v k) (total s) = ∑ k, v k * Ideal.div (weight s k) (total s) := by
  obtain ⟨d, hd0, hd⟩ := total_pos h
  rw [hd, Ideal.div_coe hd0.ne', sum_mul_coe _ _ (by positivity)]
  refine Finset.sum_congr rfl fun k _ => ?_
  rw [Ideal.div_coe hd0.ne']; ac_rfl

end Cert.Softmax

end
-- ==== Proof.Attn.Head.lean ====
/-
  One head of the context attention's block: the stored tile of 256 rows by 128 columns, from the head's tiles of
  queries, keys and values.
-/
module

public import proofs.«01_k».proof.Proof.Gen.KernelIdeal.Value
public import proofs.«01_k».proof.Proof.Softmax
public import Idealize.ShloMosaic.Lib.Pointwise

@[expose] public section

set_option maxRecDepth 16384

noncomputable section

namespace Cert.KernelIdeal.Attn

open Idealize.ShloMosaic Cert.KernelIdeal Cert.KernelIdeal.Gen Cert.Softmax

/-- The tile stored for one head, from its queries, keys and values. -/
def head {F : FTy → Type} [FloatOps F] (q k v : Vec F S256x128 .f32) : FVec F S256x128 .bf16 :=
  k0_pay36 (k0_pay18 (k0_pay15 (k0_pay2 q) k)) (k0_pay26 (k0_pay15 (k0_pay2 q) k) v)

/-- The scale 1/√128 as the program words it. -/
def scale : EReal := Ideal.ofBits .f32 0x3DB504F3#32

/-- Row `r`'s score against key row `j`, from tiles of scaled queries and of keys. -/
def score (q k : Vec Ideal S256x128 .f32) (r : Fin 256) (j : Fin 256) : EReal :=
  ∑ d : Fin 128, q (ix2 r d) * scale * k (ix2 j d)

/-- The maximum starts from −∞. -/
theorem ofBits_neg_inf : Ideal.ofBits .f32 0xFF800000#32 = ⊥ := by simp [Ideal.ofBits, Ideal.ieee]

theorem query_apply (q : Vec Ideal S256x128 .f32) (r : Fin 256) (d : Fin 128) :
    k0_pay2 (F := Ideal) q (ix2 r d) = q (ix2 r d) * scale := by
  unfold k0_pay2
  pointwise
  rfl

/-- A score less its row's largest. -/
theorem shifted_apply (q k : Vec Ideal S256x128 .f32) (r j : Fin 256) :
    k0_pay15 (F := Ideal) (k0_pay2 q) k (ix2 r j) = score q k r j - top (score q k r) := by
  unfold k0_pay15
  pointwise [query_apply, ofBits_neg_inf]
  rfl

theorem weight_apply (q k : Vec Ideal S256x128 .f32) (r j : Fin 256) :
    k0_pay18 (F := Ideal) (k0_pay15 (k0_pay2 q) k) (ix2 r j) = weight (score q k r) j := by
  unfold k0_pay18
  pointwise [shifted_apply]
  rfl

theorem values_apply (q k v : Vec Ideal S256x128 .f32) (r : Fin 256) (e : Fin 128) :
    k0_pay26 (F := Ideal) (k0_pay15 (k0_pay2 q) k) v (ix2 r e) = ∑ j, weight (score q k r) j * v (ix2 j e) := by
  unfold k0_pay26
  pointwise [weight_apply]

/-- The stored tile: the values weighted and summed, over the sum of the weights. -/
theorem head_apply (q k v : Vec Ideal S256x128 .f32) (r : Fin 256) (e : Fin 128) :
    head (F := Ideal) q k v (ix2 r e)
      = Ideal.div (∑ j, weight (score q k r) j * v (ix2 j e)) (total (score q k r)) := by
  unfold head k0_pay36
  pointwise [weight_apply, values_apply]
  rfl

end Cert.KernelIdeal.Attn

end
-- ==== Proof.Attn.Block.lean ====
/-
  What the context attention's body leaves in its three staging buffers at one grid point: the attention of the eight
  heads side by side, and the point's keys and values as they came.
-/
module

public import proofs.«01_k».proof.Proof.Attn.Head

@[expose] public section

set_option maxRecDepth 16384

noncomputable section

namespace Cert.KernelIdeal.Attn

open Idealize.ShloMosaic Cert.KernelIdeal Cert.KernelIdeal.Gen Cert.Softmax

/-- Column `d` of head `h`. -/
abbrev col (h : Fin 8) (d : Fin 128) : Fin 1024 := ⟨h.val * 128 + d.val, by omega⟩

/-- The head a column belongs to. -/
abbrev headOf (n : Fin 1024) : Fin 8 := ⟨n.val / 128, by omega⟩

/-- Row `r`'s score against key row `j` in head `h`. -/
def scoreB (x0 x1 : Vec Ideal S256x1024 .f32) (h : Fin 8) (r j : Fin 256) : EReal :=
  ∑ d : Fin 128, x0 (ix2 r (col h d)) * scale * x1 (ix2 j (col h d))

/-- The attention of the whole block. -/
def attnB (x0 x1 x2 : Vec Ideal S256x1024 .f32) (y : S256x1024.Idx) : EReal :=
  Ideal.div (∑ j, weight (scoreB x0 x1 (headOf (y 1)) (y 0)) j * x2 (ix2 j (y 1))) (total (scoreB x0 x1 (headOf (y 1)) (y 0)))

/-- One head's tile is that block of the attention, wherever the head's columns start. -/
theorem head_tile (x0 x1 x2 : Vec Ideal S256x1024 .f32) (o : Nat) (h : Fin 8) (ho : o = h.val * 128)
    (inb : ∀ a, (![0, o] : Fin 2 → Nat) a + (![256, 128] : Fin 2 → Nat) a ≤ S256x1024.size a) (x : S256x128.Idx) :
    head (F := Ideal) (View.ld x0 (Rect.unit (s := S256x1024) ![0, o] ![256, 128] inb))
        (View.ld x1 (Rect.unit (s := S256x1024) ![0, o] ![256, 128] inb))
        (View.ld x2 (Rect.unit (s := S256x1024) ![0, o] ![256, 128] inb)) x
      = attnB x0 x1 x2 ((Rect.unit (s := S256x1024) ![0, o] ![256, 128] inb).emb x) := by
  subst ho
  have at' : ∀ (r : Fin 256) (d : Fin 128),
      (Rect.unit (s := S256x1024) ![0, h.val * 128] ![256, 128] inb).emb (ix2 r d) = ix2 r (col h d) := by
    intro r d
    refine funext fun a => ?_
    fin_cases a
    · exact Fin.ext (by show 0 + 1 * r.val = r.val; omega)
    · exact Fin.ext (by show h.val * 128 + 1 * d.val = h.val * 128 + d.val; omega)
  have cell : ∀ (X : Vec Ideal S256x1024 .f32) (r : Fin 256) (d : Fin 128),
      View.ld X (Rect.unit (s := S256x1024) ![0, h.val * 128] ![256, 128] inb) (ix2 r d) = X (ix2 r (col h d)) :=
    fun X r d => congrArg X (at' r d)
  obtain ⟨r, e, rfl⟩ : ∃ (r : Fin 256) (e : Fin 128), x = ix2 r e := ⟨x 0, x 1, by funext a; fin_cases a <;> rfl⟩
  rw [head_apply, at']
  have hh : headOf (col h e) = h := Fin.ext (by show (h.val * 128 + e.val) / 128 = h.val; omega)
  have hs : score (View.ld x0 (Rect.unit (s := S256x1024) ![0, h.val * 128] ![256, 128] inb))
        (View.ld x1 (Rect.unit (s := S256x1024) ![0, h.val * 128] ![256, 128] inb)) r = scoreB x0 x1 h r :=
    funext fun j => Finset.sum_congr rfl fun d _ => by rw [cell, cell]
  rw [hs]
  show _ = Ideal.div (∑ j, weight (scoreB x0 x1 (headOf (col h e)) r) j * x2 (ix2 j (col h e))) (total (scoreB x0 x1 (headOf (col h e)) r))
  rw [hh]
  exact congrArg (Ideal.div · _) (Finset.sum_congr rfl fun j _ => congrArg (weight (scoreB x0 x1 h r) j * ·) (cell x2 j e))

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S1x1x256x1024 .f32) (harg5 : arg5.IsWhole) (arg6 : Memref sig .tc .vmem S1x1x256x1024 .f32) (harg6 : arg6.IsWhole)
    (x0 x1 x2 : Vec Ideal S256x1024 .f32)

/-- The eight stores leave the attention of the block. -/
theorem out3_eq : out0_A_3 c i arg1 harg1 arg2 harg2 arg3 harg3 arg4 harg4 arg5 harg5 arg6 harg6 x0 x1 x2 = attnB x0 x1 x2 := by
  funext y
  have hc := cover0_A_3 c i arg1 harg1 arg2 harg2 arg3 harg3 arg4 harg4 arg5 harg5 arg6 harg6 x0 x1 x2 y
  unfold out0_A_3
  rw [View.read_writes_junk_apply_eq_canon]
  refine View.canon_apply_of_pieces (attnB x0 x1 x2) _ ?_ y hc
  unfold kernelRun0_A
  dsimp only
  sl_unfold_words
  simp only [View.readAt_eq_ld, harg1.read_unread, harg2.read_unread, harg3.read_unread]
  intro p hp x
  simp only [List.mem_cons, List.mem_nil_iff, or_false] at hp
  rcases hp with rfl | rfl | rfl | rfl | rfl | rfl | rfl | rfl
  · exact head_tile x0 x1 x2 896 7 rfl _ x
  · exact head_tile x0 x1 x2 768 6 rfl _ x
  · exact head_tile x0 x1 x2 640 5 rfl _ x
  · exact head_tile x0 x1 x2 512 4 rfl _ x
  · exact head_tile x0 x1 x2 384 3 rfl _ x
  · exact head_tile x0 x1 x2 256 2 rfl _ x
  · exact head_tile x0 x1 x2 128 1 rfl _ x
  · exact head_tile x0 x1 x2 0 0 rfl _ x

/-- The store of the keys leaves them as they came. -/
theorem out4_eq (y : S1x1x256x1024.Idx) :
    out0_A_4 c i arg1 harg1 arg2 harg2 arg3 harg3 arg4 harg4 arg5 harg5 arg6 harg6 x0 x1 x2 y = x1 (ix2 (y 2) (y 3)) := by
  have hc := cover0_A_4 c i arg1 harg1 arg2 harg2 arg3 harg3 arg4 harg4 arg5 harg5 arg6 harg6 x0 x1 x2 y
  unfold out0_A_4
  rw [View.read_writes_junk_apply_eq_canon]
  refine View.canon_apply_of_pieces (fun y => x1 (ix2 (y 2) (y 3))) _ ?_ y hc
  unfold kernelRun0_A
  dsimp only
  sl_unfold_words
  simp only [View.readAt_eq_ld, harg1.read_unread, harg2.read_unread, harg3.read_unread]
  intro p hp x
  simp only [List.mem_cons, List.mem_nil_iff, or_false] at hp
  subst hp
  idx_vars x
  pointwise [k0_pay44]
  refine congrArg _ ?_
  congr 1 <;> exact Fin.ext (by show _ = 0 + 1 * _; simp)

/-- The store of the values likewise. -/
theorem out5_eq (y : S1x1x256x1024.Idx) :
    out0_A_5 c i arg1 harg1 arg2 harg2 arg3 harg3 arg4 harg4 arg5 harg5 arg6 harg6 x0 x1 x2 y = x2 (ix2 (y 2) (y 3)) := by
  have hc := cover0_A_5 c i arg1 harg1 arg2 harg2 arg3 harg3 arg4 harg4 arg5 harg5 arg6 harg6 x0 x1 x2 y
  unfold out0_A_5
  rw [View.read_writes_junk_apply_eq_canon]
  refine View.canon_apply_of_pieces (fun y => x2 (ix2 (y 2) (y 3))) _ ?_ y hc
  unfold kernelRun0_A
  dsimp only
  sl_unfold_words
  simp only [View.readAt_eq_ld, harg1.read_unread, harg2.read_unread, harg3.read_unread]
  intro p hp x
  simp only [List.mem_cons, List.mem_nil_iff, or_false] at hp
  subst hp
  idx_vars x
  pointwise [k0_pay1]
  refine congrArg _ ?_
  congr 1 <;> exact Fin.ext (by show _ = 0 + 1 * _; simp)

end Cert.KernelIdeal.Attn

end
-- ==== Proof.Attn.Array.lean ====
/-
  What the context attention's three result arrays hold after the run, where it writes them: the attention of each
  prompt's 256 rows, and the rows' keys and values in the first layer's slot of the caches.
-/
module

public import proofs.«01_k».proof.Proof.Attn.Block
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Cert.Softmax

/-- The projection's element at row `n` and column `k`, as natural numbers. -/
def cell (A : FVec Ideal S12288x12816 .f32) (n k : Nat) : EReal :=
  A (ix2 ⟨n % 12288, Nat.mod_lt _ (by decide)⟩ ⟨k % 12816, Nat.mod_lt _ (by decide)⟩)

theorem cell_eq (A : FVec Ideal S12288x12816 .f32) (i : S12288x12816.Idx) (n k : Nat) (hn : (i 0).val = n) (hk : (i 1).val = k) :
    A i = cell A n k := by
  subst hn; subst hk
  refine congrArg A (funext fun a => ?_)
  have h0 : (i 0).val < 12288 := (i 0).isLt
  have h1 : (i 1).val < 12816 := (i 1).isLt
  fin_cases a
  · exact Fin.ext (Nat.mod_eq_of_lt h0).symm
  · exact Fin.ext (Nat.mod_eq_of_lt h1).symm

/-- Prompt `b`, head `h`: row `r`'s score against key row `j`. -/
def scoreA (A : FVec Ideal S12288x12816 .f32) (b h r : Nat) (j : Fin 256) : EReal :=
  ∑ d : Fin 128, cell A (b * 256 + r) (h * 128 + d.val) * scale * cell A (b * 256 + j.val) (1024 + (h * 128 + d.val))

/-- The attention at row `n` and column `e`. -/
def attnA (A : FVec Ideal S12288x12816 .f32) (n e : Nat) : EReal :=
  Ideal.div (∑ j : Fin 256, weight (scoreA A (n / 256) (e / 128) (n % 256)) j * cell A (n / 256 * 256 + j.val) (2048 + e))
    (total (scoreA A (n / 256) (e / 128) (n % 256)))

variable (m : (ℓ : Loc nD τ sig) → Buf (Elt Ideal) ℓ)

/-- The projection as the run finds it. -/
abbrev proj (c : Dev nD) : FVec Ideal S12288x12816 .f32 := m ((c : Thread nD τ).loc main_arg0)

/-- The windows' block indices: point `t` is prompt `t`. -/
theorem idx : ∀ t : Fin cfg0.N, win0_0.index t = ![t.val, 0] ∧ win0_1.index t = ![t.val, 1] ∧ win0_2.index t = ![t.val, 2]
    ∧ win0_3.index t = ![t.val, 0] ∧ win0_4.index t = ![t.val, 0, 0, 0] ∧ win0_5.index t = ![t.val, 0, 0, 0] :=
  (by decide +kernel : ∀ t : Fin grid0.N, _)

/-- The three input blocks of point `t`: its rows of the queries, keys and values. -/
theorem q_apply (c : Dev nD) (t : Fin cfg0.N) (r : Fin 256) (e : Fin 1024) :
    X0_0 m c t (ix2 r e) = cell (proj m c) (t.val * 256 + r.val) e.val := by
  unfold X0_0 Pipeline.Window.fill
  rw [dif_pos (moved0_0 t _)]
  unfold iblk
  rw [View.read_apply]
  refine cell_eq _ _ _ _ ?_ ?_
  · show win0_0.index t 0 * 256 + 1 * r.val = _
    rw [(idx t).1]; simp
  · show win0_0.index t 1 * 1024 + 1 * e.val = _
    rw [(idx t).1]; simp

theorem k_apply (c : Dev nD) (t : Fin cfg0.N) (r : Fin 256) (e : Fin 1024) :
    X0_1 m c t (ix2 r e) = cell (proj m c) (t.val * 256 + r.val) (1024 + e.val) := by
  unfold X0_1 Pipeline.Window.fill
  rw [dif_pos (moved0_1 t _)]
  unfold iblk
  rw [View.read_apply]
  refine cell_eq _ _ _ _ ?_ ?_
  · show win0_1.index t 0 * 256 + 1 * r.val = _
    rw [(idx t).2.1]; simp
  · show win0_1.index t 1 * 1024 + 1 * e.val = _
    rw [(idx t).2.1]; simp

theorem v_apply (c : Dev nD) (t : Fin cfg0.N) (r : Fin 256) (e : Fin 1024) :
    X0_2 m c t (ix2 r e) = cell (proj m c) (t.val * 256 + r.val) (2048 + e.val) := by
  unfold X0_2 Pipeline.Window.fill
  rw [dif_pos (moved0_2 t _)]
  unfold iblk
  rw [View.read_apply]
  refine cell_eq _ _ _ _ ?_ ?_
  · show win0_2.index t 0 * 256 + 1 * r.val = _
    rw [(idx t).2.2.1]; simp
  · show win0_2.index t 1 * 1024 + 1 * e.val = _
    rw [(idx t).2.2.1]; simp

/-- What the three arrays hold where they are written. -/
def G3 (c : Dev nD) : Buf (Elt Ideal) ((c : Thread nD τ).loc main_v0_0) :=
  fun i : S12288x1024.Idx => attnA (proj m c) (i 0).val (i 1).val
def G4 (c : Dev nD) : Buf (Elt Ideal) ((c : Thread nD τ).loc main_v0_1) :=
  fun i : S32x2x256x1024.Idx => cell (proj m c) ((i 0).val * 256 + (i 2).val) (1024 + (i 3).val)
def G5 (c : Dev nD) : Buf (Elt Ideal) ((c : Thread nD τ).loc main_v0_2) :=
  fun i : S32x2x256x1024.Idx => cell (proj m c) ((i 0).val * 256 + (i 2).val) (2048 + (i 3).val)

theorem flush3 (c : Dev nD) (t : Fin cfg0.N) : (dats m 0 c).flushed 3 t = ((cfg0.win 3).blk t).view.read (Elt Ideal) (G3 m c) := by
  rw [Cert.KernelIdeal.Value.flushed3_A, out3_eq]
  funext y
  rw [View.read_apply]
  obtain ⟨r, e, rfl⟩ : ∃ (r : Fin 256) (e : Fin 1024), y = ix2 r e := ⟨y 0, y 1, by funext a; fin_cases a <;> rfl⟩
  show attnB _ _ _ (ix2 r e) = attnA (proj m c) (win0_3.index t 0 * 256 + 1 * r.val) (win0_3.index t 1 * 1024 + 1 * e.val)
  rw [(idx t).2.2.2.1]
  have e0 : (![t.val, 0] : Fin 2 → Nat) 0 * 256 + 1 * r.val = t.val * 256 + r.val := by simp
  have e1 : (![t.val, 0] : Fin 2 → Nat) 1 * 1024 + 1 * e.val = e.val := by simp
  rw [e0, e1]
  have d0 : (t.val * 256 + r.val) / 256 = t.val := by have := r.isLt; omega
  have d1 : (t.val * 256 + r.val) % 256 = r.val := by have := r.isLt; omega
  unfold attnA
  rw [d0, d1]
  have hs : scoreB (X0_0 m c t) (X0_1 m c t) (headOf e) r = scoreA (proj m c) t.val (e.val / 128) r.val :=
    funext fun j => Finset.sum_congr rfl fun d _ => by rw [q_apply, k_apply]
  show Ideal.div (∑ j, weight (scoreB (X0_0 m c t) (X0_1 m c t) (headOf e) r) j * X0_2 m c t (ix2 j e))
    (total (scoreB (X0_0 m c t) (X0_1 m c t) (headOf e) r)) = _
  rw [hs]
  exact congrArg (Ideal.div · _) (Finset.sum_congr rfl fun j _ => by rw [v_apply])

theorem flush4 (c : Dev nD) (t : Fin cfg0.N) : (dats m 0 c).flushed 4 t = ((cfg0.win 4).blk t).view.read (Elt Ideal) (G4 m c) := by
  rw [Cert.KernelIdeal.Value.flushed4_A]
  funext y
  rw [View.read_apply]
  obtain ⟨a, b, r, e, rfl⟩ : ∃ (a b : Fin 1) (r : Fin 256) (e : Fin 1024), y = ix4 a b r e :=
    ⟨y 0, y 1, y 2, y 3, by funext a; fin_cases a <;> rfl⟩
  refine (out4_eq ..).trans ?_
  show X0_1 m c t (ix2 r e) = cell (proj m c) ((win0_4.index t 0 * 1 + 1 * a.val) * 256 + (win0_4.index t 2 * 256 + 1 * r.val)) (1024 + (win0_4.index t 3 * 1024 + 1 * e.val))
  rw [k_apply, (idx t).2.2.2.2.1]
  simp

theorem flush5 (c : Dev nD) (t : Fin cfg0.N) : (dats m 0 c).flushed 5 t = ((cfg0.win 5).blk t).view.read (Elt Ideal) (G5 m c) := by
  rw [Cert.KernelIdeal.Value.flushed5_A]
  funext y
  rw [View.read_apply]
  obtain ⟨a, b, r, e, rfl⟩ : ∃ (a b : Fin 1) (r : Fin 256) (e : Fin 1024), y = ix4 a b r e :=
    ⟨y 0, y 1, y 2, y 3, by funext a; fin_cases a <;> rfl⟩
  refine (out5_eq ..).trans ?_
  show X0_2 m c t (ix2 r e) = cell (proj m c) ((win0_5.index t 0 * 1 + 1 * a.val) * 256 + (win0_5.index t 2 * 256 + 1 * r.val)) (2048 + (win0_5.index t 3 * 1024 + 1 * e.val))
  rw [v_apply, (idx t).2.2.2.2.2]
  simp

/-- Every point writes back. -/
theorem fl : ∀ t : Fin cfg0.N, (cfg0.win 3).flush t = true ∧ (cfg0.win 4).flush t = true ∧ (cfg0.win 5).flush t = true :=
  (by decide +kernel : ∀ t : Fin grid0.N, _)

theorem final3 (c : Dev nD) (i : S12288x1024.Idx) (hi : (i 0).val < 8192) : (dats m 0 c).arrAt 3 cfg0.N i = G3 m c i := by
  have h1 : (i 1).val < 1024 := (i 1).isLt
  have hN : cfg0.N = 32 := N_0
  let t : Fin cfg0.N := ⟨(i 0).val / 256, by rw [hN]; omega⟩
  refine (dats m 0 c).arrAt_apply_of_mem 3 (G3 m c) (fun t _ => flush3 m c t) cfg0.N t i t.isLt (fl t).1 ?_
  show i ∈ ((View.whole main_v0_0).slice (win0_3.rect t)).set
  rw [View.set_slice_whole, Rect.mem_set_unit]
  intro a
  have e := (idx t).2.2.2.1
  fin_cases a
  · show win0_3.index t 0 * 256 ≤ (i 0).val ∧ (i 0).val < win0_3.index t 0 * 256 + 256
    rw [e]; show (i 0).val / 256 * 256 ≤ _ ∧ _ < (i 0).val / 256 * 256 + 256; omega
  · show win0_3.index t 1 * 1024 ≤ (i 1).val ∧ (i 1).val < win0_3.index t 1 * 1024 + 1024
    rw [e]; show 0 * 1024 ≤ _ ∧ _ < 0 * 1024 + 1024; omega

theorem final4 (c : Dev nD) (i : S32x2x256x1024.Idx) (hi : (i 1).val < 1) : (dats m 0 c).arrAt 4 cfg0.N i = G4 m c i := by
  have h0 : (i 0).val < 32 := (i 0).isLt
  have h2 : (i 2).val < 256 := (i 2).isLt
  have h3 : (i 3).val < 1024 := (i 3).isLt
  have hN : cfg0.N = 32 := N_0
  let t : Fin cfg0.N := ⟨(i 0).val, by rw [hN]; omega⟩
  refine (dats m 0 c).arrAt_apply_of_mem 4 (G4 m c) (fun t _ => flush4 m c t) cfg0.N t i t.isLt (fl t).2.1 ?_
  show i ∈ ((View.whole main_v0_1).slice (win0_4.rect t)).set
  rw [View.set_slice_whole, Rect.mem_set_unit]
  intro a
  have e := (idx t).2.2.2.2.1
  fin_cases a
  · show win0_4.index t 0 * 1 ≤ (i 0).val ∧ (i 0).val < win0_4.index t 0 * 1 + 1
    rw [e]; show (i 0).val * 1 ≤ _ ∧ _ < (i 0).val * 1 + 1; omega
  · show win0_4.index t 1 * 1 ≤ (i 1).val ∧ (i 1).val < win0_4.index t 1 * 1 + 1
    rw [e]; show 0 * 1 ≤ _ ∧ _ < 0 * 1 + 1; omega
  · show win0_4.index t 2 * 256 ≤ (i 2).val ∧ (i 2).val < win0_4.index t 2 * 256 + 256
    rw [e]; show 0 * 256 ≤ _ ∧ _ < 0 * 256 + 256; omega
  · show win0_4.index t 3 * 1024 ≤ (i 3).val ∧ (i 3).val < win0_4.index t 3 * 1024 + 1024
    rw [e]; show 0 * 1024 ≤ _ ∧ _ < 0 * 1024 + 1024; omega

theorem final5 (c : Dev nD) (i : S32x2x256x1024.Idx) (hi : (i 1).val < 1) : (dats m 0 c).arrAt 5 cfg0.N i = G5 m c i := by
  have h0 : (i 0).val < 32 := (i 0).isLt
  have h2 : (i 2).val < 256 := (i 2).isLt
  have h3 : (i 3).val < 1024 := (i 3).isLt
  have hN : cfg0.N = 32 := N_0
  let t : Fin cfg0.N := ⟨(i 0).val, by rw [hN]; omega⟩
  refine (dats m 0 c).arrAt_apply_of_mem 5 (G5 m c) (fun t _ => flush5 m c t) cfg0.N t i t.isLt (fl t).2.2 ?_
  show i ∈ ((View.whole main_v0_2).slice (win0_5.rect t)).set
  rw [View.set_slice_whole, Rect.mem_set_unit]
  intro a
  have e := (idx t).2.2.2.2.2
  fin_cases a
  · show win0_5.index t 0 * 1 ≤ (i 0).val ∧ (i 0).val < win0_5.index t 0 * 1 + 1
    rw [e]; show (i 0).val * 1 ≤ _ ∧ _ < (i 0).val * 1 + 1; omega
  · show win0_5.index t 1 * 1 ≤ (i 1).val ∧ (i 1).val < win0_5.index t 1 * 1 + 1
    rw [e]; show 0 * 1 ≤ _ ∧ _ < 0 * 1 + 1; omega
  · show win0_5.index t 2 * 256 ≤ (i 2).val ∧ (i 2).val < win0_5.index t 2 * 256 + 256
    rw [e]; show 0 * 256 ≤ _ ∧ _ < 0 * 256 + 256; omega
  · show win0_5.index t 3 * 1024 ≤ (i 3).val ∧ (i 3).val < win0_5.index t 3 * 1024 + 1024
    rw [e]; show 0 * 1024 ≤ _ ∧ _ < 0 * 1024 + 1024; omega

end Cert.KernelIdeal.Attn

end
-- ==== Proof.Attn.Reference.lean ====
/-
  What the attention's reference computes, element by element: the same weights, normalised before the values are summed.
-/
module

public import proofs.«01_k».proof.Proof.Attn.Array
public import proofs.«01_k».proof.Proof.Gen.ReferenceIdeal.Run
public import proofs.«01_k».proof.Proof.Gen.ReferenceIdeal.Read

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read Cert.Softmax
open Cert.KernelIdeal.Attn (cell cell_eq scoreA attnA scale ofBits_neg_inf)

variable (A : FVec Ideal S12288x12816 .f32)

theorem q_apply (b : Fin 32) (r : Fin 256) (h : Fin 8) (d : Fin 128) :
    val_main_v1 (F := Ideal) A (ix4 b r h d) = cell A (b.val * 256 + r.val) (h.val * 128 + d.val) := by
  rw [val_main_v1_apply, val_main_v0_apply]
  refine cell_eq _ _ _ _ ?_ ?_
  · show (((b.val * 256 + r.val) * 8 + h.val) * 128 + d.val) / 1024 = _; omega
  · show (((b.val * 256 + r.val) * 8 + h.val) * 128 + d.val) % 1024 = _; omega

theorem k_apply (b : Fin 32) (r : Fin 256) (h : Fin 8) (d : Fin 128) :
    val_main_v3 (F := Ideal) A (ix4 b r h d) = cell A (b.val * 256 + r.val) (1024 + (h.val * 128 + d.val)) := by
  rw [val_main_v3_apply, val_main_v2_apply]
  refine cell_eq _ _ _ _ ?_ ?_
  · show (((b.val * 256 + r.val) * 8 + h.val) * 128 + d.val) / 1024 = _; omega
  · show 1024 + (((b.val * 256 + r.val) * 8 + h.val) * 128 + d.val) % 1024 = _; omega

theorem v_apply (b : Fin 32) (r : Fin 256) (h : Fin 8) (d : Fin 128) :
    val_main_v5 (F := Ideal) A (ix4 b r h d) = cell A (b.val * 256 + r.val) (2048 + (h.val * 128 + d.val)) := by
  rw [val_main_v5_apply, val_main_v4_apply]
  refine cell_eq _ _ _ _ ?_ ?_
  · show (((b.val * 256 + r.val) * 8 + h.val) * 128 + d.val) / 1024 = _; omega
  · show 2048 + (((b.val * 256 + r.val) * 8 + h.val) * 128 + d.val) % 1024 = _; omega

theorem score_apply (b : Fin 32) (h : Fin 8) (r j : Fin 256) :
    val_main_v8 (F := Ideal) A (ix4 b h r j) = scoreA A b.val h.val r.val j := by
  rw [val_main_v8_apply]
  refine Finset.sum_congr rfl fun d _ => ?_
  have el : lidx_main_v8 (ix4 b h r j) d = ix4 b r h d := funext fun a => by fin_cases a <;> rfl
  have er : ridx_main_v8 (ix4 b h r j) d = ix4 b j h d := funext fun a => by fin_cases a <;> rfl
  rw [el, er, val_main_v7_apply, q_apply, k_apply]
  rfl

theorem top_apply (b : Fin 32) (h : Fin 8) (r : Fin 256) :
    val_main_v11 (F := Ideal) A (ix3 b h r) = top (scoreA A b.val h.val r.val) := by
  rw [val_main_v11_apply]
  have h9 : val_main_v9 (F := Ideal) A (ix3 b h r) = top (scoreA A b.val h.val r.val) := by
    unfold val_main_v9
    rw [Host.reduce_eq_fold_single FloatOps.maximumf _ _ reducesTo_S32x8x256x256_S32x8x256_d3 (by decide) h_S_]
    show Finset.fold max (Ideal.ofBits .f32 0xFF800000#32) _ _ = _
    rw [ofBits_neg_inf]
    unfold top
    refine Finset.fold_congr fun j _ => ?_
    exact Eq.trans (congrArg (val_main_v8 (F := Ideal) A) (funext fun a => by fin_cases a <;> rfl)) (score_apply A b h r j)
  rw [h9]
  show max (Ideal.ofBits .f32 0xFF800000#32) _ = _
  rw [ofBits_neg_inf]; exact bot_sup_eq _

theorem weight_apply (b : Fin 32) (h : Fin 8) (r j : Fin 256) :
    val_main_v15 (F := Ideal) A (ix4 b h r j) = weight (scoreA A b.val h.val r.val) j := by
  rw [val_main_v15_apply, val_main_v14_apply, score_apply, val_main_v13_apply, val_main_v12_apply]
  have e : idx_main_v12 (idx_main_v13 (ix4 b h r j)) = ix3 b h r := funext fun a => by fin_cases a <;> rfl
  rw [e, top_apply]
  rfl

theorem total_apply (b : Fin 32) (h : Fin 8) (r : Fin 256) :
    val_main_v16 (F := Ideal) A (ix3 b h r) = total (scoreA A b.val h.val r.val) := by
  rw [val_main_v16_apply]
  have z : val_main_cst_2 (F := Ideal) (Shape.Idx.first h_S_) = 0 := Ideal.ofBits_zero_f32
  rw [z, zero_add]
  refine Finset.sum_congr rfl fun j _ => ?_
  have e : idx_main_v16 (ix3 b h r) j = ix4 b h r j := funext fun a => by fin_cases a <;> rfl
  rw [e, weight_apply]

theorem prob_apply (b : Fin 32) (h : Fin 8) (r j : Fin 256) :
    val_main_v19 (F := Ideal) A (ix4 b h r j)
      = Ideal.div (weight (scoreA A b.val h.val r.val) j) (total (scoreA A b.val h.val r.val)) := by
  rw [val_main_v19_apply, weight_apply, val_main_v18_apply, val_main_v17_apply]
  have e : idx_main_v17 (idx_main_v18 (ix4 b h r j)) = ix3 b h r := funext fun a => by fin_cases a <;> rfl
  rw [e, total_apply]
  rfl

/-- The reference's attention at a row and column, each weight normalised first. -/
theorem y_apply (n : Fin 8192) (e : Fin 1024) :
    val_main_v23 (F := Ideal) A (ix2 n e)
      = ∑ j : Fin 256, cell A (n.val / 256 * 256 + j.val) (2048 + e.val)
          * Ideal.div (weight (scoreA A (n.val / 256) (e.val / 128) (n.val % 256)) j) (total (scoreA A (n.val / 256) (e.val / 128) (n.val % 256))) := by
  rw [val_main_v23_apply, val_main_v22_apply, val_main_v21_apply]
  have hn := n.isLt
  have he := e.isLt
  have ei : idx_main_v21 (idx_main_v22 (ix2 n e))
      = ix4 (⟨n.val / 256, by omega⟩ : Fin 32) (⟨e.val / 128, by omega⟩ : Fin 8) (⟨e.val % 128, by omega⟩ : Fin 128) (⟨n.val % 256, by omega⟩ : Fin 256) := by
    funext a
    fin_cases a
    · exact Fin.ext (by show (n.val * 1024 + e.val) / 262144 = n.val / 256; omega)
    · exact Fin.ext (by show (n.val * 1024 + e.val) / 128 % 8 = e.val / 128; omega)
    · exact Fin.ext (by show (n.val * 1024 + e.val) % 128 = e.val % 128; omega)
    · exact Fin.ext (by show (n.val * 1024 + e.val) / 1024 % 256 = n.val % 256; omega)
  rw [ei, val_main_v20_apply]
  show (∑ j : Fin 256, _) = _
  refine Finset.sum_congr rfl fun j _ => ?_
  have el : lidx_main_v20 (ix4 (⟨n.val / 256, by omega⟩ : Fin 32) (⟨e.val / 128, by omega⟩ : Fin 8) (⟨e.val % 128, by omega⟩ : Fin 128) (⟨n.val % 256, by omega⟩ : Fin 256)) j
      = ix4 (⟨n.val / 256, by omega⟩ : Fin 32) j (⟨e.val / 128, by omega⟩ : Fin 8) (⟨e.val % 128, by omega⟩ : Fin 128) := funext fun a => by fin_cases a <;> rfl
  have er : ridx_main_v20 (ix4 (⟨n.val / 256, by omega⟩ : Fin 32) (⟨e.val / 128, by omega⟩ : Fin 8) (⟨e.val % 128, by omega⟩ : Fin 128) (⟨n.val % 256, by omega⟩ : Fin 256)) j
      = ix4 (⟨n.val / 256, by omega⟩ : Fin 32) (⟨e.val / 128, by omega⟩ : Fin 8) (⟨n.val % 256, by omega⟩ : Fin 256) j := funext fun a => by fin_cases a <;> rfl
  rw [el, er, v_apply, prob_apply]
  have ee : e.val / 128 * 128 + e.val % 128 = e.val := by omega
  show cell A (n.val / 256 * 256 + j.val) (2048 + (e.val / 128 * 128 + e.val % 128)) * _ = _
  rw [ee]

/-- The padded rows below the prompts' are the attention. -/
theorem r0_apply (i : S12288x1024.Idx) (hi : (i 0).val < 8192) :
    val_main_v24 (F := Ideal) A i = val_main_v23 (F := Ideal) A (ix2 (⟨(i 0).val, hi⟩ : Fin 8192) (i 1)) := by
  obtain ⟨n, e, rfl⟩ : ∃ (n : Fin 12288) (e : Fin 1024), i = ix2 n e := ⟨i 0, i 1, by funext a; fin_cases a <;> rfl⟩
  unfold val_main_v24
  generalize val_main_v23 (F := Ideal) A = Y
  pointwise
  exact dif_pos hi

/-- The first layer's slot of the two caches holds the keys and the values. -/
theorem r1_apply (i : S32x2x256x1024.Idx) (hi : (i 1).val < 1) :
    val_main_v29 (F := Ideal) A i = cell A ((i 0).val * 256 + (i 2).val) (1024 + (i 3).val) := by
  obtain ⟨b, l, r, e, rfl⟩ : ∃ (b : Fin 32) (l : Fin 2) (r : Fin 256) (e : Fin 1024), i = ix4 b l r e :=
    ⟨i 0, i 1, i 2, i 3, by funext a; fin_cases a <;> rfl⟩
  have hb := b.isLt; have hr := r.isLt; have he := e.isLt
  have key : val_main_v27 (F := Ideal) A (ix4 b (0 : Fin 1) r e) = cell A (b.val * 256 + r.val) (1024 + e.val) := by
    rw [val_main_v27_apply, val_main_v25_apply, val_main_v3_apply, val_main_v2_apply]
    refine cell_eq _ _ _ _ ?_ ?_
    · show ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) / 1024 = _; omega
    · show 1024 + ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) % 1024 = _; omega
  unfold val_main_v29
  revert key
  generalize val_main_v27 (F := Ideal) A = Y
  generalize val_main_v28 (F := Ideal) = Z
  intro key
  pointwise
  exact (dif_pos hi).trans ((congrArg Y (by congr 1; exact Fin.ext (by show l.val = 0; exact Nat.lt_one_iff.1 hi))).trans key)

theorem r2_apply (i : S32x2x256x1024.Idx) (hi : (i 1).val < 1) :
    val_main_v34 (F := Ideal) A i = cell A ((i 0).val * 256 + (i 2).val) (2048 + (i 3).val) := by
  obtain ⟨b, l, r, e, rfl⟩ : ∃ (b : Fin 32) (l : Fin 2) (r : Fin 256) (e : Fin 1024), i = ix4 b l r e :=
    ⟨i 0, i 1, i 2, i 3, by funext a; fin_cases a <;> rfl⟩
  have hb := b.isLt; have hr := r.isLt; have he := e.isLt
  have key : val_main_v32 (F := Ideal) A (ix4 b (0 : Fin 1) r e) = cell A (b.val * 256 + r.val) (2048 + e.val) := by
    rw [val_main_v32_apply, val_main_v30_apply, val_main_v5_apply, val_main_v4_apply]
    refine cell_eq _ _ _ _ ?_ ?_
    · show ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) / 1024 = _; omega
    · show 2048 + ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) % 1024 = _; omega
  unfold val_main_v34
  revert key
  generalize val_main_v32 (F := Ideal) A = Y
  generalize val_main_v33 (F := Ideal) = Z
  intro key
  pointwise
  exact (dif_pos hi).trans ((congrArg Y (by congr 1; exact Fin.ext (by show l.val = 0; exact Nat.lt_one_iff.1 hi))).trans key)

end Cert.ReferenceIdeal.Attn

end
-- ==== Proof.Attn.Equation.lean ====
/-
  The equation: where the queries and keys are finite, both programs' three results agree wherever the attention writes.
-/
module

public import proofs.«01_k».proof.Proof.Attn.Reference
public import proofs.«01_k».proof.Defs
public import proofs.«01_k».proof.Proof.Gen.On_written

@[expose] public section

set_option maxRecDepth 16384

noncomputable section

namespace Cert.Attn

open Idealize.ShloMosaic Idealize.ShloMosaic.TcCoe Idealize.SL.Sem
open Cert.Softmax
open Cert.KernelIdeal.Attn (cell cell_eq scoreA attnA scale)

/-- An absolute value below +∞ is that of a finite number. -/
theorem fin_of_abs {x : EReal} (h : max x (-x) < ⊤) : Fin' x := by
  rw [max_lt_iff] at h
  refine ⟨fun hb => ?_, ne_of_lt h.1⟩
  rw [hb, EReal.neg_bot] at h
  exact lt_irrefl _ h.2

theorem fin_scale : Fin' scale := by
  unfold scale
  simp only [Ideal.ofBits, Ideal.ieee]
  rw [if_neg (by decide), if_neg (by decide)]
  exact fin_coe _

/-- The precondition, read: the queries and keys of the prompts' rows are finite. -/
theorem finite_cell [Cert.Pre_finite_qk.Facts] (A : FVec Ideal (⟨2, ![12288, 12816]⟩ : Shape) .f32)
    (h : Cert.Pre_finite_qk.fn (F := Ideal) A = fun _ => 1#1) (n k : Nat) (hn : n < 8192) (hk : k < 2048) : Fin' (cell A n k) := by
  have hp := congrFun h (ix2 ⟨n, hn⟩ ⟨k, hk⟩)
  pointwise [Cert.Pre_finite_qk.fn] at hp
  have hi : Ideal.ofBits .f32 0x7F800000#32 = ⊤ := by simp [Ideal.ofBits, Ideal.ieee]
  rw [hi] at hp
  have hd : max (A (ix2 (⟨n, by omega⟩ : Fin 12288) (⟨k, by omega⟩ : Fin 12816))) (-(A (ix2 (⟨n, by omega⟩ : Fin 12288) (⟨k, by omega⟩ : Fin 12816)))) < ⊤ := by
    by_contra hc
    rw [show decide (FloatOps.absf (A (ix2 (⟨n, by omega⟩ : Fin 12288) (⟨k, by omega⟩ : Fin 12816))) < (⊤ : EReal)) = false from decide_eq_false hc] at hp
    exact absurd hp (by decide)
  rw [← cell_eq A (ix2 (⟨n, by omega⟩ : Fin 12288) (⟨k, by omega⟩ : Fin 12816)) n k rfl rfl]
  exact fin_of_abs hd

/-- So every score is finite. -/
theorem finite_score [Cert.Pre_finite_qk.Facts] (A : FVec Ideal (⟨2, ![12288, 12816]⟩ : Shape) .f32)
    (h : Cert.Pre_finite_qk.fn (F := Ideal) A = fun _ => 1#1) (b e r : Nat) (hb : b < 32) (he : e < 8) (hr : r < 256) (j : Fin 256) :
    Fin' (scoreA A b e r j) := by
  have hj := j.isLt
  refine fin_sum _ fun d => ?_
  have hd := d.isLt
  exact ((finite_cell A h _ _ (by omega) (by omega)).mul fin_scale).mul (finite_cell A h _ _ (by omega) (by omega))

/-- The first result: normalising last is normalising first. -/
theorem result0 [Cert.Pre_finite_qk.Facts] (A : FVec Ideal (⟨2, ![12288, 12816]⟩ : Shape) .f32)
    (h : Cert.Pre_finite_qk.fn (F := Ideal) A = fun _ => 1#1) (i : (⟨2, ![12288, 1024]⟩ : Shape).Idx) (hi : (i 0).val < 8192) :
    Cert.ReferenceIdeal.Read.val_main_v24 (F := Ideal) A i = attnA A (i 0).val (i 1).val := by
  have h1 : (i 1).val < 1024 := (i 1).isLt
  rw [Cert.ReferenceIdeal.Attn.r0_apply A i hi]
  refine (Cert.ReferenceIdeal.Attn.y_apply A ⟨(i 0).val, hi⟩ (i 1)).trans ?_
  exact (attend (finite_score A h _ _ _ (by omega) (by omega) (by omega)) _).symm

/-- Where the mask is set, the row is a prompt's, or the slot the first layer's. -/
theorem mask0 (A : FVec Ideal (⟨2, ![12288, 12816]⟩ : Shape) .f32) (i : (⟨2, ![12288, 1024]⟩ : Shape).Idx)
    (h : (Cert.On_written.fn (F := Ideal) A).1 i = 1#1) : (i 0).val < 8192 := by
  have hi : (i 0).val < 12288 := (i 0).isLt
  pointwise [Cert.On_written.fn] at h
  exact (WordCmp.cmpi_slt_ofNat_eq_one_iff (by omega) (by omega)).1 h

theorem mask1 (A : FVec Ideal (⟨2, ![12288, 12816]⟩ : Shape) .f32) (i : (⟨4, ![32, 2, 256, 1024]⟩ : Shape).Idx)
    (h : (Cert.On_written.fn (F := Ideal) A).2.1 i = 1#1) : (i 1).val < 1 := by
  have hi : (i 1).val < 2 := (i 1).isLt
  pointwise [Cert.On_written.fn] at h
  exact (WordCmp.cmpi_slt_ofNat_eq_one_iff (by omega) (by omega)).1 h

theorem mask2 (A : FVec Ideal (⟨2, ![12288, 12816]⟩ : Shape) .f32) (i : (⟨4, ![32, 2, 256, 1024]⟩ : Shape).Idx)
    (h : (Cert.On_written.fn (F := Ideal) A).2.2 i = 1#1) : (i 1).val < 1 := by
  have hi : (i 1).val < 2 := (i 1).isLt
  pointwise [Cert.On_written.fn] at h
  exact (WordCmp.cmpi_slt_ofNat_eq_one_iff (by omega) (by omega)).1 h

/-- What the precondition's program states of shapes. -/
theorem preFacts : Cert.Pre_finite_qk.Facts where
  slices_S12288x12816_S8192x2048_0_0 := by decide
  bcast_S_S8192x2048 := by decide

/-- The two programs end with equal results wherever the attention writes. -/
theorem algebraic [hPre : Cert.Pre_finite_qk.Facts] : Cert.algebraic_KernelIdeal_ReferenceIdeal_on_written_pre_finite_qk := by
  intro m g m' g' hpre hagree
  refine ⟨fun c => Cert.ReferenceIdeal.Read.val_main_v24 (F := Ideal) (Cert.KernelIdeal.Attn.proj m c),
    fun c => Cert.ReferenceIdeal.Read.val_main_v29 (F := Ideal) (Cert.KernelIdeal.Attn.proj m c),
    fun c => Cert.ReferenceIdeal.Read.val_main_v34 (F := Ideal) (Cert.KernelIdeal.Attn.proj m c), ?_, ?_⟩
  · refine (θ_run _ _ _).mono (fun r h c => ⟨fun i hi => ?_, fun i hi => ?_, fun i hi => ?_, (h c).2.2.2⟩)
      (Cert.KernelIdeal.Value.run_blocks m g)
    · have hm := mask0 _ i hi
      exact (congrFun (h c).1 i).trans ((Cert.KernelIdeal.Attn.final3 m c i hm).trans (result0 _ (hpre c) i hm).symm)
    · have hm := mask1 _ i hi
      exact (congrFun (h c).2.1 i).trans ((Cert.KernelIdeal.Attn.final4 m c i hm).trans (Cert.ReferenceIdeal.Attn.r1_apply _ i hm).symm)
    · have hm := mask2 _ i hi
      exact (congrFun (h c).2.2.1 i).trans ((Cert.KernelIdeal.Attn.final5 m c i hm).trans (Cert.ReferenceIdeal.Attn.r2_apply _ i hm).symm)
  · refine (θ_run _ _ _).mono (fun r h c => ⟨fun i _ => ?_, fun i _ => ?_, fun i _ => ?_, (h c).2.2.2⟩)
      (Cert.ReferenceIdeal.Value.run m' g')
    · exact congrFun ((h c).1.trans ((Cert.ReferenceIdeal.Read.val_main_v24_eq _).trans (congrArg _ (hagree c)))) i
    · exact congrFun ((h c).2.1.trans ((Cert.ReferenceIdeal.Read.val_main_v29_eq _).trans (congrArg _ (hagree c)))) i
    · exact congrFun ((h c).2.2.1.trans ((Cert.ReferenceIdeal.Read.val_main_v34_eq _).trans (congrArg _ (hagree c)))) i

end Cert.Attn

end
-- ==== Proof.InProj.Run.lean ====
/- The input projection's body, run once over any float values.

   The body works on a grid of 13 column blocks by 8 row blocks. At the first row block of a column block it casts
   the block of weights into a scratch buffer; at every point it multiplies its rows by the scratch. Here stand the
   two triples (`body_first`, `body_later`), stated on what the buffers hold before and after. -/
module

public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: this is the first row block of its column block. -/
abbrev firstRow (i : grid0.Coords) : Prop :=
  (Scalar.cmpi .ne (Scalar.extui (Scalar.cmpi .eq (BitVec.ofNat 32 (i 1).val) 0#32)) 0#32) = 1#1

/-- It holds at every eighth point. -/
theorem firstRow_iff : ∀ t : Fin cfg0.N, firstRow (grid0.coords t) ↔ t.val % 8 = 0 :=
  (fun t => by
    have ht : t.val < 104 := Nat.lt_of_lt_of_eq t.isLt N_0
    have e1 : (grid0.coords t 1).val = t.val / 1 % 8 := Pipeline.Grid.coords_val t 1 (by decide) rfl
    simp only [firstRow, e1]
    word_cmp
   : ∀ t : Fin grid0.N, firstRow (grid0.coords t) ↔ t.val % 8 = 0)

section Body

variable (c : Dev nD) (i : grid0.Coords)
  (arg2 : Memref sig .tc .vmem S1536x2048 .bf16) (harg2 : arg2.IsWhole)
  (arg3 : Memref sig .tc .vmem S1x1024x2048 .f32) (harg3 : arg3.IsWhole)
  (arg4 : Memref sig .tc .vmem S1536x1024 .f32) (harg4 : arg4.IsWhole)
  (arg5 : Memref sig .tc .vmem S1024x2048 .bf16) (harg5 : arg5.IsWhole)
  (x0 : Vec F S1536x2048 .bf16) (x1 : Vec F S1x1024x2048 .f32)

set_option maxHeartbeats 1000000 in
/-- At a first row block the scratch receives the cast weights and the output the product with them. -/
theorem body_first (h : firstRow i) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 (k0_pay1 x1))
            ∗ owns (c : Thread nD τ) arg5 fullShare (k0_pay1 x1)) -∗ K ⟨⟩))
      ⊢ wp frame (wpE (defs₀ (F := F)) Variants.none c none) E (cc0_in_proj i arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%d2, %f2, -, H2⟩, ⟨%ds, %fs, -, HS⟩, Hk⟩
  obtain rfl := harg2.eq_unread hf0; obtain rfl := harg3.eq_unread hf1
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    sl_unfold_words
    simp only [View.readAt_eq_ld, harg2.read_unread, harg3.read_unread]
    rw [View.ld_unit_lit _ x0 (by decide), View.readCov_unit_lit arg5.view _ _ (by decide), View.ld_unit_lit _ x1 (by decide)]
  iexists _; isplitr
  swap; · iexact HS
  ipureintro
  sl_unfold_words
  refine (View.read_writes_full _ _ _ _ _).trans ?_
  simp only [View.readAt_eq_ld, harg3.read_unread]
  rw [View.ld_unit_lit _ x1 (by decide)]

set_option maxHeartbeats 1000000 in
/-- At a later row block the scratch is left as it was and the output is the product with it. -/
theorem body_later (h : ¬firstRow i) (xs : Vec F S1024x2048 .bf16) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 xs)
            ∗ owns (c : Thread nD τ) arg5 fullShare xs) -∗ K ⟨⟩))
      ⊢ wp frame (wpE (defs₀ (F := F)) Variants.none c none) E (cc0_in_proj i arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (View.read_writes_full _ _ _ _ _).trans ?_
    (try sl_unfold_words)
    simp only [View.readAt_eq_ld, harg2.read_unread, harg5.read_unread]
    rw [View.ld_unit_lit _ x0 (by decide), View.ld_unit_lit _ xs (by decide)]
  iexists _; isplitr; · ipureintro; exact harg5.read_unread _
  iexact HS

end Body

end Cert.InProj

end
-- ==== Proof.InProj.Point.lean ====
/- The input projection's pipeline: what each buffer holds at each point.

   The weights' array has 12816 rows and the column blocks are 1024 rows, so the last block overhangs the array: a
   buffer of the weights holds the rows inside the array, and anything (`d`) in the rows outside. The scratch holds the
   cast of such a block. Everything here holds over any float values. -/
module

public import proofs.«01_k».proof.Proof.InProj.Run

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of weights at point `t`, with `d` in the rows outside the array. -/
def weights (c : Dev nD) (t : Fin cfg0.N) (d : S1x1024x2048.Idx → Elt F .f32) : Vec F S1x1024x2048 .f32 :=
  win0_1.fill (grid0.coords t) d (iblk m c 1 t)

/-- Contents for the rows outside the array, where one must be named. -/
def junk : S1x1024x2048.Idx → Elt F .f32 := constant S1x1024x2048 .f32 0x00000000#32

/-- The scratch as one buffer. -/
abbrev scratch : Memref sig .tc .vmem S1024x2048 .bf16 := Memref.whole cc0_scratch0

/-- What the region hands over besides the windows: the scratch at anything, and the random number register. -/
theorem scoped_eq (c : Dev nD) :
    Pipeline.ΦA (Val := Elt F) spec0 c = (iprop((∃ d, owns (c : Thread nD τ) scratch fullShare d) ∗ (∃ r, prngReg c r)) : sProp 𝕄) := by
  unfold Pipeline.ΦA; rw [scopedRest0_eq]; simp only [scratch, owns_whole]; try rfl

/-- The invariant before point `n`: after the first point the scratch holds the cast of the last point's weights. -/
def inv (c : Dev nD) : (n : ℕ) → n ≤ cfg0.N → sProp 𝕄
  | 0, _ => Pipeline.ΦA spec0 c
  | n + 1, hn => iprop((∃ d, owns (c : Thread nD τ) scratch fullShare (k0_pay1 (weights m c ⟨n, hn⟩ d))) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt
      = iprop((∃ d, owns (c : Thread nD τ) scratch fullShare (k0_pay1 (weights m c t d))) ∗ (∃ r, prngReg c r)) := rfl

theorem inv_pos (c : Dev nD) (n : ℕ) (h : n ≤ cfg0.N) (hz : n ≠ 0) :
    inv m c n h = iprop((∃ d, owns (c : Thread nD τ) scratch fullShare
      (k0_pay1 (weights m c ⟨n - 1, by omega⟩ d))) ∗ (∃ r, prngReg c r)) := by
  cases n with
  | zero => exact absurd rfl hz
  | succ n => rfl

/-- The pipeline's data: the arrays as the region finds them, each input's buffer at its block, the output's at the
    product, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => weights m c t junk
    | ⟨2, _⟩ => k0_pay2 (iblk m c 0 t) (k0_pay1 (weights m c t junk))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := rfl
theorem after_1 (c : Dev nD) (t : Fin cfg0.N) : (dats m 0 c).after 1 t = weights m c t junk := rfl
theorem after_2 (c : Dev nD) (t : Fin cfg0.N) :
    (dats m 0 c).after 2 t = k0_pay2 (iblk m c 0 t) (k0_pay1 (weights m c t junk)) := rfl

theorem before_0 (c : Dev nD) (t : Fin cfg0.N) (d) : (dats m 0 c).before 0 t d = iblk m c 0 t :=
  before0_0_of m (dats m 0 c) (A_eq m c 0) (after_0 m c) t d

/-- Two points with one block of weights cut it alike. -/
theorem clip_1 (t t' : Fin cfg0.N) (h : (cfg0.win 1).index t = (cfg0.win 1).index t') :
    (cfg0.win 1).clip (cfg0.grid.coords t) = (cfg0.win 1).clip (cfg0.grid.coords t') := by
  funext a
  show Pipeline.Clip.of ((cfg0.win 1).index t a) _ _ = Pipeline.Clip.of ((cfg0.win 1).index t' a) _ _
  rw [h]

theorem blockOf_1 (c : Dev nD) (t : Fin cfg0.N) : (dats m 0 c).blockOf 1 t = iblk m c 1 t := by
  unfold Dat.blockOf iblk; rw [A_eq m c 1]; try rfl

theorem fetched_1 (c : Dev nD) (t : Fin cfg0.N) (d) : (dats m 0 c).fetched 1 t d = weights m c t d := by
  unfold Dat.fetched; rw [blockOf_1]; rfl

/-- The weights' buffer holds its block at every point, fetched there or kept from the point before. -/
theorem before_1 (c : Dev nD) (t : Fin cfg0.N) (d) : (dats m 0 c).before 1 t d = weights m c t d :=
  ((dats m 0 c).before_in_eq_fetched 1 rfl (fun _ => rfl) clip_1
    (fun t => by rw [after_1, blockOf_1]; exact win0_1.cut_fill _ _ _) t d).trans (fetched_1 m c t d)

/-- Two points of one column block have the same weights. -/
theorem weights_congr (c : Dev nD) (t t' : Fin cfg0.N) (h : win0_1.index t = win0_1.index t') (d) :
    weights m c t d = weights m c t' d := by
  rw [← fetched_1, ← fetched_1]
  exact (dats m 0 c).fetched_congr 1 h (clip_1 t t' h) d

/-- A point that is not the first of its column block has the weights of the point before. -/
theorem weights_prev (c : Dev nD) (t : Fin cfg0.N) (h : ¬t.val % 8 = 0) (d) :
    weights m c ⟨t.val - 1, by omega⟩ d = weights m c t d := by
  refine weights_congr m c _ _ (Eq.symm ?_) d
  refine (Pipeline.Window.index_eq_of_fetch win0_1 rfl t ?_).2
  rw [Bool.eq_false_iff]
  exact fun e => h ((fetch0_1 t).mp e)

/-- The body's run at point `t`, over the windows' buffers and the invariant. -/
theorem body_point (c : Dev nD) (t : Fin cfg0.N) (d1 : S1x1024x2048.Idx → Elt F .f32) (K : PUnit → sProp 𝕄) :
    iprop(inv m c t.val (Nat.le_of_lt t.isLt)
        ∗ owns (c : Thread nD τ) (st0_0 t) fullShare (iblk m c 0 t)
        ∗ owns (c : Thread nD τ) (st0_1 t) fullShare (weights m c t d1)
        ∗ (∃ d, owns (c : Thread nD τ) (st0_2 t) fullShare d)
        ∗ (iprop(inv m c (t.val + 1) t.isLt
            ∗ owns (c : Thread nD τ) (st0_0 t) fullShare (iblk m c 0 t)
            ∗ owns (c : Thread nD τ) (st0_1 t) fullShare (weights m c t d1)
            ∗ (∃ d, owns (c : Thread nD τ) (st0_2 t) fullShare (k0_pay2 (iblk m c 0 t) (k0_pay1 (weights m c t d))))) -∗ K ⟨⟩))
      ⊢ wp frame (wpE (defs₀ (F := F)) Variants.none c none) Set.univ (bodyAt0 t) K := by
  rw [inv_succ]
  unfold bodyAt0
  by_cases h : t.val % 8 = 0
  · have hΦ : inv m c t.val (Nat.le_of_lt t.isLt) ⊢ iprop((∃ d, owns (c : Thread nD τ) scratch fullShare d) ∗ (∃ r, prngReg c r)) := by
      by_cases hz : t.val = 0
      · rw [inv_zero m c _ _ hz, scoped_eq]
        try exact Idealize.SL.BI.Entails.refl _
      · rw [inv_pos m c _ _ hz]
        iintro ⟨⟨%d, HS⟩, Hg⟩
        isplitl [HS]
        · iexists _; iexact HS
        iexact Hg
    iintro ⟨HI, H0, H1, H2, Hk⟩
    ihave HI := hΦ $$ HI
    icases HI with ⟨HS, Hg⟩
    iapply (body_first c (grid0.coords t) _ _ _ _ _ _ _ _ (iblk m c 0 t) (weights m c t d1) ((firstRow_iff t).mpr h) Set.univ _)
    isplitl [H0]; · iexact H0
    isplitl [H1]; · iexact H1
    isplitl [H2]; · iexact H2
    isplitl [HS]; · iexact HS
    iintro ⟨H0, H1, H2, HS⟩
    iapply Hk
    isplitl [HS Hg]
    · isplitl [HS]
      · iexists d1; iexact HS
      iexact Hg
    isplitl [H0]; · iexact H0
    isplitl [H1]; · iexact H1
    iexists d1; iexact H2
  · have hz : t.val ≠ 0 := fun e => h (by omega)
    rw [inv_pos m c _ _ hz]
    iintro ⟨⟨⟨%d, HS⟩, Hg⟩, H0, H1, H2, Hk⟩
    rw [weights_prev m c t h d]
    iapply (body_later c (grid0.coords t) _ _ _ _ _ _ _ _ (iblk m c 0 t) (weights m c t d1) (fun e => h ((firstRow_iff t).mp e)) (k0_pay1 (weights m c t d)) Set.univ _)
    isplitl [H0]; · iexact H0
    isplitl [H1]; · iexact H1
    isplitl [H2]; · iexact H2
    isplitl [HS]; · iexact HS
    iintro ⟨H0, H1, H2, HS⟩
    iapply Hk
    isplitl [HS Hg]
    · isplitl [HS]
      · iexists d; iexact HS
      iexact Hg
    isplitl [H0]; · iexact H0
    isplitl [H1]; · iexact H1
    iexists d; iexact H2

theorem defs₀_row (t : Fin cfg0.N) : defs₀ (F := F) .tc cfg0.body (cfg0.bodyArgs t (cfg0.slots t)) = bodyAt0 t := by
  unfold defs₀; rw [Defs.onTc_tc]; try rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 104 := N_0
  rw [show (dats m 0 c).Φ (Fin.last cfg0.N) = inv m c cfg0.N (Nat.le_refl _) from rfl, inv_pos m c _ _ (by omega), scoped_eq]
  iintro ⟨⟨%d, HS⟩, Hg⟩
  isplitl [HS]
  · iexists _; iexact HS
  iexact Hg

end Cert.InProj

end
-- ==== Proof.Layer.lean ====
/-
  Vocabulary shared by the layer's projections: an array's element at natural-number coordinates, and the modulated
  root-mean-square norm of one row.
-/
module

public import Idealize.ShloMosaic.PureOps.Ideal
public import Idealize.ShloMosaic.Lib.Pointwise

@[expose] public section

noncomputable section

namespace Cert.Layer

open Idealize.ShloMosaic

/-- The element of a matrix at row `n` and column `k`, as natural numbers (zero outside it). -/
def at2 {a b : Nat} (A : (⟨2, ![a, b]⟩ : Shape).Idx → EReal) (n k : Nat) : EReal :=
  if h : n < a ∧ k < b then A (ix2 ⟨n, h.1⟩ ⟨k, h.2⟩) else 0

theorem at2_eq {a b : Nat} (A : (⟨2, ![a, b]⟩ : Shape).Idx → EReal) (i : (⟨2, ![a, b]⟩ : Shape).Idx) (n k : Nat)
    (hn : (i 0).val = n) (hk : (i 1).val = k) : A i = at2 A n k := by
  subst hn; subst hk
  have h : (i 0).val < a ∧ (i 1).val < b := ⟨(i 0).isLt, (i 1).isLt⟩
  unfold at2
  rw [dif_pos h]
  exact congrArg A (funext fun x => by fin_cases x <;> rfl)

/-- The element of a rank-three array at natural-number coordinates (zero outside it). -/
def at3 {a b c : Nat} (A : (⟨3, ![a, b, c]⟩ : Shape).Idx → EReal) (l n k : Nat) : EReal :=
  if h : l < a ∧ n < b ∧ k < c then A (ix3 ⟨l, h.1⟩ ⟨n, h.2.1⟩ ⟨k, h.2.2⟩) else 0

theorem at3_eq {a b c : Nat} (A : (⟨3, ![a, b, c]⟩ : Shape).Idx → EReal) (i : (⟨3, ![a, b, c]⟩ : Shape).Idx) (l n k : Nat)
    (hl : (i 0).val = l) (hn : (i 1).val = n) (hk : (i 2).val = k) : A i = at3 A l n k := by
  subst hl; subst hn; subst hk
  have h : (i 0).val < a ∧ (i 1).val < b ∧ (i 2).val < c := ⟨(i 0).isLt, (i 1).isLt, (i 2).isLt⟩
  unfold at3
  rw [dif_pos h]
  exact congrArg A (funext fun x => by fin_cases x <;> rfl)

/-- The row of the modulation table that token `n` reads: row 0 for the 8192 prompt tokens, then one row for each sequence
    of 1024. -/
def condRow (n : Nat) : Nat := if n < 8192 then 0 else 1 + (n - 8192) / 1024

/-- The mean of a row's squares. -/
def meanSq (X : Fin 2048 → EReal) : EReal := Ideal.div (∑ k, X k * X k) (Ideal.ofBits .f32 0x45000000#32)

/-- The row scaled to unit mean square, times `g`, then scaled by one plus `sc` and shifted by `sh`. -/
def normed (X g sh sc : Fin 2048 → EReal) (e : Fin 2048) : EReal :=
  X e * Ideal.rsqrt (meanSq X + Ideal.ofBits .f32 0x358637BD#32) * g e * (1 + sc e) + sh e

end Cert.Layer

end
-- ==== Proof.InProj.Block.lean ====
/- What the input projection's body leaves in its output buffer, over the extended reals: each element is the product
   of a row of the input and a row of the weights, so a column inside the array reads only rows of weights inside it. -/
module

public import proofs.«01_k».proof.Proof.InProj.Point
public import proofs.«01_k».proof.Proof.Layer
public import Idealize.ShloMosaic.Lib.Pointwise

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Layer

variable (m : (ℓ : Loc nD τ sig) → Buf (Elt Ideal) ℓ) (ρ : Dev nD → PrngReg)

theorem product_apply (x : FVec Ideal S1536x2048 .bf16) (w : FVec Ideal S1x1024x2048 .f32) (r : Fin 1536) (e : Fin 1024) :
    (k0_pay2 (F := Ideal) x (k0_pay1 (F := Ideal) w) (ix2 r e) : EReal) = ∑ k : Fin 2048, (x (ix2 r k) : EReal) * (w (ix3 0 e k) : EReal) := by
  unfold k0_pay2 k0_pay1
  pointwise

/-- The arguments as the run finds them. -/
abbrev hid (c : Dev nD) : FVec Ideal S12288x2048 .bf16 := m ((c : Thread nD τ).loc main_arg0)
abbrev wIn (c : Dev nD) : FVec Ideal S2x2048x12816 .f32 := m ((c : Thread nD τ).loc main_arg1)

/-- The weights as the call finds them: their last two axes exchanged. -/
theorem w_entry (c : Dev nD) (l : Fin 2) (f : Fin 12816) (k : Fin 2048) : V m c main_v0 (ix3 l f k) = wIn m c (ix3 l k f) := by
  have : V m c main_v0 = transpose S2x12816x2048 [0, 2, 1] (wIn m c) transposes_S2x2048x12816_S2x12816x2048_0_2_1 := by
    show StableHlo.after hostOps0 _ (Proc.devRef .tc main_v0) = _
    after_results
  rw [this]; pointwise

/-- The windows' block indices: the row block is the fast coordinate of the grid, the column block the slow one. -/
theorem idx : ∀ t : Fin cfg0.N, win0_0.index t = ![t.val % 8, 0] ∧ win0_1.index t = ![1, t.val / 8, 0]
    ∧ win0_2.index t = ![t.val % 8, t.val / 8] :=
  (by decide +kernel : ∀ t : Fin grid0.N, _)

/-- What a transfer moves: all of a block but, of the last column block, 528 rows of weights and columns of output. -/
theorem sizes : ∀ t : Fin cfg0.N, win0_1.xsize (grid0.coords t) = ![1, min 1024 (12816 - t.val / 8 * 1024), 2048]
    ∧ win0_2.xsize (grid0.coords t) = ![1536, min 1024 (12816 - t.val / 8 * 1024)] :=
  (by decide +kernel : ∀ t : Fin grid0.N, _)

theorem h_apply (c : Dev nD) (t : Fin cfg0.N) (r : Fin 1536) (k : Fin 2048) :
    iblk m c 0 t (ix2 r k) = at2 (hid m c) (t.val % 8 * 1536 + r.val) k.val := by
  unfold iblk
  rw [View.read_apply]
  refine (congrFun (V_main_arg0 m c) _).trans (at2_eq (hid m c) _ _ _ ?_ ?_)
  · show win0_0.index t 0 * 1536 + 1 * r.val = _
    rw [(idx t).1]; simp
  · show win0_0.index t 1 * 2048 + 1 * k.val = _
    rw [(idx t).1]; simp

/-- A row of weights inside the array. -/
theorem w_apply (c : Dev nD) (t : Fin cfg0.N) (d) (e : Fin 1024) (k : Fin 2048) (he : t.val / 8 * 1024 + e.val < 12816) :
    weights m c t d (ix3 0 e k) = at3 (wIn m c) 1 k.val (t.val / 8 * 1024 + e.val) := by
  have hm : win0_1.moved (grid0.coords t) (ix3 0 e k) = true := by
    rw [Pipeline.Window.moved_iff, (sizes t).1]
    intro a
    fin_cases a
    · show 0 < 1; omega
    · show e.val < min 1024 (12816 - t.val / 8 * 1024)
      have := e.isLt
      omega
    · exact k.isLt
  unfold weights Pipeline.Window.fill
  rw [dif_pos hm]
  unfold iblk
  rw [View.read_apply]
  have h : ∀ j : ((cfg0.win 1).xblock (cfg0.grid.coords t)).Idx, (j 1).val = e.val → (j 2).val = k.val →
      (((cfg0.win 1).blk t).view.emb j : S2x12816x2048.Idx) = ix3 1 ⟨t.val / 8 * 1024 + e.val, he⟩ k := by
    intro j h1 h2
    have h0 : (j 0).val = 0 := by
      have : (j 0).val < win0_1.xsize (grid0.coords t) 0 := (j 0).isLt
      rw [(sizes t).1] at this
      have : (j 0).val < 1 := this
      omega
    funext a
    have e1 := (idx t).2.1
    fin_cases a
    · exact Fin.ext (by show win0_1.index t 0 * 1 + 1 * (j 0).val = 1; rw [e1, h0]; simp)
    · exact Fin.ext (by show win0_1.index t 1 * 1024 + 1 * (j 1).val = t.val / 8 * 1024 + e.val; rw [e1, h1]; simp)
    · exact Fin.ext (by show win0_1.index t 2 * 2048 + 1 * (j 2).val = k.val; rw [e1, h2]; simp)
  refine (congrArg (V m c main_v0) (h _ rfl rfl)).trans ((w_entry m c 1 _ k).trans (at3_eq (wIn m c) _ _ _ _ rfl rfl rfl))

/-- An element of the projection, at natural-number coordinates. -/
def projRow (h : (⟨2, ![12288, 2048]⟩ : Shape).Idx → EReal) (w : (⟨3, ![2, 2048, 12816]⟩ : Shape).Idx → EReal) (n f : Nat) : EReal :=
  ∑ k : Fin 2048, at2 h n k.val * at3 w 1 k.val f

/-- A column of the output inside the array. -/
theorem point_apply (c : Dev nD) (t : Fin cfg0.N) (d) (r : Fin 1536) (e : Fin 1024) (he : t.val / 8 * 1024 + e.val < 12816) :
    k0_pay2 (iblk m c 0 t) (k0_pay1 (weights m c t d)) (ix2 r e)
      = projRow (hid m c) (wIn m c) (t.val % 8 * 1536 + r.val) (t.val / 8 * 1024 + e.val) := by
  refine (product_apply _ _ r e).trans (Finset.sum_congr rfl fun k _ => ?_)
  rw [h_apply, w_apply m c t d e k he]

/-- What a write-back of point `t` moves is the projection's block, whatever the weights' buffer holds outside the array. -/
theorem cut_apply (c : Dev nD) (t : Fin cfg0.N) (d) (j : (win0_2.xblock (grid0.coords t)).Idx) :
    win0_2.cut (grid0.coords t) (k0_pay2 (iblk m c 0 t) (k0_pay1 (weights m c t d))) j
      = projRow (hid m c) (wIn m c) (t.val % 8 * 1536 + (j 0).val) (t.val / 8 * 1024 + (j 1).val) := by
  have h0 : (j 0).val < 1536 := by
    have : (j 0).val < win0_2.xsize (grid0.coords t) 0 := (j 0).isLt
    rw [(sizes t).2] at this; exact this
  have h1 : (j 1).val < min 1024 (12816 - t.val / 8 * 1024) := by
    have : (j 1).val < win0_2.xsize (grid0.coords t) 1 := (j 1).isLt
    rw [(sizes t).2] at this; exact this
  have hj : win0_2.xinj (grid0.coords t) j = ix2 ⟨(j 0).val, h0⟩ ⟨(j 1).val, by omega⟩ := by
    funext a; fin_cases a <;> rfl
  exact (congrArg _ hj).trans (point_apply m c t d _ _ (by show t.val / 8 * 1024 + (j 1).val < 12816; omega))

end Cert.InProj

end
-- ==== Proof.InProj.Array.lean ====
/- What the input projection's result array holds after the run, over the extended reals. -/
module

public import proofs.«01_k».proof.Proof.InProj.Block

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Layer

variable (m : (ℓ : Loc nD τ sig) → Buf (Elt Ideal) ℓ) (ρ : Dev nD → PrngReg)

/-- The body's obligation with the output's buffer stated inside the array. -/
theorem obligation (c : Dev nD) :
    BodyObligationLoose (dats m 0 c) (defs₀ (F := Ideal)) Variants.none () Set.univ := fun t => by
  rw [bigSep_W0, bigSep_W0, defs₀_row]
  simp only
  rw [show (dats m 0 c).Φ t.succ = inv m c (t.val + 1) t.isLt from rfl,
    show (dats m 0 c).Φ t.castSucc = inv m c t.val (Nat.le_of_lt t.isLt) from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (body_point m c t d1 _)
  isplitl [HΦ]; · iexact HΦ
  isplitl [H0]; · iexact H0
  isplitl [H1]; · iexact H1
  isplitl [H2]; · iexists _; iexact H2
  iintro ⟨HΦ, H0, H1, ⟨%d, H2⟩⟩
  isplitl [HΦ]; · iexact HΦ
  isplitl [Ho]; · iexact Ho
  isplitl [H0]; · iexact H0
  have hw : win0_1.cut (grid0.coords t) (weights m c t junk) = iblk m c 1 t := win0_1.cut_fill _ _ _
  have ho : win0_2.cut (grid0.coords t) ((dats m 0 c).after 2 t)
      = win0_2.cut (grid0.coords t) (k0_pay2 (iblk m c 0 t) (k0_pay1 (weights m c t d))) := by
    funext j
    rw [after_2]
    exact (cut_apply m c t junk j).trans (cut_apply m c t d j).symm
  isplitl [H1]
  · iexists d1
    change _ ⊢ owns (c : Thread nD τ) (st0_1 t) fullShare (win0_1.fill (grid0.coords t) d1 (win0_1.cut (grid0.coords t) (weights m c t junk)))
    rw [hw]; exact Idealize.SL.BI.Entails.refl _
  · iexists (k0_pay2 (iblk m c 0 t) (k0_pay1 (weights m c t d)))
    change _ ⊢ owns (c : Thread nD τ) (st0_2 t) fullShare (win0_2.fill (grid0.coords t) (k0_pay2 (iblk m c 0 t) (k0_pay1 (weights m c t d)))
      (win0_2.cut (grid0.coords t) ((dats m 0 c).after 2 t)))
    rw [ho, win0_2.fill_cut]

set_option backward.isDefEq.respectTransparency.types false in
/-- The region's run, with the result array at what the write-backs leave. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := obligation m)
    (hshare := fun c => (dats m 0 c).share_full fun _ => rfl) (howed := fun _ _ => rfl)
    (V := V m) (hmain := hmain m Variants.none) (hA := A_eq m) (hin := hin m) (hout := hout m)

/-- What the array holds. -/
def G (c : Dev nD) : Buf (Elt Ideal) ((c : Thread nD τ).loc main_v1) :=
  fun i : S12288x12816.Idx => projRow (hid m c) (wIn m c) (i 0).val (i 1).val

theorem flush_eq (c : Dev nD) (t : Fin cfg0.N) : (dats m 0 c).flushed 2 t = ((cfg0.win 2).blk t).view.read (Elt Ideal) (G m c) := by
  show win0_2.cut (grid0.coords t) ((dats m 0 c).after 2 t) = _
  rw [after_2]
  funext j
  rw [View.read_apply]
  refine (cut_apply m c t junk j).trans ?_
  have e := (idx t).2.2
  have hi0 : ((((cfg0.win 2).blk t).view.emb j : S12288x12816.Idx) 0).val = t.val % 8 * 1536 + (j 0).val := by
    show win0_2.index t 0 * 1536 + 1 * (j 0).val = _; rw [e]; simp
  have hi1 : ((((cfg0.win 2).blk t).view.emb j : S12288x12816.Idx) 1).val = t.val / 8 * 1024 + (j 1).val := by
    show win0_2.index t 1 * 1024 + 1 * (j 1).val = _; rw [e]; simp
  show _ = projRow (hid m c) (wIn m c) ((((cfg0.win 2).blk t).view.emb j : S12288x12816.Idx) 0).val
    ((((cfg0.win 2).blk t).view.emb j : S12288x12816.Idx) 1).val
  rw [hi0, hi1]

theorem final (c : Dev nD) (i : S12288x12816.Idx) : (dats m 0 c).arrAt 2 cfg0.N i = G m c i := by
  have h0 : (i 0).val < 12288 := (i 0).isLt
  have h1 : (i 1).val < 12816 := (i 1).isLt
  have hN : cfg0.N = 104 := N_0
  let t : Fin cfg0.N := ⟨(i 1).val / 1024 * 8 + (i 0).val / 1536, by rw [hN]; omega⟩
  refine (dats m 0 c).arrAt_apply_of_mem 2 (G m c) (fun t _ => flush_eq m c t) cfg0.N t i t.isLt (flush0_2 t) ?_
  show i ∈ ((View.whole main_v1).slice (win0_2.rect t)).set
  rw [View.set_slice_whole, Rect.mem_set_unit]
  intro a
  have e := (idx t).2.2
  have s := (sizes t).2
  have ht : t.val = (i 1).val / 1024 * 8 + (i 0).val / 1536 := rfl
  fin_cases a
  · show win0_2.index t 0 * 1536 ≤ (i 0).val ∧ (i 0).val < win0_2.index t 0 * 1536 + win0_2.xsize (grid0.coords t) 0
    rw [e, s]; show t.val % 8 * 1536 ≤ _ ∧ _ < t.val % 8 * 1536 + 1536; omega
  · show win0_2.index t 1 * 1024 ≤ (i 1).val ∧ (i 1).val < win0_2.index t 1 * 1024 + win0_2.xsize (grid0.coords t) 1
    rw [e, s]; show t.val / 8 * 1024 ≤ _ ∧ _ < t.val / 8 * 1024 + min 1024 (12816 - t.val / 8 * 1024); omega

/-- The run with the result array named and the arguments unchanged. -/
theorem run_value : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).1 2).trans (funext fun i => final m c i),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩) (run_main m ρ)

end Cert.InProj

end
-- ==== Proof.InProj.Reference.lean ====
/- What the input projection's reference computes, element by element. -/
module

public import proofs.«01_k».proof.Proof.InProj.Array
public import proofs.«01_k».proof.Proof.Gen.Reference2Ideal.Run
public import proofs.«01_k».proof.Proof.Gen.Reference2Ideal.Read

@[expose] public section

set_option maxRecDepth 16384

noncomputable section

namespace Cert.Reference2Ideal.InProj

open Idealize.ShloMosaic Idealize.ShloMosaic.TcCoe Idealize.SL.Sem
open Cert.Reference2Ideal Cert.Reference2Ideal.Gen Cert.Reference2Ideal.Read Cert.Layer

variable (h : FVec Ideal S12288x2048 .bf16) (w : FVec Ideal S2x2048x12816 .f32)

theorem w_a (k : Fin 2048) (f : Fin 12816) : val_main_v2 (F := Ideal) w (ix2 k f) = at3 w 1 k.val f.val := by
  rw [val_main_v2_apply, val_main_v1_apply]
  refine at3_eq w _ _ _ _ rfl ?_ ?_
  · show (k.val * 12816 + f.val) / 12816 % 2048 = _; omega
  · show (k.val * 12816 + f.val) % 12816 = _; omega

theorem rows (n : Fin 12288) (f : Fin 12816) :
    val_main_v3 (F := Ideal) h w (ix2 n f) = Cert.InProj.projRow h w n.val f.val := by
  rw [val_main_v3_apply]
  refine Finset.sum_congr rfl fun k _ => ?_
  refine congrArg₂ (· * ·) ?_ ?_
  · rw [val_main_v0_apply]
    exact at2_eq h _ _ _ rfl rfl
  · refine Eq.trans (congrArg _ ?_) (w_a w k f)
    funext a; fin_cases a <;> rfl

end Cert.Reference2Ideal.InProj

end
-- ==== Proof.InProj.Equation.lean ====
/- The input projection's kernel and its reference compute one array. -/
module

public import proofs.«01_k».proof.Proof.InProj.Reference
public import proofs.«01_k».proof.Defs

@[expose] public section

set_option maxRecDepth 16384

noncomputable section

namespace Cert.InProj

open Idealize.ShloMosaic Idealize.ShloMosaic.TcCoe Idealize.SL.Sem
open Cert.Reference2Ideal.Read (val_main_v3)

variable (m : (ℓ : Loc Cert.Kernel2Ideal.nD Cert.Kernel2Ideal.τ Cert.Kernel2Ideal.sig) → Buf (Elt Ideal) ℓ)

theorem proj_eq (c : Dev Cert.Kernel2Ideal.nD) : G m c = val_main_v3 (F := Ideal) (hid m c) (wIn m c) := by
  funext i
  obtain ⟨n, e, rfl⟩ : ∃ (n : Fin 12288) (e : Fin 12816), i = ix2 n e := ⟨i 0, i 1, by funext a; fin_cases a <;> rfl⟩
  exact (Cert.Reference2Ideal.InProj.rows _ _ n e).symm

theorem algebraic : Cert.algebraic_Kernel2Ideal_Reference2Ideal := by
  intro m g m' g' hpre hagree
  refine ⟨fun c => val_main_v3 (F := Ideal) (hid m c) (wIn m c), ?_, ?_⟩
  · refine (θ_run _ _ _).mono (fun r h c => ⟨?_, (h c).2⟩) (run_value m g)
    exact (h c).1.trans (proj_eq m c)
  · refine (θ_run _ _ _).mono (fun r h c => ⟨?_, (h c).2⟩) (Cert.Reference2Ideal.Value.run m' g')
    obtain ⟨h0, h1⟩ := hagree c
    refine (h c).1.trans ((Cert.Reference2Ideal.Read.val_main_v3_eq _ _).trans ?_)
    rw [h0, h1]

end Cert.InProj

end
-- ==== Proof.InProj.Frame.lean ====
/- The input projection's frame, over any float values: the region runs to its end and the arguments are unchanged.
   What the output's buffers hold in the rows and columns outside the array is not said here. -/
module

public import proofs.«01_k».proof.Proof.InProj.Point

@[expose] public section

set_option maxRecDepth 16384

noncomputable section

namespace Cert.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one of which nothing is said. -/
def forgotten : Fin cfg0.W → Bool := fun | ⟨0, _⟩ => false | ⟨1, _⟩ => false | ⟨2, _⟩ => true

theorem obligation_frame (c : Dev nD) :
    BodyObligationLoose (dats m 0 c) (defs₀ (F := F)) Variants.none () Set.univ forgotten := fun t => by
  rw [bigSep_W0, bigSep_W0, defs₀_row]
  simp only [forgotten]
  rw [show (dats m 0 c).Φ t.succ = inv m c (t.val + 1) t.isLt from rfl,
    show (dats m 0 c).Φ t.castSucc = inv m c t.val (Nat.le_of_lt t.isLt) from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (body_point m c t d1 _)
  isplitl [HΦ]; · iexact HΦ
  isplitl [H0]; · iexact H0
  isplitl [H1]; · iexact H1
  isplitl [H2]; · iexists _; iexact H2
  iintro ⟨HΦ, H0, H1, ⟨%d, H2⟩⟩
  isplitl [HΦ]; · iexact HΦ
  isplitl [Ho]; · iexact Ho
  isplitl [H0]; · iexact H0
  have hw : win0_1.cut (grid0.coords t) (weights m c t junk) = iblk m c 1 t := win0_1.cut_fill _ _ _
  isplitl [H1]
  · iexists d1
    change _ ⊢ owns (c : Thread nD τ) (st0_1 t) fullShare (win0_1.fill (grid0.coords t) d1 (win0_1.cut (grid0.coords t) (weights m c t junk)))
    rw [hw]; exact Idealize.SL.BI.Entails.refl _
  · iexists _; iexact H2

set_option backward.isDefEq.respectTransparency.types false in
/-- The region's run with the output forgotten. -/
theorem run_frame : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_track_forget (Q' := _) cfgs (dats m) (0 : Fin 1) launch0 defs₀ Variants.none forgotten m ρ main
    (hbody := obligation_frame m)
    (hshare := fun c => (dats m 0 c).share_full fun _ => rfl) (howed := fun _ _ => rfl)
    (V := V m) (hmain := hmain m Variants.none) (hA := A_eq m) (hin := hin m) (hout := hout m)

/-- The frame: every run of the program ends, with its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c)⟩, h.2⟩) (run_frame m ρ)

end Cert.InProj

end
-- ==== Proof.InProj.FrameBits.lean ====
/- The input projection's frame at the machine's float values. The program printed for them and the one printed for
   the extended reals are the same text, so the run proved once serves both: their tables of bodies are equal. -/
module

public import proofs.«01_k».proof.Proof.InProj.Frame
public import proofs.«01_k».proof.Proof.Gen.Kernel2

@[expose] public section

set_option maxRecDepth 16384

noncomputable section

namespace Cert.InProj

open Idealize.ShloMosaic Idealize.ShloMosaic.TcCoe Idealize.SL.Sem

theorem rows_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

theorem table_eq : Cert.Kernel2.defs (F := Bits) = Cert.Kernel2Ideal.defs (F := Bits) := by
  unfold Cert.Kernel2.defs Cert.Kernel2Ideal.defs
  rw [rows_eq]
  rfl

open Cert.Kernel2 in
/-- The frame of the program as compiled. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [table_eq]
  exact Cert.InProj.frame m ρ

end Cert.InProj

end
-- ==== Proof.Up.Block.lean ====
/-
  What the up projection's body leaves in its output buffer at one grid point: the two halves of the product, each passed
  through the three-tap convolution along the rows of every sequence, joined by the gated unit.
-/
module

public import proofs.«01_k».proof.Proof.Gen.Kernel3Ideal.Value
public import proofs.«01_k».proof.Proof.Layer
public import Idealize.ShloMosaic.Lib.Pointwise
public import Idealize.ShloMosaic.Lib.Pipeline.ValueKit

@[expose] public section

set_option maxRecDepth 16384

noncomputable section

namespace Cert.Layer

open Idealize.ShloMosaic

/-- The gated unit of two numbers: the first times its logistic, times the second. -/
def glu (a b : EReal) : EReal := a * Ideal.logistic a * b

theorem glu_congr {a a' b b' : EReal} (ha : a = a') (hb : b = b') : a * Ideal.logistic a * b = glu a' b' := by
  rw [ha, hb]; rfl

/-- The row before and the row after within a block of 1024 rows, around its ends. -/
def prev (r : Fin 1024) : Fin 1024 := ⟨(r.val + 1023) % 1024, Nat.mod_lt _ (by decide)⟩
def next (r : Fin 1024) : Fin 1024 := ⟨(r.val + 1) % 1024, Nat.mod_lt _ (by decide)⟩

/-- The three-tap convolution of `u` along rows held in sequences of `L`: a sequence's first row has no row before it,
    its last none after it. -/
def conv3 (L : Nat) (u : Fin 1024 → EReal) (w0 w1 w2 b : EReal) (r : Fin 1024) : EReal :=
  (if r.val % L = 0 then 0 else u (prev r) * w0) + u r * w1 + (if (r.val + 1) % L = 0 then 0 else u (next r) * w2) + b

theorem conv3_inner {L : Nat} {u : Fin 1024 → EReal} {w0 w1 w2 b : EReal} {r : Fin 1024} (h0 : ¬r.val % L = 0) (h1 : ¬(r.val + 1) % L = 0) :
    conv3 L u w0 w1 w2 b r = u (prev r) * w0 + u r * w1 + u (next r) * w2 + b := by
  unfold conv3; rw [if_neg h0, if_neg h1]

theorem conv3_first {L : Nat} {u : Fin 1024 → EReal} {w0 w1 w2 b : EReal} {r : Fin 1024} (h0 : r.val % L = 0) (h1 : ¬(r.val + 1) % L = 0) :
    conv3 L u w0 w1 w2 b r = u r * w1 + b + u (next r) * w2 := by
  unfold conv3; rw [if_pos h0, if_neg h1, zero_add, add_assoc, add_assoc, add_comm b]

theorem conv3_last {L : Nat} {u : Fin 1024 → EReal} {w0 w1 w2 b : EReal} {r : Fin 1024} (h0 : ¬r.val % L = 0) (h1 : (r.val + 1) % L = 0) :
    conv3 L u w0 w1 w2 b r = u r * w1 + b + u (prev r) * w0 := by
  unfold conv3; rw [if_neg h0, if_pos h1, add_zero, add_comm (u (prev r) * w0), add_assoc, add_assoc, add_comm b]

end Cert.Layer

namespace Cert.Kernel3Ideal.Up

open Idealize.ShloMosaic Cert.Kernel3Ideal Cert.Kernel3Ideal.Gen Cert.Layer

variable (v5 v7 v30 v31 v45 : FVec Ideal S1024x512 .f32) (v9 v13 : FVec Ideal S3x512 .f32) (v11 v15 : FVec Ideal S1x512 .f32)

/-- A row of the last sixteen rows of a sequence: its last row is replaced by the sum without a row after it. -/
theorem pick_last {L : Nat} {u : Fin 1024 → EReal} {w0 w1 w2 b edge full : EReal} {r : Fin 1024} {s : Fin 16}
    (h0 : ¬r.val % L = 0) (h1 : (r.val + 1) % L = 0 ↔ s.val = 15) (he : s.val = 15 → edge = u r * w1 + b + u (prev r) * w0)
    (hf : full = u (prev r) * w0 + u r * w1 + u (next r) * w2 + b) :
    Scalar.select (IntOp.cmpi .eq (BitVec.ofNat 32 s.val) 15#32) edge full = conv3 L u w0 w1 w2 b r := by
  by_cases h : s.val = 15
  · rw [conv3_last h0 (h1.2 h), h, he h]; rfl
  · rw [conv3_inner h0 (fun hh => h (h1.1 hh)), ← hf]
    have hc : IntOp.cmpi .eq (BitVec.ofNat 32 s.val) 15#32 = 0#1 := by
      exact (by decide : ∀ s : Fin 16, ¬s.val = 15 → IntOp.cmpi .eq (BitVec.ofNat 32 s.val) 15#32 = 0#1) s h
    rw [hc]; rfl

/-- A row of the first sixteen rows of a sequence: its first row is replaced by the sum without a row before it. -/
theorem pick_first {L : Nat} {u : Fin 1024 → EReal} {w0 w1 w2 b edge full : EReal} {r : Fin 1024} {s : Fin 16}
    (h0 : r.val % L = 0 ↔ s.val = 0) (h1 : ¬(r.val + 1) % L = 0) (he : s.val = 0 → edge = u r * w1 + b + u (next r) * w2)
    (hf : full = u (prev r) * w0 + u r * w1 + u (next r) * w2 + b) :
    Scalar.select (IntOp.cmpi .eq (BitVec.ofNat 32 s.val) 0#32) edge full = conv3 L u w0 w1 w2 b r := by
  by_cases h : s.val = 0
  · rw [conv3_first (h0.2 h) h1, h, he h]; rfl
  · rw [conv3_inner (fun hh => h (h0.1 hh)) h1, ← hf]
    have hc : IntOp.cmpi .eq (BitVec.ofNat 32 s.val) 0#32 = 0#1 := by
      exact (by decide : ∀ s : Fin 16, ¬s.val = 0 → IntOp.cmpi .eq (BitVec.ofNat 32 s.val) 0#32 = 0#1) s h
    rw [hc]; rfl

/-- One half's convolution at row `r` and column `e`, from the product, the taps and the bias. -/
def half (L : Nat) (u : FVec Ideal S1024x512 .f32) (w : FVec Ideal S3x512 .f32) (b : FVec Ideal S1x512 .f32) (r : Fin 1024) (e : Fin 512) : EReal :=
  conv3 L (fun r => u (ix2 r e)) (w (ix2 0 e)) (w (ix2 1 e)) (w (ix2 2 e)) (b (ix2 0 e)) r

/-- `full` is the convolution of a block that takes no account of the sequences' ends. -/
def Full (u full : FVec Ideal S1024x512 .f32) (w : FVec Ideal S3x512 .f32) (b : FVec Ideal S1x512 .f32) : Prop :=
  ∀ (r : Fin 1024) (e : Fin 512), full (ix2 r e)
    = u (ix2 (prev r) e) * w (ix2 0 e) + u (ix2 r e) * w (ix2 1 e) + u (ix2 (next r) e) * w (ix2 2 e) + b (ix2 0 e)

theorem rows_1008_256 (hA : Full v5 v30 v9 v11) (hB : Full v7 v45 v13 v15) (r : Fin 1024) (s : Fin 16) (e : Fin 512) (h : r.val = 1008 + s.val) :
    k0_pay1 (F := Ideal) v5 v7 v9 v11 v13 v15 v30 v45 (ix2 s e) = glu (half 256 v5 v9 v11 r e) (half 256 v7 v13 v15 r e) := by
  unfold k0_pay1
  unfold half
  pointwise
  refine glu_congr ?_ ?_
  · exact pick_last (r := r) (s := s) (by have := s.isLt; omega) (by have := s.isLt; omega)
      (fun hs => by obtain rfl : r = 1023 := Fin.ext (by show r.val = 1023; omega)
                    rfl)
      ((congrArg (fun q => v30 (ix2 q e)) (Fin.ext (by show 1008 + s.val = r.val; omega))).trans (hA r e))
  · exact pick_last (r := r) (s := s) (by have := s.isLt; omega) (by have := s.isLt; omega)
      (fun hs => by obtain rfl : r = 1023 := Fin.ext (by show r.val = 1023; omega)
                    rfl)
      ((congrArg (fun q => v45 (ix2 q e)) (Fin.ext (by show 1008 + s.val = r.val; omega))).trans (hB r e))

theorem rows_1008_1024 (hA : Full v5 v30 v9 v11) (hB : Full v7 v45 v13 v15) (r : Fin 1024) (s : Fin 16) (e : Fin 512) (h : r.val = 1008 + s.val) :
    k0_pay1 (F := Ideal) v5 v7 v9 v11 v13 v15 v30 v45 (ix2 s e) = glu (half 1024 v5 v9 v11 r e) (half 1024 v7 v13 v15 r e) := by
  unfold k0_pay1
  unfold half
  pointwise
  refine glu_congr ?_ ?_
  · exact pick_last (r := r) (s := s) (by have := s.isLt; omega) (by have := s.isLt; omega)
      (fun hs => by obtain rfl : r = 1023 := Fin.ext (by show r.val = 1023; omega)
                    rfl)
      ((congrArg (fun q => v30 (ix2 q e)) (Fin.ext (by show 1008 + s.val = r.val; omega))).trans (hA r e))
  · exact pick_last (r := r) (s := s) (by have := s.isLt; omega) (by have := s.isLt; omega)
      (fun hs => by obtain rfl : r = 1023 := Fin.ext (by show r.val = 1023; omega)
                    rfl)
      ((congrArg (fun q => v45 (ix2 q e)) (Fin.ext (by show 1008 + s.val = r.val; omega))).trans (hB r e))

theorem rows_240_256 (hA : Full v5 v30 v9 v11) (hB : Full v7 v45 v13 v15) (r : Fin 1024) (s : Fin 16) (e : Fin 512) (h : r.val = 240 + s.val) :
    k0_pay2 (F := Ideal) v5 v7 v9 v11 v13 v15 v30 v45 (ix2 s e) = glu (half 256 v5 v9 v11 r e) (half 256 v7 v13 v15 r e) := by
  unfold k0_pay2
  unfold half
  pointwise
  refine glu_congr ?_ ?_
  · exact pick_last (r := r) (s := s) (by have := s.isLt; omega) (by have := s.isLt; omega)
      (fun hs => by obtain rfl : r = 255 := Fin.ext (by show r.val = 255; omega)
                    rfl)
      ((congrArg (fun q => v30 (ix2 q e)) (Fin.ext (by show 240 + s.val = r.val; omega))).trans (hA r e))
  · exact pick_last (r := r) (s := s) (by have := s.isLt; omega) (by have := s.isLt; omega)
      (fun hs => by obtain rfl : r = 255 := Fin.ext (by show r.val = 255; omega)
                    rfl)
      ((congrArg (fun q => v45 (ix2 q e)) (Fin.ext (by show 240 + s.val = r.val; omega))).trans (hB r e))

theorem rows_256_256 (hA : Full v5 v30 v9 v11) (hB : Full v7 v45 v13 v15) (r : Fin 1024) (s : Fin 16) (e : Fin 512) (h : r.val = 256 + s.val) :
    k0_pay7 (F := Ideal) v7 v13 v15 v45 k0_pay3 (k0_pay4 v5 v9 v11 v30) (k0_pay5 v7) (k0_pay6 v13) (ix2 s e) = glu (half 256 v5 v9 v11 r e) (half 256 v7 v13 v15 r e) := by
  unfold k0_pay7 k0_pay4 k0_pay5 k0_pay6 k0_pay3
  unfold half
  pointwise
  refine glu_congr ?_ ?_
  · exact pick_first (r := r) (s := s) (by have := s.isLt; omega) (by have := s.isLt; omega)
      (fun hs => by obtain rfl : r = 256 := Fin.ext (by show r.val = 256; omega)
                    rfl)
      ((congrArg (fun q => v30 (ix2 q e)) (Fin.ext (by show 256 + s.val = r.val; omega))).trans (hA r e))
  · exact pick_first (r := r) (s := s) (by have := s.isLt; omega) (by have := s.isLt; omega)
      (fun hs => by obtain rfl : r = 256 := Fin.ext (by show r.val = 256; omega)
                    rfl)
      ((congrArg (fun q => v45 (ix2 q e)) (Fin.ext (by show 256 + s.val = r.val; omega))).trans (hB r e))

theorem rows_496_256 (hA : Full v5 v30 v9 v11) (hB : Full v7 v45 v13 v15) (r : Fin 1024) (s : Fin 16) (e : Fin 512) (h : r.val = 496 + s.val) :
    k0_pay8 (F := Ideal) v5 v7 v9 v11 v13 v15 v30 v45 (ix2 s e) = glu (half 256 v5 v9 v11 r e) (half 256 v7 v13 v15 r e) := by
  unfold k0_pay8
  unfold half
  pointwise
  refine glu_congr ?_ ?_
  · exact pick_last (r := r) (s := s) (by have := s.isLt; omega) (by have := s.isLt; omega)
      (fun hs => by obtain rfl : r = 511 := Fin.ext (by show r.val = 511; omega)
                    rfl)
      ((congrArg (fun q => v30 (ix2 q e)) (Fin.ext (by show 496 + s.val = r.val; omega))).trans (hA r e))
  · exact pick_last (r := r) (s := s) (by have := s.isLt; omega) (by have := s.isLt; omega)
      (fun hs => by obtain rfl : r = 511 := Fin.ext (by show r.val = 511; omega)
                    rfl)
      ((congrArg (fun q => v45 (ix2 q e)) (Fin.ext (by show 496 + s.val = r.val; omega))).trans (hB r e))

theorem rows_512_256 (hA : Full v5 v30 v9 v11) (hB : Full v7 v45 v13 v15) (r : Fin 1024) (s : Fin 16) (e : Fin 512) (h : r.val = 512 + s.val) :
    k0_pay9 (F := Ideal) v5 v7 v9 v11 v13 v15 v30 v45 (ix2 s e) = glu (half 256 v5 v9 v11 r e) (half 256 v7 v13 v15 r e) := by
  unfold k0_pay9
  unfold half
  pointwise
  refine glu_congr ?_ ?_
  · exact pick_first (r := r) (s := s) (by have := s.isLt; omega) (by have := s.isLt; omega)
      (fun hs => by obtain rfl : r = 512 := Fin.ext (by show r.val = 512; omega)
                    rfl)
      ((congrArg (fun q => v30 (ix2 q e)) (Fin.ext (by show 512 + s.val = r.val; omega))).trans (hA r e))
  · exact pick_first (r := r) (s := s) (by have := s.isLt; omega) (by have := s.isLt; omega)
      (fun hs => by obtain rfl : r = 512 := Fin.ext (by show r.val = 512; omega)
                    rfl)
      ((congrArg (fun q => v45 (ix2 q e)) (Fin.ext (by show 512 + s.val = r.val; omega))).trans (hB r e))

theorem rows_752_256 (hA : Full v5 v30 v9 v11) (hB : Full v7 v45 v13 v15) (r : Fin 1024) (s : Fin 16) (e : Fin 512) (h : r.val = 752 + s.val) :
    k0_pay14 (F := Ideal) v7 v13 v15 v45 k0_pay10 (k0_pay11 v5 v9 v11 v30) (k0_pay12 v7) (k0_pay13 v13) (ix2 s e) = glu (half 256 v5 v9 v11 r e) (half 256 v7 v13 v15 r e) := by
  unfold k0_pay14 k0_pay11 k0_pay12 k0_pay13 k0_pay10
  unfold half
  pointwise
  refine glu_congr ?_ ?_
  · exact pick_last (r := r) (s := s) (by have := s.isLt; omega) (by have := s.isLt; omega)
      (fun hs => by obtain rfl : r = 767 := Fin.ext (by show r.val = 767; omega)
                    rfl)
      ((congrArg (fun q => v30 (ix2 q e)) (Fin.ext (by show 752 + s.val = r.val; omega))).trans (hA r e))
  · exact pick_last (r := r) (s := s) (by have := s.isLt; omega) (by have := s.isLt; omega)
      (fun hs => by obtain rfl : r = 767 := Fin.ext (by show r.val = 767; omega)
                    rfl)
      ((congrArg (fun q => v45 (ix2 q e)) (Fin.ext (by show 752 + s.val = r.val; omega))).trans (hB r e))

theorem rows_768_256 (hA : Full v5 v30 v9 v11) (hB : Full v7 v45 v13 v15) (r : Fin 1024) (s : Fin 16) (e : Fin 512) (h : r.val = 768 + s.val) :
    k0_pay15 (F := Ideal) v5 v7 v9 v11 v13 v15 v30 v45 (ix2 s e) = glu (half 256 v5 v9 v11 r e) (half 256 v7 v13 v15 r e) := by
  unfold k0_pay15
  unfold half
  pointwise
  refine glu_congr ?_ ?_
  · exact pick_first (r := r) (s := s) (by have := s.isLt; omega) (by have := s.isLt; omega)
      (fun hs => by obtain rfl : r = 768 := Fin.ext (by show r.val = 768; omega)
                    rfl)
      ((congrArg (fun q => v30 (ix2 q e)) (Fin.ext (by show 768 + s.val = r.val; omega))).trans (hA r e))
  · exact pick_first (r := r) (s := s) (by have := s.isLt; omega) (by have := s.isLt; omega)
      (fun hs => by obtain rfl : r = 768 := Fin.ext (by show r.val = 768; omega)
                    rfl)
      ((congrArg (fun q => v45 (ix2 q e)) (Fin.ext (by show 768 + s.val = r.val; omega))).trans (hB r e))

theorem rows_0_256 (hA : Full v5 v30 v9 v11) (hB : Full v7 (k0_pay26 v7 v13 v15 v31) v13 v15) (r : Fin 1024) (s : Fin 16) (e : Fin 512) (h : r.val = 0 + s.val) :
    k0_pay28 (F := Ideal) v5 v7 v9 v11 v13 v15 v30 v31 (ix2 s e) = glu (half 256 v5 v9 v11 r e) (half 256 v7 v13 v15 r e) := by
  unfold k0_pay28
  unfold half
  pointwise
  refine glu_congr ?_ ?_
  · exact pick_first (r := r) (s := s) (by have := s.isLt; omega) (by have := s.isLt; omega)
      (fun hs => by obtain rfl : r = 0 := Fin.ext (by show r.val = 0; omega)
                    rfl)
      ((congrArg (fun q => v30 (ix2 q e)) (Fin.ext (by show s.val = r.val; omega))).trans (hA r e))
  · exact pick_first (r := r) (s := s) (by have := s.isLt; omega) (by have := s.isLt; omega)
      (fun hs => by obtain rfl : r = 0 := Fin.ext (by show r.val = 0; omega)
                    rfl)
      ((congrArg (fun q => k0_pay26 (F := Ideal) v7 v13 v15 v31 (ix2 q e)) (Fin.ext (by show s.val = r.val; omega))).trans (hB r e))

theorem rows_0_1024 (hA : Full v5 v30 v9 v11) (hB : Full v7 (k0_pay26 v7 v13 v15 v31) v13 v15) (r : Fin 1024) (s : Fin 16) (e : Fin 512) (h : r.val = 0 + s.val) :
    k0_pay28 (F := Ideal) v5 v7 v9 v11 v13 v15 v30 v31 (ix2 s e) = glu (half 1024 v5 v9 v11 r e) (half 1024 v7 v13 v15 r e) := by
  unfold k0_pay28
  unfold half
  pointwise
  refine glu_congr ?_ ?_
  · exact pick_first (r := r) (s := s) (by have := s.isLt; omega) (by have := s.isLt; omega)
      (fun hs => by obtain rfl : r = 0 := Fin.ext (by show r.val = 0; omega)
                    rfl)
      ((congrArg (fun q => v30 (ix2 q e)) (Fin.ext (by show s.val = r.val; omega))).trans (hA r e))
  · exact pick_first (r := r) (s := s) (by have := s.isLt; omega) (by have := s.isLt; omega)
      (fun hs => by obtain rfl : r = 0 := Fin.ext (by show r.val = 0; omega)
                    rfl)
      ((congrArg (fun q => k0_pay26 (F := Ideal) v7 v13 v15 v31 (ix2 q e)) (Fin.ext (by show s.val = r.val; omega))).trans (hB r e))

theorem rows_inner (L : Nat) (hA : Full v5 v30 v9 v11) (hB : Full v7 (k0_pay26 v7 v13 v15 v31) v13 v15) (r : Fin 1024) (e : Fin 512)
    (h0 : ¬r.val % L = 0) (h1 : ¬(r.val + 1) % L = 0) :
    k0_pay27 (F := Ideal) v7 v13 v15 v30 v31 (ix2 r e) = glu (half L v5 v9 v11 r e) (half L v7 v13 v15 r e) := by
  unfold k0_pay27
  pointwise
  unfold half
  rw [conv3_inner h0 h1, conv3_inner h0 h1]
  exact glu_congr (hA r e) (hB r e)

variable (x : FVec Ideal S1024x2048 .bf16) (wa wb : FVec Ideal S2048x512 .bf16) (cwa cwb : FVec Ideal S1x3x512 .f32)
    (cba cbb : FVec Ideal S1x1x512 .f32)

theorem full_a : Full (k0_pay18 x wa) (k0_pay24 x wa cwa cba) (k0_pay20 cwa) (k0_pay21 cba) := by
  intro r e
  unfold k0_pay24
  pointwise
  have hn : (⟨(r.val + 1024 - 1023) % 1024, Nat.mod_lt _ (by decide)⟩ : Fin 1024) = next r :=
    Fin.ext (by show (r.val + 1024 - 1023) % 1024 = (r.val + 1) % 1024; omega)
  rw [← hn]
  rfl

theorem full_b : Full (k0_pay19 x wb) (k0_pay26 (k0_pay19 x wb) (k0_pay22 cwb) (k0_pay23 cbb) (k0_pay25 x wb)) (k0_pay22 cwb) (k0_pay23 cbb) := by
  intro r e
  unfold k0_pay26 k0_pay25
  pointwise
  have hn : (⟨(r.val + 1024 - 1023) % 1024, Nat.mod_lt _ (by decide)⟩ : Fin 1024) = next r :=
    Fin.ext (by show (r.val + 1024 - 1023) % 1024 = (r.val + 1) % 1024; omega)
  rw [← hn]
  rfl

/-- The gated unit at row `r` and column `e` of a block, its rows held in sequences of `L`. -/
def blockUp (L : Nat) (r : Fin 1024) (e : Fin 512) : EReal :=
  glu (half L (k0_pay18 x wa) (k0_pay20 cwa) (k0_pay21 cba) r e) (half L (k0_pay19 x wb) (k0_pay22 cwb) (k0_pay23 cbb) r e)

theorem half_a (L : Nat) (r : Fin 1024) (e : Fin 512) : half L (k0_pay18 x wa) (k0_pay20 cwa) (k0_pay21 cba) r e
    = conv3 L (fun r => ∑ k : Fin 2048, x (ix2 r k) * wa (ix2 k e)) (cwa (ix3 0 0 e)) (cwa (ix3 0 1 e)) (cwa (ix3 0 2 e)) (cba (ix3 0 0 e)) r := by
  unfold half k0_pay18 k0_pay20 k0_pay21
  pointwise

theorem half_b (L : Nat) (r : Fin 1024) (e : Fin 512) : half L (k0_pay19 x wb) (k0_pay22 cwb) (k0_pay23 cbb) r e
    = conv3 L (fun r => ∑ k : Fin 2048, x (ix2 r k) * wb (ix2 k e)) (cwb (ix3 0 0 e)) (cwb (ix3 0 1 e)) (cwb (ix3 0 2 e)) (cbb (ix3 0 0 e)) r := by
  unfold half k0_pay19 k0_pay22 k0_pay23
  pointwise

/-- A stored slab of sixteen rows, read back: inside it the slab's own rows, outside it what the earlier stores left. -/
theorem canon_slab {lo : Nat} (inb : ∀ a, (![lo, 0] : Fin 2 → Nat) a + S16x512.size a ≤ S1024x512.size a)
    (p : FVec Ideal S16x512 .bf16) (T : List (View.Piece (Elt Ideal) S1024x512 .bf16)) (r : Fin 1024) (e : Fin 512) (v : EReal)
    (h1 : ∀ s : Fin 16, r.val = lo + s.val → p (ix2 s e) = v)
    (h2 : ¬(lo ≤ r.val ∧ r.val < lo + 16) → View.canon T (ix2 r e) = v) :
    View.canon ((⟨Rect.unit (s := S1024x512) ![lo, 0] S16x512.size inb, p⟩ : View.Piece (Elt Ideal) S1024x512 .bf16) :: T) (ix2 r e) = v := by
  by_cases h : lo ≤ r.val ∧ r.val < lo + 16
  · have he : (ix2 r e : S1024x512.Idx) = (Rect.unit (s := S1024x512) ![lo, 0] S16x512.size inb).emb (ix2 ⟨r.val - lo, by omega⟩ e) := by
      funext a
      fin_cases a
      · exact Fin.ext (by show r.val = lo + 1 * (r.val - lo); omega)
      · exact Fin.ext (by show e.val = 0 + 1 * e.val; omega)
    rw [he, View.canon_cons_emb]
    exact h1 ⟨r.val - lo, by omega⟩ (by show r.val = lo + (r.val - lo); omega)
  · refine (View.canon_cons_of_not_mem _ T (y := (ix2 r e : S1024x512.Idx)) fun hm => h ?_).trans (h2 h)
    have hm' : (ix2 r e : S1024x512.Idx) ∈ (Rect.unit (s := S1024x512) ![lo, 0] S16x512.size inb).set := hm
    exact (Rect.mem_set_unit.mp hm') (0 : Fin 2)

end Cert.Kernel3Ideal.Up

end
-- ==== Proof.Up.Store.lean ====
/-
  What each of the body's three courses leaves in the output buffer and in the two weight buffers it keeps.
-/
module

public import proofs.«01_k».proof.Proof.Up.Block

@[expose] public section

set_option maxRecDepth 16384

noncomputable section

namespace Cert.Kernel3Ideal.Up

open Idealize.ShloMosaic Cert.Kernel3Ideal Cert.Kernel3Ideal.Gen Cert.Layer

variable (c : Dev nD) (i : grid0.Coords) (arg2 : Memref sig .tc .vmem S1024x2048 .bf16) (harg2 : arg2.IsWhole) (arg3 : Memref sig .tc .vmem S1x2048x512 .f32) (harg3 : arg3.IsWhole)
    (arg4 : Memref sig .tc .vmem S1x2048x512 .f32) (harg4 : arg4.IsWhole) (arg5 : Memref sig .tc .vmem S1x3x512 .f32) (harg5 : arg5.IsWhole)
    (arg6 : Memref sig .tc .vmem S1x3x512 .f32) (harg6 : arg6.IsWhole) (arg7 : Memref sig .tc .vmem S1x1x512 .f32) (harg7 : arg7.IsWhole)
    (arg8 : Memref sig .tc .vmem S1x1x512 .f32) (harg8 : arg8.IsWhole) (arg9 : Memref sig .tc .vmem S1024x512 .bf16) (harg9 : arg9.IsWhole)
    (arg10 : Memref sig .tc .vmem S2048x512 .bf16) (harg10 : arg10.IsWhole) (arg11 : Memref sig .tc .vmem S2048x512 .bf16) (harg11 : arg11.IsWhole)
    (x0 : Vec Ideal S1024x2048 .bf16) (x1 x2 : Vec Ideal S1x2048x512 .f32) (x3 x4 : Vec Ideal S1x3x512 .f32) (x5 x6 : Vec Ideal S1x1x512 .f32)
    (xs0 xs1 : Vec Ideal S2048x512 .bf16)

theorem out_A (hc0 : cond0_0 i) (hc1 : cond0_1 i) (r : Fin 1024) (e : Fin 512) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 r e)
      = blockUp x0 (k0_pay16 x1) (k0_pay17 x2) x3 x4 x5 x6 256 r e := by
  have hc := cover0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 r e)
  unfold out0_A_7
  rw [View.read_writes_junk_apply_eq_canon]
  unfold kernelRun0_A
  dsimp only
  sl_unfold_words
  simp only [View.readAt_eq_ld, harg2.read_unread, harg3.read_unread, harg4.read_unread, harg5.read_unread, harg6.read_unread, harg7.read_unread, harg8.read_unread, harg10.read_unread, harg11.read_unread]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.readCov_unit_lit arg10.view _ _ (by decide), View.readCov_unit_lit arg11.view _ _ (by decide)]
  have fa := full_a x0 (k0_pay16 x1) x3 x5
  have fb := full_b x0 (k0_pay17 x2) x4 x6
  refine canon_slab _ _ _ r e _ (fun s hs => rows_768_256 _ _ _ _ _ _ _ _ fa fb r s e hs) fun n768 => ?_
  refine canon_slab _ _ _ r e _ (fun s hs => rows_752_256 _ _ _ _ _ _ _ _ fa fb r s e hs) fun n752 => ?_
  refine canon_slab _ _ _ r e _ (fun s hs => rows_512_256 _ _ _ _ _ _ _ _ fa fb r s e hs) fun n512 => ?_
  refine canon_slab _ _ _ r e _ (fun s hs => rows_496_256 _ _ _ _ _ _ _ _ fa fb r s e hs) fun n496 => ?_
  refine canon_slab _ _ _ r e _ (fun s hs => rows_256_256 _ _ _ _ _ _ _ _ fa fb r s e hs) fun n256 => ?_
  refine canon_slab _ _ _ r e _ (fun s hs => rows_240_256 _ _ _ _ _ _ _ _ fa fb r s e hs) fun n240 => ?_
  refine canon_slab _ _ _ r e _ (fun s hs => rows_1008_256 _ _ _ _ _ _ _ _ fa fb r s e hs) fun n1008 => ?_
  refine canon_slab _ _ _ r e _ (fun s hs => rows_0_256 _ _ _ _ _ _ _ _ fa fb r s e hs) fun n0 => ?_
  rw [View.canon_cons_unit_lit _ _ _ (by decide)]
  have hr := r.isLt
  exact rows_inner _ _ _ _ _ _ _ _ 256 fa fb r e (by omega) (by omega)

theorem out_B (hc0 : ¬cond0_0 i) (hc1 : cond0_1 i) (r : Fin 1024) (e : Fin 512) :
    out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 (ix2 r e)
      = blockUp x0 xs0 xs1 x3 x4 x5 x6 256 r e := by
  have hc := cover0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 (ix2 r e)
  unfold out0_B_7
  rw [View.read_writes_junk_apply_eq_canon]
  unfold kernelRun0_B
  dsimp only
  sl_unfold_words
  simp only [View.readAt_eq_ld, harg2.read_unread, harg3.read_unread, harg4.read_unread, harg5.read_unread, harg6.read_unread, harg7.read_unread, harg8.read_unread, harg10.read_unread, harg11.read_unread]
  rw [View.ld_unit_lit _ x0 (by decide), View.ld_unit_lit _ xs0 (by decide), View.ld_unit_lit _ xs1 (by decide), View.ld_unit_lit _ x3 (by decide),
    View.ld_unit_lit _ x4 (by decide), View.ld_unit_lit _ x5 (by decide), View.ld_unit_lit _ x6 (by decide)]
  have fa := full_a x0 xs0 x3 x5
  have fb := full_b x0 xs1 x4 x6
  refine canon_slab _ _ _ r e _ (fun s hs => rows_768_256 _ _ _ _ _ _ _ _ fa fb r s e hs) fun n768 => ?_
  refine canon_slab _ _ _ r e _ (fun s hs => rows_752_256 _ _ _ _ _ _ _ _ fa fb r s e hs) fun n752 => ?_
  refine canon_slab _ _ _ r e _ (fun s hs => rows_512_256 _ _ _ _ _ _ _ _ fa fb r s e hs) fun n512 => ?_
  refine canon_slab _ _ _ r e _ (fun s hs => rows_496_256 _ _ _ _ _ _ _ _ fa fb r s e hs) fun n496 => ?_
  refine canon_slab _ _ _ r e _ (fun s hs => rows_256_256 _ _ _ _ _ _ _ _ fa fb r s e hs) fun n256 => ?_
  refine canon_slab _ _ _ r e _ (fun s hs => rows_240_256 _ _ _ _ _ _ _ _ fa fb r s e hs) fun n240 => ?_
  refine canon_slab _ _ _ r e _ (fun s hs => rows_1008_256 _ _ _ _ _ _ _ _ fa fb r s e hs) fun n1008 => ?_
  refine canon_slab _ _ _ r e _ (fun s hs => rows_0_256 _ _ _ _ _ _ _ _ fa fb r s e hs) fun n0 => ?_
  rw [View.canon_cons_unit_lit _ _ _ (by decide)]
  have hr := r.isLt
  exact rows_inner _ _ _ _ _ _ _ _ 256 fa fb r e (by omega) (by omega)

theorem out_C (hc0 : ¬cond0_0 i) (hc1 : ¬cond0_1 i) (r : Fin 1024) (e : Fin 512) :
    out0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 (ix2 r e)
      = blockUp x0 xs0 xs1 x3 x4 x5 x6 1024 r e := by
  have hc := cover0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 (ix2 r e)
  unfold out0_C_7
  rw [View.read_writes_junk_apply_eq_canon]
  unfold kernelRun0_C
  dsimp only
  sl_unfold_words
  simp only [View.readAt_eq_ld, harg2.read_unread, harg3.read_unread, harg4.read_unread, harg5.read_unread, harg6.read_unread, harg7.read_unread, harg8.read_unread, harg10.read_unread, harg11.read_unread]
  rw [View.ld_unit_lit _ x0 (by decide), View.ld_unit_lit _ xs0 (by decide), View.ld_unit_lit _ xs1 (by decide), View.ld_unit_lit _ x3 (by decide),
    View.ld_unit_lit _ x4 (by decide), View.ld_unit_lit _ x5 (by decide), View.ld_unit_lit _ x6 (by decide)]
  have fa := full_a x0 xs0 x3 x5
  have fb := full_b x0 xs1 x4 x6
  refine canon_slab _ _ _ r e _ (fun s hs => rows_1008_1024 _ _ _ _ _ _ _ _ fa fb r s e hs) fun n1008 => ?_
  refine canon_slab _ _ _ r e _ (fun s hs => rows_0_1024 _ _ _ _ _ _ _ _ fa fb r s e hs) fun n0 => ?_
  rw [View.canon_cons_unit_lit _ _ _ (by decide)]
  have hr := r.isLt
  exact rows_inner _ _ _ _ _ _ _ _ 1024 fa fb r e (by omega) (by omega)

theorem keep_A_0 (hc0 : cond0_0 i) (hc1 : cond0_1 i) : sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 = k0_pay16 x1 := by
  funext y
  unfold sout0_A_0
  rw [View.read_writes_junk_apply_eq_canon]
  unfold kernelRun0_A
  dsimp only
  sl_unfold_words
  simp only [View.readAt_eq_ld, harg3.read_unread]
  rw [View.canon_cons_unit_lit _ _ _ (by decide), View.ld_unit_lit _ x1 (by decide)]

theorem keep_B_0 (hc0 : ¬cond0_0 i) (hc1 : cond0_1 i) : sout0_B_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 = xs0 := rfl
theorem keep_C_0 (hc0 : ¬cond0_0 i) (hc1 : ¬cond0_1 i) : sout0_C_0 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 = xs0 := rfl

theorem keep_A_1 (hc0 : cond0_0 i) (hc1 : cond0_1 i) : sout0_A_1 (F := Ideal) c i arg2 harg2 arg3 harg3 arg4 harg4 arg5 harg5 arg6 harg6 arg7 harg7 arg8 harg8 arg9 harg9 arg10 harg10 arg11 harg11 hc0 hc1 x0 x1 x2 x3 x4 x5 x6 = k0_pay17 x2 := by
  funext y
  unfold sout0_A_1
  rw [View.read_writes_junk_apply_eq_canon]
  unfold kernelRun0_A
  dsimp only
  sl_unfold_words
  simp only [View.readAt_eq_ld, harg4.read_unread]
  rw [View.canon_cons_unit_lit _ _ _ (by decide), View.ld_unit_lit _ x2 (by decide)]

theorem keep_B_1 (hc0 : ¬cond0_0 i) (hc1 : cond0_1 i) : sout0_B_1 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 = xs1 := rfl
theorem keep_C_1 (hc0 : ¬cond0_0 i) (hc1 : ¬cond0_1 i) : sout0_C_1 (F := Ideal) c i arg2 harg2 arg3 harg3 arg4 harg4 arg5 harg5 arg6 harg6 arg7 harg7 arg8 harg8 arg9 harg9 arg10 harg10 arg11 harg11 hc0 hc1 x0 x1 x2 x3 x4 x5 x6 xs0 xs1 = xs1 := rfl

end Cert.Kernel3Ideal.Up

end
-- ==== Proof.Up.Array.lean ====
/-
  What the up projection's result array holds after the run, element by element: the gated unit of the two halves of the
  product, each convolved along the rows of its sequence.
-/
module

public import proofs.«01_k».proof.Proof.Up.Store

@[expose] public section

set_option maxRecDepth 16384

noncomputable section

namespace Cert.Layer

open Idealize.ShloMosaic

/-- The length of the sequence that token `n` is in: prompts of 256 tokens, then sequences of 1024. -/
def seqLen (n : Nat) : Nat := if n < 8192 then 256 else 1024

/-- The second layer's up product at token `n` and feature `f`. -/
def upRow (h : (⟨2, ![12288, 2048]⟩ : Shape).Idx → EReal) (w : (⟨3, ![2, 2048, 11264]⟩ : Shape).Idx → EReal) (n f : Nat) : EReal :=
  ∑ k : Fin 2048, at2 h n k.val * at3 w 1 k.val f

/-- Its convolution along the token's sequence. -/
def upConv (h : (⟨2, ![12288, 2048]⟩ : Shape).Idx → EReal) (w : (⟨3, ![2, 2048, 11264]⟩ : Shape).Idx → EReal)
    (cw : (⟨3, ![2, 3, 11264]⟩ : Shape).Idx → EReal) (cb : (⟨2, ![2, 11264]⟩ : Shape).Idx → EReal) (n f : Nat) : EReal :=
  (if n % seqLen n = 0 then 0 else upRow h w (n - 1) f * at3 cw 1 0 f) + upRow h w n f * at3 cw 1 1 f
    + (if (n + 1) % seqLen n = 0 then 0 else upRow h w (n + 1) f * at3 cw 1 2 f) + at2 cb 1 f

/-- The gated unit of the two halves of the features. -/
def upAct (h : (⟨2, ![12288, 2048]⟩ : Shape).Idx → EReal) (w : (⟨3, ![2, 2048, 11264]⟩ : Shape).Idx → EReal)
    (cw : (⟨3, ![2, 3, 11264]⟩ : Shape).Idx → EReal) (cb : (⟨2, ![2, 11264]⟩ : Shape).Idx → EReal) (n e : Nat) : EReal :=
  glu (upConv h w cw cb n e) (upConv h w cw cb n (5632 + e))

end Cert.Layer

namespace Cert.Kernel3Ideal.Up

open Idealize.ShloMosaic Idealize.ShloMosaic.TcCoe Idealize.SL.Sem
open Idealize.ShloMosaic.Pipeline (Dat)
open Cert.Kernel3Ideal Cert.Kernel3Ideal.Gen Cert.Layer

variable (m : (ℓ : Loc nD τ sig) → Buf (Elt Ideal) ℓ)

/-- The arguments as the run finds them. -/
abbrev hid (c : Dev nD) : FVec Ideal S12288x2048 .bf16 := m ((c : Thread nD τ).loc main_arg0)
abbrev wUp (c : Dev nD) : FVec Ideal S2x2048x11264 .f32 := m ((c : Thread nD τ).loc main_arg1)
abbrev taps (c : Dev nD) : FVec Ideal S2x3x11264 .f32 := m ((c : Thread nD τ).loc main_arg2)
abbrev bias (c : Dev nD) : FVec Ideal S2x11264 .f32 := m ((c : Thread nD τ).loc main_arg3)

/-- The biases as the call finds them. -/
theorem b_entry (c : Dev nD) (l : Fin 2) (k : Fin 11264) : V m c main_v0 (ix3 l 0 k) = bias m c (ix2 l k) := by
  have : V m c main_v0 = shapeCast S2x1x11264 (bias m c) shapeCasts_S2x11264_S2x1x11264 := by
    show StableHlo.after hostOps0 _ (Proc.devRef .tc main_v0) = _
    after_results
    rfl
  rw [this]; pointwise

/-- The windows' block indices: the row block is the fast coordinate of the grid, the column block the slow one. -/
theorem idx : ∀ t : Fin cfg0.N, win0_0.index t = ![t.val % 12, 0] ∧ win0_1.index t = ![1, 0, t.val / 12]
    ∧ win0_2.index t = ![1, 0, 11 + t.val / 12] ∧ win0_3.index t = ![1, 0, t.val / 12] ∧ win0_4.index t = ![1, 0, 11 + t.val / 12]
    ∧ win0_5.index t = ![1, 0, t.val / 12] ∧ win0_6.index t = ![1, 0, 11 + t.val / 12] ∧ win0_7.index t = ![t.val % 12, t.val / 12] :=
  (by decide +kernel : ∀ t : Fin grid0.N, _)

theorem h_apply (c : Dev nD) (t : Fin cfg0.N) (r : Fin 1024) (k : Fin 2048) :
    iblk m c 0 t (ix2 r k) = at2 (hid m c) (t.val % 12 * 1024 + r.val) k.val := by
  unfold iblk
  rw [View.read_apply]
  refine (congrFun (V_main_arg0 m c) _).trans (at2_eq (hid m c) _ _ _ ?_ ?_)
  · show win0_0.index t 0 * 1024 + 1 * r.val = _
    rw [(idx t).1]; simp
  · show win0_0.index t 1 * 2048 + 1 * k.val = _
    rw [(idx t).1]; simp

theorem wa_apply (c : Dev nD) (t : Fin cfg0.N) (k : Fin 2048) (e : Fin 512) :
    iblk m c 1 t (ix3 0 k e) = at3 (wUp m c) 1 k.val (t.val / 12 * 512 + e.val) := by
  unfold iblk
  rw [View.read_apply]
  refine (congrFun (V_main_arg1 m c) _).trans (at3_eq (wUp m c) _ _ _ _ ?_ ?_ ?_)
  · show win0_1.index t 0 * 1 + 1 * 0 = _
    rw [(idx t).2.1]; simp
  · show win0_1.index t 1 * 2048 + 1 * k.val = _
    rw [(idx t).2.1]; simp
  · show win0_1.index t 2 * 512 + 1 * e.val = _
    rw [(idx t).2.1]; simp

theorem wb_apply (c : Dev nD) (t : Fin cfg0.N) (k : Fin 2048) (e : Fin 512) :
    iblk m c 2 t (ix3 0 k e) = at3 (wUp m c) 1 k.val (5632 + (t.val / 12 * 512 + e.val)) := by
  unfold iblk
  rw [View.read_apply]
  refine (congrFun (V_main_arg1 m c) _).trans (at3_eq (wUp m c) _ _ _ _ ?_ ?_ ?_)
  · show win0_2.index t 0 * 1 + 1 * 0 = _
    rw [(idx t).2.2.1]; simp
  · show win0_2.index t 1 * 2048 + 1 * k.val = _
    rw [(idx t).2.2.1]; simp
  · show win0_2.index t 2 * 512 + 1 * e.val = _
    rw [(idx t).2.2.1]; show (11 + t.val / 12) * 512 + 1 * e.val = _; omega

theorem ta_apply (c : Dev nD) (t : Fin cfg0.N) (k : Fin 3) (e : Fin 512) :
    iblk m c 3 t (ix3 0 k e) = at3 (taps m c) 1 k.val (t.val / 12 * 512 + e.val) := by
  unfold iblk
  rw [View.read_apply]
  refine (congrFun (V_main_arg2 m c) _).trans (at3_eq (taps m c) _ _ _ _ ?_ ?_ ?_)
  · show win0_3.index t 0 * 1 + 1 * 0 = _
    rw [(idx t).2.2.2.1]; simp
  · show win0_3.index t 1 * 3 + 1 * k.val = _
    rw [(idx t).2.2.2.1]; simp
  · show win0_3.index t 2 * 512 + 1 * e.val = _
    rw [(idx t).2.2.2.1]; simp

theorem tb_apply (c : Dev nD) (t : Fin cfg0.N) (k : Fin 3) (e : Fin 512) :
    iblk m c 4 t (ix3 0 k e) = at3 (taps m c) 1 k.val (5632 + (t.val / 12 * 512 + e.val)) := by
  unfold iblk
  rw [View.read_apply]
  refine (congrFun (V_main_arg2 m c) _).trans (at3_eq (taps m c) _ _ _ _ ?_ ?_ ?_)
  · show win0_4.index t 0 * 1 + 1 * 0 = _
    rw [(idx t).2.2.2.2.1]; simp
  · show win0_4.index t 1 * 3 + 1 * k.val = _
    rw [(idx t).2.2.2.2.1]; simp
  · show win0_4.index t 2 * 512 + 1 * e.val = _
    rw [(idx t).2.2.2.2.1]; show (11 + t.val / 12) * 512 + 1 * e.val = _; omega

theorem ba_apply (c : Dev nD) (t : Fin cfg0.N) (e : Fin 512) :
    iblk m c 5 t (ix3 0 0 e) = at2 (bias m c) 1 (t.val / 12 * 512 + e.val) := by
  unfold iblk
  rw [View.read_apply]
  have hN : t.val < 132 := t.isLt
  have hb : t.val / 12 * 512 + e.val < 11264 := by omega
  have h : (((cfg0.win 5).blk t).view.emb (ix3 0 0 e) : S2x1x11264.Idx) = ix3 1 0 ⟨t.val / 12 * 512 + e.val, hb⟩ := by
    funext a
    have e4 := (idx t).2.2.2.2.2.1
    fin_cases a
    · exact Fin.ext (by show win0_5.index t 0 * 1 + 1 * 0 = 1; rw [e4]; simp)
    · exact Fin.ext (by show win0_5.index t 1 * 1 + 1 * 0 = 0; rw [e4]; simp)
    · exact Fin.ext (by show win0_5.index t 2 * 512 + 1 * e.val = t.val / 12 * 512 + e.val; rw [e4]; simp)
  refine (congrArg (V m c main_v0) h).trans ((b_entry m c 1 _).trans (at2_eq (bias m c) _ _ _ rfl rfl))

theorem bb_apply (c : Dev nD) (t : Fin cfg0.N) (e : Fin 512) :
    iblk m c 6 t (ix3 0 0 e) = at2 (bias m c) 1 (5632 + (t.val / 12 * 512 + e.val)) := by
  unfold iblk
  rw [View.read_apply]
  have hN : t.val < 132 := t.isLt
  have hb : 5632 + (t.val / 12 * 512 + e.val) < 11264 := by omega
  have h : (((cfg0.win 6).blk t).view.emb (ix3 0 0 e) : S2x1x11264.Idx) = ix3 1 0 ⟨5632 + (t.val / 12 * 512 + e.val), hb⟩ := by
    funext a
    have e4 := (idx t).2.2.2.2.2.2.1
    fin_cases a
    · exact Fin.ext (by show win0_6.index t 0 * 1 + 1 * 0 = 1; rw [e4]; simp)
    · exact Fin.ext (by show win0_6.index t 1 * 1 + 1 * 0 = 0; rw [e4]; simp)
    · exact Fin.ext (by show win0_6.index t 2 * 512 + 1 * e.val = 5632 + (t.val / 12 * 512 + e.val); rw [e4]; show (11 + t.val / 12) * 512 + 1 * e.val = _; omega)
  refine (congrArg (V m c main_v0) h).trans ((b_entry m c 1 _).trans (at2_eq (bias m c) _ _ _ rfl rfl))

/-- The weight blocks that the body keeps from the first row block of a column block on. -/
theorem keep (c : Dev nD) : ∀ (n : Nat) (hn : n < cfg0.N) (k : Fin 2048) (e : Fin 512),
    (outsAt0 m c n hn).2.1 (ix2 k e) = at3 (wUp m c) 1 k.val (n / 12 * 512 + e.val)
    ∧ (outsAt0 m c n hn).2.2 (ix2 k e) = at3 (wUp m c) 1 k.val (5632 + (n / 12 * 512 + e.val)) := by
  intro n
  induction n with
  | zero =>
    intro hn k e
    rw [outsAt0_A m c ⟨0, hn⟩ rfl (by show 0 % 12 ≤ 7; decide)]
    dsimp only
    rw [keep_A_0, keep_A_1]
    refine ⟨Eq.trans ?_ (wa_apply m c ⟨0, hn⟩ k e), Eq.trans ?_ (wb_apply m c ⟨0, hn⟩ k e)⟩
    · unfold k0_pay16; pointwise
    · unfold k0_pay17; pointwise
  | succ n ih =>
    intro hn k e
    have ih := ih (Nat.lt_of_succ_lt hn) k e
    by_cases h0 : (n + 1) % 12 = 0
    · rw [outsAt0_A m c ⟨n + 1, hn⟩ h0 (by show (n + 1) % 12 ≤ 7; omega)]
      dsimp only
      rw [keep_A_0, keep_A_1]
      refine ⟨Eq.trans ?_ (wa_apply m c ⟨n + 1, hn⟩ k e), Eq.trans ?_ (wb_apply m c ⟨n + 1, hn⟩ k e)⟩
      · unfold k0_pay16; pointwise
      · unfold k0_pay17; pointwise
    · have hd : (n + 1) / 12 = n / 12 := by omega
      rw [hd]
      by_cases h1 : (n + 1) % 12 ≤ 7
      · rw [outsAt0_B m c ⟨n + 1, hn⟩ h0 h1]
        exact ih
      · rw [outsAt0_C m c ⟨n + 1, hn⟩ h0 h1]
        exact ih

/-- What the array holds. -/
def G7 (c : Dev nD) : Buf (Elt Ideal) ((c : Thread nD τ).loc main_v1) :=
  fun i : S12288x5632.Idx => upAct (hid m c) (wUp m c) (taps m c) (bias m c) (i 0).val (i 1).val

/-- One half of the convolution of a block is the array's. -/
theorem conv_eq (h : FVec Ideal S12288x2048 .bf16) (w : FVec Ideal S2x2048x11264 .f32) (cw : FVec Ideal S2x3x11264 .f32) (cb : FVec Ideal S2x11264 .f32)
    (q f : Nat) (r : Fin 1024) (L : Nat) (hL : L = seqLen (q * 1024 + r.val)) (u : Fin 1024 → EReal) (w0 w1 w2 b : EReal)
    (hu : ∀ r : Fin 1024, u r = upRow h w (q * 1024 + r.val) f) (h0 : w0 = at3 cw 1 0 f) (h1 : w1 = at3 cw 1 1 f) (h2 : w2 = at3 cw 1 2 f)
    (hb : b = at2 cb 1 f) : conv3 L u w0 w1 w2 b r = upConv h w cw cb (q * 1024 + r.val) f := by
  subst h0; subst h1; subst h2; subst hb
  have hr := r.isLt
  have hL' : L = 256 ∨ L = 1024 := by rw [hL]; unfold seqLen; split <;> simp
  have e0 : r.val % L = (q * 1024 + r.val) % L := by rcases hL' with rfl | rfl <;> omega
  have e1 : (r.val + 1) % L = (q * 1024 + r.val + 1) % L := by rcases hL' with rfl | rfl <;> omega
  unfold conv3 upConv
  rw [← hL, ← e0, ← e1, hu r]
  have p : ¬r.val % L = 0 → u (prev r) = upRow h w (q * 1024 + r.val - 1) f := fun hh => by
    rw [hu]; refine congrArg (fun z => upRow h w z f) ?_
    show q * 1024 + (r.val + 1023) % 1024 = _
    rcases hL' with rfl | rfl <;> omega
  have n : ¬(r.val + 1) % L = 0 → u (next r) = upRow h w (q * 1024 + r.val + 1) f := fun hh => by
    rw [hu]; refine congrArg (fun z => upRow h w z f) ?_
    show q * 1024 + (r.val + 1) % 1024 = _
    rcases hL' with rfl | rfl <;> omega
  by_cases c0 : r.val % L = 0
  · rw [if_pos c0, if_pos c0]
    by_cases c1 : (r.val + 1) % L = 0
    · rw [if_pos c1, if_pos c1]
    · rw [if_neg c1, if_neg c1, n c1]
  · rw [if_neg c0, if_neg c0, p c0]
    by_cases c1 : (r.val + 1) % L = 0
    · rw [if_pos c1, if_pos c1]
    · rw [if_neg c1, if_neg c1, n c1]

theorem block_eq (c : Dev nD) (t : Fin cfg0.N) (L : Nat) (wa wb : FVec Ideal S2048x512 .bf16) (r : Fin 1024) (e : Fin 512)
    (hL : L = seqLen (t.val % 12 * 1024 + r.val))
    (ha : ∀ k, wa (ix2 k e) = at3 (wUp m c) 1 k.val (t.val / 12 * 512 + e.val))
    (hb : ∀ k, wb (ix2 k e) = at3 (wUp m c) 1 k.val (5632 + (t.val / 12 * 512 + e.val))) :
    blockUp (iblk m c 0 t) wa wb (iblk m c 3 t) (iblk m c 4 t) (iblk m c 5 t) (iblk m c 6 t) L r e
      = upAct (hid m c) (wUp m c) (taps m c) (bias m c) (t.val % 12 * 1024 + r.val) (t.val / 12 * 512 + e.val) := by
  unfold blockUp upAct
  rw [half_a, half_b]
  congr 1
  · refine conv_eq _ _ _ _ _ _ r L hL _ _ _ _ _ (fun r => Finset.sum_congr rfl fun k _ => ?_) (ta_apply m c t 0 e) (ta_apply m c t 1 e) (ta_apply m c t 2 e) (ba_apply m c t e)
    rw [h_apply, ha]
  · refine conv_eq _ _ _ _ _ _ r L hL _ _ _ _ _ (fun r => Finset.sum_congr rfl fun k _ => ?_) (tb_apply m c t 0 e) (tb_apply m c t 1 e) (tb_apply m c t 2 e) (bb_apply m c t e)
    rw [h_apply, hb]

/-- Point `t`'s block of the array. -/
theorem point (c : Dev nD) (t : Fin cfg0.N) (r : Fin 1024) (e : Fin 512) : (outsAt0 m c t.val t.isLt).1 (ix2 r e)
    = upAct (hid m c) (wUp m c) (taps m c) (bias m c) (t.val % 12 * 1024 + r.val) (t.val / 12 * 512 + e.val) := by
  have hr := r.isLt
  by_cases h0 : t.val % 12 = 0
  · rw [outsAt0_A m c t h0 (by omega)]
    dsimp only
    rw [out_A]
    refine block_eq m c t 256 _ _ r e ?_ (fun k => ?_) (fun k => ?_)
    · unfold seqLen; rw [if_pos (by omega)]
    · refine Eq.trans ?_ (wa_apply m c t k e); unfold k0_pay16; pointwise
    · refine Eq.trans ?_ (wb_apply m c t k e); unfold k0_pay17; pointwise
  · have hlt : t.val - 1 < cfg0.N := Nat.lt_of_le_of_lt (Nat.sub_le _ _) t.isLt
    have hd : (t.val - 1) / 12 = t.val / 12 := by omega
    have hk := fun k => keep m c (t.val - 1) hlt k e
    rw [hd] at hk
    by_cases h1 : t.val % 12 ≤ 7
    · rw [outsAt0_B m c t h0 h1]
      dsimp only
      rw [out_B]
      refine block_eq m c t 256 _ _ r e ?_ (fun k => (hk k).1) (fun k => (hk k).2)
      unfold seqLen; rw [if_pos (by omega)]
    · rw [outsAt0_C m c t h0 h1]
      dsimp only
      rw [out_C]
      refine block_eq m c t 1024 _ _ r e ?_ (fun k => (hk k).1) (fun k => (hk k).2)
      unfold seqLen; rw [if_neg (by omega)]

theorem flush7 (c : Dev nD) (t : Fin cfg0.N) : (dats m 0 c).flushed 7 t = ((cfg0.win 7).blk t).view.read (Elt Ideal) (G7 m c) := by
  rw [Cert.Kernel3Ideal.Value.flushed7]
  funext y
  rw [View.read_apply]
  obtain ⟨r, e, rfl⟩ : ∃ (r : Fin 1024) (e : Fin 512), y = ix2 r e := ⟨y 0, y 1, by funext a; fin_cases a <;> rfl⟩
  refine (point m c t r e).trans ?_
  have e7 := (idx t).2.2.2.2.2.2.2
  have hi0 : ((((cfg0.win 7).blk t).view.emb (ix2 r e) : S12288x5632.Idx) 0).val = t.val % 12 * 1024 + r.val := by
    show win0_7.index t 0 * 1024 + 1 * r.val = _; rw [e7]; simp
  have hi1 : ((((cfg0.win 7).blk t).view.emb (ix2 r e) : S12288x5632.Idx) 1).val = t.val / 12 * 512 + e.val := by
    show win0_7.index t 1 * 512 + 1 * e.val = _; rw [e7]; simp
  show _ = upAct (hid m c) (wUp m c) (taps m c) (bias m c) ((((cfg0.win 7).blk t).view.emb (ix2 r e) : S12288x5632.Idx) 0).val
    ((((cfg0.win 7).blk t).view.emb (ix2 r e) : S12288x5632.Idx) 1).val
  rw [hi0, hi1]

/-- Every point writes back. -/
theorem fl : ∀ t : Fin cfg0.N, (cfg0.win 7).flush t = true :=
  (by decide +kernel : ∀ t : Fin grid0.N, _)

theorem final7 (c : Dev nD) (i : S12288x5632.Idx) : (dats m 0 c).arrAt 7 cfg0.N i = G7 m c i := by
  have h0 : (i 0).val < 12288 := (i 0).isLt
  have h1 : (i 1).val < 5632 := (i 1).isLt
  have hN : cfg0.N = 132 := by decide
  let t : Fin cfg0.N := ⟨(i 1).val / 512 * 12 + (i 0).val / 1024, by rw [hN]; omega⟩
  refine (dats m 0 c).arrAt_apply_of_mem 7 (G7 m c) (fun t _ => flush7 m c t) cfg0.N t i t.isLt (fl t) ?_
  show i ∈ ((View.whole main_v1).slice (win0_7.rect t)).set
  rw [View.set_slice_whole, Rect.mem_set_unit]
  intro a
  have e := (idx t).2.2.2.2.2.2.2
  have ht : t.val = (i 1).val / 512 * 12 + (i 0).val / 1024 := rfl
  fin_cases a
  · show win0_7.index t 0 * 1024 ≤ (i 0).val ∧ (i 0).val < win0_7.index t 0 * 1024 + 1024
    rw [e]; show t.val % 12 * 1024 ≤ _ ∧ _ < t.val % 12 * 1024 + 1024; omega
  · show win0_7.index t 1 * 512 ≤ (i 1).val ∧ (i 1).val < win0_7.index t 1 * 512 + 512
    rw [e]; show t.val / 12 * 512 ≤ _ ∧ _ < t.val / 12 * 512 + 512; omega

end Cert.Kernel3Ideal.Up

end
-- ==== Proof.Up.Reference.lean ====
/-
  What the up projection's reference computes, element by element: the product, its convolution along each sequence, and
  the gated unit, for the prompts' tokens and for the sequences' tokens.
-/
module

public import proofs.«01_k».proof.Proof.Up.Array
public import proofs.«01_k».proof.Proof.Gen.Reference3Ideal.Run
public import proofs.«01_k».proof.Proof.Gen.Reference3Ideal.Read
public import Idealize.ShloMosaic.Lib.KernelVsHost

@[expose] public section

set_option maxRecDepth 16384

noncomputable section

namespace Cert.Reference3Ideal.Up

open Idealize.ShloMosaic Idealize.ShloMosaic.TcCoe Idealize.SL.Sem
open Cert.Reference3Ideal Cert.Reference3Ideal.Gen Cert.Reference3Ideal.Read Cert.Layer

variable (h : FVec Ideal S12288x2048 .bf16) (w : FVec Ideal S2x2048x11264 .f32) (cw : FVec Ideal S2x3x11264 .f32)
    (cb : FVec Ideal S2x11264 .f32)

theorem h_a (b : Fin 32) (r : Fin 256) (k : Fin 2048) :
    val_main_v4 (F := Ideal) h (ix3 b r k) = at2 h (b.val * 256 + r.val) k.val := by
  rw [val_main_v4_apply, val_main_v1_apply, val_main_v0_apply]
  refine at2_eq h _ _ _ ?_ ?_
  · show ((b.val * 256 + r.val) * 2048 + k.val) / 2048 = _; omega
  · show ((b.val * 256 + r.val) * 2048 + k.val) % 2048 = _; omega

theorem w_a (k : Fin 2048) (f : Fin 11264) : val_main_v6 (F := Ideal) w (ix2 k f) = at3 w 1 k.val f.val := by
  rw [val_main_v6_apply, val_main_v5_apply]
  refine at3_eq w _ _ _ _ rfl ?_ ?_
  · show (k.val * 11264 + f.val) / 11264 % 2048 = _; omega
  · show (k.val * 11264 + f.val) % 11264 = _; omega

theorem row_a (b : Fin 32) (r : Fin 256) (f : Fin 11264) :
    val_main_v7 (F := Ideal) h w (ix3 b r f) = upRow h w (b.val * 256 + r.val) f.val := by
  rw [val_main_v7_apply]
  unfold upRow
  refine Finset.sum_congr rfl fun k _ => ?_
  have el : lidx_main_v7 (ix3 b r f) k = ix3 b r k := funext fun a => by fin_cases a <;> rfl
  have er : ridx_main_v7 (ix3 b r f) k = ix2 k f := funext fun a => by fin_cases a <;> rfl
  rw [el, er, h_a, w_a]

/-- The padded product: zero on the two rows that the padding adds. -/
theorem pad_a (b : Fin 32) (p : Fin 258) (f : Fin 11264) : val_main_v8 (F := Ideal) h w (ix3 b p f)
    = if p.val = 0 ∨ p.val = 257 then 0 else upRow h w ((b.val * 256 + (p.val - 1))) f.val := by
  have hp := p.isLt
  unfold val_main_v8
  by_cases c : p.val = 0 ∨ p.val = 257
  · rw [if_pos c]
    have z : val_main_call0_v0 (F := Ideal) (Shape.Idx.first h_S_) = 0 := by
      show (((0#32).toInt : ℝ) : EReal) = 0
      simp
    refine (pad_apply_of_not_inside _ _ _ _ _ _ _ _ (1 : Fin 3) ?_).trans z
    show ¬(1 ≤ p.val ∧ (p.val - 1) % 1 = 0 ∧ (p.val - 1) / 1 < 256)
    omega
  · rw [if_neg c]
    refine (pad_apply_of_inside _ _ _ _ _ _ _ _ (ix3 b ⟨p.val - 1, by omega⟩ f) ?_).trans (row_a h w b ⟨p.val - 1, by omega⟩ f)
    intro a
    fin_cases a
    · show b.val = 0 + b.val * 1; omega
    · show p.val = 1 + (p.val - 1) * 1; omega
    · show f.val = 0 + f.val * 1; omega

theorem tap0_a (b : Fin 32) (r : Fin 256) (f : Fin 11264) : val_main_v13 (F := Ideal) cw (ix3 b r f) = at3 cw 1 0 f.val := by
  rw [val_main_v13_apply, val_main_v12_apply, val_main_v11_apply, val_main_v10_apply]
  refine at3_eq cw _ _ _ _ rfl rfl ?_
  show f.val % 11264 = _; omega

theorem tap1_a (b : Fin 32) (r : Fin 256) (f : Fin 11264) : val_main_v21 (F := Ideal) cw (ix3 b r f) = at3 cw 1 1 f.val := by
  rw [val_main_v21_apply, val_main_v20_apply, val_main_v19_apply, val_main_v18_apply]
  refine at3_eq cw _ _ _ _ rfl rfl ?_
  show f.val % 11264 = _; omega

theorem tap2_a (b : Fin 32) (r : Fin 256) (f : Fin 11264) : val_main_v28 (F := Ideal) cw (ix3 b r f) = at3 cw 1 2 f.val := by
  rw [val_main_v28_apply, val_main_v27_apply, val_main_v26_apply, val_main_v25_apply]
  refine at3_eq cw _ _ _ _ rfl rfl ?_
  show f.val % 11264 = _; omega

theorem bias_a (b : Fin 32) (r : Fin 256) (f : Fin 11264) : val_main_v34 (F := Ideal) cb (ix3 b r f) = at2 cb 1 f.val := by
  rw [val_main_v34_apply, val_main_v33_apply, val_main_v32_apply, val_main_v31_apply]
  refine at2_eq cb _ _ _ rfl ?_
  show f.val % 11264 = _; omega

/-- The convolution of one sequence's rows. -/
theorem conv_a (b : Fin 32) (r : Fin 256) (f : Fin 11264) :
    val_main_v35 (F := Ideal) h w cw cb (ix3 b r f) = upConv h w cw cb (b.val * 256 + r.val) f.val := by
  have hr := r.isLt
  have hb := b.isLt
  have hL : seqLen (b.val * 256 + r.val) = 256 := by unfold seqLen; rw [if_pos (by omega)]
  have p0 : val_main_v9 (F := Ideal) h w (ix3 b r f) = if r.val = 0 then 0 else upRow h w (b.val * 256 + r.val - 1) f.val := by
    rw [val_main_v9_apply]
    have e : idx_main_v9 (ix3 b r f) = ix3 b (⟨r.val, by omega⟩ : Fin 258) f := by funext a; fin_cases a <;> rfl
    rw [e, pad_a]
    by_cases c : r.val = 0
    · rw [if_pos c, if_pos (Or.inl c)]
    · rw [if_neg c, if_neg (by show ¬(r.val = 0 ∨ r.val = 257); omega)]
      refine congrArg (fun q => upRow h w q f.val) ?_
      show (b.val * 256 + (r.val - 1)) = _; omega
  have p1 : val_main_v17 (F := Ideal) h w (ix3 b r f) = upRow h w (b.val * 256 + r.val) f.val := by
    rw [val_main_v17_apply]
    have e : idx_main_v17 (ix3 b r f) = ix3 b (⟨1 + r.val, by omega⟩ : Fin 258) f := by funext a; fin_cases a <;> rfl
    rw [e, pad_a, if_neg (by show ¬(1 + r.val = 0 ∨ 1 + r.val = 257); omega)]
    refine congrArg (fun q => upRow h w q f.val) ?_
    show (b.val * 256 + (1 + r.val - 1)) = _; omega
  have p2 : val_main_v24 (F := Ideal) h w (ix3 b r f) = if r.val + 1 = 256 then 0 else upRow h w (b.val * 256 + r.val + 1) f.val := by
    rw [val_main_v24_apply]
    have e : idx_main_v24 (ix3 b r f) = ix3 b (⟨2 + r.val, by omega⟩ : Fin 258) f := by funext a; fin_cases a <;> rfl
    rw [e, pad_a]
    by_cases c : r.val + 1 = 256
    · rw [if_pos c, if_pos (by show 2 + r.val = 0 ∨ 2 + r.val = 257; omega)]
    · rw [if_neg c, if_neg (by show ¬(2 + r.val = 0 ∨ 2 + r.val = 257); omega)]
      refine congrArg (fun q => upRow h w q f.val) ?_
      show (b.val * 256 + (2 + r.val - 1)) = _; omega
  rw [val_main_v35_apply, val_main_v30_apply, val_main_v23_apply, val_main_v16_apply, val_main_v14_apply, val_main_v22_apply, val_main_v29_apply, p0, p1, p2,
    tap0_a, tap1_a, tap2_a, bias_a]
  have z : val_main_v15 (F := Ideal) (ix3 b r f) = 0 := Ideal.ofBits_zero_f32
  rw [z]
  unfold upConv
  rw [hL]
  show (0 : EReal) + _ * _ + _ + _ * _ + _ = _
  rw [zero_add]
  have c0 : ((b.val * 256 + r.val) % 256 = 0) = (r.val = 0) := propext (by omega)
  have c1 : ((b.val * 256 + r.val + 1) % 256 = 0) = (r.val + 1 = 256) := propext (by omega)
  simp only [c0, c1]
  by_cases d0 : r.val = 0
  · simp only [if_pos d0]
    rw [zero_mul]
    by_cases d1 : r.val + 1 = 256
    · simp only [if_pos d1]; rw [zero_mul]; rfl
    · simp only [if_neg d1]; rfl
  · simp only [if_neg d0]
    by_cases d1 : r.val + 1 = 256
    · simp only [if_pos d1]; rw [zero_mul]; rfl
    · simp only [if_neg d1]; rfl

theorem act_a (b : Fin 32) (r : Fin 256) (e : Fin 5632) :
    val_main_v40 (F := Ideal) h w cw cb (ix3 b r e) = upAct h w cw cb (b.val * 256 + r.val) e.val := by
  have he := e.isLt
  rw [val_main_v40_apply, val_main_v39_apply, val_main_v37_apply, val_main_call1_v5_apply, val_main_call1_v3_apply, val_main_call1_v1_apply, val_main_call1_v0_apply,
    val_main_v38_apply, val_main_v36_apply]
  have e0 : idx_main_v36 (ix3 b r e) = ix3 b r (⟨e.val, by omega⟩ : Fin 11264) := by funext a; fin_cases a <;> rfl
  have e1 : idx_main_v38 (ix3 b r e) = ix3 b r (⟨5632 + e.val, by omega⟩ : Fin 11264) := by funext a; fin_cases a <;> rfl
  have o2 : val_main_call1_v2 (F := Ideal) (ix3 b r e) = 1 := Ideal.ofBits_one_f32
  have o4 : val_main_call1_v4 (F := Ideal) (ix3 b r e) = 1 := Ideal.ofBits_one_f32
  rw [e0, e1, o2, o4, conv_a, conv_a]
  rfl

theorem h_b (b : Fin 4) (r : Fin 1024) (k : Fin 2048) :
    val_main_v41 (F := Ideal) h (ix3 b r k) = at2 h (8192 + (b.val * 1024 + r.val)) k.val := by
  rw [val_main_v41_apply, val_main_v3_apply, val_main_v2_apply]
  refine at2_eq h _ _ _ ?_ ?_
  · show 8192 + ((b.val * 1024 + r.val) * 2048 + k.val) / 2048 = _; omega
  · show ((b.val * 1024 + r.val) * 2048 + k.val) % 2048 = _; omega

theorem w_b (k : Fin 2048) (f : Fin 11264) : val_main_v43 (F := Ideal) w (ix2 k f) = at3 w 1 k.val f.val := by
  rw [val_main_v43_apply, val_main_v42_apply]
  refine at3_eq w _ _ _ _ rfl ?_ ?_
  · show (k.val * 11264 + f.val) / 11264 % 2048 = _; omega
  · show (k.val * 11264 + f.val) % 11264 = _; omega

theorem row_b (b : Fin 4) (r : Fin 1024) (f : Fin 11264) :
    val_main_v44 (F := Ideal) h w (ix3 b r f) = upRow h w (8192 + (b.val * 1024 + r.val)) f.val := by
  rw [val_main_v44_apply]
  unfold upRow
  refine Finset.sum_congr rfl fun k _ => ?_
  have el : lidx_main_v44 (ix3 b r f) k = ix3 b r k := funext fun a => by fin_cases a <;> rfl
  have er : ridx_main_v44 (ix3 b r f) k = ix2 k f := funext fun a => by fin_cases a <;> rfl
  rw [el, er, h_b, w_b]

/-- The padded product: zero on the two rows that the padding adds. -/
theorem pad_b (b : Fin 4) (p : Fin 1026) (f : Fin 11264) : val_main_v45 (F := Ideal) h w (ix3 b p f)
    = if p.val = 0 ∨ p.val = 1025 then 0 else upRow h w (8192 + (b.val * 1024 + (p.val - 1))) f.val := by
  have hp := p.isLt
  unfold val_main_v45
  by_cases c : p.val = 0 ∨ p.val = 1025
  · rw [if_pos c]
    have z : val_main_call2_v0 (F := Ideal) (Shape.Idx.first h_S_) = 0 := by
      show (((0#32).toInt : ℝ) : EReal) = 0
      simp
    refine (pad_apply_of_not_inside _ _ _ _ _ _ _ _ (1 : Fin 3) ?_).trans z
    show ¬(1 ≤ p.val ∧ (p.val - 1) % 1 = 0 ∧ (p.val - 1) / 1 < 1024)
    omega
  · rw [if_neg c]
    refine (pad_apply_of_inside _ _ _ _ _ _ _ _ (ix3 b ⟨p.val - 1, by omega⟩ f) ?_).trans (row_b h w b ⟨p.val - 1, by omega⟩ f)
    intro a
    fin_cases a
    · show b.val = 0 + b.val * 1; omega
    · show p.val = 1 + (p.val - 1) * 1; omega
    · show f.val = 0 + f.val * 1; omega

theorem tap0_b (b : Fin 4) (r : Fin 1024) (f : Fin 11264) : val_main_v50 (F := Ideal) cw (ix3 b r f) = at3 cw 1 0 f.val := by
  rw [val_main_v50_apply, val_main_v49_apply, val_main_v48_apply, val_main_v47_apply]
  refine at3_eq cw _ _ _ _ rfl rfl ?_
  show f.val % 11264 = _; omega

theorem tap1_b (b : Fin 4) (r : Fin 1024) (f : Fin 11264) : val_main_v58 (F := Ideal) cw (ix3 b r f) = at3 cw 1 1 f.val := by
  rw [val_main_v58_apply, val_main_v57_apply, val_main_v56_apply, val_main_v55_apply]
  refine at3_eq cw _ _ _ _ rfl rfl ?_
  show f.val % 11264 = _; omega

theorem tap2_b (b : Fin 4) (r : Fin 1024) (f : Fin 11264) : val_main_v65 (F := Ideal) cw (ix3 b r f) = at3 cw 1 2 f.val := by
  rw [val_main_v65_apply, val_main_v64_apply, val_main_v63_apply, val_main_v62_apply]
  refine at3_eq cw _ _ _ _ rfl rfl ?_
  show f.val % 11264 = _; omega

theorem bias_b (b : Fin 4) (r : Fin 1024) (f : Fin 11264) : val_main_v71 (F := Ideal) cb (ix3 b r f) = at2 cb 1 f.val := by
  rw [val_main_v71_apply, val_main_v70_apply, val_main_v69_apply, val_main_v68_apply]
  refine at2_eq cb _ _ _ rfl ?_
  show f.val % 11264 = _; omega

/-- The convolution of one sequence's rows. -/
theorem conv_b (b : Fin 4) (r : Fin 1024) (f : Fin 11264) :
    val_main_v72 (F := Ideal) h w cw cb (ix3 b r f) = upConv h w cw cb (8192 + (b.val * 1024 + r.val)) f.val := by
  have hr := r.isLt
  have hb := b.isLt
  have hL : seqLen (8192 + (b.val * 1024 + r.val)) = 1024 := by unfold seqLen; rw [if_neg (by omega)]
  have p0 : val_main_v46 (F := Ideal) h w (ix3 b r f) = if r.val = 0 then 0 else upRow h w (8192 + (b.val * 1024 + r.val) - 1) f.val := by
    rw [val_main_v46_apply]
    have e : idx_main_v46 (ix3 b r f) = ix3 b (⟨r.val, by omega⟩ : Fin 1026) f := by funext a; fin_cases a <;> rfl
    rw [e, pad_b]
    by_cases c : r.val = 0
    · rw [if_pos c, if_pos (Or.inl c)]
    · rw [if_neg c, if_neg (by show ¬(r.val = 0 ∨ r.val = 1025); omega)]
      refine congrArg (fun q => upRow h w q f.val) ?_
      show 8192 + (b.val * 1024 + (r.val - 1)) = _; omega
  have p1 : val_main_v54 (F := Ideal) h w (ix3 b r f) = upRow h w (8192 + (b.val * 1024 + r.val)) f.val := by
    rw [val_main_v54_apply]
    have e : idx_main_v54 (ix3 b r f) = ix3 b (⟨1 + r.val, by omega⟩ : Fin 1026) f := by funext a; fin_cases a <;> rfl
    rw [e, pad_b, if_neg (by show ¬(1 + r.val = 0 ∨ 1 + r.val = 1025); omega)]
    refine congrArg (fun q => upRow h w q f.val) ?_
    show 8192 + (b.val * 1024 + (1 + r.val - 1)) = _; omega
  have p2 : val_main_v61 (F := Ideal) h w (ix3 b r f) = if r.val + 1 = 1024 then 0 else upRow h w (8192 + (b.val * 1024 + r.val) + 1) f.val := by
    rw [val_main_v61_apply]
    have e : idx_main_v61 (ix3 b r f) = ix3 b (⟨2 + r.val, by omega⟩ : Fin 1026) f := by funext a; fin_cases a <;> rfl
    rw [e, pad_b]
    by_cases c : r.val + 1 = 1024
    · rw [if_pos c, if_pos (by show 2 + r.val = 0 ∨ 2 + r.val = 1025; omega)]
    · rw [if_neg c, if_neg (by show ¬(2 + r.val = 0 ∨ 2 + r.val = 1025); omega)]
      refine congrArg (fun q => upRow h w q f.val) ?_
      show 8192 + (b.val * 1024 + (2 + r.val - 1)) = _; omega
  rw [val_main_v72_apply, val_main_v67_apply, val_main_v60_apply, val_main_v53_apply, val_main_v51_apply, val_main_v59_apply, val_main_v66_apply, p0, p1, p2,
    tap0_b, tap1_b, tap2_b, bias_b]
  have z : val_main_v52 (F := Ideal) (ix3 b r f) = 0 := Ideal.ofBits_zero_f32
  rw [z]
  unfold upConv
  rw [hL]
  show (0 : EReal) + _ * _ + _ + _ * _ + _ = _
  rw [zero_add]
  have c0 : ((8192 + (b.val * 1024 + r.val)) % 1024 = 0) = (r.val = 0) := propext (by omega)
  have c1 : ((8192 + (b.val * 1024 + r.val) + 1) % 1024 = 0) = (r.val + 1 = 1024) := propext (by omega)
  simp only [c0, c1]
  by_cases d0 : r.val = 0
  · simp only [if_pos d0]
    rw [zero_mul]
    by_cases d1 : r.val + 1 = 1024
    · simp only [if_pos d1]; rw [zero_mul]; rfl
    · simp only [if_neg d1]; rfl
  · simp only [if_neg d0]
    by_cases d1 : r.val + 1 = 1024
    · simp only [if_pos d1]; rw [zero_mul]; rfl
    · simp only [if_neg d1]; rfl

theorem act_b (b : Fin 4) (r : Fin 1024) (e : Fin 5632) :
    val_main_v77 (F := Ideal) h w cw cb (ix3 b r e) = upAct h w cw cb (8192 + (b.val * 1024 + r.val)) e.val := by
  have he := e.isLt
  rw [val_main_v77_apply, val_main_v76_apply, val_main_v74_apply, val_main_call3_v5_apply, val_main_call3_v3_apply, val_main_call3_v1_apply, val_main_call3_v0_apply,
    val_main_v75_apply, val_main_v73_apply]
  have e0 : idx_main_v73 (ix3 b r e) = ix3 b r (⟨e.val, by omega⟩ : Fin 11264) := by funext a; fin_cases a <;> rfl
  have e1 : idx_main_v75 (ix3 b r e) = ix3 b r (⟨5632 + e.val, by omega⟩ : Fin 11264) := by funext a; fin_cases a <;> rfl
  have o2 : val_main_call3_v2 (F := Ideal) (ix3 b r e) = 1 := Ideal.ofBits_one_f32
  have o4 : val_main_call3_v4 (F := Ideal) (ix3 b r e) = 1 := Ideal.ofBits_one_f32
  rw [e0, e1, o2, o4, conv_b, conv_b]
  rfl

/-- The prompts' rows, then the sequences' rows. -/
theorem rows (n : Fin 12288) (e : Fin 5632) : val_main_v80 (F := Ideal) h w cw cb (ix2 n e) = upAct h w cw cb n.val e.val := by
  have ha : ∀ n : Fin 8192, val_main_v78 (F := Ideal) h w cw cb (ix2 n e) = upAct h w cw cb (n.val) e.val := by
    intro n
    have hn := n.isLt
    have he := e.isLt
    rw [val_main_v78_apply]
    have ei : idx_main_v78 (ix2 n e) = ix3 (⟨n.val / 256, by omega⟩ : Fin 32) (⟨n.val % 256, by omega⟩ : Fin 256) e := by
      funext a
      fin_cases a
      · exact Fin.ext (by show (n.val * 5632 + e.val) / 1441792 = n.val / 256; omega)
      · exact Fin.ext (by show (n.val * 5632 + e.val) / 5632 % 256 = n.val % 256; omega)
      · exact Fin.ext (by show (n.val * 5632 + e.val) % 5632 = e.val; omega)
    rw [ei, act_a]
    refine congrArg (fun q => upAct h w cw cb q e.val) ?_
    show n.val / 256 * 256 + n.val % 256 = n.val; omega
  have hb : ∀ n : Fin 4096, val_main_v79 (F := Ideal) h w cw cb (ix2 n e) = upAct h w cw cb (8192 + n.val) e.val := by
    intro n
    have hn := n.isLt
    have he := e.isLt
    rw [val_main_v79_apply]
    have ei : idx_main_v79 (ix2 n e) = ix3 (⟨n.val / 1024, by omega⟩ : Fin 4) (⟨n.val % 1024, by omega⟩ : Fin 1024) e := by
      funext a
      fin_cases a
      · exact Fin.ext (by show (n.val * 5632 + e.val) / 5767168 = n.val / 1024; omega)
      · exact Fin.ext (by show (n.val * 5632 + e.val) / 5632 % 1024 = n.val % 1024; omega)
      · exact Fin.ext (by show (n.val * 5632 + e.val) % 5632 = e.val; omega)
    rw [ei, act_b]
    refine congrArg (fun q => upAct h w cw cb q e.val) ?_
    show 8192 + (n.val / 1024 * 1024 + n.val % 1024) = 8192 + n.val; omega
  have hn := n.isLt
  unfold val_main_v80
  revert ha hb
  generalize val_main_v78 (F := Ideal) h w cw cb = Y
  generalize val_main_v79 (F := Ideal) h w cw cb = Z
  intro ha hb
  pointwise
  by_cases c : n.val < 8192
  · exact (dif_pos c).trans (ha ⟨n.val, c⟩)
  · refine (dif_neg c).trans ?_
    refine (hb ⟨n.val - 8192, by omega⟩).trans ?_
    refine congrArg (fun q => upAct h w cw cb q e.val) ?_
    show 8192 + (n.val - 8192) = n.val; omega

end Cert.Reference3Ideal.Up

end
-- ==== Proof.Up.Equation.lean ====
/-
  The up projection and its reference end with equal arrays.
-/
module

public import proofs.«01_k».proof.Defs
public import proofs.«01_k».proof.Proof.Up.Reference

@[expose] public section

set_option maxRecDepth 16384

noncomputable section

namespace Cert.Up

open Idealize.ShloMosaic Idealize.ShloMosaic.TcCoe Idealize.SL.Sem
open Cert.Kernel3Ideal.Up (hid wUp taps bias)
open Cert.Reference3Ideal.Read (val_main_v80)

variable (m : (ℓ : Loc Cert.Kernel3Ideal.nD Cert.Kernel3Ideal.τ Cert.Kernel3Ideal.sig) → Buf (Elt Ideal) ℓ)

theorem act_eq (c : Dev Cert.Kernel3Ideal.nD) :
    Cert.Kernel3Ideal.Up.G7 m c = val_main_v80 (F := Ideal) (hid m c) (wUp m c) (taps m c) (bias m c) := by
  funext i
  obtain ⟨n, e, rfl⟩ : ∃ (n : Fin 12288) (e : Fin 5632), i = ix2 n e := ⟨i 0, i 1, by funext a; fin_cases a <;> rfl⟩
  exact (Cert.Reference3Ideal.Up.rows _ _ _ _ n e).symm

theorem algebraic : Cert.algebraic_Kernel3Ideal_Reference3Ideal := by
  intro m g m' g' hpre hagree
  refine ⟨fun c => val_main_v80 (F := Ideal) (hid m c) (wUp m c) (taps m c) (bias m c), ?_, ?_⟩
  · refine (θ_run _ _ _).mono (fun r h c => ⟨?_, (h c).2⟩) (Cert.Kernel3Ideal.Value.run_blocks m g)
    exact (h c).1.trans ((funext fun i => Cert.Kernel3Ideal.Up.final7 m c i).trans (act_eq m c))
  · refine (θ_run _ _ _).mono (fun r h c => ⟨?_, (h c).2⟩) (Cert.Reference3Ideal.Value.run m' g')
    obtain ⟨h0, h1, h2, h3⟩ := hagree c
    refine (h c).1.trans ((Cert.Reference3Ideal.Read.val_main_v80_eq _ _).trans ?_)
    rw [h0, h1, h2, h3]

end Cert.Up

end
-- ==== Proof.Down.Block.lean ====
/-
  What the down projection's body leaves in its two staging buffers at one grid point: the residual rows with the gated
  product added, and those rows normed and modulated for the next layer.
-/
module

public import proofs.«01_k».proof.Proof.Gen.Kernel4Ideal.Value
public import proofs.«01_k».proof.Proof.Layer
public import Idealize.ShloMosaic.Lib.Pointwise
public import Idealize.ShloMosaic.Lib.Pipeline.ValueKit

@[expose] public section

set_option maxRecDepth 16384

noncomputable section

namespace Cert.Kernel4Ideal.Down

open Idealize.ShloMosaic Cert.Kernel4Ideal Cert.Kernel4Ideal.Gen Cert.Layer

variable (a : Vec Ideal S256x5632 .bf16) (w : Vec Ideal S1x5632x2048 .bf16) (x : Vec Ideal S256x2048 .f32)
    (gate g shift scl : Vec Ideal S1x1x2048 .f32)

/-- Row `r` of the new residual. -/
def resB (r : Fin 256) (e : Fin 2048) : EReal :=
  x (ix2 r e) + gate (ix3 0 0 e) * ∑ k : Fin 5632, a (ix2 r k) * w (ix3 0 k e)

theorem res_apply (r : Fin 256) (e : Fin 2048) : k0_pay2 (F := Ideal) x gate a w (ix2 r e) = resB a w x gate r e := by
  unfold k0_pay2
  pointwise
  rfl

theorem norm_apply (r : Fin 256) (e : Fin 2048) :
    k0_pay1 (F := Ideal) (k0_pay3 shift) (k0_pay4 x gate a w g) (k0_pay5 scl) (ix2 r e)
      = normed (resB a w x gate r) (fun k => g (ix3 0 0 k)) (fun k => shift (ix3 0 0 k)) (fun k => scl (ix3 0 0 k)) e := by
  unfold k0_pay1 k0_pay3 k0_pay4 k0_pay5
  pointwise [res_apply]
  rfl

theorem out7_apply (r : Fin 256) (e : Fin 2048) : out0_7 (F := Ideal) a w x gate g shift scl (ix2 r e) = resB a w x gate r e := by
  unfold out0_7
  rw [View.canon_cons_unit_lit _ _ _ (by decide), View.ld_unit_lit _ _ (by decide), View.ld_unit_lit _ _ (by decide),
    View.ld_unit_lit _ _ (by decide), View.ld_unit_lit _ _ (by decide)]
  exact res_apply a w x gate r e

theorem out8_apply (r : Fin 256) (e : Fin 2048) : out0_8 (F := Ideal) a w x gate g shift scl (ix2 r e)
    = normed (resB a w x gate r) (fun k => g (ix3 0 0 k)) (fun k => shift (ix3 0 0 k)) (fun k => scl (ix3 0 0 k)) e := by
  unfold out0_8
  rw [View.canon_cons_unit_lit _ _ _ (by decide), View.ld_unit_lit _ x (by decide), View.ld_unit_lit _ a (by decide),
    View.ld_unit_lit _ w (by decide), View.ld_unit_lit _ gate (by decide), View.ld_unit_lit _ g (by decide),
    View.ld_unit_lit _ shift (by decide), View.ld_unit_lit _ scl (by decide)]
  exact norm_apply a w x gate g shift scl r e

end Cert.Kernel4Ideal.Down

end
-- ==== Proof.Down.Array.lean ====
/-
  What the down projection's two result arrays hold after the run, element by element: the residual with the gated product
  of the activations and the first layer's weights added, and that row normed and modulated for the second layer.
-/
module

public import proofs.«01_k».proof.Proof.Down.Block

@[expose] public section

set_option maxRecDepth 16384

noncomputable section

namespace Cert.Layer

open Idealize.ShloMosaic

/-- The residual after the feed-forward block of the first layer, at row `n`: the row plus its gated product. -/
def downRes (act : (⟨2, ![12288, 5632]⟩ : Shape).Idx → EReal) (w : (⟨3, ![2, 5632, 2048]⟩ : Shape).Idx → EReal)
    (x : (⟨2, ![12288, 2048]⟩ : Shape).Idx → EReal) (mod : (⟨3, ![16, 1, 12288]⟩ : Shape).Idx → EReal) (n : Nat) (e : Fin 2048) : EReal :=
  at2 x n e.val + at3 mod (condRow n) 0 (10240 + e.val) * ∑ k : Fin 5632, at2 act n k.val * at3 w 0 k.val e.val

/-- The same row normed with the second layer's gain, modulated by its shift and scale. -/
def downNorm (act : (⟨2, ![12288, 5632]⟩ : Shape).Idx → EReal) (w : (⟨3, ![2, 5632, 2048]⟩ : Shape).Idx → EReal)
    (x : (⟨2, ![12288, 2048]⟩ : Shape).Idx → EReal) (mod : (⟨3, ![16, 1, 12288]⟩ : Shape).Idx → EReal)
    (g : (⟨2, ![2, 2048]⟩ : Shape).Idx → EReal) (n : Nat) (e : Fin 2048) : EReal :=
  normed (downRes act w x mod n) (fun k => at2 g 1 k.val) (fun k => at3 mod (8 + condRow n) 0 k.val)
    (fun k => at3 mod (8 + condRow n) 0 (2048 + k.val)) e

end Cert.Layer

namespace Cert.Kernel4Ideal.Down

open Idealize.ShloMosaic Idealize.ShloMosaic.TcCoe Idealize.SL.Sem
open Idealize.ShloMosaic.Pipeline (Dat)
open Cert.Kernel4Ideal Cert.Kernel4Ideal.Gen Cert.Layer

variable (m : (ℓ : Loc nD τ sig) → Buf (Elt Ideal) ℓ)

/-- The arguments as the run finds them. -/
abbrev act (c : Dev nD) : FVec Ideal S12288x5632 .bf16 := m ((c : Thread nD τ).loc main_arg0)
abbrev wDown (c : Dev nD) : FVec Ideal S2x5632x2048 .f32 := m ((c : Thread nD τ).loc main_arg1)
abbrev xRes (c : Dev nD) : FVec Ideal S12288x2048 .f32 := m ((c : Thread nD τ).loc main_arg2)
abbrev modT (c : Dev nD) : FVec Ideal S16x1x12288 .f32 := m ((c : Thread nD τ).loc main_arg3)
abbrev gain (c : Dev nD) : FVec Ideal S2x2048 .f32 := m ((c : Thread nD τ).loc main_arg4)

/-- The weights as the call finds them: the argument's, their format changed. -/
theorem w_entry (c : Dev nD) (i : S2x5632x2048.Idx) : V m c main_v0 i = wDown m c i := by
  have : V m c main_v0 = truncf (F := Ideal) .bf16 (wDown m c) bitsLt_bf16_f32 := by
    show StableHlo.after hostOps0 _ (Proc.devRef .tc main_v0) = _
    after_results
  rw [this]; rfl

/-- The gains as the call finds them. -/
theorem g_entry (c : Dev nD) (l : Fin 2) (k : Fin 2048) : V m c main_v1 (ix3 l 0 k) = gain m c (ix2 l k) := by
  have : V m c main_v1 = shapeCast S2x1x2048 (gain m c) shapeCasts_S2x2048_S2x1x2048 := by
    show StableHlo.after hostOps0 _ (Proc.devRef .tc main_v1) = _
    after_results
    rfl
  rw [this]; pointwise

/-- The windows' block indices. -/
theorem idx : ∀ t : Fin cfg0.N, win0_0.index t = ![t.val, 0] ∧ win0_1.index t = ![0, 0, 0] ∧ win0_2.index t = ![t.val, 0]
    ∧ win0_3.index t = ![condRow (t.val * 256), 0, 5] ∧ win0_4.index t = ![1, 0, 0]
    ∧ win0_5.index t = ![8 + condRow (t.val * 256), 0, 0] ∧ win0_6.index t = ![8 + condRow (t.val * 256), 0, 1]
    ∧ win0_7.index t = ![t.val, 0] ∧ win0_8.index t = ![t.val, 0] :=
  (by decide +kernel : ∀ t : Fin grid0.N, _)

/-- The rows of one block read one row of the modulation table. -/
theorem cond_block (t r : Nat) (hr : r < 256) : condRow (t * 256 + r) = condRow (t * 256) := by
  unfold condRow
  split <;> split <;> omega

theorem act_apply (c : Dev nD) (t : Fin cfg0.N) (r : Fin 256) (k : Fin 5632) :
    iblk m c 0 t (ix2 r k) = at2 (act m c) (t.val * 256 + r.val) k.val := by
  unfold iblk
  rw [View.read_apply]
  refine (congrFun (V_main_arg0 m c) _).trans (at2_eq (act m c) _ _ _ ?_ ?_)
  · show win0_0.index t 0 * 256 + 1 * r.val = _
    rw [(idx t).1]; simp
  · show win0_0.index t 1 * 5632 + 1 * k.val = _
    rw [(idx t).1]; simp

theorem w_apply (c : Dev nD) (t : Fin cfg0.N) (k : Fin 5632) (e : Fin 2048) :
    iblk m c 1 t (ix3 0 k e) = at3 (wDown m c) 0 k.val e.val := by
  unfold iblk
  rw [View.read_apply]
  refine (w_entry m c _).trans (at3_eq (wDown m c) _ _ _ _ ?_ ?_ ?_)
  · show win0_1.index t 0 * 1 + 1 * 0 = _
    rw [(idx t).2.1]; simp
  · show win0_1.index t 1 * 5632 + 1 * k.val = _
    rw [(idx t).2.1]; simp
  · show win0_1.index t 2 * 2048 + 1 * e.val = _
    rw [(idx t).2.1]; simp

theorem x_apply (c : Dev nD) (t : Fin cfg0.N) (r : Fin 256) (e : Fin 2048) :
    iblk m c 2 t (ix2 r e) = at2 (xRes m c) (t.val * 256 + r.val) e.val := by
  unfold iblk
  rw [View.read_apply]
  refine (congrFun (V_main_arg2 m c) _).trans (at2_eq (xRes m c) _ _ _ ?_ ?_)
  · show win0_2.index t 0 * 256 + 1 * r.val = _
    rw [(idx t).2.2.1]; simp
  · show win0_2.index t 1 * 2048 + 1 * e.val = _
    rw [(idx t).2.2.1]; simp

theorem gate_apply (c : Dev nD) (t : Fin cfg0.N) (e : Fin 2048) :
    iblk m c 3 t (ix3 0 0 e) = at3 (modT m c) (condRow (t.val * 256)) 0 (10240 + e.val) := by
  unfold iblk
  rw [View.read_apply]
  refine (congrFun (V_main_arg3 m c) _).trans (at3_eq (modT m c) _ _ _ _ ?_ ?_ ?_)
  · show win0_3.index t 0 * 1 + 1 * 0 = _
    rw [(idx t).2.2.2.1]; simp
  · show win0_3.index t 1 * 1 + 1 * 0 = _
    rw [(idx t).2.2.2.1]; simp
  · show win0_3.index t 2 * 2048 + 1 * e.val = _
    rw [(idx t).2.2.2.1]; simp

theorem gain_apply (c : Dev nD) (t : Fin cfg0.N) (e : Fin 2048) :
    iblk m c 4 t (ix3 0 0 e) = at2 (gain m c) 1 e.val := by
  unfold iblk
  rw [View.read_apply]
  have h : (((cfg0.win 4).blk t).view.emb (ix3 0 0 e) : S2x1x2048.Idx) = ix3 1 0 e := by
    funext a
    have e4 := (idx t).2.2.2.2.1
    fin_cases a
    · exact Fin.ext (by show win0_4.index t 0 * 1 + 1 * 0 = 1; rw [e4]; simp)
    · exact Fin.ext (by show win0_4.index t 1 * 1 + 1 * 0 = 0; rw [e4]; simp)
    · exact Fin.ext (by show win0_4.index t 2 * 2048 + 1 * e.val = e.val; rw [e4]; simp)
  refine (congrArg (V m c main_v1) h).trans ((g_entry m c 1 e).trans (at2_eq (gain m c) _ _ _ rfl rfl))

theorem shift_apply (c : Dev nD) (t : Fin cfg0.N) (e : Fin 2048) :
    iblk m c 5 t (ix3 0 0 e) = at3 (modT m c) (8 + condRow (t.val * 256)) 0 e.val := by
  unfold iblk
  rw [View.read_apply]
  refine (congrFun (V_main_arg3 m c) _).trans (at3_eq (modT m c) _ _ _ _ ?_ ?_ ?_)
  · show win0_5.index t 0 * 1 + 1 * 0 = _
    rw [(idx t).2.2.2.2.2.1]; simp
  · show win0_5.index t 1 * 1 + 1 * 0 = _
    rw [(idx t).2.2.2.2.2.1]; simp
  · show win0_5.index t 2 * 2048 + 1 * e.val = _
    rw [(idx t).2.2.2.2.2.1]; simp

theorem scale_apply (c : Dev nD) (t : Fin cfg0.N) (e : Fin 2048) :
    iblk m c 6 t (ix3 0 0 e) = at3 (modT m c) (8 + condRow (t.val * 256)) 0 (2048 + e.val) := by
  unfold iblk
  rw [View.read_apply]
  refine (congrFun (V_main_arg3 m c) _).trans (at3_eq (modT m c) _ _ _ _ ?_ ?_ ?_)
  · show win0_6.index t 0 * 1 + 1 * 0 = _
    rw [(idx t).2.2.2.2.2.2.1]; simp
  · show win0_6.index t 1 * 1 + 1 * 0 = _
    rw [(idx t).2.2.2.2.2.2.1]; simp
  · show win0_6.index t 2 * 2048 + 1 * e.val = _
    rw [(idx t).2.2.2.2.2.2.1]; simp

/-- What the two arrays hold. -/
def G7 (c : Dev nD) : Buf (Elt Ideal) ((c : Thread nD τ).loc main_v2_0) :=
  fun i : S12288x2048.Idx => downRes (act m c) (wDown m c) (xRes m c) (modT m c) (i 0).val (i 1)
def G8 (c : Dev nD) : Buf (Elt Ideal) ((c : Thread nD τ).loc main_v2_1) :=
  fun i : S12288x2048.Idx => downNorm (act m c) (wDown m c) (xRes m c) (modT m c) (gain m c) (i 0).val (i 1)

/-- Point `t`'s residual row is the array's row. -/
theorem row_eq (c : Dev nD) (t : Fin cfg0.N) (r : Fin 256) :
    resB (iblk m c 0 t) (iblk m c 1 t) (iblk m c 2 t) (iblk m c 3 t) r
      = downRes (act m c) (wDown m c) (xRes m c) (modT m c) (t.val * 256 + r.val) := by
  funext e
  unfold resB downRes
  rw [x_apply, gate_apply, cond_block _ _ r.isLt]
  refine congrArg (fun z => _ + _ * z) (Finset.sum_congr rfl fun k _ => ?_)
  rw [act_apply, w_apply]

theorem emb7 (t : Fin cfg0.N) (r : Fin 256) (e : Fin 2048) (n : Fin 12288) (hn : n.val = t.val * 256 + r.val) :
    (((cfg0.win 7).blk t).view.emb (ix2 r e) : S12288x2048.Idx) = ix2 n e := by
  funext a
  have e7 := (idx t).2.2.2.2.2.2.2.1
  fin_cases a
  · exact Fin.ext (by show win0_7.index t 0 * 256 + 1 * r.val = n.val; rw [e7, hn]; simp)
  · exact Fin.ext (by show win0_7.index t 1 * 2048 + 1 * e.val = e.val; rw [e7]; simp)

theorem emb8 (t : Fin cfg0.N) (r : Fin 256) (e : Fin 2048) (n : Fin 12288) (hn : n.val = t.val * 256 + r.val) :
    (((cfg0.win 8).blk t).view.emb (ix2 r e) : S12288x2048.Idx) = ix2 n e := by
  funext a
  have e8 := (idx t).2.2.2.2.2.2.2.2
  fin_cases a
  · exact Fin.ext (by show win0_8.index t 0 * 256 + 1 * r.val = n.val; rw [e8, hn]; simp)
  · exact Fin.ext (by show win0_8.index t 1 * 2048 + 1 * e.val = e.val; rw [e8]; simp)

theorem flush7 (c : Dev nD) (t : Fin cfg0.N) : (dats m 0 c).flushed 7 t = ((cfg0.win 7).blk t).view.read (Elt Ideal) (G7 m c) := by
  rw [Cert.Kernel4Ideal.Value.flushed7]
  funext y
  rw [View.read_apply]
  obtain ⟨r, e, rfl⟩ : ∃ (r : Fin 256) (e : Fin 2048), y = ix2 r e := ⟨y 0, y 1, by funext a; fin_cases a <;> rfl⟩
  have hN : t.val < 48 := t.isLt
  have hr := r.isLt
  have hb : t.val * 256 + r.val < 12288 := by omega
  refine (out7_apply _ _ _ _ _ _ _ r e).trans ?_
  refine Eq.trans ?_ (congrArg (G7 m c) (emb7 t r e ⟨_, hb⟩ rfl)).symm
  exact congrFun (row_eq m c t r) e

theorem flush8 (c : Dev nD) (t : Fin cfg0.N) : (dats m 0 c).flushed 8 t = ((cfg0.win 8).blk t).view.read (Elt Ideal) (G8 m c) := by
  rw [Cert.Kernel4Ideal.Value.flushed8]
  funext y
  rw [View.read_apply]
  obtain ⟨r, e, rfl⟩ : ∃ (r : Fin 256) (e : Fin 2048), y = ix2 r e := ⟨y 0, y 1, by funext a; fin_cases a <;> rfl⟩
  have hN : t.val < 48 := t.isLt
  have hr := r.isLt
  have hb : t.val * 256 + r.val < 12288 := by omega
  refine (out8_apply _ _ _ _ _ _ _ r e).trans ?_
  refine Eq.trans ?_ (congrArg (G8 m c) (emb8 t r e ⟨_, hb⟩ rfl)).symm
  show _ = downNorm (act m c) (wDown m c) (xRes m c) (modT m c) (gain m c) (t.val * 256 + r.val) e
  unfold downNorm
  rw [row_eq, cond_block _ _ hr]
  congr 1
  · exact funext fun k => gain_apply m c t k
  · exact funext fun k => shift_apply m c t k
  · exact funext fun k => scale_apply m c t k

/-- Every point writes back. -/
theorem fl : ∀ t : Fin cfg0.N, (cfg0.win 7).flush t = true ∧ (cfg0.win 8).flush t = true :=
  (by decide +kernel : ∀ t : Fin grid0.N, _)

theorem final7 (c : Dev nD) (i : S12288x2048.Idx) : (dats m 0 c).arrAt 7 cfg0.N i = G7 m c i := by
  have h0 : (i 0).val < 12288 := (i 0).isLt
  have h1 : (i 1).val < 2048 := (i 1).isLt
  have hN : cfg0.N = 48 := by decide
  let t : Fin cfg0.N := ⟨(i 0).val / 256, by rw [hN]; omega⟩
  refine (dats m 0 c).arrAt_apply_of_mem 7 (G7 m c) (fun t _ => flush7 m c t) cfg0.N t i t.isLt (fl t).1 ?_
  show i ∈ ((View.whole main_v2_0).slice (win0_7.rect t)).set
  rw [View.set_slice_whole, Rect.mem_set_unit]
  intro a
  have e := (idx t).2.2.2.2.2.2.2.1
  fin_cases a
  · show win0_7.index t 0 * 256 ≤ (i 0).val ∧ (i 0).val < win0_7.index t 0 * 256 + 256
    rw [e]; show (i 0).val / 256 * 256 ≤ _ ∧ _ < (i 0).val / 256 * 256 + 256; omega
  · show win0_7.index t 1 * 2048 ≤ (i 1).val ∧ (i 1).val < win0_7.index t 1 * 2048 + 2048
    rw [e]; show 0 * 2048 ≤ _ ∧ _ < 0 * 2048 + 2048; omega

theorem final8 (c : Dev nD) (i : S12288x2048.Idx) : (dats m 0 c).arrAt 8 cfg0.N i = G8 m c i := by
  have h0 : (i 0).val < 12288 := (i 0).isLt
  have h1 : (i 1).val < 2048 := (i 1).isLt
  have hN : cfg0.N = 48 := by decide
  let t : Fin cfg0.N := ⟨(i 0).val / 256, by rw [hN]; omega⟩
  refine (dats m 0 c).arrAt_apply_of_mem 8 (G8 m c) (fun t _ => flush8 m c t) cfg0.N t i t.isLt (fl t).2 ?_
  show i ∈ ((View.whole main_v2_1).slice (win0_8.rect t)).set
  rw [View.set_slice_whole, Rect.mem_set_unit]
  intro a
  have e := (idx t).2.2.2.2.2.2.2.2
  fin_cases a
  · show win0_8.index t 0 * 256 ≤ (i 0).val ∧ (i 0).val < win0_8.index t 0 * 256 + 256
    rw [e]; show (i 0).val / 256 * 256 ≤ _ ∧ _ < (i 0).val / 256 * 256 + 256; omega
  · show win0_8.index t 1 * 2048 ≤ (i 1).val ∧ (i 1).val < win0_8.index t 1 * 2048 + 2048
    rw [e]; show 0 * 2048 ≤ _ ∧ _ < 0 * 2048 + 2048; omega

end Cert.Kernel4Ideal.Down

end
-- ==== Proof.Down.Reference.lean ====
/-
  What the down projection's reference computes, element by element: for the prompts' tokens and for the sequences' tokens
  the same residual and the same norm.
-/
module

public import proofs.«01_k».proof.Proof.Down.Array
public import proofs.«01_k».proof.Proof.Gen.Reference4Ideal.Run
public import proofs.«01_k».proof.Proof.Gen.Reference4Ideal.Read

@[expose] public section

set_option maxRecDepth 16384

noncomputable section

namespace Cert.Reference4Ideal.Down

open Idealize.ShloMosaic Idealize.ShloMosaic.TcCoe Idealize.SL.Sem
open Cert.Reference4Ideal Cert.Reference4Ideal.Gen Cert.Reference4Ideal.Read Cert.Layer

variable (act : FVec Ideal S12288x5632 .bf16) (w : FVec Ideal S2x5632x2048 .f32) (x : FVec Ideal S12288x2048 .f32)
    (mod : FVec Ideal S16x1x12288 .f32) (g : FVec Ideal S2x2048 .f32)

theorem act_a (b : Fin 32) (r : Fin 256) (k : Fin 5632) :
    val_main_v21 (F := Ideal) act (ix3 b r k) = at2 act (b.val * 256 + r.val) k.val := by
  rw [val_main_v21_apply, val_main_v1_apply, val_main_v0_apply]
  refine at2_eq act _ _ _ ?_ ?_
  · show ((b.val * 256 + r.val) * 5632 + k.val) / 5632 = _; omega
  · show ((b.val * 256 + r.val) * 5632 + k.val) % 5632 = _; omega

theorem x_a (b : Fin 32) (r : Fin 256) (e : Fin 2048) :
    val_main_v5 (F := Ideal) x (ix3 b r e) = at2 x (b.val * 256 + r.val) e.val := by
  rw [val_main_v5_apply, val_main_v4_apply]
  refine at2_eq x _ _ _ ?_ ?_
  · show ((b.val * 256 + r.val) * 2048 + e.val) / 2048 = _; omega
  · show ((b.val * 256 + r.val) * 2048 + e.val) % 2048 = _; omega

theorem w_a (k : Fin 5632) (e : Fin 2048) : val_main_v23 (F := Ideal) w (ix2 k e) = at3 w 0 k.val e.val := by
  rw [val_main_v23_apply, val_main_v22_apply]
  refine at3_eq w _ _ _ _ rfl ?_ ?_
  · show (k.val * 2048 + e.val) / 2048 % 5632 = _; omega
  · show (k.val * 2048 + e.val) % 2048 = _; omega

theorem gate_a (b : Fin 32) (r : Fin 256) (e : Fin 2048) :
    val_main_v25 (F := Ideal) mod (ix3 b r e) = at3 mod (0) 0 (10240 + e.val) := by
  rw [val_main_v25_apply, val_main_v20_apply, val_main_v10_apply, val_main_v9_apply, val_main_v8_apply]
  refine at3_eq mod _ _ _ _ ?_ rfl ?_
  · show (((0) * 2048 + e.val) / 2048) = _; omega
  · show 10240 + (((0) * 2048 + e.val) % 2048) = _; omega

theorem shift_a (b : Fin 32) (r : Fin 256) (e : Fin 2048) :
    val_main_v49 (F := Ideal) mod (ix3 b r e) = at3 mod (8 + 0) 0 (e.val) := by
  rw [val_main_v49_apply, val_main_v48_apply, val_main_v14_apply, val_main_v13_apply, val_main_v12_apply]
  refine at3_eq mod _ _ _ _ ?_ rfl ?_
  · show 8 + (((0) * 2048 + e.val) / 2048) = _; omega
  · show (((0) * 2048 + e.val) % 2048) = _; omega

theorem scale_a (b : Fin 32) (r : Fin 256) (e : Fin 2048) :
    val_main_v43 (F := Ideal) mod (ix3 0 0 e) = at3 mod (8 + 0) 0 (2048 + e.val) := by
  rw [val_main_v43_apply, val_main_v18_apply, val_main_v17_apply, val_main_v16_apply]
  refine at3_eq mod _ _ _ _ ?_ rfl ?_
  · show 8 + (((0) * 2048 + e.val) / 2048) = _; omega
  · show 2048 + (((0) * 2048 + e.val) % 2048) = _; omega

theorem res_a (b : Fin 32) (r : Fin 256) (e : Fin 2048) :
    val_main_v27 (F := Ideal) act w x mod (ix3 b r e) = downRes act w x mod (b.val * 256 + r.val) e := by
  rw [val_main_v27_apply, val_main_v26_apply, val_main_v24_apply, x_a, gate_a]
  unfold downRes
  rw [show condRow (b.val * 256 + r.val) = 0 from by unfold condRow; split <;> omega]
  refine congrArg (fun z => _ + _ * z) (Finset.sum_congr rfl fun k _ => ?_)
  have el : lidx_main_v24 (ix3 b r e) k = ix3 b r k := funext fun a => by fin_cases a <;> rfl
  have er : ridx_main_v24 (ix3 b r e) k = ix2 k e := funext fun a => by fin_cases a <;> rfl
  rw [el, er, act_a, w_a]

theorem gain_a (b : Fin 32) (r : Fin 256) (e : Fin 2048) :
    val_main_v41 (F := Ideal) g (ix3 b r e) = at2 g 1 e.val := by
  rw [val_main_v41_apply, val_main_v40_apply, val_main_v29_apply, val_main_v28_apply]
  refine at2_eq g _ _ _ rfl ?_
  show e.val % 2048 = _; omega

theorem norm_a (b : Fin 32) (r : Fin 256) (e : Fin 2048) :
    val_main_v51 (F := Ideal) act w x mod g (ix3 b r e) = downNorm act w x mod g (b.val * 256 + r.val) e := by
  have hsum : val_main_v31 (F := Ideal) act w x mod (ix2 b r)
      = ∑ k : Fin 2048, downRes act w x mod (b.val * 256 + r.val) k * downRes act w x mod (b.val * 256 + r.val) k := by
    rw [val_main_v31_apply]
    have z : val_main_cst (F := Ideal) (Shape.Idx.first h_S_) = 0 := Ideal.ofBits_zero_f32
    rw [z, zero_add]
    refine Finset.sum_congr rfl fun k _ => ?_
    have e : idx_main_v31 (ix2 b r) k = ix3 b r k := funext fun a => by fin_cases a <;> rfl
    rw [e, val_main_v30_apply, res_a]
    rfl
  have hr : val_main_v38 (F := Ideal) act w x mod (ix3 b r e)
      = Ideal.rsqrt (meanSq (downRes act w x mod (b.val * 256 + r.val)) + Ideal.ofBits .f32 0x358637BD#32) := by
    rw [val_main_v38_apply, val_main_v37_apply, val_main_v36_apply, val_main_v34_apply, val_main_v32_apply]
    have e : idx_main_v32 (idx_main_v38 (ix3 b r e)) = ix2 b r := funext fun a => by fin_cases a <;> rfl
    rw [e, hsum]
    rfl
  have hc : condRow (b.val * 256 + r.val) = 0 := by unfold condRow; split <;> omega
  rw [val_main_v51_apply, val_main_v50_apply, val_main_v47_apply, val_main_v42_apply, val_main_v39_apply,
    shift_a, gain_a, res_a, hr, val_main_v46_apply, val_main_v45_apply]
  unfold downNorm
  rw [hc]
  have es : idx_main_v46 (ix3 b r e) = (ix3 0 0 e) := funext fun a => by fin_cases a <;> rfl
  rw [es, scale_a mod b r e, val_main_v44_apply]
  have one : val_main_cst_2 (F := Ideal) (idx_main_v44 (ix3 0 0 e)) = 1 := Ideal.ofBits_one_f32
  rw [one]
  rfl

theorem act_b (b : Fin 4) (r : Fin 1024) (k : Fin 5632) :
    val_main_v53 (F := Ideal) act (ix3 b r k) = at2 act (8192 + (b.val * 1024 + r.val)) k.val := by
  rw [val_main_v53_apply, val_main_v3_apply, val_main_v2_apply]
  refine at2_eq act _ _ _ ?_ ?_
  · show 8192 + ((b.val * 1024 + r.val) * 5632 + k.val) / 5632 = _; omega
  · show ((b.val * 1024 + r.val) * 5632 + k.val) % 5632 = _; omega

theorem x_b (b : Fin 4) (r : Fin 1024) (e : Fin 2048) :
    val_main_v7 (F := Ideal) x (ix3 b r e) = at2 x (8192 + (b.val * 1024 + r.val)) e.val := by
  rw [val_main_v7_apply, val_main_v6_apply]
  refine at2_eq x _ _ _ ?_ ?_
  · show 8192 + ((b.val * 1024 + r.val) * 2048 + e.val) / 2048 = _; omega
  · show ((b.val * 1024 + r.val) * 2048 + e.val) % 2048 = _; omega

theorem w_b (k : Fin 5632) (e : Fin 2048) : val_main_v55 (F := Ideal) w (ix2 k e) = at3 w 0 k.val e.val := by
  rw [val_main_v55_apply, val_main_v54_apply]
  refine at3_eq w _ _ _ _ rfl ?_ ?_
  · show (k.val * 2048 + e.val) / 2048 % 5632 = _; omega
  · show (k.val * 2048 + e.val) % 2048 = _; omega

theorem gate_b (b : Fin 4) (r : Fin 1024) (e : Fin 2048) :
    val_main_v57 (F := Ideal) mod (ix3 b r e) = at3 mod ((1 + b.val)) 0 (10240 + e.val) := by
  rw [val_main_v57_apply, val_main_v52_apply, val_main_v11_apply, val_main_v9_apply, val_main_v8_apply]
  refine at3_eq mod _ _ _ _ ?_ rfl ?_
  · show (((1 + b.val) * 2048 + e.val) / 2048) = _; omega
  · show 10240 + (((1 + b.val) * 2048 + e.val) % 2048) = _; omega

theorem shift_b (b : Fin 4) (r : Fin 1024) (e : Fin 2048) :
    val_main_v81 (F := Ideal) mod (ix3 b r e) = at3 mod (8 + (1 + b.val)) 0 (e.val) := by
  rw [val_main_v81_apply, val_main_v80_apply, val_main_v15_apply, val_main_v13_apply, val_main_v12_apply]
  refine at3_eq mod _ _ _ _ ?_ rfl ?_
  · show 8 + (((1 + b.val) * 2048 + e.val) / 2048) = _; omega
  · show (((1 + b.val) * 2048 + e.val) % 2048) = _; omega

theorem scale_b (b : Fin 4) (r : Fin 1024) (e : Fin 2048) :
    val_main_v75 (F := Ideal) mod (ix3 b 0 e) = at3 mod (8 + (1 + b.val)) 0 (2048 + e.val) := by
  rw [val_main_v75_apply, val_main_v19_apply, val_main_v17_apply, val_main_v16_apply]
  refine at3_eq mod _ _ _ _ ?_ rfl ?_
  · show 8 + (((1 + b.val) * 2048 + e.val) / 2048) = _; omega
  · show 2048 + (((1 + b.val) * 2048 + e.val) % 2048) = _; omega

theorem res_b (b : Fin 4) (r : Fin 1024) (e : Fin 2048) :
    val_main_v59 (F := Ideal) act w x mod (ix3 b r e) = downRes act w x mod (8192 + (b.val * 1024 + r.val)) e := by
  rw [val_main_v59_apply, val_main_v58_apply, val_main_v56_apply, x_b, gate_b]
  unfold downRes
  rw [show condRow (8192 + (b.val * 1024 + r.val)) = 1 + b.val from by unfold condRow; split <;> omega]
  refine congrArg (fun z => _ + _ * z) (Finset.sum_congr rfl fun k _ => ?_)
  have el : lidx_main_v56 (ix3 b r e) k = ix3 b r k := funext fun a => by fin_cases a <;> rfl
  have er : ridx_main_v56 (ix3 b r e) k = ix2 k e := funext fun a => by fin_cases a <;> rfl
  rw [el, er, act_b, w_b]

theorem gain_b (b : Fin 4) (r : Fin 1024) (e : Fin 2048) :
    val_main_v73 (F := Ideal) g (ix3 b r e) = at2 g 1 e.val := by
  rw [val_main_v73_apply, val_main_v72_apply, val_main_v61_apply, val_main_v60_apply]
  refine at2_eq g _ _ _ rfl ?_
  show e.val % 2048 = _; omega

theorem norm_b (b : Fin 4) (r : Fin 1024) (e : Fin 2048) :
    val_main_v83 (F := Ideal) act w x mod g (ix3 b r e) = downNorm act w x mod g (8192 + (b.val * 1024 + r.val)) e := by
  have hsum : val_main_v63 (F := Ideal) act w x mod (ix2 b r)
      = ∑ k : Fin 2048, downRes act w x mod (8192 + (b.val * 1024 + r.val)) k * downRes act w x mod (8192 + (b.val * 1024 + r.val)) k := by
    rw [val_main_v63_apply]
    have z : val_main_cst_3 (F := Ideal) (Shape.Idx.first h_S_) = 0 := Ideal.ofBits_zero_f32
    rw [z, zero_add]
    refine Finset.sum_congr rfl fun k _ => ?_
    have e : idx_main_v63 (ix2 b r) k = ix3 b r k := funext fun a => by fin_cases a <;> rfl
    rw [e, val_main_v62_apply, res_b]
    rfl
  have hr : val_main_v70 (F := Ideal) act w x mod (ix3 b r e)
      = Ideal.rsqrt (meanSq (downRes act w x mod (8192 + (b.val * 1024 + r.val))) + Ideal.ofBits .f32 0x358637BD#32) := by
    rw [val_main_v70_apply, val_main_v69_apply, val_main_v68_apply, val_main_v66_apply, val_main_v64_apply]
    have e : idx_main_v64 (idx_main_v70 (ix3 b r e)) = ix2 b r := funext fun a => by fin_cases a <;> rfl
    rw [e, hsum]
    rfl
  have hc : condRow (8192 + (b.val * 1024 + r.val)) = 1 + b.val := by unfold condRow; split <;> omega
  rw [val_main_v83_apply, val_main_v82_apply, val_main_v79_apply, val_main_v74_apply, val_main_v71_apply,
    shift_b, gain_b, res_b, hr, val_main_v78_apply, val_main_v77_apply]
  unfold downNorm
  rw [hc]
  have es : idx_main_v78 (ix3 b r e) = (ix3 b 0 e) := funext fun a => by fin_cases a <;> rfl
  rw [es, scale_b mod b r e, val_main_v76_apply]
  have one : val_main_cst_6 (F := Ideal) (idx_main_v76 (ix3 b 0 e)) = 1 := Ideal.ofBits_one_f32
  rw [one]
  rfl

/-- The prompts' rows, then the sequences' rows. -/
theorem res_rows (n : Fin 12288) (e : Fin 2048) :
    val_main_v86 (F := Ideal) act w x mod (ix2 n e) = downRes act w x mod n.val e := by
  have ha : ∀ n : Fin 8192, val_main_v84 (F := Ideal) act w x mod (ix2 n e) = downRes act w x mod n.val e := by
    intro n
    have hn := n.isLt
    have he := e.isLt
    rw [val_main_v84_apply]
    have ei : idx_main_v84 (ix2 n e) = ix3 (⟨n.val / 256, by omega⟩ : Fin 32) (⟨n.val % 256, by omega⟩ : Fin 256) e := by
      funext a
      fin_cases a
      · exact Fin.ext (by show (n.val * 2048 + e.val) / 524288 = n.val / 256; omega)
      · exact Fin.ext (by show (n.val * 2048 + e.val) / 2048 % 256 = n.val % 256; omega)
      · exact Fin.ext (by show (n.val * 2048 + e.val) % 2048 = e.val; omega)
    rw [ei, res_a]
    refine congrArg (fun q => downRes act w x mod q e) ?_
    show n.val / 256 * 256 + n.val % 256 = n.val; omega
  have hb : ∀ n : Fin 4096, val_main_v85 (F := Ideal) act w x mod (ix2 n e) = downRes act w x mod (8192 + n.val) e := by
    intro n
    have hn := n.isLt
    have he := e.isLt
    rw [val_main_v85_apply]
    have ei : idx_main_v85 (ix2 n e) = ix3 (⟨n.val / 1024, by omega⟩ : Fin 4) (⟨n.val % 1024, by omega⟩ : Fin 1024) e := by
      funext a
      fin_cases a
      · exact Fin.ext (by show (n.val * 2048 + e.val) / 2097152 = n.val / 1024; omega)
      · exact Fin.ext (by show (n.val * 2048 + e.val) / 2048 % 1024 = n.val % 1024; omega)
      · exact Fin.ext (by show (n.val * 2048 + e.val) % 2048 = e.val; omega)
    rw [ei, res_b]
    refine congrArg (fun q => downRes act w x mod q e) ?_
    show 8192 + (n.val / 1024 * 1024 + n.val % 1024) = 8192 + n.val; omega
  have hn := n.isLt
  unfold val_main_v86
  revert ha hb
  generalize val_main_v84 (F := Ideal) act w x mod = Y
  generalize val_main_v85 (F := Ideal) act w x mod = Z
  intro ha hb
  pointwise
  by_cases h : n.val < 8192
  · exact (dif_pos h).trans (ha ⟨n.val, h⟩)
  · refine (dif_neg h).trans ?_
    refine (hb ⟨n.val - 8192, by omega⟩).trans ?_
    refine congrArg (fun q => downRes act w x mod q e) ?_
    show 8192 + (n.val - 8192) = n.val; omega

/-- The prompts' rows, then the sequences' rows. -/
theorem norm_rows (n : Fin 12288) (e : Fin 2048) :
    val_main_v89 (F := Ideal) act w x mod g (ix2 n e) = downNorm act w x mod g n.val e := by
  have ha : ∀ n : Fin 8192, val_main_v87 (F := Ideal) act w x mod g (ix2 n e) = downNorm act w x mod g n.val e := by
    intro n
    have hn := n.isLt
    have he := e.isLt
    rw [val_main_v87_apply]
    have ei : idx_main_v87 (ix2 n e) = ix3 (⟨n.val / 256, by omega⟩ : Fin 32) (⟨n.val % 256, by omega⟩ : Fin 256) e := by
      funext a
      fin_cases a
      · exact Fin.ext (by show (n.val * 2048 + e.val) / 524288 = n.val / 256; omega)
      · exact Fin.ext (by show (n.val * 2048 + e.val) / 2048 % 256 = n.val % 256; omega)
      · exact Fin.ext (by show (n.val * 2048 + e.val) % 2048 = e.val; omega)
    rw [ei, norm_a]
    refine congrArg (fun q => downNorm act w x mod g q e) ?_
    show n.val / 256 * 256 + n.val % 256 = n.val; omega
  have hb : ∀ n : Fin 4096, val_main_v88 (F := Ideal) act w x mod g (ix2 n e) = downNorm act w x mod g (8192 + n.val) e := by
    intro n
    have hn := n.isLt
    have he := e.isLt
    rw [val_main_v88_apply]
    have ei : idx_main_v88 (ix2 n e) = ix3 (⟨n.val / 1024, by omega⟩ : Fin 4) (⟨n.val % 1024, by omega⟩ : Fin 1024) e := by
      funext a
      fin_cases a
      · exact Fin.ext (by show (n.val * 2048 + e.val) / 2097152 = n.val / 1024; omega)
      · exact Fin.ext (by show (n.val * 2048 + e.val) / 2048 % 1024 = n.val % 1024; omega)
      · exact Fin.ext (by show (n.val * 2048 + e.val) % 2048 = e.val; omega)
    rw [ei, norm_b]
    refine congrArg (fun q => downNorm act w x mod g q e) ?_
    show 8192 + (n.val / 1024 * 1024 + n.val % 1024) = 8192 + n.val; omega
  have hn := n.isLt
  unfold val_main_v89
  revert ha hb
  generalize val_main_v87 (F := Ideal) act w x mod g = Y
  generalize val_main_v88 (F := Ideal) act w x mod g = Z
  intro ha hb
  pointwise
  by_cases h : n.val < 8192
  · exact (dif_pos h).trans (ha ⟨n.val, h⟩)
  · refine (dif_neg h).trans ?_
    refine (hb ⟨n.val - 8192, by omega⟩).trans ?_
    refine congrArg (fun q => downNorm act w x mod g q e) ?_
    show 8192 + (n.val - 8192) = n.val; omega

end Cert.Reference4Ideal.Down

end
-- ==== Proof.Down.Equation.lean ====
/-
  The down projection and its reference end with equal arrays.
-/
module

public import proofs.«01_k».proof.Defs
public import proofs.«01_k».proof.Proof.Down.Reference

@[expose] public section

set_option maxRecDepth 16384

noncomputable section

namespace Cert.Down

open Idealize.ShloMosaic Idealize.ShloMosaic.TcCoe Idealize.SL.Sem
open Cert.Kernel4Ideal.Down (act wDown xRes modT gain)
open Cert.Reference4Ideal.Read (val_main_v86 val_main_v89)

variable (m : (ℓ : Loc Cert.Kernel4Ideal.nD Cert.Kernel4Ideal.τ Cert.Kernel4Ideal.sig) → Buf (Elt Ideal) ℓ)

theorem res_eq (c : Dev Cert.Kernel4Ideal.nD) :
    Cert.Kernel4Ideal.Down.G7 m c = val_main_v86 (F := Ideal) (act m c) (wDown m c) (xRes m c) (modT m c) := by
  funext i
  obtain ⟨n, e, rfl⟩ : ∃ (n : Fin 12288) (e : Fin 2048), i = ix2 n e := ⟨i 0, i 1, by funext a; fin_cases a <;> rfl⟩
  exact (Cert.Reference4Ideal.Down.res_rows _ _ _ _ n e).symm

theorem norm_eq (c : Dev Cert.Kernel4Ideal.nD) :
    Cert.Kernel4Ideal.Down.G8 m c = val_main_v89 (F := Ideal) (act m c) (wDown m c) (xRes m c) (modT m c) (gain m c) := by
  funext i
  obtain ⟨n, e, rfl⟩ : ∃ (n : Fin 12288) (e : Fin 2048), i = ix2 n e := ⟨i 0, i 1, by funext a; fin_cases a <;> rfl⟩
  exact (Cert.Reference4Ideal.Down.norm_rows _ _ _ _ _ n e).symm

theorem algebraic : Cert.algebraic_Kernel4Ideal_Reference4Ideal := by
  intro m g m' g' hpre hagree
  refine ⟨fun c => val_main_v86 (F := Ideal) (act m c) (wDown m c) (xRes m c) (modT m c),
    fun c => val_main_v89 (F := Ideal) (act m c) (wDown m c) (xRes m c) (modT m c) (gain m c), ?_, ?_⟩
  · refine (θ_run _ _ _).mono (fun r h c => ⟨?_, ?_, (h c).2.2⟩) (Cert.Kernel4Ideal.Value.run_blocks m g)
    · exact (h c).1.trans ((funext fun i => Cert.Kernel4Ideal.Down.final7 m c i).trans (res_eq m c))
    · exact (h c).2.1.trans ((funext fun i => Cert.Kernel4Ideal.Down.final8 m c i).trans (norm_eq m c))
  · refine (θ_run _ _ _).mono (fun r h c => ⟨?_, ?_, (h c).2.2⟩) (Cert.Reference4Ideal.Value.run m' g')
    · obtain ⟨h0, h1, h2, h3, h4⟩ := hagree c
      refine (h c).1.trans ((Cert.Reference4Ideal.Read.val_main_v86_eq _ _ _ _).trans ?_)
      rw [h0, h1, h2, h3]
    · obtain ⟨h0, h1, h2, h3, h4⟩ := hagree c
      refine (h c).2.1.trans ((Cert.Reference4Ideal.Read.val_main_v89_eq _ _).trans ?_)
      rw [h0, h1, h2, h3, h4]

end Cert.Down

end
-- ==== Proof.Mix.Run.lean ====
/- The gated mix's body, run once over any float values.

   At each of the 48 points the body weighs the three branches' products by the gates of its 256 rows, multiplies by the
   output weights, adds the gated result to the residual and norms the sum. Here stands its triple, stated on what the
   buffers hold before and after. -/
module

public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branches' products, weighed by the gates and summed. -/
abbrev merged (x0 : Vec F S256x1024 .bf16) (x1 x2 : Vec F S256x512 .bf16) (x3 : Vec F S256x6656 .f32) (x4 : Vec F S1x1x6144 .f32)
    (x5 : Vec F S1x1024x2048 .bf16) (x6 x7 : Vec F S1x512x2048 .bf16) : FVec F S256x2048 .bf16 :=
  k0_pay3 x3 x4 x0 x5 x1 x6 x2 x7

/-- The residual rows the body leaves. -/
abbrev outRes (x0 : Vec F S256x1024 .bf16) (x1 x2 : Vec F S256x512 .bf16) (x3 : Vec F S256x6656 .f32) (x4 : Vec F S1x1x6144 .f32)
    (x5 : Vec F S1x1024x2048 .bf16) (x6 x7 : Vec F S1x512x2048 .bf16) (x8 : Vec F S1x2048x2048 .bf16) (x9 : Vec F S256x2048 .f32)
    (x10 : Vec F S1x1x2048 .f32) : FVec F S256x2048 .f32 :=
  k0_pay1 (merged x0 x1 x2 x3 x4 x5 x6 x7) (k0_pay4 x8) (constant S256x2048 .f32 0x00000000#32) x9 x10

/-- The normed rows the body leaves. -/
abbrev outNorm (x0 : Vec F S256x1024 .bf16) (x1 x2 : Vec F S256x512 .bf16) (x3 : Vec F S256x6656 .f32) (x4 : Vec F S1x1x6144 .f32)
    (x5 : Vec F S1x1024x2048 .bf16) (x6 x7 : Vec F S1x512x2048 .bf16) (x8 : Vec F S1x2048x2048 .bf16) (x9 : Vec F S256x2048 .f32)
    (x10 x11 x12 x13 : Vec F S1x1x2048 .f32) : FVec F S256x2048 .bf16 :=
  k0_pay2 (merged x0 x1 x2 x3 x4 x5 x6 x7) (k0_pay4 x8) (constant S256x2048 .f32 0x00000000#32) x9 x10 x11 x12 x13

set_option maxHeartbeats 4000000 in
/-- The body leaves its inputs' buffers as they were, and its outputs' at the residual and its norm. -/
theorem body (c : Dev nD) (i : grid0.Coords)
    (arg1 : Memref sig .tc .vmem S256x1024 .bf16) (harg1 : arg1.IsWhole)
    (arg2 : Memref sig .tc .vmem S256x512 .bf16) (harg2 : arg2.IsWhole)
    (arg3 : Memref sig .tc .vmem S256x512 .bf16) (harg3 : arg3.IsWhole)
    (arg4 : Memref sig .tc .vmem S256x6656 .f32) (harg4 : arg4.IsWhole)
    (arg5 : Memref sig .tc .vmem S1x1x6144 .f32) (harg5 : arg5.IsWhole)
    (arg6 : Memref sig .tc .vmem S1x1024x2048 .bf16) (harg6 : arg6.IsWhole)
    (arg7 : Memref sig .tc .vmem S1x512x2048 .bf16) (harg7 : arg7.IsWhole)
    (arg8 : Memref sig .tc .vmem S1x512x2048 .bf16) (harg8 : arg8.IsWhole)
    (arg9 : Memref sig .tc .vmem S1x2048x2048 .bf16) (harg9 : arg9.IsWhole)
    (arg10 : Memref sig .tc .vmem S256x2048 .f32) (harg10 : arg10.IsWhole)
    (arg11 : Memref sig .tc .vmem S1x1x2048 .f32) (harg11 : arg11.IsWhole)
    (arg12 : Memref sig .tc .vmem S1x1x2048 .f32) (harg12 : arg12.IsWhole)
    (arg13 : Memref sig .tc .vmem S1x1x2048 .f32) (harg13 : arg13.IsWhole)
    (arg14 : Memref sig .tc .vmem S1x1x2048 .f32) (harg14 : arg14.IsWhole)
    (arg15 : Memref sig .tc .vmem S256x2048 .f32) (harg15 : arg15.IsWhole)
    (arg16 : Memref sig .tc .vmem S256x2048 .bf16) (harg16 : arg16.IsWhole)
    (x0 : Vec F S256x1024 .bf16) (x1 : Vec F S256x512 .bf16) (x2 : Vec F S256x512 .bf16) (x3 : Vec F S256x6656 .f32)
    (x4 : Vec F S1x1x6144 .f32) (x5 : Vec F S1x1024x2048 .bf16) (x6 : Vec F S1x512x2048 .bf16) (x7 : Vec F S1x512x2048 .bf16)
    (x8 : Vec F S1x2048x2048 .bf16) (x9 : Vec F S256x2048 .f32) (x10 : Vec F S1x1x2048 .f32) (x11 : Vec F S1x1x2048 .f32)
    (x12 : Vec F S1x1x2048 .f32) (x13 : Vec F S1x1x2048 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d) ∗ (∃ d, owns (c : Thread nD τ) arg16 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (outRes x0 x1 x2 x3 x4 x5 x6 x7 x8 x9 x10)
            ∗ owns (c : Thread nD τ) arg16 fullShare (outNorm x0 x1 x2 x3 x4 x5 x6 x7 x8 x9 x10 x11 x12 x13)) -∗ K ⟨⟩))
      ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mix_out_eq_skeleton]; unfold cc0_mix_out_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr
    swap; · iexact H14
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
    rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide), View.ld_unit_lit _ x10 (by decide)]
  iexists _; isplitr
  swap; · iexact H15
  ipureintro
  refine (View.read_writes_full _ _ _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide), View.ld_unit_lit _ x10 (by decide), View.ld_unit_lit _ x11 (by decide), View.ld_unit_lit _ x12 (by decide), View.ld_unit_lit _ x13 (by decide)]

end Cert.Mix

end
-- ==== Proof.Mix.Point.lean ====
/- The gated mix's pipeline: what each buffer holds at each point, over any float values.

   The gates are the last 6144 of the projection's 12816 columns. They lie in the second block of 6656 columns, of which
   6160 are inside the array: a buffer holds those columns, and anything (`d`) in the rest. The body turns the block by 16
   columns and keeps 6144, so it reads columns inside the array only, and what it leaves does not depend on `d`. -/
module

public import proofs.«01_k».proof.Proof.Mix.Run
public import Idealize.ShloMosaic.Lib.KernelVsHost

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of gates at point `t`, with `d` in the columns outside the array. -/
def gates (c : Dev nD) (t : Fin cfg0.N) (d : S256x6656.Idx → Elt F .f32) : Vec F S256x6656 .f32 :=
  win0_3.fill (grid0.coords t) d (iblk m c 3 t)

/-- Contents for the columns outside the array, where one must be named. -/
def junk : S256x6656.Idx → Elt F .f32 := constant S256x6656 .f32 0x00000000#32

/-- What a transfer of gates moves. -/
theorem size_3 : ∀ t : Fin cfg0.N, win0_3.xsize (grid0.coords t) = ![256, 6160] :=
  (by decide +kernel : ∀ t : Fin grid0.N, _)

/-- The turned block's first columns are the block's columns from 16 on. -/
theorem turned_apply (g : Vec F S256x6656 .f32) (r : Fin 256) (e : Fin 6144) :
    extractStridedSlice S256x6144 ![0, 0] (dynamicRotate 1 6640#32 none g rotates_S256x6656_d1) slices_S256x6656_o0_0_S256x6144 (ix2 r e)
      = g (ix2 r ⟨e.val + 16, by have := e.isLt; omega⟩) := by
  have he := e.isLt
  refine dynamicRotate_apply 1 6640#32 g rotates_S256x6656_d1 _ _ ?_
  intro b
  fin_cases b
  · show r.val = 0 + r.val; omega
  · show e.val + 16 = (0 + e.val + 6656 - 6640 % 6656) % 6656; omega

/-- A column of the block inside the array does not depend on the rest. -/
theorem gates_congr (c : Dev nD) (t : Fin cfg0.N) (d d' : S256x6656.Idx → Elt F .f32) (r : Fin 256) (e : Fin 6656) (he : e.val < 6160) :
    gates m c t d (ix2 r e) = gates m c t d' (ix2 r e) := by
  have hm : win0_3.moved (grid0.coords t) (ix2 r e) = true := by
    rw [Pipeline.Window.moved_iff, size_3 t]
    intro a
    fin_cases a
    · exact r.isLt
    · exact he
  unfold gates Pipeline.Window.fill
  rw [dif_pos hm, dif_pos hm]

theorem turned_congr (c : Dev nD) (t : Fin cfg0.N) (d d' : S256x6656.Idx → Elt F .f32) :
    extractStridedSlice S256x6144 ![0, 0] (dynamicRotate 1 6640#32 none (gates m c t d) rotates_S256x6656_d1) slices_S256x6656_o0_0_S256x6144
      = extractStridedSlice S256x6144 ![0, 0] (dynamicRotate 1 6640#32 none (gates m c t d') rotates_S256x6656_d1) slices_S256x6656_o0_0_S256x6144 := by
  funext j
  obtain ⟨r, e, rfl⟩ : ∃ (r : Fin 256) (e : Fin 6144), j = ix2 r e := ⟨j 0, j 1, by funext a; fin_cases a <;> rfl⟩
  rw [turned_apply, turned_apply]
  exact gates_congr m c t d d' r _ (by show e.val + 16 < 6160; have := e.isLt; omega)

/-- What the body computes does not depend on the columns outside the array. -/
theorem merged_congr (c : Dev nD) (t : Fin cfg0.N) (d d' : S256x6656.Idx → Elt F .f32) (x0 : Vec F S256x1024 .bf16) (x1 x2 : Vec F S256x512 .bf16)
    (x4 : Vec F S1x1x6144 .f32) (x5 : Vec F S1x1024x2048 .bf16) (x6 x7 : Vec F S1x512x2048 .bf16) :
    merged x0 x1 x2 (gates m c t d) x4 x5 x6 x7 = merged x0 x1 x2 (gates m c t d') x4 x5 x6 x7 := by
  unfold merged k0_pay3
  dsimp only
  rw [turned_congr m c t d d']

/-- The pipeline's data: the arrays as the region finds them, each input's buffer at its block, each output's at what the
    body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gates m c t junk
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outRes (iblk m c 0 t) (iblk m c 1 t) (iblk m c 2 t) (gates m c t junk) (iblk m c 4 t) (iblk m c 5 t) (iblk m c 6 t) (iblk m c 7 t) (iblk m c 8 t) (iblk m c 9 t) (iblk m c 10 t)
    | ⟨15, _⟩ => outNorm (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = gates m c t junk := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) :
    (dats m 0 c).after 14 t = outRes (iblk m c 0 t) (iblk m c 1 t) (iblk m c 2 t) (gates m c t junk) (iblk m c 4 t) (iblk m c 5 t) (iblk m c 6 t) (iblk m c 7 t) (iblk m c 8 t) (iblk m c 9 t) (iblk m c 10 t) := by dsimp only [dats]
theorem after_15 (c : Dev nD) (t : Fin cfg0.N) :
    (dats m 0 c).after 15 t = outNorm (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- Two points with one block of gates cut it alike. -/
theorem clip_3 (t t' : Fin cfg0.N) (h : (cfg0.win 3).index t = (cfg0.win 3).index t') :
    (cfg0.win 3).clip (cfg0.grid.coords t) = (cfg0.win 3).clip (cfg0.grid.coords t') := by
  funext a
  show Pipeline.Clip.of ((cfg0.win 3).index t a) _ _ = Pipeline.Clip.of ((cfg0.win 3).index t' a) _ _
  rw [h]

theorem blockOf_3 (c : Dev nD) (t : Fin cfg0.N) : (dats m 0 c).blockOf 3 t = iblk m c 3 t := by
  unfold Dat.blockOf iblk; rw [A_eq m c 3]; try rfl

theorem fetched_3 (c : Dev nD) (t : Fin cfg0.N) (d) : (dats m 0 c).fetched 3 t d = gates m c t d := by
  unfold Dat.fetched; rw [blockOf_3]; rfl

/-- The gates' buffer holds its block at every point. -/
theorem before_3 (c : Dev nD) (t : Fin cfg0.N) (d) : (dats m 0 c).before 3 t d = gates m c t d :=
  ((dats m 0 c).before_in_eq_fetched 3 rfl (fun _ => rfl) clip_3
    (fun t => by rw [after_3, blockOf_3]; exact win0_3.cut_fill _ _ _) t d).trans (fetched_3 m c t d)

theorem defs₀_row (t : Fin cfg0.N) : defs₀ (F := F) .tc cfg0.body (cfg0.bodyArgs t (cfg0.slots t)) = bodyAt0 t := by
  unfold defs₀; rw [Defs.onTc_tc]; try rfl

set_option maxHeartbeats 2000000 in
/-- The body's run at point `t`. -/
theorem body_point (c : Dev nD) (t : Fin cfg0.N) (d3 : S256x6656.Idx → Elt F .f32) (K : PUnit → sProp 𝕄) :
    iprop(owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (gates m c t d3)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ owns (c : Thread nD τ) (st0_12 t) fullShare (iblk m c 12 t)
        ∗ owns (c : Thread nD τ) (st0_13 t) fullShare (iblk m c 13 t)
        ∗ (∃ d, owns (c : Thread nD τ) (st0_14 t) fullShare d) ∗ (∃ d, owns (c : Thread nD τ) (st0_15 t) fullShare d)
        ∗ (iprop(owns (c : Thread nD τ) (st0_0 t) fullShare (iblk m c 0 t)
            ∗ owns (c : Thread nD τ) (st0_1 t) fullShare (iblk m c 1 t)
            ∗ owns (c : Thread nD τ) (st0_2 t) fullShare (iblk m c 2 t)
            ∗ owns (c : Thread nD τ) (st0_3 t) fullShare (gates m c t d3)
            ∗ owns (c : Thread nD τ) (st0_4 t) fullShare (iblk m c 4 t)
            ∗ owns (c : Thread nD τ) (st0_5 t) fullShare (iblk m c 5 t)
            ∗ owns (c : Thread nD τ) (st0_6 t) fullShare (iblk m c 6 t)
            ∗ owns (c : Thread nD τ) (st0_7 t) fullShare (iblk m c 7 t)
            ∗ owns (c : Thread nD τ) (st0_8 t) fullShare (iblk m c 8 t)
            ∗ owns (c : Thread nD τ) (st0_9 t) fullShare (iblk m c 9 t)
            ∗ owns (c : Thread nD τ) (st0_10 t) fullShare (iblk m c 10 t)
            ∗ owns (c : Thread nD τ) (st0_11 t) fullShare (iblk m c 11 t)
            ∗ owns (c : Thread nD τ) (st0_12 t) fullShare (iblk m c 12 t)
            ∗ owns (c : Thread nD τ) (st0_13 t) fullShare (iblk m c 13 t)
            ∗ owns (c : Thread nD τ) (st0_14 t) fullShare ((dats m 0 c).after 14 t)
            ∗ owns (c : Thread nD τ) (st0_15 t) fullShare ((dats m 0 c).after 15 t)) -∗ K ⟨⟩))
      ⊢ wp frame (wpE (defs₀ (F := F)) Variants.none c none) Set.univ (bodyAt0 t) K := by
  rw [after_14, after_15]
  rw [show outRes (iblk m c 0 t) (iblk m c 1 t) (iblk m c 2 t) (gates m c t junk) (iblk m c 4 t) (iblk m c 5 t) (iblk m c 6 t) (iblk m c 7 t) (iblk m c 8 t) (iblk m c 9 t) (iblk m c 10 t) = outRes (iblk m c 0 t) (iblk m c 1 t) (iblk m c 2 t) (gates m c t d3) (iblk m c 4 t) (iblk m c 5 t) (iblk m c 6 t) (iblk m c 7 t) (iblk m c 8 t) (iblk m c 9 t) (iblk m c 10 t) from by
      unfold outRes; rw [merged_congr m c t junk d3],
    show outNorm (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) (iblk m c 12 t) (iblk m c 13 t) = outNorm (iblk m c 0 t) (iblk m c 1 t) (iblk m c 2 t) (gates m c t d3) (iblk m c 4 t) (iblk m c 5 t) (iblk m c 6 t) (iblk m c 7 t) (iblk m c 8 t) (iblk m c 9 t) (iblk m c 10 t) (iblk m c 11 t) (iblk m c 12 t) (iblk m c 13 t) from by
      unfold outNorm; rw [merged_congr m c t junk d3]]
  exact body c (grid0.coords t) _ _ _ _ _ _ _ _ _ _ _ _ _ _ _ _ _ _ _ _ _ _ _ _ _ _ _ _ _ _ _ _ (iblk m c 0 t) (iblk m c 1 t) (iblk m c 2 t) (gates m c t d3) (iblk m c 4 t) (iblk m c 5 t) (iblk m c 6 t) (iblk m c 7 t) (iblk m c 8 t) (iblk m c 9 t) (iblk m c 10 t) (iblk m c 11 t) (iblk m c 12 t) (iblk m c 13 t) Set.univ K

set_option maxHeartbeats 2000000 in
/-- The body's obligation at every point. -/
theorem obligation (c : Dev nD) : BodyObligationLoose (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12, before_13 m c t d13]
  iapply (body_point m c t d3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]
  · have hw : win0_3.cut (grid0.coords t) (gates m c t junk) = iblk m c 3 t := win0_3.cut_fill _ _ _
    iexists d3
    change _ ⊢ owns (c : Thread nD τ) (st0_3 t) fullShare (win0_3.fill (grid0.coords t) d3 (win0_3.cut (grid0.coords t) (gates m c t junk)))
    rw [hw]; exact Idealize.SL.BI.Entails.refl _
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option backward.isDefEq.respectTransparency.types false in
/-- The region's run: the result arrays end at what the write-backs leave. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := obligation m) (hq := fun _ _ _ => rfl)
    (howed := fun _ _ => rfl) (V := V m) (hmain := hmain m Variants.none) (hA := A_eq m) (hΦ := fun _ _ => rfl)

/-- The frame: every run of the program ends, with its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Mix

end
-- ==== Proof.Mix.Block.lean ====
/- What the gated mix's body computes of its blocks, over the extended reals, row by row. -/
module

public import proofs.«01_k».proof.Proof.Mix.Point
public import proofs.«01_k».proof.Proof.Layer
public import Idealize.ShloMosaic.Lib.Pointwise

@[expose] public section

set_option maxRecDepth 16384

noncomputable section

namespace Cert.Layer

open Idealize.ShloMosaic

/-- Row `n` of the gated sum of the three branches: each branch's product with its weights of the second layer, times the
    logistic of its share of the projection's last columns and the bias. -/
def mixed (yna : (⟨2, ![12288, 1024]⟩ : Shape).Idx → EReal) (yhy ygdn : (⟨2, ![12288, 512]⟩ : Shape).Idx → EReal)
    (proj : (⟨2, ![12288, 12816]⟩ : Shape).Idx → EReal) (bias : (⟨2, ![2, 6144]⟩ : Shape).Idx → EReal)
    (wa : (⟨3, ![2, 1024, 2048]⟩ : Shape).Idx → EReal) (wb wc : (⟨3, ![2, 512, 2048]⟩ : Shape).Idx → EReal) (n : Nat) (e : Fin 2048) : EReal :=
  Ideal.logistic (at2 proj n (6672 + e.val) + at2 bias 1 e.val) * (∑ k : Fin 1024, at2 yna n k.val * at3 wa 1 k.val e.val)
    + Ideal.logistic (at2 proj n (6672 + (2048 + e.val)) + at2 bias 1 (2048 + e.val)) * (∑ k : Fin 512, at2 yhy n k.val * at3 wb 1 k.val e.val)
    + Ideal.logistic (at2 proj n (6672 + (4096 + e.val)) + at2 bias 1 (4096 + e.val)) * (∑ k : Fin 512, at2 ygdn n k.val * at3 wc 1 k.val e.val)

/-- The residual of the second layer at row `n`: the row plus the gated product of the mixed row `M n`. -/
def mixRes (M : Nat → Fin 2048 → EReal) (w : (⟨3, ![2, 2048, 2048]⟩ : Shape).Idx → EReal)
    (x : (⟨2, ![12288, 2048]⟩ : Shape).Idx → EReal) (mod : (⟨3, ![16, 1, 12288]⟩ : Shape).Idx → EReal) (n : Nat) (e : Fin 2048) : EReal :=
  at2 x n e.val + at3 mod (8 + condRow n) 0 (4096 + e.val) * ∑ k : Fin 2048, M n k * at3 w 1 k.val e.val

/-- The same row normed and modulated. -/
def mixNorm (M : Nat → Fin 2048 → EReal) (w : (⟨3, ![2, 2048, 2048]⟩ : Shape).Idx → EReal)
    (x : (⟨2, ![12288, 2048]⟩ : Shape).Idx → EReal) (mod : (⟨3, ![16, 1, 12288]⟩ : Shape).Idx → EReal)
    (g : (⟨2, ![2, 2048]⟩ : Shape).Idx → EReal) (n : Nat) (e : Fin 2048) : EReal :=
  normed (mixRes M w x mod n) (fun k => at2 g 1 k.val) (fun k => at3 mod (8 + condRow n) 0 (6144 + k.val))
    (fun k => at3 mod (8 + condRow n) 0 (8192 + k.val)) e

end Cert.Layer

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Layer

variable (x0 : Vec Ideal S256x1024 .bf16) (x1 x2 : Vec Ideal S256x512 .bf16) (x3 : Vec Ideal S256x6656 .f32) (x4 : Vec Ideal S1x1x6144 .f32)
    (x5 : Vec Ideal S1x1024x2048 .bf16) (x6 x7 : Vec Ideal S1x512x2048 .bf16) (x8 : Vec Ideal S1x2048x2048 .bf16) (x9 : Vec Ideal S256x2048 .f32)
    (x10 x11 x12 x13 : Vec Ideal S1x1x2048 .f32)

/-- A gate of the block: the logistic of the turned block's column and the bias. -/
def gateB (r : Fin 256) (e : Fin 6144) : EReal :=
  Ideal.logistic ((x3 (ix2 r ⟨e.val + 16, by have := e.isLt; omega⟩) : EReal) + x4 (ix3 0 0 e))

/-- A row of the gated sum. -/
def mixedB (r : Fin 256) (e : Fin 2048) : EReal :=
  gateB x3 x4 r ⟨e.val, by have := e.isLt; omega⟩ * (∑ k : Fin 1024, (x0 (ix2 r k) : EReal) * x5 (ix3 0 k e))
    + gateB x3 x4 r ⟨2048 + e.val, by have := e.isLt; omega⟩ * (∑ k : Fin 512, (x1 (ix2 r k) : EReal) * x6 (ix3 0 k e))
    + gateB x3 x4 r ⟨4096 + e.val, by have := e.isLt; omega⟩ * (∑ k : Fin 512, (x2 (ix2 r k) : EReal) * x7 (ix3 0 k e))

/-- A row of the residual. -/
def resB (M : Fin 256 → Fin 2048 → EReal) (r : Fin 256) (e : Fin 2048) : EReal :=
  (x9 (ix2 r e) : EReal) + (x10 (ix3 0 0 e) : EReal) * ∑ k : Fin 2048, M r k * (x8 (ix3 0 k e) : EReal)

/-- The gates of a block as the body computes them. -/
abbrev gateVec : FVec Ideal S256x6144 .f32 :=
  logistic (addf (extractStridedSlice S256x6144 ![0, 0] (dynamicRotate 1 6640#32 none x3 rotates_S256x6656_d1) slices_S256x6656_o0_0_S256x6144)
    (broadcastTo S256x6144 (shapeCast S1x6144 x4 shapeCasts_S1x1x6144_S1x6144) broadcasts_S1x6144_S256x6144))

theorem gate_apply (r : Fin 256) (j : Fin 6144) : (gateVec x3 x4 (ix2 r j) : EReal) = gateB x3 x4 r j := by
  have ht := turned_apply (F := Ideal) x3 r j
  unfold gateVec
  revert ht
  generalize extractStridedSlice S256x6144 ![0, 0] (dynamicRotate 1 6640#32 none x3 rotates_S256x6656_d1) slices_S256x6656_o0_0_S256x6144 = T
  intro ht
  unfold gateB
  pointwise [ht]
  try rfl

theorem merged_apply (r : Fin 256) (e : Fin 2048) :
    (merged (F := Ideal) x0 x1 x2 x3 x4 x5 x6 x7 (ix2 r e) : EReal) = mixedB x0 x1 x2 x3 x4 x5 x6 x7 r e := by
  have hg := gate_apply x3 x4 r
  unfold gateVec at hg
  unfold merged k0_pay3 mixedB
  dsimp only
  revert hg
  generalize (logistic (addf (extractStridedSlice S256x6144 ![0, 0] (dynamicRotate 1 6640#32 none x3 rotates_S256x6656_d1) slices_S256x6656_o0_0_S256x6144)
    (broadcastTo S256x6144 (shapeCast S1x6144 x4 shapeCasts_S1x1x6144_S1x6144) broadcasts_S1x6144_S256x6144)) : FVec Ideal S256x6144 .f32) = G
  intro hg
  pointwise
  rw [← hg, ← hg, ← hg]

theorem res_apply (r : Fin 256) (e : Fin 2048) :
    (outRes (F := Ideal) x0 x1 x2 x3 x4 x5 x6 x7 x8 x9 x10 (ix2 r e) : EReal) = resB x8 x9 x10 (mixedB x0 x1 x2 x3 x4 x5 x6 x7) r e := by
  have hM := merged_apply x0 x1 x2 x3 x4 x5 x6 x7 r
  unfold outRes resB
  revert hM
  generalize merged (F := Ideal) x0 x1 x2 x3 x4 x5 x6 x7 = M
  intro hM
  unfold k0_pay1 k0_pay4
  pointwise
  simp only [hM]

theorem norm_apply (r : Fin 256) (e : Fin 2048) :
    (outNorm (F := Ideal) x0 x1 x2 x3 x4 x5 x6 x7 x8 x9 x10 x11 x12 x13 (ix2 r e) : EReal)
      = normed (resB x8 x9 x10 (mixedB x0 x1 x2 x3 x4 x5 x6 x7) r) (fun k => x11 (ix3 0 0 k)) (fun k => x12 (ix3 0 0 k)) (fun k => x13 (ix3 0 0 k)) e := by
  have hR : ∀ k : Fin 2048, _ := fun k => res_apply x0 x1 x2 x3 x4 x5 x6 x7 x8 x9 x10 r k
  unfold outNorm k0_pay2
  unfold outRes at hR
  dsimp only
  revert hR
  generalize k0_pay1 (F := Ideal) (merged (F := Ideal) x0 x1 x2 x3 x4 x5 x6 x7) (k0_pay4 x8) (constant S256x2048 .f32 0x00000000#32) x9 x10 = R
  intro hR
  pointwise
  simp only [hR]
  rfl

end Cert.Mix

end
-- ==== Proof.Mix.Array.lean ====
/- What the gated mix's two result arrays hold after the run, over the extended reals. -/
module

public import proofs.«01_k».proof.Proof.Mix.Block

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Layer

variable (m : (ℓ : Loc nD τ sig) → Buf (Elt Ideal) ℓ) (ρ : Dev nD → PrngReg)

/-- The arguments as the run finds them. -/
abbrev yna (c : Dev nD) : FVec Ideal S12288x1024 .bf16 := m ((c : Thread nD τ).loc main_arg0)
abbrev yhy (c : Dev nD) : FVec Ideal S12288x512 .bf16 := m ((c : Thread nD τ).loc main_arg1)
abbrev ygdn (c : Dev nD) : FVec Ideal S12288x512 .bf16 := m ((c : Thread nD τ).loc main_arg2)
abbrev proj (c : Dev nD) : FVec Ideal S12288x12816 .f32 := m ((c : Thread nD τ).loc main_arg3)
abbrev bias (c : Dev nD) : FVec Ideal S2x6144 .f32 := m ((c : Thread nD τ).loc main_arg4)
abbrev wa (c : Dev nD) : FVec Ideal S2x1024x2048 .f32 := m ((c : Thread nD τ).loc main_arg5)
abbrev wb (c : Dev nD) : FVec Ideal S2x512x2048 .f32 := m ((c : Thread nD τ).loc main_arg6)
abbrev wc (c : Dev nD) : FVec Ideal S2x512x2048 .f32 := m ((c : Thread nD τ).loc main_arg7)
abbrev wOut (c : Dev nD) : FVec Ideal S2x2048x2048 .f32 := m ((c : Thread nD τ).loc main_arg8)
abbrev xRes (c : Dev nD) : FVec Ideal S12288x2048 .f32 := m ((c : Thread nD τ).loc main_arg9)
abbrev modT (c : Dev nD) : FVec Ideal S16x1x12288 .f32 := m ((c : Thread nD τ).loc main_arg10)
abbrev gain (c : Dev nD) : FVec Ideal S2x2048 .f32 := m ((c : Thread nD τ).loc main_arg11)

/-- The weights as the call finds them: the arguments', their format changed. -/
theorem wa_entry (c : Dev nD) (i : S2x1024x2048.Idx) : V m c main_v0 i = wa m c i := by
  have : V m c main_v0 = truncf (F := Ideal) .bf16 (wa m c) bitsLt_bf16_f32 := by
    show StableHlo.after hostOps0 _ (Proc.devRef .tc main_v0) = _
    after_results
  rw [this]; rfl

theorem wb_entry (c : Dev nD) (i : S2x512x2048.Idx) : V m c main_v1 i = wb m c i := by
  have : V m c main_v1 = truncf (F := Ideal) .bf16 (wb m c) bitsLt_bf16_f32 := by
    show StableHlo.after hostOps0 _ (Proc.devRef .tc main_v1) = _
    after_results
  rw [this]; rfl

theorem wc_entry (c : Dev nD) (i : S2x512x2048.Idx) : V m c main_v2 i = wc m c i := by
  have : V m c main_v2 = truncf (F := Ideal) .bf16 (wc m c) bitsLt_bf16_f32 := by
    show StableHlo.after hostOps0 _ (Proc.devRef .tc main_v2) = _
    after_results
  rw [this]; rfl

theorem wOut_entry (c : Dev nD) (i : S2x2048x2048.Idx) : V m c main_v3 i = wOut m c i := by
  have : V m c main_v3 = truncf (F := Ideal) .bf16 (wOut m c) bitsLt_bf16_f32 := by
    show StableHlo.after hostOps0 _ (Proc.devRef .tc main_v3) = _
    after_results
  rw [this]; rfl

theorem bias_entry (c : Dev nD) (l : Fin 2) (k : Fin 6144) : V m c main_v4 (ix3 l 0 k) = bias m c (ix2 l k) := by
  have : V m c main_v4 = shapeCast S2x1x6144 (bias m c) shapeCasts_S2x6144_S2x1x6144 := by
    show StableHlo.after hostOps0 _ (Proc.devRef .tc main_v4) = _
    after_results
    rfl
  rw [this]; pointwise

theorem gain_entry (c : Dev nD) (l : Fin 2) (k : Fin 2048) : V m c main_v5 (ix3 l 0 k) = gain m c (ix2 l k) := by
  have : V m c main_v5 = shapeCast S2x1x2048 (gain m c) shapeCasts_S2x2048_S2x1x2048 := by
    show StableHlo.after hostOps0 _ (Proc.devRef .tc main_v5) = _
    after_results
    rfl
  rw [this]; pointwise

/-- The windows' block indices. -/
theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 1] := (by decide +kernel : ∀ t : Fin grid0.N, _)
theorem idx_4 : ∀ t : Fin cfg0.N, win0_4.index t = ![1, 0, 0] := (by decide +kernel : ∀ t : Fin grid0.N, _)
theorem idx_5 : ∀ t : Fin cfg0.N, win0_5.index t = ![1, 0, 0] := (by decide +kernel : ∀ t : Fin grid0.N, _)
theorem idx_6 : ∀ t : Fin cfg0.N, win0_6.index t = ![1, 0, 0] := (by decide +kernel : ∀ t : Fin grid0.N, _)
theorem idx_7 : ∀ t : Fin cfg0.N, win0_7.index t = ![1, 0, 0] := (by decide +kernel : ∀ t : Fin grid0.N, _)
theorem idx_8 : ∀ t : Fin cfg0.N, win0_8.index t = ![1, 0, 0] := (by decide +kernel : ∀ t : Fin grid0.N, _)
theorem idx_9 : ∀ t : Fin cfg0.N, win0_9.index t = ![t.val, 0] := (by decide +kernel : ∀ t : Fin grid0.N, _)
theorem idx_10 : ∀ t : Fin cfg0.N, win0_10.index t = ![8 + condRow (t.val * 256), 0, 2] := (by decide +kernel : ∀ t : Fin grid0.N, _)
theorem idx_11 : ∀ t : Fin cfg0.N, win0_11.index t = ![1, 0, 0] := (by decide +kernel : ∀ t : Fin grid0.N, _)
theorem idx_12 : ∀ t : Fin cfg0.N, win0_12.index t = ![8 + condRow (t.val * 256), 0, 3] := (by decide +kernel : ∀ t : Fin grid0.N, _)
theorem idx_13 : ∀ t : Fin cfg0.N, win0_13.index t = ![8 + condRow (t.val * 256), 0, 4] := (by decide +kernel : ∀ t : Fin grid0.N, _)
theorem idx_14 : ∀ t : Fin cfg0.N, win0_14.index t = ![t.val, 0] := (by decide +kernel : ∀ t : Fin grid0.N, _)
theorem idx_15 : ∀ t : Fin cfg0.N, win0_15.index t = ![t.val, 0] := (by decide +kernel : ∀ t : Fin grid0.N, _)

/-- The rows of one block read one row of the modulation table. -/
theorem cond_block (t r : Nat) (hr : r < 256) : condRow (t * 256 + r) = condRow (t * 256) := by
  unfold condRow
  split <;> split <;> omega

theorem yna_apply (c : Dev nD) (t : Fin cfg0.N) (r : Fin 256) (k : Fin 1024) :
    iblk m c 0 t (ix2 r k) = at2 (yna m c) (t.val * 256 + r.val) k.val := by
  unfold iblk
  rw [View.read_apply]
  refine (congrFun (V_main_arg0 m c) _).trans (at2_eq (yna m c) _ _ _ ?_ ?_)
  · show win0_0.index t 0 * 256 + 1 * r.val = _
    rw [idx_0 t]; simp
  · show win0_0.index t 1 * 1024 + 1 * k.val = _
    rw [idx_0 t]; simp

theorem yhy_apply (c : Dev nD) (t : Fin cfg0.N) (r : Fin 256) (k : Fin 512) :
    iblk m c 1 t (ix2 r k) = at2 (yhy m c) (t.val * 256 + r.val) k.val := by
  unfold iblk
  rw [View.read_apply]
  refine (congrFun (V_main_arg1 m c) _).trans (at2_eq (yhy m c) _ _ _ ?_ ?_)
  · show win0_1.index t 0 * 256 + 1 * r.val = _
    rw [idx_1 t]; simp
  · show win0_1.index t 1 * 512 + 1 * k.val = _
    rw [idx_1 t]; simp

theorem ygdn_apply (c : Dev nD) (t : Fin cfg0.N) (r : Fin 256) (k : Fin 512) :
    iblk m c 2 t (ix2 r k) = at2 (ygdn m c) (t.val * 256 + r.val) k.val := by
  unfold iblk
  rw [View.read_apply]
  refine (congrFun (V_main_arg2 m c) _).trans (at2_eq (ygdn m c) _ _ _ ?_ ?_)
  · show win0_2.index t 0 * 256 + 1 * r.val = _
    rw [idx_2 t]; simp
  · show win0_2.index t 1 * 512 + 1 * k.val = _
    rw [idx_2 t]; simp

theorem xRes_apply (c : Dev nD) (t : Fin cfg0.N) (r : Fin 256) (k : Fin 2048) :
    iblk m c 9 t (ix2 r k) = at2 (xRes m c) (t.val * 256 + r.val) k.val := by
  unfold iblk
  rw [View.read_apply]
  refine (congrFun (V_main_arg9 m c) _).trans (at2_eq (xRes m c) _ _ _ ?_ ?_)
  · show win0_9.index t 0 * 256 + 1 * r.val = _
    rw [idx_9 t]; simp
  · show win0_9.index t 1 * 2048 + 1 * k.val = _
    rw [idx_9 t]; simp

/-- A column of the gates' block inside the array. -/
theorem gates_apply (c : Dev nD) (t : Fin cfg0.N) (d) (r : Fin 256) (e : Fin 6656) (he : e.val < 6160) :
    gates m c t d (ix2 r e) = at2 (proj m c) (t.val * 256 + r.val) (6656 + e.val) := by
  have hm : win0_3.moved (grid0.coords t) (ix2 r e) = true := by
    rw [Pipeline.Window.moved_iff, size_3 t]
    intro a
    fin_cases a
    · exact r.isLt
    · exact he
  unfold gates Pipeline.Window.fill
  rw [dif_pos hm]
  unfold iblk
  rw [View.read_apply]
  have h : ∀ j : ((cfg0.win 3).xblock (cfg0.grid.coords t)).Idx, (j 0).val = r.val → (j 1).val = e.val →
      V m c main_arg3 (((cfg0.win 3).blk t).view.emb j : S12288x12816.Idx) = at2 (proj m c) (t.val * 256 + r.val) (6656 + e.val) := by
    intro j h0 h1
    refine (congrFun (V_main_arg3 m c) _).trans (at2_eq (proj m c) _ _ _ ?_ ?_)
    · show win0_3.index t 0 * 256 + 1 * (j 0).val = _
      rw [idx_3 t, h0]; simp
    · show win0_3.index t 1 * 6656 + 1 * (j 1).val = _
      rw [idx_3 t, h1]; simp
  exact h _ rfl rfl

theorem wa_apply (c : Dev nD) (t : Fin cfg0.N) (k : Fin 1024) (e : Fin 2048) :
    iblk m c 5 t (ix3 0 k e) = at3 (wa m c) 1 k.val e.val := by
  unfold iblk
  rw [View.read_apply]
  refine (wa_entry m c _).trans (at3_eq (wa m c) _ _ _ _ ?_ ?_ ?_)
  · show win0_5.index t 0 * 1 + 1 * 0 = _
    rw [idx_5 t]; simp
  · show win0_5.index t 1 * 1024 + 1 * k.val = _
    rw [idx_5 t]; simp
  · show win0_5.index t 2 * 2048 + 1 * e.val = _
    rw [idx_5 t]; simp

theorem wb_apply (c : Dev nD) (t : Fin cfg0.N) (k : Fin 512) (e : Fin 2048) :
    iblk m c 6 t (ix3 0 k e) = at3 (wb m c) 1 k.val e.val := by
  unfold iblk
  rw [View.read_apply]
  refine (wb_entry m c _).trans (at3_eq (wb m c) _ _ _ _ ?_ ?_ ?_)
  · show win0_6.index t 0 * 1 + 1 * 0 = _
    rw [idx_6 t]; simp
  · show win0_6.index t 1 * 512 + 1 * k.val = _
    rw [idx_6 t]; simp
  · show win0_6.index t 2 * 2048 + 1 * e.val = _
    rw [idx_6 t]; simp

theorem wc_apply (c : Dev nD) (t : Fin cfg0.N) (k : Fin 512) (e : Fin 2048) :
    iblk m c 7 t (ix3 0 k e) = at3 (wc m c) 1 k.val e.val := by
  unfold iblk
  rw [View.read_apply]
  refine (wc_entry m c _).trans (at3_eq (wc m c) _ _ _ _ ?_ ?_ ?_)
  · show win0_7.index t 0 * 1 + 1 * 0 = _
    rw [idx_7 t]; simp
  · show win0_7.index t 1 * 512 + 1 * k.val = _
    rw [idx_7 t]; simp
  · show win0_7.index t 2 * 2048 + 1 * e.val = _
    rw [idx_7 t]; simp

theorem wOut_apply (c : Dev nD) (t : Fin cfg0.N) (k : Fin 2048) (e : Fin 2048) :
    iblk m c 8 t (ix3 0 k e) = at3 (wOut m c) 1 k.val e.val := by
  unfold iblk
  rw [View.read_apply]
  refine (wOut_entry m c _).trans (at3_eq (wOut m c) _ _ _ _ ?_ ?_ ?_)
  · show win0_8.index t 0 * 1 + 1 * 0 = _
    rw [idx_8 t]; simp
  · show win0_8.index t 1 * 2048 + 1 * k.val = _
    rw [idx_8 t]; simp
  · show win0_8.index t 2 * 2048 + 1 * e.val = _
    rw [idx_8 t]; simp

theorem bias_apply (c : Dev nD) (t : Fin cfg0.N) (e : Fin 6144) :
    iblk m c 4 t (ix3 0 0 e) = at2 (bias m c) 1 e.val := by
  unfold iblk
  rw [View.read_apply]
  have h : (((cfg0.win 4).blk t).view.emb (ix3 0 0 e) : S2x1x6144.Idx) = ix3 1 0 e := by
    funext a
    have ei := idx_4 t
    fin_cases a
    · exact Fin.ext (by show win0_4.index t 0 * 1 + 1 * 0 = 1; rw [ei]; simp)
    · exact Fin.ext (by show win0_4.index t 1 * 1 + 1 * 0 = 0; rw [ei]; simp)
    · exact Fin.ext (by show win0_4.index t 2 * 6144 + 1 * e.val = e.val; rw [ei]; simp)
  refine (congrArg (V m c main_v4) h).trans ((bias_entry m c 1 e).trans (at2_eq (bias m c) _ _ _ rfl rfl))

theorem gain_apply (c : Dev nD) (t : Fin cfg0.N) (e : Fin 2048) :
    iblk m c 11 t (ix3 0 0 e) = at2 (gain m c) 1 e.val := by
  unfold iblk
  rw [View.read_apply]
  have h : (((cfg0.win 11).blk t).view.emb (ix3 0 0 e) : S2x1x2048.Idx) = ix3 1 0 e := by
    funext a
    have ei := idx_11 t
    fin_cases a
    · exact Fin.ext (by show win0_11.index t 0 * 1 + 1 * 0 = 1; rw [ei]; simp)
    · exact Fin.ext (by show win0_11.index t 1 * 1 + 1 * 0 = 0; rw [ei]; simp)
    · exact Fin.ext (by show win0_11.index t 2 * 2048 + 1 * e.val = e.val; rw [ei]; simp)
  refine (congrArg (V m c main_v5) h).trans ((gain_entry m c 1 e).trans (at2_eq (gain m c) _ _ _ rfl rfl))

theorem resGate_apply (c : Dev nD) (t : Fin cfg0.N) (e : Fin 2048) :
    iblk m c 10 t (ix3 0 0 e) = at3 (modT m c) (8 + condRow (t.val * 256)) 0 (4096 + e.val) := by
  unfold iblk
  rw [View.read_apply]
  refine (congrFun (V_main_arg10 m c) _).trans (at3_eq (modT m c) _ _ _ _ ?_ ?_ ?_)
  · show win0_10.index t 0 * 1 + 1 * 0 = _
    rw [idx_10 t]; simp
  · show win0_10.index t 1 * 1 + 1 * 0 = _
    rw [idx_10 t]; simp
  · show win0_10.index t 2 * 2048 + 1 * e.val = _
    rw [idx_10 t]; simp

theorem shift_apply (c : Dev nD) (t : Fin cfg0.N) (e : Fin 2048) :
    iblk m c 12 t (ix3 0 0 e) = at3 (modT m c) (8 + condRow (t.val * 256)) 0 (6144 + e.val) := by
  unfold iblk
  rw [View.read_apply]
  refine (congrFun (V_main_arg10 m c) _).trans (at3_eq (modT m c) _ _ _ _ ?_ ?_ ?_)
  · show win0_12.index t 0 * 1 + 1 * 0 = _
    rw [idx_12 t]; simp
  · show win0_12.index t 1 * 1 + 1 * 0 = _
    rw [idx_12 t]; simp
  · show win0_12.index t 2 * 2048 + 1 * e.val = _
    rw [idx_12 t]; simp

theorem scale_apply (c : Dev nD) (t : Fin cfg0.N) (e : Fin 2048) :
    iblk m c 13 t (ix3 0 0 e) = at3 (modT m c) (8 + condRow (t.val * 256)) 0 (8192 + e.val) := by
  unfold iblk
  rw [View.read_apply]
  refine (congrFun (V_main_arg10 m c) _).trans (at3_eq (modT m c) _ _ _ _ ?_ ?_ ?_)
  · show win0_13.index t 0 * 1 + 1 * 0 = _
    rw [idx_13 t]; simp
  · show win0_13.index t 1 * 1 + 1 * 0 = _
    rw [idx_13 t]; simp
  · show win0_13.index t 2 * 2048 + 1 * e.val = _
    rw [idx_13 t]; simp

/-- The gated sum of the run's arguments. -/
abbrev mix (c : Dev nD) : Nat → Fin 2048 → EReal :=
  mixed (yna m c) (yhy m c) (ygdn m c) (proj m c) (bias m c) (wa m c) (wb m c) (wc m c)

/-- What the two arrays hold. -/
def G14 (c : Dev nD) : Buf (Elt Ideal) ((c : Thread nD τ).loc main_v6_0) :=
  fun i : S12288x2048.Idx => mixRes (mix m c) (wOut m c) (xRes m c) (modT m c) (i 0).val (i 1)
def G15 (c : Dev nD) : Buf (Elt Ideal) ((c : Thread nD τ).loc main_v6_1) :=
  fun i : S12288x2048.Idx => mixNorm (mix m c) (wOut m c) (xRes m c) (modT m c) (gain m c) (i 0).val (i 1)

theorem gateB_eq (c : Dev nD) (t : Fin cfg0.N) (r : Fin 256) (j : Fin 6144) :
    gateB (gates m c t junk) (iblk m c 4 t) r j
      = Ideal.logistic (at2 (proj m c) (t.val * 256 + r.val) (6672 + j.val) + at2 (bias m c) 1 j.val) := by
  have hj := j.isLt
  unfold gateB
  rw [gates_apply m c t junk r _ (by show j.val + 16 < 6160; omega), bias_apply,
    show 6656 + (j.val + 16) = 6672 + j.val from by omega]

/-- Point `t`'s row of the gated sum. -/
theorem mixed_eq (c : Dev nD) (t : Fin cfg0.N) (r : Fin 256) :
    (mixedB (iblk m c 0 t) (iblk m c 1 t) (iblk m c 2 t) (gates m c t junk) (iblk m c 4 t) (iblk m c 5 t) (iblk m c 6 t) (iblk m c 7 t)) r
      = mix m c (t.val * 256 + r.val) := by
  funext e
  unfold mixedB mix mixed
  rw [gateB_eq, gateB_eq, gateB_eq]
  simp only [yna_apply, yhy_apply, ygdn_apply, wa_apply, wb_apply, wc_apply]

/-- Point `t`'s residual row is the array's row. -/
theorem row_eq (c : Dev nD) (t : Fin cfg0.N) (r : Fin 256) :
    resB (iblk m c 8 t) (iblk m c 9 t) (iblk m c 10 t) (mixedB (iblk m c 0 t) (iblk m c 1 t) (iblk m c 2 t) (gates m c t junk) (iblk m c 4 t) (iblk m c 5 t) (iblk m c 6 t) (iblk m c 7 t)) r
      = mixRes (mix m c) (wOut m c) (xRes m c) (modT m c) (t.val * 256 + r.val) := by
  funext e
  unfold resB mixRes
  rw [xRes_apply, resGate_apply, cond_block _ _ r.isLt, mixed_eq]
  refine congrArg (fun z => _ + _ * z) (Finset.sum_congr rfl fun k _ => ?_)
  rw [wOut_apply]

theorem emb14 (t : Fin cfg0.N) (r : Fin 256) (e : Fin 2048) (n : Fin 12288) (hn : n.val = t.val * 256 + r.val) :
    (((cfg0.win 14).blk t).view.emb (ix2 r e) : S12288x2048.Idx) = ix2 n e := by
  funext a
  have ei := idx_14 t
  fin_cases a
  · exact Fin.ext (by show win0_14.index t 0 * 256 + 1 * r.val = n.val; rw [ei, hn]; simp)
  · exact Fin.ext (by show win0_14.index t 1 * 2048 + 1 * e.val = e.val; rw [ei]; simp)

theorem emb15 (t : Fin cfg0.N) (r : Fin 256) (e : Fin 2048) (n : Fin 12288) (hn : n.val = t.val * 256 + r.val) :
    (((cfg0.win 15).blk t).view.emb (ix2 r e) : S12288x2048.Idx) = ix2 n e := by
  funext a
  have ei := idx_15 t
  fin_cases a
  · exact Fin.ext (by show win0_15.index t 0 * 256 + 1 * r.val = n.val; rw [ei, hn]; simp)
  · exact Fin.ext (by show win0_15.index t 1 * 2048 + 1 * e.val = e.val; rw [ei]; simp)

theorem flush14 (c : Dev nD) (t : Fin cfg0.N) : (dats m 0 c).flushed 14 t = ((cfg0.win 14).blk t).view.read (Elt Ideal) (G14 m c) := by
  show (dats m 0 c).after 14 t = _
  rw [after_14]
  funext y
  rw [View.read_apply]
  obtain ⟨r, e, rfl⟩ : ∃ (r : Fin 256) (e : Fin 2048), y = ix2 r e := ⟨y 0, y 1, by funext a; fin_cases a <;> rfl⟩
  have hN : t.val < 48 := t.isLt
  have hr := r.isLt
  have hb : t.val * 256 + r.val < 12288 := by omega
  refine (res_apply _ _ _ _ _ _ _ _ _ _ _ r e).trans ?_
  refine Eq.trans ?_ (congrArg (G14 m c) (emb14 t r e ⟨_, hb⟩ rfl)).symm
  exact congrFun (row_eq m c t r) e

theorem flush15 (c : Dev nD) (t : Fin cfg0.N) : (dats m 0 c).flushed 15 t = ((cfg0.win 15).blk t).view.read (Elt Ideal) (G15 m c) := by
  show (dats m 0 c).after 15 t = _
  rw [after_15]
  funext y
  rw [View.read_apply]
  obtain ⟨r, e, rfl⟩ : ∃ (r : Fin 256) (e : Fin 2048), y = ix2 r e := ⟨y 0, y 1, by funext a; fin_cases a <;> rfl⟩
  have hN : t.val < 48 := t.isLt
  have hr := r.isLt
  have hb : t.val * 256 + r.val < 12288 := by omega
  refine (norm_apply _ _ _ _ _ _ _ _ _ _ _ _ _ _ r e).trans ?_
  refine Eq.trans ?_ (congrArg (G15 m c) (emb15 t r e ⟨_, hb⟩ rfl)).symm
  show _ = mixNorm (mix m c) (wOut m c) (xRes m c) (modT m c) (gain m c) (t.val * 256 + r.val) e
  unfold mixNorm
  rw [row_eq, cond_block _ _ hr]
  congr 1
  · exact funext fun k => gain_apply m c t k
  · exact funext fun k => shift_apply m c t k
  · exact funext fun k => scale_apply m c t k

theorem final14 (c : Dev nD) (i : S12288x2048.Idx) : (dats m 0 c).arrAt 14 cfg0.N i = G14 m c i := by
  have h0 : (i 0).val < 12288 := (i 0).isLt
  have h1 : (i 1).val < 2048 := (i 1).isLt
  have hN : cfg0.N = 48 := N_0
  let t : Fin cfg0.N := ⟨(i 0).val / 256, by rw [hN]; omega⟩
  refine (dats m 0 c).arrAt_apply_of_mem 14 (G14 m c) (fun t _ => flush14 m c t) cfg0.N t i t.isLt (flush0_14 t) ?_
  show i ∈ ((View.whole main_v6_0).slice (win0_14.rect t)).set
  rw [View.set_slice_whole, Rect.mem_set_unit]
  intro a
  have e := idx_14 t
  fin_cases a
  · show win0_14.index t 0 * 256 ≤ (i 0).val ∧ (i 0).val < win0_14.index t 0 * 256 + 256
    rw [e]; show (i 0).val / 256 * 256 ≤ _ ∧ _ < (i 0).val / 256 * 256 + 256; omega
  · show win0_14.index t 1 * 2048 ≤ (i 1).val ∧ (i 1).val < win0_14.index t 1 * 2048 + 2048
    rw [e]; show 0 * 2048 ≤ _ ∧ _ < 0 * 2048 + 2048; omega

theorem final15 (c : Dev nD) (i : S12288x2048.Idx) : (dats m 0 c).arrAt 15 cfg0.N i = G15 m c i := by
  have h0 : (i 0).val < 12288 := (i 0).isLt
  have h1 : (i 1).val < 2048 := (i 1).isLt
  have hN : cfg0.N = 48 := N_0
  let t : Fin cfg0.N := ⟨(i 0).val / 256, by rw [hN]; omega⟩
  refine (dats m 0 c).arrAt_apply_of_mem 15 (G15 m c) (fun t _ => flush15 m c t) cfg0.N t i t.isLt (flush0_15 t) ?_
  show i ∈ ((View.whole main_v6_1).slice (win0_15.rect t)).set
  rw [View.set_slice_whole, Rect.mem_set_unit]
  intro a
  have e := idx_15 t
  fin_cases a
  · show win0_15.index t 0 * 256 ≤ (i 0).val ∧ (i 0).val < win0_15.index t 0 * 256 + 256
    rw [e]; show (i 0).val / 256 * 256 ≤ _ ∧ _ < (i 0).val / 256 * 256 + 256; omega
  · show win0_15.index t 1 * 2048 ≤ (i 1).val ∧ (i 1).val < win0_15.index t 1 * 2048 + 2048
    rw [e]; show 0 * 2048 ≤ _ ∧ _ < 0 * 2048 + 2048; omega

/-- The run with the result arrays named and the arguments unchanged. -/
theorem run_value : θ_run defs (onTc (τ := τ) (main (F := Ideal))) ⟨m, fun _ => 0, ρ⟩ (fun r => ∀ c : Dev nD,
      r.2.mem ((c.tc : Thread nD τ).loc main_v6_0) = G14 m c
      ∧ r.2.mem ((c.tc : Thread nD τ).loc main_v6_1) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  by
  refine (θ_run defs _ _).mono ?_ (θ_run_and (run_main m ρ) (frame m ρ))
  intro r h c
  exact ⟨((h.1.1 c).1 14).trans (funext fun i => final14 m c i),
    ((h.1.1 c).1 15).trans (funext fun i => final15 m c i), h.2.1 c⟩

end Cert.Mix

end
-- ==== Proof.Mix.Reference.lean ====
/-
  What the gated mix's reference computes, element by element: the gated sum of the branches, the rows of
  the modulation table each token reads, the residual and the norm.
-/
module

public import proofs.«01_k».proof.Proof.Mix.Array
public import proofs.«01_k».proof.Proof.Gen.Reference5Ideal.Run
public import proofs.«01_k».proof.Proof.Gen.Reference5Ideal.Read

@[expose] public section

set_option maxRecDepth 16384

noncomputable section

namespace Cert.Reference5Ideal.Mix

open Idealize.ShloMosaic Idealize.ShloMosaic.TcCoe Idealize.SL.Sem
open Cert.Reference5Ideal Cert.Reference5Ideal.Gen Cert.Reference5Ideal.Read Cert.Layer

variable (x0 : FVec Ideal S12288x1024 .bf16) (x1 x2 : FVec Ideal S12288x512 .bf16) (x3 : FVec Ideal S12288x12816 .f32)
    (x4 : FVec Ideal S2x6144 .f32) (x5 : FVec Ideal S2x1024x2048 .f32) (x6 x7 : FVec Ideal S2x512x2048 .f32)
    (x8 : FVec Ideal S2x2048x2048 .f32) (x9 : FVec Ideal S12288x2048 .f32) (x10 : FVec Ideal S16x1x12288 .f32)
    (x11 : FVec Ideal S2x2048 .f32)

/-- The gates before the logistic. -/
theorem pre_gate (n : Fin 12288) (j : Fin 6144) :
    val_main_v5 (F := Ideal) x3 x4 (ix2 n j) = at2 x3 n.val (6672 + j.val) + at2 x4 1 j.val := by
  rw [val_main_v5_apply, val_main_v0_apply, val_main_v4_apply, val_main_v3_apply, val_main_v2_apply, val_main_v1_apply]
  refine congrArg₂ (· + ·) (at2_eq x3 _ _ _ ?_ ?_) (at2_eq x4 _ _ _ rfl ?_)
  · show n.val = _; rfl
  · show 6672 + j.val = _; rfl
  · show j.val % 6144 = _; omega

theorem gate (n : Fin 12288) (j : Fin 6144) :
    val_main_v11 (F := Ideal) x3 x4 (ix2 n j) = Ideal.logistic (at2 x3 n.val (6672 + j.val) + at2 x4 1 j.val) := by
  rw [← pre_gate x3 x4 n j, val_main_v11_apply, val_main_v9_apply, val_main_v7_apply, val_main_v6_apply, val_main_v8_apply,
    val_main_v10_apply]
  have one : ∀ i, val_main_cst (F := Ideal) i = 1 := fun _ => Ideal.ofBits_one_f32
  have one' : ∀ i, val_main_cst_0 (F := Ideal) i = 1 := fun _ => Ideal.ofBits_one_f32
  rw [one, one']
  rfl

theorem ya (n : Fin 12288) (e : Fin 2048) :
    val_main_v16 (F := Ideal) x0 x5 (ix2 n e) = ∑ k : Fin 1024, at2 x0 n.val k.val * at3 x5 1 k.val e.val := by
  rw [val_main_v16_apply]
  refine Finset.sum_congr rfl fun k _ => ?_
  have el : lidx_main_v16 (ix2 n e) k = ix2 n k := funext fun a => by fin_cases a <;> rfl
  have er : ridx_main_v16 (ix2 n e) k = ix2 k e := funext fun a => by fin_cases a <;> rfl
  rw [el, er, val_main_v13_apply, val_main_v15_apply, val_main_v14_apply]
  refine congrArg₂ (· * ·) (at2_eq x0 _ _ _ rfl rfl) (at3_eq x5 _ _ _ _ rfl ?_ ?_)
  · show (k.val * 2048 + e.val) / 2048 % 1024 = _; omega
  · show (k.val * 2048 + e.val) % 2048 = _; omega

theorem gate_ya (n : Fin 12288) (e : Fin 2048) :
    val_main_v12 (F := Ideal) x3 x4 (ix2 n e) = Ideal.logistic (at2 x3 n.val (6672 + (e.val)) + at2 x4 1 (e.val)) := by
  have he := e.isLt
  rw [val_main_v12_apply]
  have ei : idx_main_v12 (ix2 n e) = ix2 n (⟨e.val, by omega⟩ : Fin 6144) := funext fun a => by fin_cases a <;> rfl
  rw [ei, gate]

theorem yb (n : Fin 12288) (e : Fin 2048) :
    val_main_v22 (F := Ideal) x1 x6 (ix2 n e) = ∑ k : Fin 512, at2 x1 n.val k.val * at3 x6 1 k.val e.val := by
  rw [val_main_v22_apply]
  refine Finset.sum_congr rfl fun k _ => ?_
  have el : lidx_main_v22 (ix2 n e) k = ix2 n k := funext fun a => by fin_cases a <;> rfl
  have er : ridx_main_v22 (ix2 n e) k = ix2 k e := funext fun a => by fin_cases a <;> rfl
  rw [el, er, val_main_v19_apply, val_main_v21_apply, val_main_v20_apply]
  refine congrArg₂ (· * ·) (at2_eq x1 _ _ _ rfl rfl) (at3_eq x6 _ _ _ _ rfl ?_ ?_)
  · show (k.val * 2048 + e.val) / 2048 % 512 = _; omega
  · show (k.val * 2048 + e.val) % 2048 = _; omega

theorem gate_yb (n : Fin 12288) (e : Fin 2048) :
    val_main_v18 (F := Ideal) x3 x4 (ix2 n e) = Ideal.logistic (at2 x3 n.val (6672 + (2048 + e.val)) + at2 x4 1 (2048 + e.val)) := by
  have he := e.isLt
  rw [val_main_v18_apply]
  have ei : idx_main_v18 (ix2 n e) = ix2 n (⟨2048 + e.val, by omega⟩ : Fin 6144) := funext fun a => by fin_cases a <;> rfl
  rw [ei, gate]

theorem yc (n : Fin 12288) (e : Fin 2048) :
    val_main_v29 (F := Ideal) x2 x7 (ix2 n e) = ∑ k : Fin 512, at2 x2 n.val k.val * at3 x7 1 k.val e.val := by
  rw [val_main_v29_apply]
  refine Finset.sum_congr rfl fun k _ => ?_
  have el : lidx_main_v29 (ix2 n e) k = ix2 n k := funext fun a => by fin_cases a <;> rfl
  have er : ridx_main_v29 (ix2 n e) k = ix2 k e := funext fun a => by fin_cases a <;> rfl
  rw [el, er, val_main_v26_apply, val_main_v28_apply, val_main_v27_apply]
  refine congrArg₂ (· * ·) (at2_eq x2 _ _ _ rfl rfl) (at3_eq x7 _ _ _ _ rfl ?_ ?_)
  · show (k.val * 2048 + e.val) / 2048 % 512 = _; omega
  · show (k.val * 2048 + e.val) % 2048 = _; omega

theorem gate_yc (n : Fin 12288) (e : Fin 2048) :
    val_main_v25 (F := Ideal) x3 x4 (ix2 n e) = Ideal.logistic (at2 x3 n.val (6672 + (4096 + e.val)) + at2 x4 1 (4096 + e.val)) := by
  have he := e.isLt
  rw [val_main_v25_apply]
  have ei : idx_main_v25 (ix2 n e) = ix2 n (⟨4096 + e.val, by omega⟩ : Fin 6144) := funext fun a => by fin_cases a <;> rfl
  rw [ei, gate]

/-- The gated sum of the three branches. -/
theorem sum_rows (n : Fin 12288) (e : Fin 2048) :
    val_main_v31 (F := Ideal) x0 x1 x2 x3 x4 x5 x6 x7 (ix2 n e) = mixed x0 x1 x2 x3 x4 x5 x6 x7 n.val e := by
  rw [val_main_v31_apply, val_main_v24_apply, val_main_v17_apply, val_main_v23_apply, val_main_v30_apply,
    gate_ya, gate_yb, gate_yc, ya, yb, yc]
  rfl

/-- The product with the output's weights. -/
theorem product (n : Fin 12288) (e : Fin 2048) :
    val_main_v67 (F := Ideal) x0 x1 x2 x3 x4 x5 x6 x7 x8 (ix2 n e) = ∑ k : Fin 2048, mixed x0 x1 x2 x3 x4 x5 x6 x7 n.val k * at3 x8 1 k.val e.val := by
  rw [val_main_v67_apply]
  refine Finset.sum_congr rfl fun k _ => ?_
  have el : lidx_main_v67 (ix2 n e) k = ix2 n k := funext fun a => by fin_cases a <;> rfl
  have er : ridx_main_v67 (ix2 n e) k = ix2 k e := funext fun a => by fin_cases a <;> rfl
  rw [el, er, sum_rows, val_main_v66_apply, val_main_v65_apply]
  refine congrArg (_ * ·) (at3_eq x8 _ _ _ _ rfl ?_ ?_)
  · show (k.val * 2048 + e.val) / 2048 % 2048 = _; omega
  · show (k.val * 2048 + e.val) % 2048 = _; omega

/-- Each token's row of one chunk of the modulation table. -/
theorem gateRow (n : Fin 12288) (e : Fin 2048) :
    val_main_v42 (F := Ideal) x10 (ix2 n e) = at3 x10 (8 + condRow n.val) 0 (4096 + e.val) := by
  have ha : ∀ n : Fin 8192, val_main_v40 (F := Ideal) x10 (ix2 n e) = at3 x10 (8 + 0) 0 (4096 + e.val) := by
    intro n
    have hn := n.isLt
    have he := e.isLt
    rw [val_main_v40_apply, val_main_v37_apply, val_main_v36_apply, val_main_v34_apply, val_main_v33_apply, val_main_v32_apply]
    refine at3_eq x10 _ _ _ _ ?_ rfl ?_
    · show 8 + ((0 * 2048 + (n.val * 2048 + e.val) % 2048) / 2048) = _; omega
    · show 4096 + ((0 * 2048 + (n.val * 2048 + e.val) % 2048) % 2048) = _; omega
  have hb : ∀ n : Fin 4096, val_main_v41 (F := Ideal) x10 (ix2 n e) = at3 x10 (8 + (1 + n.val / 1024)) 0 (4096 + e.val) := by
    intro n
    have hn := n.isLt
    have he := e.isLt
    rw [val_main_v41_apply, val_main_v39_apply, val_main_v38_apply, val_main_v35_apply, val_main_v33_apply, val_main_v32_apply]
    refine at3_eq x10 _ _ _ _ ?_ rfl ?_
    · show 8 + (((1 + (n.val * 2048 + e.val) / 2097152) * 2048 + (n.val * 2048 + e.val) % 2048) / 2048) = _; omega
    · show 4096 + (((1 + (n.val * 2048 + e.val) / 2097152) * 2048 + (n.val * 2048 + e.val) % 2048) % 2048) = _; omega
  have hn := n.isLt
  unfold val_main_v42
  revert ha hb
  generalize val_main_v40 (F := Ideal) x10 = Y
  generalize val_main_v41 (F := Ideal) x10 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

/-- Each token's row of one chunk of the modulation table. -/
theorem shiftRow (n : Fin 12288) (e : Fin 2048) :
    val_main_v53 (F := Ideal) x10 (ix2 n e) = at3 x10 (8 + condRow n.val) 0 (6144 + e.val) := by
  have ha : ∀ n : Fin 8192, val_main_v51 (F := Ideal) x10 (ix2 n e) = at3 x10 (8 + 0) 0 (6144 + e.val) := by
    intro n
    have hn := n.isLt
    have he := e.isLt
    rw [val_main_v51_apply, val_main_v48_apply, val_main_v47_apply, val_main_v45_apply, val_main_v44_apply, val_main_v43_apply]
    refine at3_eq x10 _ _ _ _ ?_ rfl ?_
    · show 8 + ((0 * 2048 + (n.val * 2048 + e.val) % 2048) / 2048) = _; omega
    · show 6144 + ((0 * 2048 + (n.val * 2048 + e.val) % 2048) % 2048) = _; omega
  have hb : ∀ n : Fin 4096, val_main_v52 (F := Ideal) x10 (ix2 n e) = at3 x10 (8 + (1 + n.val / 1024)) 0 (6144 + e.val) := by
    intro n
    have hn := n.isLt
    have he := e.isLt
    rw [val_main_v52_apply, val_main_v50_apply, val_main_v49_apply, val_main_v46_apply, val_main_v44_apply, val_main_v43_apply]
    refine at3_eq x10 _ _ _ _ ?_ rfl ?_
    · show 8 + (((1 + (n.val * 2048 + e.val) / 2097152) * 2048 + (n.val * 2048 + e.val) % 2048) / 2048) = _; omega
    · show 6144 + (((1 + (n.val * 2048 + e.val) / 2097152) * 2048 + (n.val * 2048 + e.val) % 2048) % 2048) = _; omega
  have hn := n.isLt
  unfold val_main_v53
  revert ha hb
  generalize val_main_v51 (F := Ideal) x10 = Y
  generalize val_main_v52 (F := Ideal) x10 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

/-- Each token's row of one chunk of the modulation table. -/
theorem scaleRow (n : Fin 12288) (e : Fin 2048) :
    val_main_v64 (F := Ideal) x10 (ix2 n e) = at3 x10 (8 + condRow n.val) 0 (8192 + e.val) := by
  have ha : ∀ n : Fin 8192, val_main_v62 (F := Ideal) x10 (ix2 n e) = at3 x10 (8 + 0) 0 (8192 + e.val) := by
    intro n
    have hn := n.isLt
    have he := e.isLt
    rw [val_main_v62_apply, val_main_v59_apply, val_main_v58_apply, val_main_v56_apply, val_main_v55_apply, val_main_v54_apply]
    refine at3_eq x10 _ _ _ _ ?_ rfl ?_
    · show 8 + ((0 * 2048 + (n.val * 2048 + e.val) % 2048) / 2048) = _; omega
    · show 8192 + ((0 * 2048 + (n.val * 2048 + e.val) % 2048) % 2048) = _; omega
  have hb : ∀ n : Fin 4096, val_main_v63 (F := Ideal) x10 (ix2 n e) = at3 x10 (8 + (1 + n.val / 1024)) 0 (8192 + e.val) := by
    intro n
    have hn := n.isLt
    have he := e.isLt
    rw [val_main_v63_apply, val_main_v61_apply, val_main_v60_apply, val_main_v57_apply, val_main_v55_apply, val_main_v54_apply]
    refine at3_eq x10 _ _ _ _ ?_ rfl ?_
    · show 8 + (((1 + (n.val * 2048 + e.val) / 2097152) * 2048 + (n.val * 2048 + e.val) % 2048) / 2048) = _; omega
    · show 8192 + (((1 + (n.val * 2048 + e.val) / 2097152) * 2048 + (n.val * 2048 + e.val) % 2048) % 2048) = _; omega
  have hn := n.isLt
  unfold val_main_v64
  revert ha hb
  generalize val_main_v62 (F := Ideal) x10 = Y
  generalize val_main_v63 (F := Ideal) x10 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

theorem res_rows (n : Fin 12288) (e : Fin 2048) :
    val_main_v69 (F := Ideal) x0 x1 x2 x3 x4 x5 x6 x7 x8 x9 x10 (ix2 n e) = mixRes (mixed x0 x1 x2 x3 x4 x5 x6 x7) x8 x9 x10 n.val e := by
  rw [val_main_v69_apply, val_main_v68_apply, gateRow, product]
  unfold mixRes
  exact congrArg (fun z => z + _) (at2_eq x9 _ _ _ rfl rfl)

theorem gainRow (n : Fin 12288) (e : Fin 2048) :
    val_main_v83 (F := Ideal) x11 (ix2 n e) = at2 x11 1 e.val := by
  rw [val_main_v83_apply, val_main_v82_apply, val_main_v81_apply, val_main_v80_apply]
  refine at2_eq x11 _ _ _ rfl ?_
  show e.val % 2048 = _; omega

theorem norm_rows (n : Fin 12288) (e : Fin 2048) :
    val_main_v89 (F := Ideal) x0 x1 x2 x3 x4 x5 x6 x7 x8 x9 x10 x11 (ix2 n e) = mixNorm (mixed x0 x1 x2 x3 x4 x5 x6 x7) x8 x9 x10 x11 n.val e := by
  have hsum : val_main_v71 (F := Ideal) x0 x1 x2 x3 x4 x5 x6 x7 x8 x9 x10 (ix1 n) = ∑ k : Fin 2048, mixRes (mixed x0 x1 x2 x3 x4 x5 x6 x7) x8 x9 x10 n.val k * mixRes (mixed x0 x1 x2 x3 x4 x5 x6 x7) x8 x9 x10 n.val k := by
    rw [val_main_v71_apply]
    have z : val_main_cst_1 (F := Ideal) (Shape.Idx.first h_S_) = 0 := Ideal.ofBits_zero_f32
    rw [z, zero_add]
    refine Finset.sum_congr rfl fun k _ => ?_
    have e : idx_main_v71 (ix1 n) k = ix2 n k := funext fun a => by fin_cases a <;> rfl
    rw [e, val_main_v70_apply, res_rows]
    rfl
  have hr : val_main_v78 (F := Ideal) x0 x1 x2 x3 x4 x5 x6 x7 x8 x9 x10 (ix2 n e)
      = Ideal.rsqrt (meanSq (mixRes (mixed x0 x1 x2 x3 x4 x5 x6 x7) x8 x9 x10 n.val) + Ideal.ofBits .f32 0x358637BD#32) := by
    rw [val_main_v78_apply, val_main_v77_apply, val_main_v76_apply, val_main_v74_apply, val_main_v72_apply]
    have e : idx_main_v72 (idx_main_v78 (ix2 n e)) = ix1 n := funext fun a => by fin_cases a; rfl
    rw [e, hsum]
    rfl
  rw [val_main_v89_apply, val_main_v88_apply, val_main_v87_apply, val_main_v84_apply, val_main_v79_apply,
    shiftRow, gainRow, res_rows, hr, val_main_v86_apply, scaleRow, val_main_v85_apply]
  have one : ∀ i, val_main_cst_4 (F := Ideal) i = 1 := fun _ => Ideal.ofBits_one_f32
  rw [one]
  rfl

end Cert.Reference5Ideal.Mix

end
-- ==== Proof.Mix.Equation.lean ====
/-
  The gated mix and its reference end with equal arrays.
-/
module

public import proofs.«01_k».proof.Defs
public import proofs.«01_k».proof.Proof.Mix.Reference

@[expose] public section

set_option maxRecDepth 16384

noncomputable section

namespace Cert.Mix

open Idealize.ShloMosaic Idealize.ShloMosaic.TcCoe Idealize.SL.Sem
open Cert.Reference5Ideal.Read (val_main_v69 val_main_v89)

variable (m : (ℓ : Loc Cert.Kernel5Ideal.nD Cert.Kernel5Ideal.τ Cert.Kernel5Ideal.sig) → Buf (Elt Ideal) ℓ)

theorem res_eq (c : Dev Cert.Kernel5Ideal.nD) :
    G14 m c = val_main_v69 (F := Ideal) (yna m c) (yhy m c) (ygdn m c) (proj m c) (bias m c) (wa m c) (wb m c) (wc m c) (wOut m c) (xRes m c) (modT m c) := by
  funext i
  obtain ⟨n, e, rfl⟩ : ∃ (n : Fin 12288) (e : Fin 2048), i = ix2 n e := ⟨i 0, i 1, by funext a; fin_cases a <;> rfl⟩
  exact (Cert.Reference5Ideal.Mix.res_rows _ _ _ _ _ _ _ _ _ _ _ n e).symm

theorem norm_eq (c : Dev Cert.Kernel5Ideal.nD) :
    G15 m c = val_main_v89 (F := Ideal) (yna m c) (yhy m c) (ygdn m c) (proj m c) (bias m c) (wa m c) (wb m c) (wc m c) (wOut m c) (xRes m c) (modT m c) (gain m c) := by
  funext i
  obtain ⟨n, e, rfl⟩ : ∃ (n : Fin 12288) (e : Fin 2048), i = ix2 n e := ⟨i 0, i 1, by funext a; fin_cases a <;> rfl⟩
  exact (Cert.Reference5Ideal.Mix.norm_rows _ _ _ _ _ _ _ _ _ _ _ _ n e).symm

theorem algebraic : Cert.algebraic_Kernel5Ideal_Reference5Ideal := by
  intro m g m' g' hpre hagree
  refine ⟨fun c => val_main_v69 (F := Ideal) (yna m c) (yhy m c) (ygdn m c) (proj m c) (bias m c) (wa m c) (wb m c) (wc m c) (wOut m c) (xRes m c) (modT m c),
    fun c => val_main_v89 (F := Ideal) (yna m c) (yhy m c) (ygdn m c) (proj m c) (bias m c) (wa m c) (wb m c) (wc m c) (wOut m c) (xRes m c) (modT m c) (gain m c), ?_, ?_⟩
  · refine (θ_run _ _ _).mono (fun r h c => ⟨?_, ?_, (h c).2.2⟩) (run_value m g)
    · exact (h c).1.trans (res_eq m c)
    · exact (h c).2.1.trans (norm_eq m c)
  · refine (θ_run _ _ _).mono (fun r h c => ⟨?_, ?_, (h c).2.2⟩) (Cert.Reference5Ideal.Value.run m' g')
    · obtain ⟨h0, h1, h2, h3, h4, h5, h6, h7, h8, h9, h10, h11⟩ := hagree c
      refine (h c).1.trans ((Cert.Reference5Ideal.Read.val_main_v69_eq _ _).trans ?_)
      rw [h0, h1, h2, h3, h4, h5, h6, h7, h8, h9, h10]
    · obtain ⟨h0, h1, h2, h3, h4, h5, h6, h7, h8, h9, h10, h11⟩ := hagree c
      refine (h c).2.1.trans ((Cert.Reference5Ideal.Read.val_main_v89_eq _ _).trans ?_)
      rw [h0, h1, h2, h3, h4, h5, h6, h7, h8, h9, h10, h11]

end Cert.Mix

end
-- ==== Proof.Mix.FrameBits.lean ====
/- The gated mix's frame at the machine's float values. The program printed for them and the one printed for
   the extended reals are the same text, so the run proved once serves both: their tables of bodies are equal. -/
module

public import proofs.«01_k».proof.Proof.Mix.Point
public import proofs.«01_k».proof.Proof.Gen.Kernel5

@[expose] public section

set_option maxRecDepth 16384

noncomputable section

namespace Cert.Mix

open Idealize.ShloMosaic Idealize.ShloMosaic.TcCoe Idealize.SL.Sem

set_option maxHeartbeats 4000000 in
theorem rows_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl

theorem table_eq : Cert.Kernel5.defs (F := Bits) = Cert.Kernel5Ideal.defs (F := Bits) := by
  unfold Cert.Kernel5.defs Cert.Kernel5Ideal.defs
  rw [rows_eq]
  rfl

open Cert.Kernel5 in
/-- The frame of the program as compiled. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  rw [table_eq]
  exact Cert.Mix.frame m ρ

end Cert.Mix

end
-- ==== Proof.Final.Run.lean ====
/- The last layer's closing call, its body run once over any float values.

   The body works on a grid of 48 row blocks. It adds the gated product to its rows, norms the sum, and stores it in one
   of two blocks: that of the prompts at the first 32 points, that of the sequences at the last 16. Here stand the
   two triples (`body_prompt`, `body_sequence`), stated on what the buffers hold before and after. -/
module

public import proofs.«01_k».proof.Proof.Gen.Kernel6Ideal.Launch
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.Final

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body stores for the prompts at the first 32 points. -/
theorem cond1_iff : ∀ t : Fin cfg0.N, k0_cond1 (grid0.coords t) = 1#1 ↔ t.val < 32 := by
  show ∀ t : Fin grid0.N, k0_cond1 (grid0.coords t) = 1#1 ↔ t.val < 32
  decide +kernel

/-- And for the sequences at the others. -/
theorem cond2_iff : ∀ t : Fin cfg0.N, k0_cond2 (grid0.coords t) = 1#1 ↔ ¬t.val < 32 := by
  show ∀ t : Fin grid0.N, k0_cond2 (grid0.coords t) = 1#1 ↔ ¬t.val < 32
  decide +kernel

/-- The gated residual of a block of rows: `x + gate · (act · w)`. -/
def resid (act : Vec F S256x5632 .bf16) (w : Vec F S1x5632x2048 .bf16) (x : Vec F S256x2048 .f32)
    (gate : Vec F S1x1x2048 .f32) : FVec F S256x2048 .f32 :=
  addf x (mulf (broadcastTo S256x2048 (shapeCast S1x2048 gate shapeCasts_S1x1x2048_S1x2048) broadcasts_S1x2048_S256x2048)
    (matmul dot_S256x5632_S5632x2048_S256x2048_1_0_0_1_n_n none act (shapeCast S5632x2048 w shapeCasts_S1x5632x2048_S5632x2048)
      (constant S256x2048 .f32 0x00000000#32)))

/-- The normed residual, the value the body stores. -/
def finalRow (act : Vec F S256x5632 .bf16) (w : Vec F S1x5632x2048 .bf16) (x : Vec F S256x2048 .f32)
    (gate : Vec F S1x1x2048 .f32) (g : Vec F S1x2048 .f32) : FVec F S256x2048 .f32 :=
  mulf (mulf (resid act w x gate)
      (broadcastTo S256x2048
        (rsqrt (addf
          (divf (shapeCast S256x1 (multiReduction .add [1] S256 (mulf (resid act w x gate) (resid act w x gate)) 0x00000000#32
              reduces_S256x2048_S256 (.inl rfl) rfl) shapeCasts_S256_S256x1)
            (broadcast S256x1 (Scalar.ofBits .f32 0x45000000#32)))
          (broadcast S256x1 (Scalar.ofBits .f32 0x358637BD#32))))
        broadcasts_S256x1_S256x2048))
    (broadcastTo S256x2048 (shapeCast S1x2048 g shapeCasts_S1x2048_S1x2048) broadcasts_S1x2048_S256x2048)

section Body

variable (c : Dev nD) (i : grid0.Coords)
  (arg1 : Memref sig .tc .vmem S256x5632 .bf16) (harg1 : arg1.IsWhole)
  (arg2 : Memref sig .tc .vmem S1x5632x2048 .bf16) (harg2 : arg2.IsWhole)
  (arg3 : Memref sig .tc .vmem S256x2048 .f32) (harg3 : arg3.IsWhole)
  (arg4 : Memref sig .tc .vmem S1x1x2048 .f32) (harg4 : arg4.IsWhole)
  (arg5 : Memref sig .tc .vmem S1x2048 .f32) (harg5 : arg5.IsWhole)
  (arg6 : Memref sig .tc .vmem S256x2048 .f32) (harg6 : arg6.IsWhole)
  (arg7 : Memref sig .tc .vmem S256x2048 .f32) (harg7 : arg7.IsWhole)
  (x0 : Vec F S256x5632 .bf16) (x1 : Vec F S1x5632x2048 .bf16) (x2 : Vec F S256x2048 .f32)
  (x3 : Vec F S1x1x2048 .f32) (x4 : Vec F S1x2048 .f32)

/-- The five inputs' buffers, at their contents. -/
abbrev inputs : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4)

set_option maxHeartbeats 1000000 in
/-- At a point of the prompts the first block receives the normed rows and the second is left as it was. -/
theorem body_prompt (h1 : k0_cond1 i = 1#1) (h2 : ¬k0_cond2 i = 1#1) (y : Vec F S256x2048 .f32) (E : Set ℕ) (K : PUnit → sProp 𝕄) :
    iprop(inputs c arg1 arg2 arg3 arg4 arg5 x0 x1 x2 x3 x4
        ∗ (∃ d, owns (c : Thread nD τ) arg6 fullShare d) ∗ owns (c : Thread nD τ) arg7 fullShare y
        ∗ (iprop(inputs c arg1 arg2 arg3 arg4 arg5 x0 x1 x2 x3 x4
            ∗ owns (c : Thread nD τ) arg6 fullShare (finalRow x0 x1 x2 x3 x4) ∗ owns (c : Thread nD τ) arg7 fullShare y) -∗ K ⟨⟩))
      ⊢ wp frame (wpE (defs₀ (F := F)) Variants.none c none) E
        (cc0_ffn_down_final i arg1 harg1 arg2 harg2 arg3 harg3 arg4 harg4 arg5 harg5 arg6 harg6 arg7 harg7) K := by
  unfold cc0_ffn_down_final inputs
  unfold owns
  iintro ⟨⟨⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := first | sl_exact h1 | sl_exact h2)
  sl_step
  iapply Hk
  isplitl [H1 H2 H3 H4 H5]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr
    swap; · iexact H6
    ipureintro
    refine (View.read_writes_full _ _ _ _ _).trans ?_
    sl_unfold_words
    simp only [View.readAt_eq_ld, harg1.read_unread, harg2.read_unread, harg3.read_unread, harg4.read_unread, harg5.read_unread]
    rw [View.ld_unit_lit _ x0 (by decide), View.ld_unit_lit _ x1 (by decide), View.ld_unit_lit _ x2 (by decide),
      View.ld_unit_lit _ x3 (by decide), View.ld_unit_lit _ x4 (by decide)]
    rfl
  iexists _; isplitr; · ipureintro; exact harg7.read_unread _
  iexact H7

set_option maxHeartbeats 1000000 in
/-- At a point of the sequences it is the other way round. -/
theorem body_sequence (h1 : ¬k0_cond1 i = 1#1) (h2 : k0_cond2 i = 1#1) (y : Vec F S256x2048 .f32) (E : Set ℕ) (K : PUnit → sProp 𝕄) :
    iprop(inputs c arg1 arg2 arg3 arg4 arg5 x0 x1 x2 x3 x4
        ∗ owns (c : Thread nD τ) arg6 fullShare y ∗ (∃ d, owns (c : Thread nD τ) arg7 fullShare d)
        ∗ (iprop(inputs c arg1 arg2 arg3 arg4 arg5 x0 x1 x2 x3 x4
            ∗ owns (c : Thread nD τ) arg6 fullShare y ∗ owns (c : Thread nD τ) arg7 fullShare (finalRow x0 x1 x2 x3 x4)) -∗ K ⟨⟩))
      ⊢ wp frame (wpE (defs₀ (F := F)) Variants.none c none) E
        (cc0_ffn_down_final i arg1 harg1 arg2 harg2 arg3 harg3 arg4 harg4 arg5 harg5 arg6 harg6 arg7 harg7) K := by
  unfold cc0_ffn_down_final inputs
  unfold owns
  iintro ⟨⟨⟨%f1, %hf1, H1⟩, ⟨%f2, %hf2, H2⟩, ⟨%f3, %hf3, H3⟩, ⟨%f4, %hf4, H4⟩, ⟨%f5, %hf5, H5⟩⟩, ⟨%f6, %hf6, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | sl_exact h1 | sl_exact h2)
  sl_step
  iapply Hk
  isplitl [H1 H2 H3 H4 H5]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr; · ipureintro; exact harg6.read_unread _
    iexact H6
  iexists _; isplitr
  swap; · iexact H7
  ipureintro
  refine (View.read_writes_full _ _ _ _ _).trans ?_
  sl_unfold_words
  simp only [View.readAt_eq_ld, harg1.read_unread, harg2.read_unread, harg3.read_unread, harg4.read_unread, harg5.read_unread]
  rw [View.ld_unit_lit _ x0 (by decide), View.ld_unit_lit _ x1 (by decide), View.ld_unit_lit _ x2 (by decide),
    View.ld_unit_lit _ x3 (by decide), View.ld_unit_lit _ x4 (by decide)]
  rfl

end Body

end Cert.Final

end
-- ==== Proof.Final.Point.lean ====
/- The last layer's closing call: what each buffer holds at each point, its run and its frame.

   The prompts' block of rows moves with the first 32 points and then stays at its last place, so its buffer keeps
   what the point 31 stored until the last point writes it back. The sequences' block stays at its first place through
   the first 33 points and moves after. Everything here holds over any float values. -/
module

public import proofs.«01_k».proof.Proof.Final.Run

@[expose] public section

set_option maxRecDepth 16384

noncomputable section

namespace Cert.Final

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows the body computes at point `t`. -/
def row (c : Dev nD) (t : Fin cfg0.N) : Vec F S256x2048 .f32 :=
  finalRow (iblk m c 0 t) (iblk m c 1 t) (iblk m c 2 t) (iblk m c 3 t) (iblk m c 4 t)

/-- The last point of the prompts at or before `t`. -/
def lastPrompt (t : Fin cfg0.N) : Fin cfg0.N := ⟨min t.val 31, Nat.lt_of_le_of_lt (Nat.min_le_left _ _) t.isLt⟩

/-- The pipeline's data: the arrays as the region finds them, each input's buffer at its block, the prompts' at the rows of
    the last of their points, the sequences' at the rows of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => row m c (lastPrompt t)
    | ⟨6, _⟩ => row m c t
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = row m c (lastPrompt t) := by dsimp only [dats]
theorem after_6 (c : Dev nD) (t : Fin cfg0.N) : (dats m 0 c).after 6 t = row m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## Where the two result blocks are stored and written back -/

theorem idle_5 : ∀ t : Fin cfg0.N, cfg0.idle 5 (cfg0.grid.coords t) = decide (32 ≤ t.val) :=
  (by decide +kernel : ∀ t : Fin grid0.N, idle0 5 (grid0.coords t) = decide (32 ≤ t.val))

theorem idle_6 : ∀ t : Fin cfg0.N, cfg0.idle 6 (cfg0.grid.coords t) = decide (t.val < 32) :=
  (by decide +kernel : ∀ t : Fin grid0.N, idle0 6 (grid0.coords t) = decide (t.val < 32))

theorem flush_5 : ∀ t : Fin cfg0.N, (cfg0.win 5).flush t = decide (t.val < 31 ∨ t.val = 47) :=
  (by decide +kernel : ∀ t : Fin grid0.N, win0_5.flush t = decide (t.val < 31 ∨ t.val = 47))

theorem flush_6 : ∀ t : Fin cfg0.N, (cfg0.win 6).flush t = decide (32 ≤ t.val) :=
  (by decide +kernel : ∀ t : Fin grid0.N, win0_6.flush t = decide (32 ≤ t.val))

/-- At the last point the prompts' buffer still holds what the point 31 stored. -/
theorem fresh_5 : ∀ t : Fin cfg0.N, t.val = 47 → cfg0.fresh 5 t.val = false := by
  decide +kernel

/-- Past point 31 the prompts' rows are those of point 31. -/
theorem after_5_carry (c : Dev nD) (t : Fin cfg0.N) (h : 32 ≤ t.val) :
    (dats m 0 c).after 5 t = (dats m 0 c).after 5 ⟨t.val - 1, by omega⟩ := by
  rw [after_5, after_5]
  congr 1
  exact Fin.ext (by show min t.val 31 = min (t.val - 1) 31; omega)

/-- What the last point finds in the prompts' buffer. -/
theorem before_5_last (c : Dev nD) (t : Fin cfg0.N) (h : t.val = 47) (d) :
    (dats m 0 c).before 5 t d = (dats m 0 c).after 5 t := by
  rw [(dats m 0 c).before_out_traj 5 rfl (fun _ _ => rfl)
    (fun t _ hi _ => after_5_carry m c t (by rw [idle_5] at hi; exact of_decide_eq_true hi)) t.val t rfl d,
    if_neg (by rw [fresh_5 t h]; exact Bool.false_ne_true)]
  exact (after_5_carry m c t (by omega)).symm

theorem defs₀_row (t : Fin cfg0.N) : defs₀ (F := F) .tc cfg0.body (cfg0.bodyArgs t (cfg0.slots t)) = bodyAt0 t := by
  unfold defs₀; rw [Defs.onTc_tc]; try rfl

/-- The inputs' buffers at point `t`. -/
abbrev staged (c : Dev nD) (t : Fin cfg0.N) : sProp 𝕄 :=
  inputs c (st0_0 t) (st0_1 t) (st0_2 t) (st0_3 t) (st0_4 t) (iblk m c 0 t) (iblk m c 1 t) (iblk m c 2 t) (iblk m c 3 t) (iblk m c 4 t)

/-- The body's run at a point of the prompts. -/
theorem point_prompt (c : Dev nD) (t : Fin cfg0.N) (h : t.val < 32) (y : Vec F S256x2048 .f32) (K : PUnit → sProp 𝕄) :
    iprop(staged m c t ∗ (∃ d, owns (c : Thread nD τ) (st0_5 t) fullShare d) ∗ owns (c : Thread nD τ) (st0_6 t) fullShare y
        ∗ (iprop(staged m c t ∗ owns (c : Thread nD τ) (st0_5 t) fullShare (row m c t)
            ∗ owns (c : Thread nD τ) (st0_6 t) fullShare y) -∗ K ⟨⟩))
      ⊢ wp frame (wpE (defs₀ (F := F)) Variants.none c none) Set.univ (bodyAt0 t) K :=
  body_prompt c (grid0.coords t) _ _ _ _ _ _ _ _ _ _ _ _ _ _ (iblk m c 0 t) (iblk m c 1 t) (iblk m c 2 t) (iblk m c 3 t) (iblk m c 4 t)
    ((cond1_iff t).mpr h) (fun e => (cond2_iff t).mp e h) y Set.univ K

/-- The body's run at a point of the sequences. -/
theorem point_sequence (c : Dev nD) (t : Fin cfg0.N) (h : ¬t.val < 32) (y : Vec F S256x2048 .f32) (K : PUnit → sProp 𝕄) :
    iprop(staged m c t ∗ owns (c : Thread nD τ) (st0_5 t) fullShare y ∗ (∃ d, owns (c : Thread nD τ) (st0_6 t) fullShare d)
        ∗ (iprop(staged m c t ∗ owns (c : Thread nD τ) (st0_5 t) fullShare y
            ∗ owns (c : Thread nD τ) (st0_6 t) fullShare (row m c t)) -∗ K ⟨⟩))
      ⊢ wp frame (wpE (defs₀ (F := F)) Variants.none c none) Set.univ (bodyAt0 t) K :=
  body_sequence c (grid0.coords t) _ _ _ _ _ _ _ _ _ _ _ _ _ _ (iblk m c 0 t) (iblk m c 1 t) (iblk m c 2 t) (iblk m c 3 t) (iblk m c 4 t)
    (fun e => h ((cond1_iff t).mp e)) ((cond2_iff t).mpr h) y Set.univ K

set_option maxHeartbeats 2000000 in
/-- The body's obligation at every point. -/
theorem obligation (c : Dev nD) : BodyObligation (dats m 0 c) (defs₀ (F := F)) Variants.none () Set.univ := fun t => by
  rw [bigSep_W0, bigSep_W0, defs₀_row]
  rw [idle_5 t, idle_6 t, flush_5 t, flush_6 t]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4]
  by_cases h : t.val < 32
  · rw [decide_eq_false (show ¬32 ≤ t.val by omega), decide_eq_true h]
    dsimp only
    iapply (point_prompt m c t h ((dats m 0 c).before 6 t d6) _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    iintro ⟨⟨H0, H1, H2, H3, H4⟩, H5, H6⟩
    have e5 : (dats m 0 c).after 5 t = row m c t := by
      rw [after_5]; congr 1; exact Fin.ext (by show min t.val 31 = t.val; omega)
    rw [e5]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · rw [decide_eq_true (show 32 ≤ t.val by omega), decide_eq_false h]
    have ht : t.val < 48 := Nat.lt_of_lt_of_eq t.isLt N_0
    by_cases hl : t.val = 47
    · rw [decide_eq_true (show t.val < 31 ∨ t.val = 47 from .inr hl)]
      dsimp only
      rw [before_5_last m c t hl d5]
      iapply (point_sequence m c t h ((dats m 0 c).after 5 t) _)
      isplitl [H0 H1 H2 H3 H4]
      · isplitl [H0]; · iexact H0
        isplitl [H1]; · iexact H1
        isplitl [H2]; · iexact H2
        isplitl [H3]; · iexact H3
        iexact H4
      isplitl [H5]; · iexact H5
      isplitl [H6]; · iexists _; iexact H6
      iintro ⟨⟨H0, H1, H2, H3, H4⟩, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [decide_eq_false (show ¬(t.val < 31 ∨ t.val = 47) by omega)]
      dsimp only
      iapply (point_sequence m c t h ((dats m 0 c).before 5 t d5) _)
      isplitl [H0 H1 H2 H3 H4]
      · isplitl [H0]; · iexact H0
        isplitl [H1]; · iexact H1
        isplitl [H2]; · iexact H2
        isplitl [H3]; · iexact H3
        iexact H4
      isplitl [H5]; · iexact H5
      isplitl [H6]; · iexists _; iexact H6
      iintro ⟨⟨H0, H1, H2, H3, H4⟩, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexact H6

set_option backward.isDefEq.respectTransparency.types false in
/-- The region's run: the result arrays end at what the write-backs leave. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: every run of the program ends, with its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Final

end
-- ==== Proof.Final.Array.lean ====
/-
  What the last layer's closing call leaves in its two result arrays, element by element: the residual with the gated
  product of the activations and the last layer's weights added, normed with the closing gain. The first array holds the prompts'
  rows, the second the sequences'.
-/
module

public import proofs.«01_k».proof.Proof.Final.Point
public import proofs.«01_k».proof.Proof.Layer
public import Idealize.ShloMosaic.Lib.Pointwise

@[expose] public section

set_option maxRecDepth 16384

noncomputable section

namespace Cert.Layer

open Idealize.ShloMosaic

/-- The residual after the feed-forward block of the last layer, at row `n`: the row plus its gated product. -/
def finalRes (act : (⟨2, ![12288, 5632]⟩ : Shape).Idx → EReal) (w : (⟨3, ![2, 5632, 2048]⟩ : Shape).Idx → EReal)
    (x : (⟨2, ![12288, 2048]⟩ : Shape).Idx → EReal) (mod : (⟨3, ![16, 1, 12288]⟩ : Shape).Idx → EReal) (n : Nat) (e : Fin 2048) : EReal :=
  at2 x n e.val + at3 mod (8 + condRow n) 0 (10240 + e.val) * ∑ k : Fin 5632, at2 act n k.val * at3 w 1 k.val e.val

/-- A row scaled to unit mean square, times a gain. -/
def unit (X g : Fin 2048 → EReal) (e : Fin 2048) : EReal :=
  X e * Ideal.rsqrt (meanSq X + Ideal.ofBits .f32 0x358637BD#32) * g e

/-- The model's output at row `n`. -/
def finalOut (act : (⟨2, ![12288, 5632]⟩ : Shape).Idx → EReal) (w : (⟨3, ![2, 5632, 2048]⟩ : Shape).Idx → EReal)
    (x : (⟨2, ![12288, 2048]⟩ : Shape).Idx → EReal) (mod : (⟨3, ![16, 1, 12288]⟩ : Shape).Idx → EReal)
    (g : (⟨1, ![2048]⟩ : Shape).Idx → EReal) (n : Nat) (e : Fin 2048) : EReal :=
  unit (finalRes act w x mod n) (fun k => g (ix1 k)) e

end Cert.Layer

namespace Cert.Final

open Idealize.ShloMosaic Idealize.ShloMosaic.TcCoe Idealize.SL.Sem
open Idealize.ShloMosaic.Pipeline (Dat)
open Cert.Kernel6Ideal Cert.Kernel6Ideal.Gen Cert.Layer

/-! ## One point -/

section Block

variable (a : Vec Ideal S256x5632 .bf16) (w : Vec Ideal S1x5632x2048 .bf16) (x : Vec Ideal S256x2048 .f32)
    (gate : Vec Ideal S1x1x2048 .f32) (g : Vec Ideal S1x2048 .f32)

/-- Row `r` of the new residual. -/
def resB (r : Fin 256) (e : Fin 2048) : EReal :=
  x (ix2 r e) + gate (ix3 0 0 e) * ∑ k : Fin 5632, a (ix2 r k) * w (ix3 0 k e)

theorem resid_apply (r : Fin 256) (e : Fin 2048) : resid (F := Ideal) a w x gate (ix2 r e) = resB a w x gate r e := by
  unfold resid
  pointwise
  rfl

theorem finalRow_apply (r : Fin 256) (e : Fin 2048) :
    finalRow (F := Ideal) a w x gate g (ix2 r e) = unit (resB a w x gate r) (fun k => g (ix2 0 k)) e := by
  unfold finalRow
  pointwise [resid_apply]
  rfl

end Block

/-! ## The arrays -/

variable (m : (ℓ : Loc nD τ sig) → Buf (Elt Ideal) ℓ) (ρ : Dev nD → PrngReg)

/-- The arguments as the run finds them. -/
abbrev act (c : Dev nD) : FVec Ideal S12288x5632 .bf16 := m ((c : Thread nD τ).loc main_arg0)
abbrev wDown (c : Dev nD) : FVec Ideal S2x5632x2048 .f32 := m ((c : Thread nD τ).loc main_arg1)
abbrev xRes (c : Dev nD) : FVec Ideal S12288x2048 .f32 := m ((c : Thread nD τ).loc main_arg2)
abbrev modT (c : Dev nD) : FVec Ideal S16x1x12288 .f32 := m ((c : Thread nD τ).loc main_arg3)
abbrev gain (c : Dev nD) : FVec Ideal S2048 .f32 := m ((c : Thread nD τ).loc main_arg4)

/-- The weights as the call finds them: the argument's, their format changed. -/
theorem w_entry (c : Dev nD) (i : S2x5632x2048.Idx) : V m c main_v0 i = wDown m c i := by
  have : V m c main_v0 = truncf (F := Ideal) .bf16 (wDown m c) bitsLt_bf16_f32 := by
    show StableHlo.after hostOps0 _ (Proc.devRef .tc main_v0) = _
    after_results
  rw [this]; rfl

/-- The gain as the call finds it. -/
theorem g_entry (c : Dev nD) (k : Fin 2048) : V m c main_v1 (ix2 0 k) = gain m c (ix1 k) := by
  have : V m c main_v1 = shapeCast S1x2048 (gain m c) shapeCasts_S2048_S1x2048 := by
    show StableHlo.after hostOps0 _ (Proc.devRef .tc main_v1) = _
    after_results
    rfl
  rw [this]; pointwise

/-- The windows' block indices. -/
theorem idx : ∀ t : Fin cfg0.N, win0_0.index t = ![t.val, 0] ∧ win0_1.index t = ![1, 0, 0] ∧ win0_2.index t = ![t.val, 0]
    ∧ win0_3.index t = ![8 + condRow (t.val * 256), 0, 5] ∧ win0_4.index t = ![0, 0]
    ∧ win0_5.index t = ![min t.val 31, 0] ∧ win0_6.index t = ![t.val - 32, 0] :=
  (by decide +kernel : ∀ t : Fin grid0.N, _)

/-- The rows of one block read one row of the modulation table. -/
theorem cond_block (t r : Nat) (hr : r < 256) : condRow (t * 256 + r) = condRow (t * 256) := by
  unfold condRow
  split <;> split <;> omega

theorem act_apply (c : Dev nD) (t : Fin cfg0.N) (r : Fin 256) (k : Fin 5632) :
    iblk m c 0 t (ix2 r k) = at2 (act m c) (t.val * 256 + r.val) k.val := by
  unfold iblk
  rw [View.read_apply]
  refine (congrFun (V_main_arg0 m c) _).trans (at2_eq (act m c) _ _ _ ?_ ?_)
  · show win0_0.index t 0 * 256 + 1 * r.val = _
    rw [(idx t).1]; simp
  · show win0_0.index t 1 * 5632 + 1 * k.val = _
    rw [(idx t).1]; simp

theorem w_apply (c : Dev nD) (t : Fin cfg0.N) (k : Fin 5632) (e : Fin 2048) :
    iblk m c 1 t (ix3 0 k e) = at3 (wDown m c) 1 k.val e.val := by
  unfold iblk
  rw [View.read_apply]
  refine (w_entry m c _).trans (at3_eq (wDown m c) _ _ _ _ ?_ ?_ ?_)
  · show win0_1.index t 0 * 1 + 1 * 0 = _
    rw [(idx t).2.1]; simp
  · show win0_1.index t 1 * 5632 + 1 * k.val = _
    rw [(idx t).2.1]; simp
  · show win0_1.index t 2 * 2048 + 1 * e.val = _
    rw [(idx t).2.1]; simp

theorem x_apply (c : Dev nD) (t : Fin cfg0.N) (r : Fin 256) (e : Fin 2048) :
    iblk m c 2 t (ix2 r e) = at2 (xRes m c) (t.val * 256 + r.val) e.val := by
  unfold iblk
  rw [View.read_apply]
  refine (congrFun (V_main_arg2 m c) _).trans (at2_eq (xRes m c) _ _ _ ?_ ?_)
  · show win0_2.index t 0 * 256 + 1 * r.val = _
    rw [(idx t).2.2.1]; simp
  · show win0_2.index t 1 * 2048 + 1 * e.val = _
    rw [(idx t).2.2.1]; simp

theorem gate_apply (c : Dev nD) (t : Fin cfg0.N) (e : Fin 2048) :
    iblk m c 3 t (ix3 0 0 e) = at3 (modT m c) (8 + condRow (t.val * 256)) 0 (10240 + e.val) := by
  unfold iblk
  rw [View.read_apply]
  refine (congrFun (V_main_arg3 m c) _).trans (at3_eq (modT m c) _ _ _ _ ?_ ?_ ?_)
  · show win0_3.index t 0 * 1 + 1 * 0 = _
    rw [(idx t).2.2.2.1]; simp
  · show win0_3.index t 1 * 1 + 1 * 0 = _
    rw [(idx t).2.2.2.1]; simp
  · show win0_3.index t 2 * 2048 + 1 * e.val = _
    rw [(idx t).2.2.2.1]; simp

theorem gain_apply (c : Dev nD) (t : Fin cfg0.N) (e : Fin 2048) : iblk m c 4 t (ix2 0 e) = gain m c (ix1 e) := by
  unfold iblk
  rw [View.read_apply]
  have h : (((cfg0.win 4).blk t).view.emb (ix2 0 e) : S1x2048.Idx) = ix2 0 e := by
    funext a
    have e4 := (idx t).2.2.2.2.1
    fin_cases a
    · exact Fin.ext (by show win0_4.index t 0 * 1 + 1 * 0 = 0; rw [e4]; simp)
    · exact Fin.ext (by show win0_4.index t 1 * 2048 + 1 * e.val = e.val; rw [e4]; simp)
  exact (congrArg (V m c main_v1) h).trans (g_entry m c e)

/-- What the two arrays hold. -/
def G5 (c : Dev nD) : Buf (Elt Ideal) ((c : Thread nD τ).loc main_v2_0) :=
  fun i : S8192x2048.Idx => finalOut (act m c) (wDown m c) (xRes m c) (modT m c) (gain m c) (i 0).val (i 1)
def G6 (c : Dev nD) : Buf (Elt Ideal) ((c : Thread nD τ).loc main_v2_1) :=
  fun i : S4096x2048.Idx => finalOut (act m c) (wDown m c) (xRes m c) (modT m c) (gain m c) (8192 + (i 0).val) (i 1)

/-- Point `t`'s rows are the output's rows. -/
theorem row_apply (c : Dev nD) (t : Fin cfg0.N) (r : Fin 256) (e : Fin 2048) :
    row m c t (ix2 r e) = finalOut (act m c) (wDown m c) (xRes m c) (modT m c) (gain m c) (t.val * 256 + r.val) e := by
  have hres : resB (iblk m c 0 t) (iblk m c 1 t) (iblk m c 2 t) (iblk m c 3 t) r
      = finalRes (act m c) (wDown m c) (xRes m c) (modT m c) (t.val * 256 + r.val) := by
    funext e
    unfold resB finalRes
    rw [x_apply, gate_apply, cond_block _ _ r.isLt]
    refine congrArg (fun z => _ + _ * z) (Finset.sum_congr rfl fun k _ => ?_)
    rw [act_apply, w_apply]
  unfold row
  refine (finalRow_apply _ _ _ _ _ r e).trans ?_
  rw [hres]
  unfold finalOut
  congr 1
  exact funext fun k => gain_apply m c t k

theorem emb5 (t : Fin cfg0.N) (r : Fin 256) (e : Fin 2048) (n : Fin 8192) (hn : n.val = min t.val 31 * 256 + r.val) :
    (((cfg0.win 5).blk t).view.emb (ix2 r e) : S8192x2048.Idx) = ix2 n e := by
  funext a
  have e5 := (idx t).2.2.2.2.2.1
  fin_cases a
  · exact Fin.ext (by show win0_5.index t 0 * 256 + 1 * r.val = n.val; rw [e5, hn]; simp)
  · exact Fin.ext (by show win0_5.index t 1 * 2048 + 1 * e.val = e.val; rw [e5]; simp)

theorem emb6 (t : Fin cfg0.N) (r : Fin 256) (e : Fin 2048) (n : Fin 4096) (hn : n.val = (t.val - 32) * 256 + r.val) :
    (((cfg0.win 6).blk t).view.emb (ix2 r e) : S4096x2048.Idx) = ix2 n e := by
  funext a
  have e6 := (idx t).2.2.2.2.2.2
  fin_cases a
  · exact Fin.ext (by show win0_6.index t 0 * 256 + 1 * r.val = n.val; rw [e6, hn]; simp)
  · exact Fin.ext (by show win0_6.index t 1 * 2048 + 1 * e.val = e.val; rw [e6]; simp)

theorem flushed5 (c : Dev nD) (t : Fin cfg0.N) : (dats m 0 c).flushed 5 t = ((cfg0.win 5).blk t).view.read (Elt Ideal) (G5 m c) := by
  refine (show (dats m 0 c).flushed 5 t = row m c (lastPrompt t) from after_5 m c t).trans ?_
  funext y
  rw [View.read_apply]
  obtain ⟨r, e, rfl⟩ : ∃ (r : Fin 256) (e : Fin 2048), y = ix2 r e := ⟨y 0, y 1, by funext a; fin_cases a <;> rfl⟩
  have hr := r.isLt
  have hb : min t.val 31 * 256 + r.val < 8192 := by omega
  refine (row_apply m c (lastPrompt t) r e).trans ?_
  exact (congrArg (G5 m c) (emb5 t r e ⟨_, hb⟩ rfl)).symm

theorem flushed6 (c : Dev nD) (t : Fin cfg0.N) (h : (cfg0.win 6).flush t = true) :
    (dats m 0 c).flushed 6 t = ((cfg0.win 6).blk t).view.read (Elt Ideal) (G6 m c) := by
  have h32 : 32 ≤ t.val := by rw [flush_6] at h; exact of_decide_eq_true h
  refine (show (dats m 0 c).flushed 6 t = row m c t from after_6 m c t).trans ?_
  funext y
  rw [View.read_apply]
  obtain ⟨r, e, rfl⟩ : ∃ (r : Fin 256) (e : Fin 2048), y = ix2 r e := ⟨y 0, y 1, by funext a; fin_cases a <;> rfl⟩
  have ht : t.val < 48 := t.isLt
  have hr := r.isLt
  have hb : (t.val - 32) * 256 + r.val < 4096 := by omega
  refine (row_apply m c t r e).trans ?_
  refine Eq.trans ?_ (congrArg (G6 m c) (emb6 t r e ⟨_, hb⟩ rfl)).symm
  show finalOut _ _ _ _ _ (t.val * 256 + r.val) e = finalOut _ _ _ _ _ (8192 + ((t.val - 32) * 256 + r.val)) e
  rw [show t.val * 256 + r.val = 8192 + ((t.val - 32) * 256 + r.val) by omega]

/-- The prompts' last block is written back by the last point, the others by their own. -/
theorem final5 (c : Dev nD) (i : S8192x2048.Idx) : (dats m 0 c).arrAt 5 cfg0.N i = G5 m c i := by
  have h0 : (i 0).val < 8192 := (i 0).isLt
  have h1 : (i 1).val < 2048 := (i 1).isLt
  have hN : cfg0.N = 48 := N_0
  obtain ⟨t, ht, hf⟩ : ∃ t : Fin cfg0.N, min t.val 31 = (i 0).val / 256 ∧ (t.val < 31 ∨ t.val = 47) := by
    by_cases h : (i 0).val / 256 < 31
    · exact ⟨⟨(i 0).val / 256, by omega⟩, by show min ((i 0).val / 256) 31 = _; omega, .inl h⟩
    · exact ⟨⟨47, by omega⟩, by show min 47 31 = _; omega, .inr rfl⟩
  refine (dats m 0 c).arrAt_apply_of_mem 5 (G5 m c) (fun t _ => flushed5 m c t) cfg0.N t i t.isLt
    ((flush_5 t).trans (decide_eq_true hf)) ?_
  show i ∈ ((View.whole main_v2_0).slice (win0_5.rect t)).set
  rw [View.set_slice_whole, Rect.mem_set_unit]
  intro a
  have e := (idx t).2.2.2.2.2.1
  rw [ht] at e
  fin_cases a
  · show win0_5.index t 0 * 256 ≤ (i 0).val ∧ (i 0).val < win0_5.index t 0 * 256 + 256
    rw [e]; show (i 0).val / 256 * 256 ≤ _ ∧ _ < (i 0).val / 256 * 256 + 256; omega
  · show win0_5.index t 1 * 2048 ≤ (i 1).val ∧ (i 1).val < win0_5.index t 1 * 2048 + 2048
    rw [e]; show 0 * 2048 ≤ _ ∧ _ < 0 * 2048 + 2048; omega

theorem final6 (c : Dev nD) (i : S4096x2048.Idx) : (dats m 0 c).arrAt 6 cfg0.N i = G6 m c i := by
  have h0 : (i 0).val < 4096 := (i 0).isLt
  have h1 : (i 1).val < 2048 := (i 1).isLt
  have hN : cfg0.N = 48 := N_0
  obtain ⟨t, ht, hf⟩ : ∃ t : Fin cfg0.N, t.val - 32 = (i 0).val / 256 ∧ 32 ≤ t.val :=
    ⟨⟨32 + (i 0).val / 256, by omega⟩, by show 32 + (i 0).val / 256 - 32 = _; omega, by show 32 ≤ 32 + (i 0).val / 256; omega⟩
  refine (dats m 0 c).arrAt_apply_of_mem 6 (G6 m c) (fun t h => flushed6 m c t h) cfg0.N t i t.isLt
    ((flush_6 t).trans (decide_eq_true hf)) ?_
  show i ∈ ((View.whole main_v2_1).slice (win0_6.rect t)).set
  rw [View.set_slice_whole, Rect.mem_set_unit]
  intro a
  have e := (idx t).2.2.2.2.2.2
  rw [ht] at e
  fin_cases a
  · show win0_6.index t 0 * 256 ≤ (i 0).val ∧ (i 0).val < win0_6.index t 0 * 256 + 256
    rw [e]; show (i 0).val / 256 * 256 ≤ _ ∧ _ < (i 0).val / 256 * 256 + 256; omega
  · show win0_6.index t 1 * 2048 ≤ (i 1).val ∧ (i 1).val < win0_6.index t 1 * 2048 + 2048
    rw [e]; show 0 * 2048 ≤ _ ∧ _ < 0 * 2048 + 2048; omega

/-- The run, with both result arrays named. -/
theorem run_value : θ_run defs (onTc (τ := τ) (main (F := Ideal))) ⟨m, fun _ => 0, ρ⟩ (fun r => ∀ c : Dev nD,
      r.2.mem ((c.tc : Thread nD τ).loc main_v2_0) = G5 m c
      ∧ r.2.mem ((c.tc : Thread nD τ).loc main_v2_1) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono ?_ (θ_run_and (run_main m ρ) (frame m ρ))
  intro r h c
  exact ⟨((h.1.1 c).1 5).trans (funext fun i => final5 m c i),
    ((h.1.1 c).1 6).trans (funext fun i => final6 m c i), h.2.1 c⟩

end Cert.Final

end
-- ==== Proof.Final.Reference.lean ====
/-
  What the closing call's reference computes, element by element: for the prompts' tokens and for the sequences' tokens
  the same residual and the same norm.
-/
module

public import proofs.«01_k».proof.Proof.Final.Array
public import proofs.«01_k».proof.Proof.Gen.Reference6Ideal.Run
public import proofs.«01_k».proof.Proof.Gen.Reference6Ideal.Read

@[expose] public section

set_option maxRecDepth 16384

noncomputable section

namespace Cert.Reference6Ideal.Final

open Idealize.ShloMosaic Idealize.ShloMosaic.TcCoe Idealize.SL.Sem
open Cert.Reference6Ideal Cert.Reference6Ideal.Gen Cert.Reference6Ideal.Read Cert.Layer

variable (act : FVec Ideal S12288x5632 .bf16) (w : FVec Ideal S2x5632x2048 .f32) (x : FVec Ideal S12288x2048 .f32)
    (mod : FVec Ideal S16x1x12288 .f32) (g : FVec Ideal S2048 .f32)

theorem act_a (b : Fin 32) (r : Fin 256) (k : Fin 5632) :
    val_main_v13 (F := Ideal) act (ix3 b r k) = at2 act (b.val * 256 + r.val) k.val := by
  rw [val_main_v13_apply, val_main_v1_apply, val_main_v0_apply]
  refine at2_eq act _ _ _ ?_ ?_
  · show ((b.val * 256 + r.val) * 5632 + k.val) / 5632 = _; omega
  · show ((b.val * 256 + r.val) * 5632 + k.val) % 5632 = _; omega

theorem x_a (b : Fin 32) (r : Fin 256) (e : Fin 2048) :
    val_main_v5 (F := Ideal) x (ix3 b r e) = at2 x (b.val * 256 + r.val) e.val := by
  rw [val_main_v5_apply, val_main_v4_apply]
  refine at2_eq x _ _ _ ?_ ?_
  · show ((b.val * 256 + r.val) * 2048 + e.val) / 2048 = _; omega
  · show ((b.val * 256 + r.val) * 2048 + e.val) % 2048 = _; omega

theorem w_a (k : Fin 5632) (e : Fin 2048) : val_main_v15 (F := Ideal) w (ix2 k e) = at3 w 1 k.val e.val := by
  rw [val_main_v15_apply, val_main_v14_apply]
  refine at3_eq w _ _ _ _ ?_ ?_ ?_
  · show 1 + 0 = 1; rfl
  · show (k.val * 2048 + e.val) / 2048 % 5632 = _; omega
  · show (k.val * 2048 + e.val) % 2048 = _; omega

theorem gate_a (b : Fin 32) (r : Fin 256) (e : Fin 2048) :
    val_main_v17 (F := Ideal) mod (ix3 b r e) = at3 mod (8 + 0) 0 (10240 + e.val) := by
  rw [val_main_v17_apply, val_main_v12_apply, val_main_v10_apply, val_main_v9_apply, val_main_v8_apply]
  refine at3_eq mod _ _ _ _ ?_ rfl ?_
  · show 8 + ((0 * 2048 + e.val) / 2048) = _; omega
  · show 10240 + ((0 * 2048 + e.val) % 2048) = _; omega

theorem gain_a (b : Fin 32) (r : Fin 256) (e : Fin 2048) : val_main_v31 (F := Ideal) g (ix3 b r e) = g (ix1 e) := by
  rw [val_main_v31_apply, val_main_v30_apply]
  exact congrArg g (funext fun a => by fin_cases a; rfl)

theorem res_a (b : Fin 32) (r : Fin 256) (e : Fin 2048) :
    val_main_v19 (F := Ideal) act w x mod (ix3 b r e) = finalRes act w x mod (b.val * 256 + r.val) e := by
  rw [val_main_v19_apply, val_main_v18_apply, val_main_v16_apply, x_a, gate_a]
  unfold finalRes
  rw [show condRow (b.val * 256 + r.val) = 0 from by unfold condRow; split <;> omega]
  refine congrArg (fun z => _ + _ * z) (Finset.sum_congr rfl fun k _ => ?_)
  have el : lidx_main_v16 (ix3 b r e) k = ix3 b r k := funext fun a => by fin_cases a <;> rfl
  have er : ridx_main_v16 (ix3 b r e) k = ix2 k e := funext fun a => by fin_cases a <;> rfl
  rw [el, er, act_a, w_a]

theorem out_a (b : Fin 32) (r : Fin 256) (e : Fin 2048) :
    val_main_v32 (F := Ideal) act w x mod g (ix3 b r e) = finalOut act w x mod g (b.val * 256 + r.val) e := by
  have hsum : val_main_v21 (F := Ideal) act w x mod (ix2 b r)
      = ∑ k : Fin 2048, finalRes act w x mod (b.val * 256 + r.val) k * finalRes act w x mod (b.val * 256 + r.val) k := by
    rw [val_main_v21_apply]
    have z : val_main_cst (F := Ideal) (Shape.Idx.first h_S_) = 0 := Ideal.ofBits_zero_f32
    rw [z, zero_add]
    refine Finset.sum_congr rfl fun k _ => ?_
    have e : idx_main_v21 (ix2 b r) k = ix3 b r k := funext fun a => by fin_cases a <;> rfl
    rw [e, val_main_v20_apply, res_a]
    rfl
  have hr : val_main_v28 (F := Ideal) act w x mod (ix3 b r e)
      = Ideal.rsqrt (meanSq (finalRes act w x mod (b.val * 256 + r.val)) + Ideal.ofBits .f32 0x358637BD#32) := by
    rw [val_main_v28_apply, val_main_v27_apply, val_main_v26_apply, val_main_v24_apply, val_main_v22_apply]
    have e : idx_main_v22 (idx_main_v28 (ix3 b r e)) = ix2 b r := funext fun a => by fin_cases a <;> rfl
    rw [e, hsum]
    rfl
  rw [val_main_v32_apply, val_main_v29_apply, gain_a, res_a, hr]
  rfl

/-- The rows of the result. -/
theorem rows_a (n : Fin 8192) (e : Fin 2048) :
    val_main_v33 (F := Ideal) act w x mod g (ix2 n e) = finalOut act w x mod g (n.val) e := by
  have hn := n.isLt
  have he := e.isLt
  rw [val_main_v33_apply]
  have ei : idx_main_v33 (ix2 n e) = ix3 (⟨n.val / 256, by omega⟩ : Fin 32) (⟨n.val % 256, by omega⟩ : Fin 256) e := by
    funext a
    fin_cases a
    · exact Fin.ext (by show (n.val * 2048 + e.val) / 524288 = n.val / 256; omega)
    · exact Fin.ext (by show (n.val * 2048 + e.val) / 2048 % 256 = n.val % 256; omega)
    · exact Fin.ext (by show (n.val * 2048 + e.val) % 2048 = e.val; omega)
  rw [ei, out_a]
  refine congrArg (fun q => finalOut act w x mod g q e) ?_
  show (n.val / 256 * 256 + n.val % 256) = n.val; omega

theorem act_b (b : Fin 4) (r : Fin 1024) (k : Fin 5632) :
    val_main_v35 (F := Ideal) act (ix3 b r k) = at2 act (8192 + (b.val * 1024 + r.val)) k.val := by
  rw [val_main_v35_apply, val_main_v3_apply, val_main_v2_apply]
  refine at2_eq act _ _ _ ?_ ?_
  · show 8192 + ((b.val * 1024 + r.val) * 5632 + k.val) / 5632 = _; omega
  · show ((b.val * 1024 + r.val) * 5632 + k.val) % 5632 = _; omega

theorem x_b (b : Fin 4) (r : Fin 1024) (e : Fin 2048) :
    val_main_v7 (F := Ideal) x (ix3 b r e) = at2 x (8192 + (b.val * 1024 + r.val)) e.val := by
  rw [val_main_v7_apply, val_main_v6_apply]
  refine at2_eq x _ _ _ ?_ ?_
  · show 8192 + ((b.val * 1024 + r.val) * 2048 + e.val) / 2048 = _; omega
  · show ((b.val * 1024 + r.val) * 2048 + e.val) % 2048 = _; omega

theorem w_b (k : Fin 5632) (e : Fin 2048) : val_main_v37 (F := Ideal) w (ix2 k e) = at3 w 1 k.val e.val := by
  rw [val_main_v37_apply, val_main_v36_apply]
  refine at3_eq w _ _ _ _ ?_ ?_ ?_
  · show 1 + 0 = 1; rfl
  · show (k.val * 2048 + e.val) / 2048 % 5632 = _; omega
  · show (k.val * 2048 + e.val) % 2048 = _; omega

theorem gate_b (b : Fin 4) (r : Fin 1024) (e : Fin 2048) :
    val_main_v39 (F := Ideal) mod (ix3 b r e) = at3 mod (8 + (1 + b.val)) 0 (10240 + e.val) := by
  rw [val_main_v39_apply, val_main_v34_apply, val_main_v11_apply, val_main_v9_apply, val_main_v8_apply]
  refine at3_eq mod _ _ _ _ ?_ rfl ?_
  · show 8 + (((1 + b.val) * 2048 + e.val) / 2048) = _; omega
  · show 10240 + (((1 + b.val) * 2048 + e.val) % 2048) = _; omega

theorem gain_b (b : Fin 4) (r : Fin 1024) (e : Fin 2048) : val_main_v53 (F := Ideal) g (ix3 b r e) = g (ix1 e) := by
  rw [val_main_v53_apply, val_main_v52_apply]
  exact congrArg g (funext fun a => by fin_cases a; rfl)

theorem res_b (b : Fin 4) (r : Fin 1024) (e : Fin 2048) :
    val_main_v41 (F := Ideal) act w x mod (ix3 b r e) = finalRes act w x mod (8192 + (b.val * 1024 + r.val)) e := by
  rw [val_main_v41_apply, val_main_v40_apply, val_main_v38_apply, x_b, gate_b]
  unfold finalRes
  rw [show condRow (8192 + (b.val * 1024 + r.val)) = (1 + b.val) from by unfold condRow; split <;> omega]
  refine congrArg (fun z => _ + _ * z) (Finset.sum_congr rfl fun k _ => ?_)
  have el : lidx_main_v38 (ix3 b r e) k = ix3 b r k := funext fun a => by fin_cases a <;> rfl
  have er : ridx_main_v38 (ix3 b r e) k = ix2 k e := funext fun a => by fin_cases a <;> rfl
  rw [el, er, act_b, w_b]

theorem out_b (b : Fin 4) (r : Fin 1024) (e : Fin 2048) :
    val_main_v54 (F := Ideal) act w x mod g (ix3 b r e) = finalOut act w x mod g (8192 + (b.val * 1024 + r.val)) e := by
  have hsum : val_main_v43 (F := Ideal) act w x mod (ix2 b r)
      = ∑ k : Fin 2048, finalRes act w x mod (8192 + (b.val * 1024 + r.val)) k * finalRes act w x mod (8192 + (b.val * 1024 + r.val)) k := by
    rw [val_main_v43_apply]
    have z : val_main_cst_2 (F := Ideal) (Shape.Idx.first h_S_) = 0 := Ideal.ofBits_zero_f32
    rw [z, zero_add]
    refine Finset.sum_congr rfl fun k _ => ?_
    have e : idx_main_v43 (ix2 b r) k = ix3 b r k := funext fun a => by fin_cases a <;> rfl
    rw [e, val_main_v42_apply, res_b]
    rfl
  have hr : val_main_v50 (F := Ideal) act w x mod (ix3 b r e)
      = Ideal.rsqrt (meanSq (finalRes act w x mod (8192 + (b.val * 1024 + r.val))) + Ideal.ofBits .f32 0x358637BD#32) := by
    rw [val_main_v50_apply, val_main_v49_apply, val_main_v48_apply, val_main_v46_apply, val_main_v44_apply]
    have e : idx_main_v44 (idx_main_v50 (ix3 b r e)) = ix2 b r := funext fun a => by fin_cases a <;> rfl
    rw [e, hsum]
    rfl
  rw [val_main_v54_apply, val_main_v51_apply, gain_b, res_b, hr]
  rfl

/-- The rows of the result. -/
theorem rows_b (n : Fin 4096) (e : Fin 2048) :
    val_main_v55 (F := Ideal) act w x mod g (ix2 n e) = finalOut act w x mod g (8192 + n.val) e := by
  have hn := n.isLt
  have he := e.isLt
  rw [val_main_v55_apply]
  have ei : idx_main_v55 (ix2 n e) = ix3 (⟨n.val / 1024, by omega⟩ : Fin 4) (⟨n.val % 1024, by omega⟩ : Fin 1024) e := by
    funext a
    fin_cases a
    · exact Fin.ext (by show (n.val * 2048 + e.val) / 2097152 = n.val / 1024; omega)
    · exact Fin.ext (by show (n.val * 2048 + e.val) / 2048 % 1024 = n.val % 1024; omega)
    · exact Fin.ext (by show (n.val * 2048 + e.val) % 2048 = e.val; omega)
  rw [ei, out_b]
  refine congrArg (fun q => finalOut act w x mod g q e) ?_
  show 8192 + (n.val / 1024 * 1024 + n.val % 1024) = 8192 + n.val; omega

end Cert.Reference6Ideal.Final

end
-- ==== Proof.Final.Equation.lean ====
/-
  The last layer's closing call and its reference end with equal arrays.
-/
module

public import proofs.«01_k».proof.Defs
public import proofs.«01_k».proof.Proof.Final.Reference

@[expose] public section

set_option maxRecDepth 16384

noncomputable section

namespace Cert.Final

open Idealize.ShloMosaic Idealize.ShloMosaic.TcCoe Idealize.SL.Sem
open Cert.Reference6Ideal.Read (val_main_v33 val_main_v55)

variable (m : (ℓ : Loc Cert.Kernel6Ideal.nD Cert.Kernel6Ideal.τ Cert.Kernel6Ideal.sig) → Buf (Elt Ideal) ℓ)

theorem prompt_eq (c : Dev Cert.Kernel6Ideal.nD) :
    G5 m c = val_main_v33 (F := Ideal) (act m c) (wDown m c) (xRes m c) (modT m c) (gain m c) := by
  funext i
  obtain ⟨n, e, rfl⟩ : ∃ (n : Fin 8192) (e : Fin 2048), i = ix2 n e := ⟨i 0, i 1, by funext a; fin_cases a <;> rfl⟩
  exact (Cert.Reference6Ideal.Final.rows_a _ _ _ _ _ n e).symm

theorem sequence_eq (c : Dev Cert.Kernel6Ideal.nD) :
    G6 m c = val_main_v55 (F := Ideal) (act m c) (wDown m c) (xRes m c) (modT m c) (gain m c) := by
  funext i
  obtain ⟨n, e, rfl⟩ : ∃ (n : Fin 4096) (e : Fin 2048), i = ix2 n e := ⟨i 0, i 1, by funext a; fin_cases a <;> rfl⟩
  exact (Cert.Reference6Ideal.Final.rows_b _ _ _ _ _ n e).symm

theorem algebraic : Cert.algebraic_Kernel6Ideal_Reference6Ideal := by
  intro m g m' g' hpre hagree
  refine ⟨fun c => val_main_v33 (F := Ideal) (act m c) (wDown m c) (xRes m c) (modT m c) (gain m c),
    fun c => val_main_v55 (F := Ideal) (act m c) (wDown m c) (xRes m c) (modT m c) (gain m c), ?_, ?_⟩
  · refine (θ_run _ _ _).mono (fun r h c => ⟨?_, ?_, (h c).2.2⟩) (run_value m g)
    · exact (h c).1.trans (prompt_eq m c)
    · exact (h c).2.1.trans (sequence_eq m c)
  · refine (θ_run _ _ _).mono (fun r h c => ⟨?_, ?_, (h c).2.2⟩) (Cert.Reference6Ideal.Value.run m' g')
    · obtain ⟨h0, h1, h2, h3, h4⟩ := hagree c
      refine (h c).1.trans ((Cert.Reference6Ideal.Read.val_main_v33_eq _ _ _ _ _).trans ?_)
      rw [h0, h1, h2, h3, h4]
    · obtain ⟨h0, h1, h2, h3, h4⟩ := hagree c
      refine (h c).2.1.trans ((Cert.Reference6Ideal.Read.val_main_v55_eq _ _ _ _ _).trans ?_)
      rw [h0, h1, h2, h3, h4]

end Cert.Final

end
-- ==== Proof.Final.FrameBits.lean ====
/- The frame of the last layer's closing call at the machine's float values. The program printed for them and the one printed for
   the extended reals are the same text, so the run proved once serves both: their tables of bodies are equal. -/
module

public import proofs.«01_k».proof.Proof.Final.Point
public import proofs.«01_k».proof.Proof.Gen.Kernel6

@[expose] public section

set_option maxRecDepth 16384

noncomputable section

namespace Cert.Final

open Idealize.ShloMosaic Idealize.ShloMosaic.TcCoe Idealize.SL.Sem

set_option maxHeartbeats 4000000 in
theorem rows_eq : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

theorem table_eq : Cert.Kernel6.defs (F := Bits) = Cert.Kernel6Ideal.defs (F := Bits) := by
  unfold Cert.Kernel6.defs Cert.Kernel6Ideal.defs
  rw [rows_eq]
  rfl

open Cert.Kernel6 in
/-- The frame of the program as compiled. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [table_eq]
  exact Cert.Final.frame m ρ

end Cert.Final

end
-- ==== Proof.MixFirst.Run.lean ====
/- The first layer's gated mix's body, run once over any float values.

   At each of the 48 points the body weighs the three branches' products by the gates of its 256 rows, multiplies by the
   output weights, adds the gated result to the residual and norms the sum. The
   residual lies in two arrays: a point below 32 takes its rows from the first, the others from the second. Here stands its triple, stated on what the
   buffers hold before and after. -/
module

public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.MixFirst

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branches' products, weighed by the gates and summed. -/
abbrev merged (x0 : Vec F S256x1024 .bf16) (x1 x2 : Vec F S256x512 .bf16) (x3 : Vec F S256x6656 .f32) (x4 : Vec F S1x1x6144 .f32)
    (x5 : Vec F S1x1024x2048 .bf16) (x6 x7 : Vec F S1x512x2048 .bf16) : FVec F S256x2048 .bf16 :=
  k0_pay1 x3 x4 x0 x5 x1 x6 x2 x7

/-- The residual rows the body leaves. -/
abbrev outRes (a : BitVec 32) (x0 : Vec F S256x1024 .bf16) (x1 x2 : Vec F S256x512 .bf16) (x3 : Vec F S256x6656 .f32) (x4 : Vec F S1x1x6144 .f32)
    (x5 : Vec F S1x1024x2048 .bf16) (x6 x7 : Vec F S1x512x2048 .bf16) (x8 : Vec F S1x2048x2048 .bf16) (x9 x10 : Vec F S256x2048 .f32)
    (x11 : Vec F S1x1x2048 .f32) : FVec F S256x2048 .f32 :=
  k0_pay3 a (merged x0 x1 x2 x3 x4 x5 x6 x7) (k0_pay2 x8) (constant S256x2048 .f32 0x00000000#32) x9 x10 x11

/-- The normed rows the body leaves. -/
abbrev outNorm (a : BitVec 32) (x0 : Vec F S256x1024 .bf16) (x1 x2 : Vec F S256x512 .bf16) (x3 : Vec F S256x6656 .f32) (x4 : Vec F S1x1x6144 .f32)
    (x5 : Vec F S1x1024x2048 .bf16) (x6 x7 : Vec F S1x512x2048 .bf16) (x8 : Vec F S1x2048x2048 .bf16) (x9 x10 : Vec F S256x2048 .f32)
    (x11 x12 x13 x14 : Vec F S1x1x2048 .f32) : FVec F S256x2048 .bf16 :=
  k0_pay4 a (merged x0 x1 x2 x3 x4 x5 x6 x7) (k0_pay2 x8) (constant S256x2048 .f32 0x00000000#32) x9 x10 x11 x12 x13 x14

set_option maxHeartbeats 4000000 in
/-- The body leaves its inputs' buffers as they were, and its outputs' at the residual and its norm. -/
theorem body (c : Dev nD) (i : grid0.Coords)
    (arg1 : Memref sig .tc .vmem S256x1024 .bf16) (harg1 : arg1.IsWhole)
    (arg2 : Memref sig .tc .vmem S256x512 .bf16) (harg2 : arg2.IsWhole)
    (arg3 : Memref sig .tc .vmem S256x512 .bf16) (harg3 : arg3.IsWhole)
    (arg4 : Memref sig .tc .vmem S256x6656 .f32) (harg4 : arg4.IsWhole)
    (arg5 : Memref sig .tc .vmem S1x1x6144 .f32) (harg5 : arg5.IsWhole)
    (arg6 : Memref sig .tc .vmem S1x1024x2048 .bf16) (harg6 : arg6.IsWhole)
    (arg7 : Memref sig .tc .vmem S1x512x2048 .bf16) (harg7 : arg7.IsWhole)
    (arg8 : Memref sig .tc .vmem S1x512x2048 .bf16) (harg8 : arg8.IsWhole)
    (arg9 : Memref sig .tc .vmem S1x2048x2048 .bf16) (harg9 : arg9.IsWhole)
    (arg10 : Memref sig .tc .vmem S256x2048 .f32) (harg10 : arg10.IsWhole)
    (arg11 : Memref sig .tc .vmem S256x2048 .f32) (harg11 : arg11.IsWhole)
    (arg12 : Memref sig .tc .vmem S1x1x2048 .f32) (harg12 : arg12.IsWhole)
    (arg13 : Memref sig .tc .vmem S1x1x2048 .f32) (harg13 : arg13.IsWhole)
    (arg14 : Memref sig .tc .vmem S1x1x2048 .f32) (harg14 : arg14.IsWhole)
    (arg15 : Memref sig .tc .vmem S1x1x2048 .f32) (harg15 : arg15.IsWhole)
    (arg16 : Memref sig .tc .vmem S256x2048 .f32) (harg16 : arg16.IsWhole)
    (arg17 : Memref sig .tc .vmem S256x2048 .bf16) (harg17 : arg17.IsWhole)
    (x0 : Vec F S256x1024 .bf16) (x1 : Vec F S256x512 .bf16) (x2 : Vec F S256x512 .bf16) (x3 : Vec F S256x6656 .f32)
    (x4 : Vec F S1x1x6144 .f32) (x5 : Vec F S1x1024x2048 .bf16) (x6 : Vec F S1x512x2048 .bf16) (x7 : Vec F S1x512x2048 .bf16)
    (x8 : Vec F S1x2048x2048 .bf16) (x9 x10 : Vec F S256x2048 .f32) (x11 : Vec F S1x1x2048 .f32) (x12 : Vec F S1x1x2048 .f32)
    (x13 : Vec F S1x1x2048 .f32) (x14 : Vec F S1x1x2048 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ (∃ d, owns (c : Thread nD τ) arg16 fullShare d) ∗ (∃ d, owns (c : Thread nD τ) arg17 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare x14
            ∗ owns (c : Thread nD τ) arg16 fullShare (outRes (BitVec.ofNat 32 (i 0).val) x0 x1 x2 x3 x4 x5 x6 x7 x8 x9 x10 x11)
            ∗ owns (c : Thread nD τ) arg17 fullShare (outNorm (BitVec.ofNat 32 (i 0).val) x0 x1 x2 x3 x4 x5 x6 x7 x8 x9 x10 x11 x12 x13 x14)) -∗ K ⟨⟩))
      ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mix_out_eq_skeleton]; unfold cc0_mix_out_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg15.eq_unread hf14
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr
    swap; · iexact H15
    ipureintro
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
    rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide), View.ld_unit_lit _ x10 (by decide), View.ld_unit_lit _ x11 (by decide)]
  iexists _; isplitr
  swap; · iexact H16
  ipureintro
  refine (View.read_writes_full _ _ _ _ _).trans ?_
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide), View.ld_unit_lit _ x9 (by decide), View.ld_unit_lit _ x10 (by decide), View.ld_unit_lit _ x11 (by decide), View.ld_unit_lit _ x12 (by decide), View.ld_unit_lit _ x13 (by decide), View.ld_unit_lit _ x14 (by decide)]

end Cert.MixFirst

end
-- ==== Proof.MixFirst.Point.lean ====
/- The first layer's gated mix's pipeline: what each buffer holds at each point, over any float values.

   The gates are the last 6144 of the projection's 12816 columns. They lie in the second block of 6656 columns, of which
   6160 are inside the array: a buffer holds those columns, and anything (`d`) in the rest. The body turns the block by 16
   columns and keeps 6144, so it reads columns inside the array only, and what it leaves does not depend on `d`. -/
module

public import proofs.«01_k».proof.Proof.MixFirst.Run
public import Idealize.ShloMosaic.Lib.KernelVsHost

@[expose] public section

set_option maxRecDepth 16384

noncomputable section

namespace Cert.MixFirst

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of gates at point `t`, with `d` in the columns outside the array. -/
def gates (c : Dev nD) (t : Fin cfg0.N) (d : S256x6656.Idx → Elt F .f32) : Vec F S256x6656 .f32 :=
  win0_3.fill (grid0.coords t) d (iblk m c 3 t)

/-- Contents for the columns outside the array, where one must be named. -/
def junk : S256x6656.Idx → Elt F .f32 := constant S256x6656 .f32 0x00000000#32

/-- What a transfer of gates moves. -/
theorem size_3 : ∀ t : Fin cfg0.N, win0_3.xsize (grid0.coords t) = ![256, 6160] :=
  (by decide +kernel : ∀ t : Fin grid0.N, _)

/-- The turned block's first columns are the block's columns from 16 on. -/
theorem turned_apply (g : Vec F S256x6656 .f32) (r : Fin 256) (e : Fin 6144) :
    extractStridedSlice S256x6144 ![0, 0] (dynamicRotate 1 6640#32 none g rotates_S256x6656_d1) slices_S256x6656_o0_0_S256x6144 (ix2 r e)
      = g (ix2 r ⟨e.val + 16, by have := e.isLt; omega⟩) := by
  have he := e.isLt
  refine dynamicRotate_apply 1 6640#32 g rotates_S256x6656_d1 _ _ ?_
  intro b
  fin_cases b
  · show r.val = 0 + r.val; omega
  · show e.val + 16 = (0 + e.val + 6656 - 6640 % 6656) % 6656; omega

/-- A column of the block inside the array does not depend on the rest. -/
theorem gates_congr (c : Dev nD) (t : Fin cfg0.N) (d d' : S256x6656.Idx → Elt F .f32) (r : Fin 256) (e : Fin 6656) (he : e.val < 6160) :
    gates m c t d (ix2 r e) = gates m c t d' (ix2 r e) := by
  have hm : win0_3.moved (grid0.coords t) (ix2 r e) = true := by
    rw [Pipeline.Window.moved_iff, size_3 t]
    intro a
    fin_cases a
    · exact r.isLt
    · exact he
  unfold gates Pipeline.Window.fill
  rw [dif_pos hm, dif_pos hm]

theorem turned_congr (c : Dev nD) (t : Fin cfg0.N) (d d' : S256x6656.Idx → Elt F .f32) :
    extractStridedSlice S256x6144 ![0, 0] (dynamicRotate 1 6640#32 none (gates m c t d) rotates_S256x6656_d1) slices_S256x6656_o0_0_S256x6144
      = extractStridedSlice S256x6144 ![0, 0] (dynamicRotate 1 6640#32 none (gates m c t d') rotates_S256x6656_d1) slices_S256x6656_o0_0_S256x6144 := by
  funext j
  obtain ⟨r, e, rfl⟩ : ∃ (r : Fin 256) (e : Fin 6144), j = ix2 r e := ⟨j 0, j 1, by funext a; fin_cases a <;> rfl⟩
  rw [turned_apply, turned_apply]
  exact gates_congr m c t d d' r _ (by show e.val + 16 < 6160; have := e.isLt; omega)

/-- What the body computes does not depend on the columns outside the array. -/
theorem merged_congr (c : Dev nD) (t : Fin cfg0.N) (d d' : S256x6656.Idx → Elt F .f32) (x0 : Vec F S256x1024 .bf16) (x1 x2 : Vec F S256x512 .bf16)
    (x4 : Vec F S1x1x6144 .f32) (x5 : Vec F S1x1024x2048 .bf16) (x6 x7 : Vec F S1x512x2048 .bf16) :
    merged x0 x1 x2 (gates m c t d) x4 x5 x6 x7 = merged x0 x1 x2 (gates m c t d') x4 x5 x6 x7 := by
  unfold merged k0_pay1
  dsimp only
  rw [turned_congr m c t d d']

/-- The point's number, as the body compares it with 32. -/
abbrev pt (t : Fin cfg0.N) : BitVec 32 := BitVec.ofNat 32 (grid0.coords t 0).val

/-- The pipeline's data: the arrays as the region finds them, each input's buffer at its block, each output's at what the
    body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gates m c t junk
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outRes (pt t) (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t)
    | ⟨16, _⟩ => outNorm (pt t) (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = gates m c t junk := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) :
    (dats m 0 c).after 15 t = outRes (pt t) (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) := by dsimp only [dats]
theorem after_16 (c : Dev nD) (t : Fin cfg0.N) :
    (dats m 0 c).after 16 t = outNorm (pt t) (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-- Two points with one block of gates cut it alike. -/
theorem clip_3 (t t' : Fin cfg0.N) (h : (cfg0.win 3).index t = (cfg0.win 3).index t') :
    (cfg0.win 3).clip (cfg0.grid.coords t) = (cfg0.win 3).clip (cfg0.grid.coords t') := by
  funext a
  show Pipeline.Clip.of ((cfg0.win 3).index t a) _ _ = Pipeline.Clip.of ((cfg0.win 3).index t' a) _ _
  rw [h]

theorem blockOf_3 (c : Dev nD) (t : Fin cfg0.N) : (dats m 0 c).blockOf 3 t = iblk m c 3 t := by
  unfold Dat.blockOf iblk; rw [A_eq m c 3]; try rfl

theorem fetched_3 (c : Dev nD) (t : Fin cfg0.N) (d) : (dats m 0 c).fetched 3 t d = gates m c t d := by
  unfold Dat.fetched; rw [blockOf_3]; rfl

/-- The gates' buffer holds its block at every point. -/
theorem before_3 (c : Dev nD) (t : Fin cfg0.N) (d) : (dats m 0 c).before 3 t d = gates m c t d :=
  ((dats m 0 c).before_in_eq_fetched 3 rfl (fun _ => rfl) clip_3
    (fun t => by rw [after_3, blockOf_3]; exact win0_3.cut_fill _ _ _) t d).trans (fetched_3 m c t d)

theorem defs₀_row (t : Fin cfg0.N) : defs₀ (F := F) .tc cfg0.body (cfg0.bodyArgs t (cfg0.slots t)) = bodyAt0 t := by
  unfold defs₀; rw [Defs.onTc_tc]; try rfl

set_option maxHeartbeats 2000000 in
/-- The body's run at point `t`. -/
theorem body_point (c : Dev nD) (t : Fin cfg0.N) (d3 : S256x6656.Idx → Elt F .f32) (K : PUnit → sProp 𝕄) :
    iprop(owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (gates m c t d3)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (iblk m c 10 t)
        ∗ owns (c : Thread nD τ) (st0_11 t) fullShare (iblk m c 11 t)
        ∗ owns (c : Thread nD τ) (st0_12 t) fullShare (iblk m c 12 t)
        ∗ owns (c : Thread nD τ) (st0_13 t) fullShare (iblk m c 13 t)
        ∗ owns (c : Thread nD τ) (st0_14 t) fullShare (iblk m c 14 t)
        ∗ (∃ d, owns (c : Thread nD τ) (st0_15 t) fullShare d) ∗ (∃ d, owns (c : Thread nD τ) (st0_16 t) fullShare d)
        ∗ (iprop(owns (c : Thread nD τ) (st0_0 t) fullShare (iblk m c 0 t)
            ∗ owns (c : Thread nD τ) (st0_1 t) fullShare (iblk m c 1 t)
            ∗ owns (c : Thread nD τ) (st0_2 t) fullShare (iblk m c 2 t)
            ∗ owns (c : Thread nD τ) (st0_3 t) fullShare (gates m c t d3)
            ∗ owns (c : Thread nD τ) (st0_4 t) fullShare (iblk m c 4 t)
            ∗ owns (c : Thread nD τ) (st0_5 t) fullShare (iblk m c 5 t)
            ∗ owns (c : Thread nD τ) (st0_6 t) fullShare (iblk m c 6 t)
            ∗ owns (c : Thread nD τ) (st0_7 t) fullShare (iblk m c 7 t)
            ∗ owns (c : Thread nD τ) (st0_8 t) fullShare (iblk m c 8 t)
            ∗ owns (c : Thread nD τ) (st0_9 t) fullShare (iblk m c 9 t)
            ∗ owns (c : Thread nD τ) (st0_10 t) fullShare (iblk m c 10 t)
            ∗ owns (c : Thread nD τ) (st0_11 t) fullShare (iblk m c 11 t)
            ∗ owns (c : Thread nD τ) (st0_12 t) fullShare (iblk m c 12 t)
            ∗ owns (c : Thread nD τ) (st0_13 t) fullShare (iblk m c 13 t)
            ∗ owns (c : Thread nD τ) (st0_14 t) fullShare (iblk m c 14 t)
            ∗ owns (c : Thread nD τ) (st0_15 t) fullShare ((dats m 0 c).after 15 t)
            ∗ owns (c : Thread nD τ) (st0_16 t) fullShare ((dats m 0 c).after 16 t)) -∗ K ⟨⟩))
      ⊢ wp frame (wpE (defs₀ (F := F)) Variants.none c none) Set.univ (bodyAt0 t) K := by
  rw [after_15, after_16]
  rw [show outRes (pt t) (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) = outRes (pt t) (iblk m c 0 t) (iblk m c 1 t) (iblk m c 2 t) (gates m c t d3) (iblk m c 4 t) (iblk m c 5 t) (iblk m c 6 t) (iblk m c 7 t) (iblk m c 8 t) (iblk m c 9 t) (iblk m c 10 t) (iblk m c 11 t) from by
      unfold outRes; rw [merged_congr m c t junk d3],
    show outNorm (pt t) (iblk m c 0 t) (iblk m c 1 t) (iblk m c 2 t) (gates m c t junk) (iblk m c 4 t) (iblk m c 5 t) (iblk m c 6 t) (iblk m c 7 t) (iblk m c 8 t) (iblk m c 9 t) (iblk m c 10 t) (iblk m c 11 t) (iblk m c 12 t) (iblk m c 13 t) (iblk m c 14 t) = outNorm (pt t) (iblk m c 0 t) (iblk m c 1 t) (iblk m c 2 t) (gates m c t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) from by
      unfold outNorm; rw [merged_congr m c t junk d3]]
  exact body c (grid0.coords t) _ _ _ _ _ _ _ _ _ _ _ _ _ _ _ _ _ _ _ _ _ _ _ _ _ _ _ _ _ _ _ _ _ _ (iblk m c 0 t) (iblk m c 1 t) (iblk m c 2 t) (gates m c t d3) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ K

set_option maxHeartbeats 2000000 in
/-- The body's obligation at every point. -/
theorem obligation (c : Dev nD) : BodyObligationLoose (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before_0 m c t d0, before_1 m c t d1, before_2 m c t d2, before_3 m c t d3, before_4 m c t d4, before_5 m c t d5, before_6 m c t d6, before_7 m c t d7, before_8 m c t d8, before_9 m c t d9, before_10 m c t d10, before_11 m c t d11, before_12 m c t d12, before_13 m c t d13, before_14 m c t d14]
  iapply (body_point m c t d3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]
  · have hw : win0_3.cut (grid0.coords t) (gates m c t junk) = iblk m c 3 t := win0_3.cut_fill _ _ _
    iexists d3
    change _ ⊢ owns (c : Thread nD τ) (st0_3 t) fullShare (win0_3.fill (grid0.coords t) d3 (win0_3.cut (grid0.coords t) (gates m c t junk)))
    rw [hw]; exact Idealize.SL.BI.Entails.refl _
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option backward.isDefEq.respectTransparency.types false in
/-- The region's run: the result arrays end at what the write-backs leave. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := obligation m) (hq := fun _ _ _ => rfl)
    (howed := fun _ _ => rfl) (V := V m) (hmain := hmain m Variants.none) (hA := A_eq m) (hΦ := fun _ _ => rfl)

/-- The frame: every run of the program ends, with its arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MixFirst

end
-- ==== Proof.MixFirst.Block.lean ====
/- What the first layer's gated mix's body computes of its blocks, over the extended reals, row by row. -/
module

public import proofs.«01_k».proof.Proof.MixFirst.Point
public import proofs.«01_k».proof.Proof.Layer
public import Idealize.ShloMosaic.Lib.Pointwise

@[expose] public section

set_option maxRecDepth 16384

noncomputable section

namespace Cert.Layer

open Idealize.ShloMosaic

/-- The two arrays of the residual as one: 8192 rows of the first, then 4096 of the second. -/
def joined (xp : (⟨2, ![8192, 2048]⟩ : Shape).Idx → EReal) (xs : (⟨2, ![4096, 2048]⟩ : Shape).Idx → EReal)
    (i : (⟨2, ![12288, 2048]⟩ : Shape).Idx) : EReal :=
  if (i 0).val < 8192 then at2 xp (i 0).val (i 1).val else at2 xs ((i 0).val - 8192) (i 1).val

/-- Row `n` of the gated sum of the three branches: each branch's product with its weights of the first layer, times the
    logistic of its share of the projection's last columns and the bias. -/
def mixedFirst (yna : (⟨2, ![12288, 1024]⟩ : Shape).Idx → EReal) (yhy ygdn : (⟨2, ![12288, 512]⟩ : Shape).Idx → EReal)
    (proj : (⟨2, ![12288, 12816]⟩ : Shape).Idx → EReal) (bias : (⟨2, ![2, 6144]⟩ : Shape).Idx → EReal)
    (wa : (⟨3, ![2, 1024, 2048]⟩ : Shape).Idx → EReal) (wb wc : (⟨3, ![2, 512, 2048]⟩ : Shape).Idx → EReal) (n : Nat) (e : Fin 2048) : EReal :=
  Ideal.logistic (at2 proj n (6672 + e.val) + at2 bias 0 e.val) * (∑ k : Fin 1024, at2 yna n k.val * at3 wa 0 k.val e.val)
    + Ideal.logistic (at2 proj n (6672 + (2048 + e.val)) + at2 bias 0 (2048 + e.val)) * (∑ k : Fin 512, at2 yhy n k.val * at3 wb 0 k.val e.val)
    + Ideal.logistic (at2 proj n (6672 + (4096 + e.val)) + at2 bias 0 (4096 + e.val)) * (∑ k : Fin 512, at2 ygdn n k.val * at3 wc 0 k.val e.val)

/-- The residual of the first layer at row `n`: the row plus the gated product of the mixed row `M n`. -/
def mixResFirst (M : Nat → Fin 2048 → EReal) (w : (⟨3, ![2, 2048, 2048]⟩ : Shape).Idx → EReal)
    (x : (⟨2, ![12288, 2048]⟩ : Shape).Idx → EReal) (mod : (⟨3, ![16, 1, 12288]⟩ : Shape).Idx → EReal) (n : Nat) (e : Fin 2048) : EReal :=
  at2 x n e.val + at3 mod (condRow n) 0 (4096 + e.val) * ∑ k : Fin 2048, M n k * at3 w 0 k.val e.val

/-- The same row normed and modulated. -/
def mixNormFirst (M : Nat → Fin 2048 → EReal) (w : (⟨3, ![2, 2048, 2048]⟩ : Shape).Idx → EReal)
    (x : (⟨2, ![12288, 2048]⟩ : Shape).Idx → EReal) (mod : (⟨3, ![16, 1, 12288]⟩ : Shape).Idx → EReal)
    (g : (⟨2, ![2, 2048]⟩ : Shape).Idx → EReal) (n : Nat) (e : Fin 2048) : EReal :=
  normed (mixResFirst M w x mod n) (fun k => at2 g 0 k.val) (fun k => at3 mod (condRow n) 0 (6144 + k.val))
    (fun k => at3 mod (condRow n) 0 (8192 + k.val)) e

end Cert.Layer

namespace Cert.MixFirst

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Layer

variable (x0 : Vec Ideal S256x1024 .bf16) (x1 x2 : Vec Ideal S256x512 .bf16) (x3 : Vec Ideal S256x6656 .f32) (x4 : Vec Ideal S1x1x6144 .f32)
    (x5 : Vec Ideal S1x1024x2048 .bf16) (x6 x7 : Vec Ideal S1x512x2048 .bf16) (x8 : Vec Ideal S1x2048x2048 .bf16) (x9 x10 : Vec Ideal S256x2048 .f32) (a : BitVec 32)
    (x11 x12 x13 x14 : Vec Ideal S1x1x2048 .f32)

/-- A gate of the block: the logistic of the turned block's column and the bias. -/
def gateB (r : Fin 256) (e : Fin 6144) : EReal :=
  Ideal.logistic ((x3 (ix2 r ⟨e.val + 16, by have := e.isLt; omega⟩) : EReal) + x4 (ix3 0 0 e))

/-- A row of the gated sum. -/
def mixedB (r : Fin 256) (e : Fin 2048) : EReal :=
  gateB x3 x4 r ⟨e.val, by have := e.isLt; omega⟩ * (∑ k : Fin 1024, (x0 (ix2 r k) : EReal) * x5 (ix3 0 k e))
    + gateB x3 x4 r ⟨2048 + e.val, by have := e.isLt; omega⟩ * (∑ k : Fin 512, (x1 (ix2 r k) : EReal) * x6 (ix3 0 k e))
    + gateB x3 x4 r ⟨4096 + e.val, by have := e.isLt; omega⟩ * (∑ k : Fin 512, (x2 (ix2 r k) : EReal) * x7 (ix3 0 k e))

/-- The residual's rows at point `a`. -/
abbrev sel : Vec Ideal S256x2048 .f32 := Scalar.select (Scalar.cmpi .slt a 32#32) x9 x10

/-- A row of the residual. -/
def resB (X : Vec Ideal S256x2048 .f32) (M : Fin 256 → Fin 2048 → EReal) (r : Fin 256) (e : Fin 2048) : EReal :=
  (X (ix2 r e) : EReal) + (x11 (ix3 0 0 e) : EReal) * ∑ k : Fin 2048, M r k * (x8 (ix3 0 k e) : EReal)

/-- The gates of a block as the body computes them. -/
abbrev gateVec : FVec Ideal S256x6144 .f32 :=
  logistic (addf (extractStridedSlice S256x6144 ![0, 0] (dynamicRotate 1 6640#32 none x3 rotates_S256x6656_d1) slices_S256x6656_o0_0_S256x6144)
    (broadcastTo S256x6144 (shapeCast S1x6144 x4 shapeCasts_S1x1x6144_S1x6144) broadcasts_S1x6144_S256x6144))

theorem gate_apply (r : Fin 256) (j : Fin 6144) : (gateVec x3 x4 (ix2 r j) : EReal) = gateB x3 x4 r j := by
  have ht := turned_apply (F := Ideal) x3 r j
  unfold gateVec
  revert ht
  generalize extractStridedSlice S256x6144 ![0, 0] (dynamicRotate 1 6640#32 none x3 rotates_S256x6656_d1) slices_S256x6656_o0_0_S256x6144 = T
  intro ht
  unfold gateB
  pointwise [ht]
  try rfl

theorem merged_apply (r : Fin 256) (e : Fin 2048) :
    (merged (F := Ideal) x0 x1 x2 x3 x4 x5 x6 x7 (ix2 r e) : EReal) = mixedB x0 x1 x2 x3 x4 x5 x6 x7 r e := by
  have hg := gate_apply x3 x4 r
  unfold gateVec at hg
  unfold merged k0_pay1 mixedB
  dsimp only
  revert hg
  generalize (logistic (addf (extractStridedSlice S256x6144 ![0, 0] (dynamicRotate 1 6640#32 none x3 rotates_S256x6656_d1) slices_S256x6656_o0_0_S256x6144)
    (broadcastTo S256x6144 (shapeCast S1x6144 x4 shapeCasts_S1x1x6144_S1x6144) broadcasts_S1x6144_S256x6144)) : FVec Ideal S256x6144 .f32) = G
  intro hg
  pointwise
  rw [← hg, ← hg, ← hg]

theorem res_apply (r : Fin 256) (e : Fin 2048) :
    (outRes (F := Ideal) a x0 x1 x2 x3 x4 x5 x6 x7 x8 x9 x10 x11 (ix2 r e) : EReal) = resB x8 x11 (sel x9 x10 a) (mixedB x0 x1 x2 x3 x4 x5 x6 x7) r e := by
  have hM := merged_apply x0 x1 x2 x3 x4 x5 x6 x7 r
  unfold outRes resB
  revert hM
  generalize merged (F := Ideal) x0 x1 x2 x3 x4 x5 x6 x7 = M
  intro hM
  unfold k0_pay3 k0_pay2
  dsimp only
  unfold sel
  generalize Scalar.select (Scalar.cmpi .slt a 32#32) x9 x10 = X
  pointwise
  simp only [hM]

theorem norm_apply (r : Fin 256) (e : Fin 2048) :
    (outNorm (F := Ideal) a x0 x1 x2 x3 x4 x5 x6 x7 x8 x9 x10 x11 x12 x13 x14 (ix2 r e) : EReal)
      = normed (resB x8 x11 (sel x9 x10 a) (mixedB x0 x1 x2 x3 x4 x5 x6 x7) r) (fun k => x12 (ix3 0 0 k)) (fun k => x13 (ix3 0 0 k)) (fun k => x14 (ix3 0 0 k)) e := by
  have hR : ∀ k : Fin 2048, _ := fun k => res_apply x0 x1 x2 x3 x4 x5 x6 x7 x8 x9 x10 a x11 r k
  unfold outNorm k0_pay4
  unfold outRes at hR
  dsimp only
  revert hR
  generalize k0_pay3 (F := Ideal) a (merged (F := Ideal) x0 x1 x2 x3 x4 x5 x6 x7) (k0_pay2 x8) (constant S256x2048 .f32 0x00000000#32) x9 x10 x11 = R
  intro hR
  pointwise
  simp only [hR]
  rfl

end Cert.MixFirst

end
-- ==== Proof.MixFirst.Array.lean ====
/- What the first layer's gated mix's two result arrays hold after the run, over the extended reals. -/
module

public import proofs.«01_k».proof.Proof.MixFirst.Block

@[expose] public section

set_option maxRecDepth 16384

noncomputable section

namespace Cert.MixFirst

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Layer

variable (m : (ℓ : Loc nD τ sig) → Buf (Elt Ideal) ℓ) (ρ : Dev nD → PrngReg)

/-- The arguments as the run finds them. -/
abbrev yna (c : Dev nD) : FVec Ideal S12288x1024 .bf16 := m ((c : Thread nD τ).loc main_arg0)
abbrev yhy (c : Dev nD) : FVec Ideal S12288x512 .bf16 := m ((c : Thread nD τ).loc main_arg1)
abbrev ygdn (c : Dev nD) : FVec Ideal S12288x512 .bf16 := m ((c : Thread nD τ).loc main_arg2)
abbrev proj (c : Dev nD) : FVec Ideal S12288x12816 .f32 := m ((c : Thread nD τ).loc main_arg3)
abbrev bias (c : Dev nD) : FVec Ideal S2x6144 .f32 := m ((c : Thread nD τ).loc main_arg4)
abbrev wa (c : Dev nD) : FVec Ideal S2x1024x2048 .f32 := m ((c : Thread nD τ).loc main_arg5)
abbrev wb (c : Dev nD) : FVec Ideal S2x512x2048 .f32 := m ((c : Thread nD τ).loc main_arg6)
abbrev wc (c : Dev nD) : FVec Ideal S2x512x2048 .f32 := m ((c : Thread nD τ).loc main_arg7)
abbrev wOut (c : Dev nD) : FVec Ideal S2x2048x2048 .f32 := m ((c : Thread nD τ).loc main_arg8)
abbrev xp (c : Dev nD) : FVec Ideal S8192x2048 .f32 := m ((c : Thread nD τ).loc main_arg9)
abbrev xs (c : Dev nD) : FVec Ideal S4096x2048 .f32 := m ((c : Thread nD τ).loc main_arg10)
abbrev xRes (c : Dev nD) : S12288x2048.Idx → EReal := joined (xp m c) (xs m c)
abbrev modT (c : Dev nD) : FVec Ideal S16x1x12288 .f32 := m ((c : Thread nD τ).loc main_arg11)
abbrev gain (c : Dev nD) : FVec Ideal S2x2048 .f32 := m ((c : Thread nD τ).loc main_arg12)

/-- The weights as the call finds them: the arguments', their format changed. -/
theorem wa_entry (c : Dev nD) (i : S2x1024x2048.Idx) : V m c main_v0 i = wa m c i := by
  have : V m c main_v0 = truncf (F := Ideal) .bf16 (wa m c) bitsLt_bf16_f32 := by
    show StableHlo.after hostOps0 _ (Proc.devRef .tc main_v0) = _
    after_results
  rw [this]; rfl

theorem wb_entry (c : Dev nD) (i : S2x512x2048.Idx) : V m c main_v1 i = wb m c i := by
  have : V m c main_v1 = truncf (F := Ideal) .bf16 (wb m c) bitsLt_bf16_f32 := by
    show StableHlo.after hostOps0 _ (Proc.devRef .tc main_v1) = _
    after_results
  rw [this]; rfl

theorem wc_entry (c : Dev nD) (i : S2x512x2048.Idx) : V m c main_v2 i = wc m c i := by
  have : V m c main_v2 = truncf (F := Ideal) .bf16 (wc m c) bitsLt_bf16_f32 := by
    show StableHlo.after hostOps0 _ (Proc.devRef .tc main_v2) = _
    after_results
  rw [this]; rfl

theorem wOut_entry (c : Dev nD) (i : S2x2048x2048.Idx) : V m c main_v3 i = wOut m c i := by
  have : V m c main_v3 = truncf (F := Ideal) .bf16 (wOut m c) bitsLt_bf16_f32 := by
    show StableHlo.after hostOps0 _ (Proc.devRef .tc main_v3) = _
    after_results
  rw [this]; rfl

theorem bias_entry (c : Dev nD) (l : Fin 2) (k : Fin 6144) : V m c main_v4 (ix3 l 0 k) = bias m c (ix2 l k) := by
  have : V m c main_v4 = shapeCast S2x1x6144 (bias m c) shapeCasts_S2x6144_S2x1x6144 := by
    show StableHlo.after hostOps0 _ (Proc.devRef .tc main_v4) = _
    after_results
    rfl
  rw [this]; pointwise

theorem gain_entry (c : Dev nD) (l : Fin 2) (k : Fin 2048) : V m c main_v5 (ix3 l 0 k) = gain m c (ix2 l k) := by
  have : V m c main_v5 = shapeCast S2x1x2048 (gain m c) shapeCasts_S2x2048_S2x1x2048 := by
    show StableHlo.after hostOps0 _ (Proc.devRef .tc main_v5) = _
    after_results
    rfl
  rw [this]; pointwise

/-- The windows' block indices. -/
theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 1] := (by decide +kernel : ∀ t : Fin grid0.N, _)
theorem idx_4 : ∀ t : Fin cfg0.N, win0_4.index t = ![0, 0, 0] := (by decide +kernel : ∀ t : Fin grid0.N, _)
theorem idx_5 : ∀ t : Fin cfg0.N, win0_5.index t = ![0, 0, 0] := (by decide +kernel : ∀ t : Fin grid0.N, _)
theorem idx_6 : ∀ t : Fin cfg0.N, win0_6.index t = ![0, 0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0, 0] := (by decide +kernel : ∀ t : Fin grid0.N, _)
theorem idx_9 : ∀ t : Fin cfg0.N, win0_9.index t = ![min t.val 31, 0] := (by decide +kernel : ∀ t : Fin grid0.N, _)
theorem idx_10 : ∀ t : Fin cfg0.N, win0_10.index t = ![t.val - 32, 0] := (by decide +kernel : ∀ t : Fin grid0.N, _)
theorem first : ∀ t : Fin cfg0.N, Scalar.cmpi .slt (pt t) 32#32 = if t.val < 32 then 1#1 else 0#1 :=
  (by decide +kernel : ∀ t : Fin grid0.N, _)
theorem idx_11 : ∀ t : Fin cfg0.N, win0_11.index t = ![condRow (t.val * 256), 0, 2] := (by decide +kernel : ∀ t : Fin grid0.N, _)
theorem idx_12 : ∀ t : Fin cfg0.N, win0_12.index t = ![0, 0, 0] := (by decide +kernel : ∀ t : Fin grid0.N, _)
theorem idx_13 : ∀ t : Fin cfg0.N, win0_13.index t = ![condRow (t.val * 256), 0, 3] := (by decide +kernel : ∀ t : Fin grid0.N, _)
theorem idx_14 : ∀ t : Fin cfg0.N, win0_14.index t = ![condRow (t.val * 256), 0, 4] := (by decide +kernel : ∀ t : Fin grid0.N, _)
theorem idx_15 : ∀ t : Fin cfg0.N, win0_15.index t = ![t.val, 0] := (by decide +kernel : ∀ t : Fin grid0.N, _)
theorem idx_16 : ∀ t : Fin cfg0.N, win0_16.index t = ![t.val, 0] := (by decide +kernel : ∀ t : Fin grid0.N, _)

/-- The rows of one block read one row of the modulation table. -/
theorem cond_block (t r : Nat) (hr : r < 256) : condRow (t * 256 + r) = condRow (t * 256) := by
  unfold condRow
  split <;> split <;> omega

theorem yna_apply (c : Dev nD) (t : Fin cfg0.N) (r : Fin 256) (k : Fin 1024) :
    iblk m c 0 t (ix2 r k) = at2 (yna m c) (t.val * 256 + r.val) k.val := by
  unfold iblk
  rw [View.read_apply]
  refine (congrFun (V_main_arg0 m c) _).trans (at2_eq (yna m c) _ _ _ ?_ ?_)
  · show win0_0.index t 0 * 256 + 1 * r.val = _
    rw [idx_0 t]; simp
  · show win0_0.index t 1 * 1024 + 1 * k.val = _
    rw [idx_0 t]; simp

theorem yhy_apply (c : Dev nD) (t : Fin cfg0.N) (r : Fin 256) (k : Fin 512) :
    iblk m c 1 t (ix2 r k) = at2 (yhy m c) (t.val * 256 + r.val) k.val := by
  unfold iblk
  rw [View.read_apply]
  refine (congrFun (V_main_arg1 m c) _).trans (at2_eq (yhy m c) _ _ _ ?_ ?_)
  · show win0_1.index t 0 * 256 + 1 * r.val = _
    rw [idx_1 t]; simp
  · show win0_1.index t 1 * 512 + 1 * k.val = _
    rw [idx_1 t]; simp

theorem ygdn_apply (c : Dev nD) (t : Fin cfg0.N) (r : Fin 256) (k : Fin 512) :
    iblk m c 2 t (ix2 r k) = at2 (ygdn m c) (t.val * 256 + r.val) k.val := by
  unfold iblk
  rw [View.read_apply]
  refine (congrFun (V_main_arg2 m c) _).trans (at2_eq (ygdn m c) _ _ _ ?_ ?_)
  · show win0_2.index t 0 * 256 + 1 * r.val = _
    rw [idx_2 t]; simp
  · show win0_2.index t 1 * 512 + 1 * k.val = _
    rw [idx_2 t]; simp

theorem xp_apply (c : Dev nD) (t : Fin cfg0.N) (ht : t.val < 32) (r : Fin 256) (k : Fin 2048) :
    iblk m c 9 t (ix2 r k) = at2 (xp m c) (t.val * 256 + r.val) k.val := by
  unfold iblk
  rw [View.read_apply]
  refine (congrFun (V_main_arg9 m c) _).trans (at2_eq (xp m c) _ _ _ ?_ ?_)
  · show win0_9.index t 0 * 256 + 1 * r.val = _
    rw [idx_9 t]
    show min t.val 31 * 256 + 1 * r.val = _
    omega
  · show win0_9.index t 1 * 2048 + 1 * k.val = _
    rw [idx_9 t]; simp

theorem xs_apply (c : Dev nD) (t : Fin cfg0.N) (r : Fin 256) (k : Fin 2048) :
    iblk m c 10 t (ix2 r k) = at2 (xs m c) ((t.val - 32) * 256 + r.val) k.val := by
  unfold iblk
  rw [View.read_apply]
  refine (congrFun (V_main_arg10 m c) _).trans (at2_eq (xs m c) _ _ _ ?_ ?_)
  · show win0_10.index t 0 * 256 + 1 * r.val = _
    rw [idx_10 t]; simp
  · show win0_10.index t 1 * 2048 + 1 * k.val = _
    rw [idx_10 t]; simp

/-- An element of the joined residual. -/
theorem at_joined (c : Dev nD) (n k : Nat) (hn : n < 12288) (hk : k < 2048) :
    at2 (xRes m c) n k = if n < 8192 then at2 (xp m c) n k else at2 (xs m c) (n - 8192) k := by
  unfold at2 xRes joined
  rw [dif_pos ⟨hn, hk⟩]
  rfl

/-- The rows that the body picks are the joined residual's. -/
theorem xRes_apply (c : Dev nD) (t : Fin cfg0.N) (r : Fin 256) (k : Fin 2048) :
    sel (iblk m c 9 t) (iblk m c 10 t) (pt t) (ix2 r k) = at2 (xRes m c) (t.val * 256 + r.val) k.val := by
  have hN : t.val < 48 := t.isLt
  have hr := r.isLt
  rw [at_joined m c _ _ (by omega) k.isLt]
  unfold sel
  rw [first t]
  by_cases ht : t.val < 32
  · rw [if_pos ht, if_pos (by omega)]
    exact xp_apply m c t ht r k
  · rw [if_neg ht, if_neg (by omega)]
    refine (xs_apply m c t r k).trans ?_
    rw [show t.val * 256 + r.val - 8192 = (t.val - 32) * 256 + r.val from by omega]

/-- A column of the gates' block inside the array. -/
theorem gates_apply (c : Dev nD) (t : Fin cfg0.N) (d) (r : Fin 256) (e : Fin 6656) (he : e.val < 6160) :
    gates m c t d (ix2 r e) = at2 (proj m c) (t.val * 256 + r.val) (6656 + e.val) := by
  have hm : win0_3.moved (grid0.coords t) (ix2 r e) = true := by
    rw [Pipeline.Window.moved_iff, size_3 t]
    intro a
    fin_cases a
    · exact r.isLt
    · exact he
  unfold gates Pipeline.Window.fill
  rw [dif_pos hm]
  unfold iblk
  rw [View.read_apply]
  have h : ∀ j : ((cfg0.win 3).xblock (cfg0.grid.coords t)).Idx, (j 0).val = r.val → (j 1).val = e.val →
      V m c main_arg3 (((cfg0.win 3).blk t).view.emb j : S12288x12816.Idx) = at2 (proj m c) (t.val * 256 + r.val) (6656 + e.val) := by
    intro j h0 h1
    refine (congrFun (V_main_arg3 m c) _).trans (at2_eq (proj m c) _ _ _ ?_ ?_)
    · show win0_3.index t 0 * 256 + 1 * (j 0).val = _
      rw [idx_3 t, h0]; simp
    · show win0_3.index t 1 * 6656 + 1 * (j 1).val = _
      rw [idx_3 t, h1]; simp
  exact h _ rfl rfl

theorem wa_apply (c : Dev nD) (t : Fin cfg0.N) (k : Fin 1024) (e : Fin 2048) :
    iblk m c 5 t (ix3 0 k e) = at3 (wa m c) 0 k.val e.val := by
  unfold iblk
  rw [View.read_apply]
  refine (wa_entry m c _).trans (at3_eq (wa m c) _ _ _ _ ?_ ?_ ?_)
  · show win0_5.index t 0 * 1 + 1 * 0 = _
    rw [idx_5 t]; simp
  · show win0_5.index t 1 * 1024 + 1 * k.val = _
    rw [idx_5 t]; simp
  · show win0_5.index t 2 * 2048 + 1 * e.val = _
    rw [idx_5 t]; simp

theorem wb_apply (c : Dev nD) (t : Fin cfg0.N) (k : Fin 512) (e : Fin 2048) :
    iblk m c 6 t (ix3 0 k e) = at3 (wb m c) 0 k.val e.val := by
  unfold iblk
  rw [View.read_apply]
  refine (wb_entry m c _).trans (at3_eq (wb m c) _ _ _ _ ?_ ?_ ?_)
  · show win0_6.index t 0 * 1 + 1 * 0 = _
    rw [idx_6 t]; simp
  · show win0_6.index t 1 * 512 + 1 * k.val = _
    rw [idx_6 t]; simp
  · show win0_6.index t 2 * 2048 + 1 * e.val = _
    rw [idx_6 t]; simp

theorem wc_apply (c : Dev nD) (t : Fin cfg0.N) (k : Fin 512) (e : Fin 2048) :
    iblk m c 7 t (ix3 0 k e) = at3 (wc m c) 0 k.val e.val := by
  unfold iblk
  rw [View.read_apply]
  refine (wc_entry m c _).trans (at3_eq (wc m c) _ _ _ _ ?_ ?_ ?_)
  · show win0_7.index t 0 * 1 + 1 * 0 = _
    rw [idx_7 t]; simp
  · show win0_7.index t 1 * 512 + 1 * k.val = _
    rw [idx_7 t]; simp
  · show win0_7.index t 2 * 2048 + 1 * e.val = _
    rw [idx_7 t]; simp

theorem wOut_apply (c : Dev nD) (t : Fin cfg0.N) (k : Fin 2048) (e : Fin 2048) :
    iblk m c 8 t (ix3 0 k e) = at3 (wOut m c) 0 k.val e.val := by
  unfold iblk
  rw [View.read_apply]
  refine (wOut_entry m c _).trans (at3_eq (wOut m c) _ _ _ _ ?_ ?_ ?_)
  · show win0_8.index t 0 * 1 + 1 * 0 = _
    rw [idx_8 t]; simp
  · show win0_8.index t 1 * 2048 + 1 * k.val = _
    rw [idx_8 t]; simp
  · show win0_8.index t 2 * 2048 + 1 * e.val = _
    rw [idx_8 t]; simp

theorem bias_apply (c : Dev nD) (t : Fin cfg0.N) (e : Fin 6144) :
    iblk m c 4 t (ix3 0 0 e) = at2 (bias m c) 0 e.val := by
  unfold iblk
  rw [View.read_apply]
  have h : (((cfg0.win 4).blk t).view.emb (ix3 0 0 e) : S2x1x6144.Idx) = ix3 0 0 e := by
    funext a
    have ei := idx_4 t
    fin_cases a
    · exact Fin.ext (by show win0_4.index t 0 * 1 + 1 * 0 = 0; rw [ei]; simp)
    · exact Fin.ext (by show win0_4.index t 1 * 1 + 1 * 0 = 0; rw [ei]; simp)
    · exact Fin.ext (by show win0_4.index t 2 * 6144 + 1 * e.val = e.val; rw [ei]; simp)
  refine (congrArg (V m c main_v4) h).trans ((bias_entry m c 0 e).trans (at2_eq (bias m c) _ _ _ rfl rfl))

theorem gain_apply (c : Dev nD) (t : Fin cfg0.N) (e : Fin 2048) :
    iblk m c 12 t (ix3 0 0 e) = at2 (gain m c) 0 e.val := by
  unfold iblk
  rw [View.read_apply]
  have h : (((cfg0.win 12).blk t).view.emb (ix3 0 0 e) : S2x1x2048.Idx) = ix3 0 0 e := by
    funext a
    have ei := idx_12 t
    fin_cases a
    · exact Fin.ext (by show win0_12.index t 0 * 1 + 1 * 0 = 0; rw [ei]; simp)
    · exact Fin.ext (by show win0_12.index t 1 * 1 + 1 * 0 = 0; rw [ei]; simp)
    · exact Fin.ext (by show win0_12.index t 2 * 2048 + 1 * e.val = e.val; rw [ei]; simp)
  refine (congrArg (V m c main_v5) h).trans ((gain_entry m c 0 e).trans (at2_eq (gain m c) _ _ _ rfl rfl))

theorem resGate_apply (c : Dev nD) (t : Fin cfg0.N) (e : Fin 2048) :
    iblk m c 11 t (ix3 0 0 e) = at3 (modT m c) (condRow (t.val * 256)) 0 (4096 + e.val) := by
  unfold iblk
  rw [View.read_apply]
  refine (congrFun (V_main_arg11 m c) _).trans (at3_eq (modT m c) _ _ _ _ ?_ ?_ ?_)
  · show win0_11.index t 0 * 1 + 1 * 0 = _
    rw [idx_11 t]; simp
  · show win0_11.index t 1 * 1 + 1 * 0 = _
    rw [idx_11 t]; simp
  · show win0_11.index t 2 * 2048 + 1 * e.val = _
    rw [idx_11 t]; simp

theorem shift_apply (c : Dev nD) (t : Fin cfg0.N) (e : Fin 2048) :
    iblk m c 13 t (ix3 0 0 e) = at3 (modT m c) (condRow (t.val * 256)) 0 (6144 + e.val) := by
  unfold iblk
  rw [View.read_apply]
  refine (congrFun (V_main_arg11 m c) _).trans (at3_eq (modT m c) _ _ _ _ ?_ ?_ ?_)
  · show win0_13.index t 0 * 1 + 1 * 0 = _
    rw [idx_13 t]; simp
  · show win0_13.index t 1 * 1 + 1 * 0 = _
    rw [idx_13 t]; simp
  · show win0_13.index t 2 * 2048 + 1 * e.val = _
    rw [idx_13 t]; simp

theorem scale_apply (c : Dev nD) (t : Fin cfg0.N) (e : Fin 2048) :
    iblk m c 14 t (ix3 0 0 e) = at3 (modT m c) (condRow (t.val * 256)) 0 (8192 + e.val) := by
  unfold iblk
  rw [View.read_apply]
  refine (congrFun (V_main_arg11 m c) _).trans (at3_eq (modT m c) _ _ _ _ ?_ ?_ ?_)
  · show win0_14.index t 0 * 1 + 1 * 0 = _
    rw [idx_14 t]; simp
  · show win0_14.index t 1 * 1 + 1 * 0 = _
    rw [idx_14 t]; simp
  · show win0_14.index t 2 * 2048 + 1 * e.val = _
    rw [idx_14 t]; simp

/-- The gated sum of the run's arguments. -/
abbrev mix (c : Dev nD) : Nat → Fin 2048 → EReal :=
  mixedFirst (yna m c) (yhy m c) (ygdn m c) (proj m c) (bias m c) (wa m c) (wb m c) (wc m c)

/-- What the two arrays hold. -/
def G15 (c : Dev nD) : Buf (Elt Ideal) ((c : Thread nD τ).loc main_v6_0) :=
  fun i : S12288x2048.Idx => mixResFirst (mix m c) (wOut m c) (xRes m c) (modT m c) (i 0).val (i 1)
def G16 (c : Dev nD) : Buf (Elt Ideal) ((c : Thread nD τ).loc main_v6_1) :=
  fun i : S12288x2048.Idx => mixNormFirst (mix m c) (wOut m c) (xRes m c) (modT m c) (gain m c) (i 0).val (i 1)

theorem gateB_eq (c : Dev nD) (t : Fin cfg0.N) (r : Fin 256) (j : Fin 6144) :
    gateB (gates m c t junk) (iblk m c 4 t) r j
      = Ideal.logistic (at2 (proj m c) (t.val * 256 + r.val) (6672 + j.val) + at2 (bias m c) 0 j.val) := by
  have hj := j.isLt
  unfold gateB
  rw [gates_apply m c t junk r _ (by show j.val + 16 < 6160; omega), bias_apply,
    show 6656 + (j.val + 16) = 6672 + j.val from by omega]

/-- Point `t`'s row of the gated sum. -/
theorem mixed_eq (c : Dev nD) (t : Fin cfg0.N) (r : Fin 256) :
    (mixedB (iblk m c 0 t) (iblk m c 1 t) (iblk m c 2 t) (gates m c t junk) (iblk m c 4 t) (iblk m c 5 t) (iblk m c 6 t) (iblk m c 7 t)) r
      = mix m c (t.val * 256 + r.val) := by
  funext e
  unfold mixedB mix mixedFirst
  rw [gateB_eq, gateB_eq, gateB_eq]
  simp only [yna_apply, yhy_apply, ygdn_apply, wa_apply, wb_apply, wc_apply]

/-- Point `t`'s residual row is the array's row. -/
theorem row_eq (c : Dev nD) (t : Fin cfg0.N) (r : Fin 256) :
    resB (iblk m c 8 t) (iblk m c 11 t) (sel (iblk m c 9 t) (iblk m c 10 t) (pt t)) (mixedB (iblk m c 0 t) (iblk m c 1 t) (iblk m c 2 t) (gates m c t junk) (iblk m c 4 t) (iblk m c 5 t) (iblk m c 6 t) (iblk m c 7 t)) r
      = mixResFirst (mix m c) (wOut m c) (xRes m c) (modT m c) (t.val * 256 + r.val) := by
  funext e
  unfold resB mixResFirst
  rw [xRes_apply, resGate_apply, cond_block _ _ r.isLt, mixed_eq]
  refine congrArg (fun z => _ + _ * z) (Finset.sum_congr rfl fun k _ => ?_)
  rw [wOut_apply]

theorem emb15 (t : Fin cfg0.N) (r : Fin 256) (e : Fin 2048) (n : Fin 12288) (hn : n.val = t.val * 256 + r.val) :
    (((cfg0.win 15).blk t).view.emb (ix2 r e) : S12288x2048.Idx) = ix2 n e := by
  funext a
  have ei := idx_15 t
  fin_cases a
  · exact Fin.ext (by show win0_15.index t 0 * 256 + 1 * r.val = n.val; rw [ei, hn]; simp)
  · exact Fin.ext (by show win0_15.index t 1 * 2048 + 1 * e.val = e.val; rw [ei]; simp)

theorem emb16 (t : Fin cfg0.N) (r : Fin 256) (e : Fin 2048) (n : Fin 12288) (hn : n.val = t.val * 256 + r.val) :
    (((cfg0.win 16).blk t).view.emb (ix2 r e) : S12288x2048.Idx) = ix2 n e := by
  funext a
  have ei := idx_16 t
  fin_cases a
  · exact Fin.ext (by show win0_16.index t 0 * 256 + 1 * r.val = n.val; rw [ei, hn]; simp)
  · exact Fin.ext (by show win0_16.index t 1 * 2048 + 1 * e.val = e.val; rw [ei]; simp)

theorem flush15 (c : Dev nD) (t : Fin cfg0.N) : (dats m 0 c).flushed 15 t = ((cfg0.win 15).blk t).view.read (Elt Ideal) (G15 m c) := by
  show (dats m 0 c).after 15 t = _
  rw [after_15]
  funext y
  rw [View.read_apply]
  obtain ⟨r, e, rfl⟩ : ∃ (r : Fin 256) (e : Fin 2048), y = ix2 r e := ⟨y 0, y 1, by funext a; fin_cases a <;> rfl⟩
  have hN : t.val < 48 := t.isLt
  have hr := r.isLt
  have hb : t.val * 256 + r.val < 12288 := by omega
  refine (res_apply _ _ _ _ _ _ _ _ _ _ _ _ _ r e).trans ?_
  refine Eq.trans ?_ (congrArg (G15 m c) (emb15 t r e ⟨_, hb⟩ rfl)).symm
  exact congrFun (row_eq m c t r) e

theorem flush16 (c : Dev nD) (t : Fin cfg0.N) : (dats m 0 c).flushed 16 t = ((cfg0.win 16).blk t).view.read (Elt Ideal) (G16 m c) := by
  show (dats m 0 c).after 16 t = _
  rw [after_16]
  funext y
  rw [View.read_apply]
  obtain ⟨r, e, rfl⟩ : ∃ (r : Fin 256) (e : Fin 2048), y = ix2 r e := ⟨y 0, y 1, by funext a; fin_cases a <;> rfl⟩
  have hN : t.val < 48 := t.isLt
  have hr := r.isLt
  have hb : t.val * 256 + r.val < 12288 := by omega
  refine (norm_apply _ _ _ _ _ _ _ _ _ _ _ _ _ _ _ _ r e).trans ?_
  refine Eq.trans ?_ (congrArg (G16 m c) (emb16 t r e ⟨_, hb⟩ rfl)).symm
  show _ = mixNormFirst (mix m c) (wOut m c) (xRes m c) (modT m c) (gain m c) (t.val * 256 + r.val) e
  unfold mixNormFirst
  rw [row_eq, cond_block _ _ hr]
  congr 1
  · exact funext fun k => gain_apply m c t k
  · exact funext fun k => shift_apply m c t k
  · exact funext fun k => scale_apply m c t k

theorem final15 (c : Dev nD) (i : S12288x2048.Idx) : (dats m 0 c).arrAt 15 cfg0.N i = G15 m c i := by
  have h0 : (i 0).val < 12288 := (i 0).isLt
  have h1 : (i 1).val < 2048 := (i 1).isLt
  have hN : cfg0.N = 48 := N_0
  let t : Fin cfg0.N := ⟨(i 0).val / 256, by rw [hN]; omega⟩
  refine (dats m 0 c).arrAt_apply_of_mem 15 (G15 m c) (fun t _ => flush15 m c t) cfg0.N t i t.isLt (flush0_15 t) ?_
  show i ∈ ((View.whole main_v6_0).slice (win0_15.rect t)).set
  rw [View.set_slice_whole, Rect.mem_set_unit]
  intro a
  have e := idx_15 t
  fin_cases a
  · show win0_15.index t 0 * 256 ≤ (i 0).val ∧ (i 0).val < win0_15.index t 0 * 256 + 256
    rw [e]; show (i 0).val / 256 * 256 ≤ _ ∧ _ < (i 0).val / 256 * 256 + 256; omega
  · show win0_15.index t 1 * 2048 ≤ (i 1).val ∧ (i 1).val < win0_15.index t 1 * 2048 + 2048
    rw [e]; show 0 * 2048 ≤ _ ∧ _ < 0 * 2048 + 2048; omega

theorem final16 (c : Dev nD) (i : S12288x2048.Idx) : (dats m 0 c).arrAt 16 cfg0.N i = G16 m c i := by
  have h0 : (i 0).val < 12288 := (i 0).isLt
  have h1 : (i 1).val < 2048 := (i 1).isLt
  have hN : cfg0.N = 48 := N_0
  let t : Fin cfg0.N := ⟨(i 0).val / 256, by rw [hN]; omega⟩
  refine (dats m 0 c).arrAt_apply_of_mem 16 (G16 m c) (fun t _ => flush16 m c t) cfg0.N t i t.isLt (flush0_16 t) ?_
  show i ∈ ((View.whole main_v6_1).slice (win0_16.rect t)).set
  rw [View.set_slice_whole, Rect.mem_set_unit]
  intro a
  have e := idx_16 t
  fin_cases a
  · show win0_16.index t 0 * 256 ≤ (i 0).val ∧ (i 0).val < win0_16.index t 0 * 256 + 256
    rw [e]; show (i 0).val / 256 * 256 ≤ _ ∧ _ < (i 0).val / 256 * 256 + 256; omega
  · show win0_16.index t 1 * 2048 ≤ (i 1).val ∧ (i 1).val < win0_16.index t 1 * 2048 + 2048
    rw [e]; show 0 * 2048 ≤ _ ∧ _ < 0 * 2048 + 2048; omega

/-- The run with the result arrays named and the arguments unchanged. -/
theorem run_value : θ_run defs (onTc (τ := τ) (main (F := Ideal))) ⟨m, fun _ => 0, ρ⟩ (fun r => ∀ c : Dev nD,
      r.2.mem ((c.tc : Thread nD τ).loc main_v6_0) = G15 m c
      ∧ r.2.mem ((c.tc : Thread nD τ).loc main_v6_1) = G16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  by
  refine (θ_run defs _ _).mono ?_ (θ_run_and (run_main m ρ) (frame m ρ))
  intro r h c
  exact ⟨((h.1.1 c).1 15).trans (funext fun i => final15 m c i),
    ((h.1.1 c).1 16).trans (funext fun i => final16 m c i), h.2.1 c⟩

end Cert.MixFirst

end
-- ==== Proof.MixFirst.Reference.lean ====
/-
  What the first layer's gated mix's reference computes, element by element: the gated sum of the branches, the rows of
  the modulation table each token reads, the residual and the norm.
-/
module

public import proofs.«01_k».proof.Proof.MixFirst.Array
public import proofs.«01_k».proof.Proof.Gen.Reference7Ideal.Run
public import proofs.«01_k».proof.Proof.Gen.Reference7Ideal.Read

@[expose] public section

set_option maxRecDepth 16384

noncomputable section

namespace Cert.Reference7Ideal.MixFirst

open Idealize.ShloMosaic Idealize.ShloMosaic.TcCoe Idealize.SL.Sem
open Cert.Reference7Ideal Cert.Reference7Ideal.Gen Cert.Reference7Ideal.Read Cert.Layer

variable (x0 : FVec Ideal S12288x1024 .bf16) (x1 x2 : FVec Ideal S12288x512 .bf16) (x3 : FVec Ideal S12288x12816 .f32)
    (x4 : FVec Ideal S2x6144 .f32) (x5 : FVec Ideal S2x1024x2048 .f32) (x6 x7 : FVec Ideal S2x512x2048 .f32)
    (x8 : FVec Ideal S2x2048x2048 .f32) (x9 : FVec Ideal S8192x2048 .f32) (x10 : FVec Ideal S4096x2048 .f32) (x11 : FVec Ideal S16x1x12288 .f32)
    (x12 : FVec Ideal S2x2048 .f32)

/-- The gates before the logistic. -/
theorem pre_gate (n : Fin 12288) (j : Fin 6144) :
    val_main_v6 (F := Ideal) x3 x4 (ix2 n j) = at2 x3 n.val (6672 + j.val) + at2 x4 0 j.val := by
  rw [val_main_v6_apply, val_main_v1_apply, val_main_v5_apply, val_main_v4_apply, val_main_v3_apply, val_main_v2_apply]
  refine congrArg₂ (· + ·) (at2_eq x3 _ _ _ ?_ ?_) (at2_eq x4 _ _ _ rfl ?_)
  · show n.val = _; rfl
  · show 6672 + j.val = _; rfl
  · show j.val % 6144 = _; omega

theorem gate (n : Fin 12288) (j : Fin 6144) :
    val_main_v12 (F := Ideal) x3 x4 (ix2 n j) = Ideal.logistic (at2 x3 n.val (6672 + j.val) + at2 x4 0 j.val) := by
  rw [← pre_gate x3 x4 n j, val_main_v12_apply, val_main_v10_apply, val_main_v8_apply, val_main_v7_apply, val_main_v9_apply,
    val_main_v11_apply]
  have one : ∀ i, val_main_cst (F := Ideal) i = 1 := fun _ => Ideal.ofBits_one_f32
  have one' : ∀ i, val_main_cst_0 (F := Ideal) i = 1 := fun _ => Ideal.ofBits_one_f32
  rw [one, one']
  rfl

theorem ya (n : Fin 12288) (e : Fin 2048) :
    val_main_v17 (F := Ideal) x0 x5 (ix2 n e) = ∑ k : Fin 1024, at2 x0 n.val k.val * at3 x5 0 k.val e.val := by
  rw [val_main_v17_apply]
  refine Finset.sum_congr rfl fun k _ => ?_
  have el : lidx_main_v17 (ix2 n e) k = ix2 n k := funext fun a => by fin_cases a <;> rfl
  have er : ridx_main_v17 (ix2 n e) k = ix2 k e := funext fun a => by fin_cases a <;> rfl
  rw [el, er, val_main_v14_apply, val_main_v16_apply, val_main_v15_apply]
  refine congrArg₂ (· * ·) (at2_eq x0 _ _ _ rfl rfl) (at3_eq x5 _ _ _ _ rfl ?_ ?_)
  · show (k.val * 2048 + e.val) / 2048 % 1024 = _; omega
  · show (k.val * 2048 + e.val) % 2048 = _; omega

theorem gate_ya (n : Fin 12288) (e : Fin 2048) :
    val_main_v13 (F := Ideal) x3 x4 (ix2 n e) = Ideal.logistic (at2 x3 n.val (6672 + (e.val)) + at2 x4 0 (e.val)) := by
  have he := e.isLt
  rw [val_main_v13_apply]
  have ei : idx_main_v13 (ix2 n e) = ix2 n (⟨e.val, by omega⟩ : Fin 6144) := funext fun a => by fin_cases a <;> rfl
  rw [ei, gate]

theorem yb (n : Fin 12288) (e : Fin 2048) :
    val_main_v23 (F := Ideal) x1 x6 (ix2 n e) = ∑ k : Fin 512, at2 x1 n.val k.val * at3 x6 0 k.val e.val := by
  rw [val_main_v23_apply]
  refine Finset.sum_congr rfl fun k _ => ?_
  have el : lidx_main_v23 (ix2 n e) k = ix2 n k := funext fun a => by fin_cases a <;> rfl
  have er : ridx_main_v23 (ix2 n e) k = ix2 k e := funext fun a => by fin_cases a <;> rfl
  rw [el, er, val_main_v20_apply, val_main_v22_apply, val_main_v21_apply]
  refine congrArg₂ (· * ·) (at2_eq x1 _ _ _ rfl rfl) (at3_eq x6 _ _ _ _ rfl ?_ ?_)
  · show (k.val * 2048 + e.val) / 2048 % 512 = _; omega
  · show (k.val * 2048 + e.val) % 2048 = _; omega

theorem gate_yb (n : Fin 12288) (e : Fin 2048) :
    val_main_v19 (F := Ideal) x3 x4 (ix2 n e) = Ideal.logistic (at2 x3 n.val (6672 + (2048 + e.val)) + at2 x4 0 (2048 + e.val)) := by
  have he := e.isLt
  rw [val_main_v19_apply]
  have ei : idx_main_v19 (ix2 n e) = ix2 n (⟨2048 + e.val, by omega⟩ : Fin 6144) := funext fun a => by fin_cases a <;> rfl
  rw [ei, gate]

theorem yc (n : Fin 12288) (e : Fin 2048) :
    val_main_v30 (F := Ideal) x2 x7 (ix2 n e) = ∑ k : Fin 512, at2 x2 n.val k.val * at3 x7 0 k.val e.val := by
  rw [val_main_v30_apply]
  refine Finset.sum_congr rfl fun k _ => ?_
  have el : lidx_main_v30 (ix2 n e) k = ix2 n k := funext fun a => by fin_cases a <;> rfl
  have er : ridx_main_v30 (ix2 n e) k = ix2 k e := funext fun a => by fin_cases a <;> rfl
  rw [el, er, val_main_v27_apply, val_main_v29_apply, val_main_v28_apply]
  refine congrArg₂ (· * ·) (at2_eq x2 _ _ _ rfl rfl) (at3_eq x7 _ _ _ _ rfl ?_ ?_)
  · show (k.val * 2048 + e.val) / 2048 % 512 = _; omega
  · show (k.val * 2048 + e.val) % 2048 = _; omega

theorem gate_yc (n : Fin 12288) (e : Fin 2048) :
    val_main_v26 (F := Ideal) x3 x4 (ix2 n e) = Ideal.logistic (at2 x3 n.val (6672 + (4096 + e.val)) + at2 x4 0 (4096 + e.val)) := by
  have he := e.isLt
  rw [val_main_v26_apply]
  have ei : idx_main_v26 (ix2 n e) = ix2 n (⟨4096 + e.val, by omega⟩ : Fin 6144) := funext fun a => by fin_cases a <;> rfl
  rw [ei, gate]

/-- The gated sum of the three branches. -/
theorem sum_rows (n : Fin 12288) (e : Fin 2048) :
    val_main_v32 (F := Ideal) x0 x1 x2 x3 x4 x5 x6 x7 (ix2 n e) = mixedFirst x0 x1 x2 x3 x4 x5 x6 x7 n.val e := by
  rw [val_main_v32_apply, val_main_v25_apply, val_main_v18_apply, val_main_v24_apply, val_main_v31_apply,
    gate_ya, gate_yb, gate_yc, ya, yb, yc]
  rfl

/-- The product with the output's weights. -/
theorem product (n : Fin 12288) (e : Fin 2048) :
    val_main_v68 (F := Ideal) x0 x1 x2 x3 x4 x5 x6 x7 x8 (ix2 n e) = ∑ k : Fin 2048, mixedFirst x0 x1 x2 x3 x4 x5 x6 x7 n.val k * at3 x8 0 k.val e.val := by
  rw [val_main_v68_apply]
  refine Finset.sum_congr rfl fun k _ => ?_
  have el : lidx_main_v68 (ix2 n e) k = ix2 n k := funext fun a => by fin_cases a <;> rfl
  have er : ridx_main_v68 (ix2 n e) k = ix2 k e := funext fun a => by fin_cases a <;> rfl
  rw [el, er, sum_rows, val_main_v67_apply, val_main_v66_apply]
  refine congrArg (_ * ·) (at3_eq x8 _ _ _ _ rfl ?_ ?_)
  · show (k.val * 2048 + e.val) / 2048 % 2048 = _; omega
  · show (k.val * 2048 + e.val) % 2048 = _; omega

/-- Each token's row of one chunk of the modulation table. -/
theorem gateRow (n : Fin 12288) (e : Fin 2048) :
    val_main_v43 (F := Ideal) x11 (ix2 n e) = at3 x11 (condRow n.val) 0 (4096 + e.val) := by
  have ha : ∀ n : Fin 8192, val_main_v41 (F := Ideal) x11 (ix2 n e) = at3 x11 0 0 (4096 + e.val) := by
    intro n
    have hn := n.isLt
    have he := e.isLt
    rw [val_main_v41_apply, val_main_v38_apply, val_main_v37_apply, val_main_v35_apply, val_main_v34_apply, val_main_v33_apply]
    refine at3_eq x11 _ _ _ _ ?_ rfl ?_
    · show ((0 * 2048 + (n.val * 2048 + e.val) % 2048) / 2048) = _; omega
    · show 4096 + ((0 * 2048 + (n.val * 2048 + e.val) % 2048) % 2048) = _; omega
  have hb : ∀ n : Fin 4096, val_main_v42 (F := Ideal) x11 (ix2 n e) = at3 x11 (1 + n.val / 1024) 0 (4096 + e.val) := by
    intro n
    have hn := n.isLt
    have he := e.isLt
    rw [val_main_v42_apply, val_main_v40_apply, val_main_v39_apply, val_main_v36_apply, val_main_v34_apply, val_main_v33_apply]
    refine at3_eq x11 _ _ _ _ ?_ rfl ?_
    · show (((1 + (n.val * 2048 + e.val) / 2097152) * 2048 + (n.val * 2048 + e.val) % 2048) / 2048) = _; omega
    · show 4096 + (((1 + (n.val * 2048 + e.val) / 2097152) * 2048 + (n.val * 2048 + e.val) % 2048) % 2048) = _; omega
  have hn := n.isLt
  unfold val_main_v43
  revert ha hb
  generalize val_main_v41 (F := Ideal) x11 = Y
  generalize val_main_v42 (F := Ideal) x11 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

/-- Each token's row of one chunk of the modulation table. -/
theorem shiftRow (n : Fin 12288) (e : Fin 2048) :
    val_main_v54 (F := Ideal) x11 (ix2 n e) = at3 x11 (condRow n.val) 0 (6144 + e.val) := by
  have ha : ∀ n : Fin 8192, val_main_v52 (F := Ideal) x11 (ix2 n e) = at3 x11 0 0 (6144 + e.val) := by
    intro n
    have hn := n.isLt
    have he := e.isLt
    rw [val_main_v52_apply, val_main_v49_apply, val_main_v48_apply, val_main_v46_apply, val_main_v45_apply, val_main_v44_apply]
    refine at3_eq x11 _ _ _ _ ?_ rfl ?_
    · show ((0 * 2048 + (n.val * 2048 + e.val) % 2048) / 2048) = _; omega
    · show 6144 + ((0 * 2048 + (n.val * 2048 + e.val) % 2048) % 2048) = _; omega
  have hb : ∀ n : Fin 4096, val_main_v53 (F := Ideal) x11 (ix2 n e) = at3 x11 (1 + n.val / 1024) 0 (6144 + e.val) := by
    intro n
    have hn := n.isLt
    have he := e.isLt
    rw [val_main_v53_apply, val_main_v51_apply, val_main_v50_apply, val_main_v47_apply, val_main_v45_apply, val_main_v44_apply]
    refine at3_eq x11 _ _ _ _ ?_ rfl ?_
    · show (((1 + (n.val * 2048 + e.val) / 2097152) * 2048 + (n.val * 2048 + e.val) % 2048) / 2048) = _; omega
    · show 6144 + (((1 + (n.val * 2048 + e.val) / 2097152) * 2048 + (n.val * 2048 + e.val) % 2048) % 2048) = _; omega
  have hn := n.isLt
  unfold val_main_v54
  revert ha hb
  generalize val_main_v52 (F := Ideal) x11 = Y
  generalize val_main_v53 (F := Ideal) x11 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

/-- Each token's row of one chunk of the modulation table. -/
theorem scaleRow (n : Fin 12288) (e : Fin 2048) :
    val_main_v65 (F := Ideal) x11 (ix2 n e) = at3 x11 (condRow n.val) 0 (8192 + e.val) := by
  have ha : ∀ n : Fin 8192, val_main_v63 (F := Ideal) x11 (ix2 n e) = at3 x11 0 0 (8192 + e.val) := by
    intro n
    have hn := n.isLt
    have he := e.isLt
    rw [val_main_v63_apply, val_main_v60_apply, val_main_v59_apply, val_main_v57_apply, val_main_v56_apply, val_main_v55_apply]
    refine at3_eq x11 _ _ _ _ ?_ rfl ?_
    · show ((0 * 2048 + (n.val * 2048 + e.val) % 2048) / 2048) = _; omega
    · show 8192 + ((0 * 2048 + (n.val * 2048 + e.val) % 2048) % 2048) = _; omega
  have hb : ∀ n : Fin 4096, val_main_v64 (F := Ideal) x11 (ix2 n e) = at3 x11 (1 + n.val / 1024) 0 (8192 + e.val) := by
    intro n
    have hn := n.isLt
    have he := e.isLt
    rw [val_main_v64_apply, val_main_v62_apply, val_main_v61_apply, val_main_v58_apply, val_main_v56_apply, val_main_v55_apply]
    refine at3_eq x11 _ _ _ _ ?_ rfl ?_
    · show (((1 + (n.val * 2048 + e.val) / 2097152) * 2048 + (n.val * 2048 + e.val) % 2048) / 2048) = _; omega
    · show 8192 + (((1 + (n.val * 2048 + e.val) / 2097152) * 2048 + (n.val * 2048 + e.val) % 2048) % 2048) = _; omega
  have hn := n.isLt
  unfold val_main_v65
  revert ha hb
  generalize val_main_v63 (F := Ideal) x11 = Y
  generalize val_main_v64 (F := Ideal) x11 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

/-- The two arrays of the residual one after the other. -/
theorem xRow (n : Fin 12288) (e : Fin 2048) : val_main_v0 (F := Ideal) x9 x10 (ix2 n e) = at2 (joined x9 x10) n.val e.val := by
  have hn := n.isLt
  refine Eq.trans ?_ (at2_eq (joined x9 x10) (ix2 n e) _ _ rfl rfl)
  unfold val_main_v0 joined
  pointwise
  by_cases h : n.val < 8192
  · refine (dif_pos h).trans (Eq.trans ?_ (if_pos h).symm)
    exact at2_eq x9 _ _ _ rfl rfl
  · refine (dif_neg h).trans (Eq.trans ?_ (if_neg h).symm)
    exact at2_eq x10 _ _ _ rfl rfl

theorem res_rows (n : Fin 12288) (e : Fin 2048) :
    val_main_v70 (F := Ideal) x0 x1 x2 x3 x4 x5 x6 x7 x8 x9 x10 x11 (ix2 n e) = mixResFirst (mixedFirst x0 x1 x2 x3 x4 x5 x6 x7) x8 (joined x9 x10) x11 n.val e := by
  rw [val_main_v70_apply, val_main_v69_apply, gateRow, product]
  unfold mixResFirst
  exact congrArg (fun z => z + _) (xRow x9 x10 n e)

theorem gainRow (n : Fin 12288) (e : Fin 2048) :
    val_main_v84 (F := Ideal) x12 (ix2 n e) = at2 x12 0 e.val := by
  rw [val_main_v84_apply, val_main_v83_apply, val_main_v82_apply, val_main_v81_apply]
  refine at2_eq x12 _ _ _ rfl ?_
  show e.val % 2048 = _; omega

theorem norm_rows (n : Fin 12288) (e : Fin 2048) :
    val_main_v90 (F := Ideal) x0 x1 x2 x3 x4 x5 x6 x7 x8 x9 x10 x11 x12 (ix2 n e) = mixNormFirst (mixedFirst x0 x1 x2 x3 x4 x5 x6 x7) x8 (joined x9 x10) x11 x12 n.val e := by
  have hsum : val_main_v72 (F := Ideal) x0 x1 x2 x3 x4 x5 x6 x7 x8 x9 x10 x11 (ix1 n) = ∑ k : Fin 2048, mixResFirst (mixedFirst x0 x1 x2 x3 x4 x5 x6 x7) x8 (joined x9 x10) x11 n.val k * mixResFirst (mixedFirst x0 x1 x2 x3 x4 x5 x6 x7) x8 (joined x9 x10) x11 n.val k := by
    rw [val_main_v72_apply]
    have z : val_main_cst_1 (F := Ideal) (Shape.Idx.first h_S_) = 0 := Ideal.ofBits_zero_f32
    rw [z, zero_add]
    refine Finset.sum_congr rfl fun k _ => ?_
    have e : idx_main_v72 (ix1 n) k = ix2 n k := funext fun a => by fin_cases a <;> rfl
    rw [e, val_main_v71_apply, res_rows]
    rfl
  have hr : val_main_v79 (F := Ideal) x0 x1 x2 x3 x4 x5 x6 x7 x8 x9 x10 x11 (ix2 n e)
      = Ideal.rsqrt (meanSq (mixResFirst (mixedFirst x0 x1 x2 x3 x4 x5 x6 x7) x8 (joined x9 x10) x11 n.val) + Ideal.ofBits .f32 0x358637BD#32) := by
    rw [val_main_v79_apply, val_main_v78_apply, val_main_v77_apply, val_main_v75_apply, val_main_v73_apply]
    have e : idx_main_v73 (idx_main_v79 (ix2 n e)) = ix1 n := funext fun a => by fin_cases a; rfl
    rw [e, hsum]
    rfl
  rw [val_main_v90_apply, val_main_v89_apply, val_main_v88_apply, val_main_v85_apply, val_main_v80_apply,
    shiftRow, gainRow, res_rows, hr, val_main_v87_apply, scaleRow, val_main_v86_apply]
  have one : ∀ i, val_main_cst_4 (F := Ideal) i = 1 := fun _ => Ideal.ofBits_one_f32
  rw [one]
  rfl

end Cert.Reference7Ideal.MixFirst

end
-- ==== Proof.MixFirst.Equation.lean ====
/-
  The first layer's gated mix and its reference end with equal arrays.
-/
module

public import proofs.«01_k».proof.Defs
public import proofs.«01_k».proof.Proof.MixFirst.Reference

@[expose] public section

set_option maxRecDepth 16384

noncomputable section

namespace Cert.MixFirst

open Idealize.ShloMosaic Idealize.ShloMosaic.TcCoe Idealize.SL.Sem
open Cert.Reference7Ideal.Read (val_main_v70 val_main_v90)

variable (m : (ℓ : Loc Cert.Kernel7Ideal.nD Cert.Kernel7Ideal.τ Cert.Kernel7Ideal.sig) → Buf (Elt Ideal) ℓ)

theorem res_eq (c : Dev Cert.Kernel7Ideal.nD) :
    G15 m c = val_main_v70 (F := Ideal) (yna m c) (yhy m c) (ygdn m c) (proj m c) (bias m c) (wa m c) (wb m c) (wc m c) (wOut m c) (xp m c) (xs m c) (modT m c) := by
  funext i
  obtain ⟨n, e, rfl⟩ : ∃ (n : Fin 12288) (e : Fin 2048), i = ix2 n e := ⟨i 0, i 1, by funext a; fin_cases a <;> rfl⟩
  exact (Cert.Reference7Ideal.MixFirst.res_rows _ _ _ _ _ _ _ _ _ _ _ _ n e).symm

theorem norm_eq (c : Dev Cert.Kernel7Ideal.nD) :
    G16 m c = val_main_v90 (F := Ideal) (yna m c) (yhy m c) (ygdn m c) (proj m c) (bias m c) (wa m c) (wb m c) (wc m c) (wOut m c) (xp m c) (xs m c) (modT m c) (gain m c) := by
  funext i
  obtain ⟨n, e, rfl⟩ : ∃ (n : Fin 12288) (e : Fin 2048), i = ix2 n e := ⟨i 0, i 1, by funext a; fin_cases a <;> rfl⟩
  exact (Cert.Reference7Ideal.MixFirst.norm_rows _ _ _ _ _ _ _ _ _ _ _ _ _ n e).symm

theorem algebraic : Cert.algebraic_Kernel7Ideal_Reference7Ideal := by
  intro m g m' g' hpre hagree
  refine ⟨fun c => val_main_v70 (F := Ideal) (yna m c) (yhy m c) (ygdn m c) (proj m c) (bias m c) (wa m c) (wb m c) (wc m c) (wOut m c) (xp m c) (xs m c) (modT m c),
    fun c => val_main_v90 (F := Ideal) (yna m c) (yhy m c) (ygdn m c) (proj m c) (bias m c) (wa m c) (wb m c) (wc m c) (wOut m c) (xp m c) (xs m c) (modT m c) (gain m c), ?_, ?_⟩
  · refine (θ_run _ _ _).mono (fun r h c => ⟨?_, ?_, (h c).2.2⟩) (run_value m g)
    · exact (h c).1.trans (res_eq m c)
    · exact (h c).2.1.trans (norm_eq m c)
  · refine (θ_run _ _ _).mono (fun r h c => ⟨?_, ?_, (h c).2.2⟩) (Cert.Reference7Ideal.Value.run m' g')
    · obtain ⟨h0, h1, h2, h3, h4, h5, h6, h7, h8, h9, h10, h11, h12⟩ := hagree c
      refine (h c).1.trans ((Cert.Reference7Ideal.Read.val_main_v70_eq _ _).trans ?_)
      rw [h0, h1, h2, h3, h4, h5, h6, h7, h8, h9, h10, h11]
    · obtain ⟨h0, h1, h2, h3, h4, h5, h6, h7, h8, h9, h10, h11, h12⟩ := hagree c
      refine (h c).2.1.trans ((Cert.Reference7Ideal.Read.val_main_v90_eq _ _).trans ?_)
      rw [h0, h1, h2, h3, h4, h5, h6, h7, h8, h9, h10, h11, h12]

end Cert.MixFirst

end
-- ==== Proof.MixFirst.FrameBits.lean ====
/- The first layer's gated mix's frame at the machine's float values. The program printed for them and the one printed for
   the extended reals are the same text, so the run proved once serves both: their tables of bodies are equal. -/
module

public import proofs.«01_k».proof.Proof.MixFirst.Point
public import proofs.«01_k».proof.Proof.Gen.Kernel7

@[expose] public section

set_option maxRecDepth 16384

noncomputable section

namespace Cert.MixFirst

open Idealize.ShloMosaic Idealize.ShloMosaic.TcCoe Idealize.SL.Sem

set_option maxHeartbeats 4000000 in
theorem rows_eq : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, (t, s) => rfl

theorem table_eq : Cert.Kernel7.defs (F := Bits) = Cert.Kernel7Ideal.defs (F := Bits) := by
  unfold Cert.Kernel7.defs Cert.Kernel7Ideal.defs
  rw [rows_eq]
  rfl

open Cert.Kernel7 in
/-- The frame of the program as compiled. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  rw [table_eq]
  exact Cert.MixFirst.frame m ρ

end Cert.MixFirst

end
-- ==== Proof.Cached.Block.lean ====
/-
  What the second layer's context attention's body leaves in its three staging buffers at one grid point: the attention of the eight
  heads side by side, and the point's keys and values as they came.
-/
module

public import proofs.«01_k».proof.Proof.Attn.Array
public import proofs.«01_k».proof.Proof.Gen.Kernel8Ideal.Value

@[expose] public section

set_option maxRecDepth 16384

noncomputable section

namespace Cert.Kernel8Ideal.Cached

open Idealize.ShloMosaic Cert.Kernel8Ideal Cert.Kernel8Ideal.Gen Cert.Softmax
open Cert.KernelIdeal.Attn (attnB head_tile)

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg6 : Memref sig .tc .vmem S256x1024 .bf16) (harg6 : arg6.IsWhole) (arg7 : Memref sig .tc .vmem S1x1x256x1024 .f32) (harg7 : arg7.IsWhole) (arg8 : Memref sig .tc .vmem S1x1x256x1024 .f32) (harg8 : arg8.IsWhole)
    (x0 x1 x2 : Vec Ideal S256x1024 .f32)

/-- The eight stores leave the attention of the block. -/
theorem out3_eq : out0_A_3 c i arg1 harg1 arg2 harg2 arg3 harg3 arg6 harg6 arg7 harg7 arg8 harg8 x0 x1 x2 = attnB x0 x1 x2 := by
  funext y
  have hc := cover0_A_3 c i arg1 harg1 arg2 harg2 arg3 harg3 arg6 harg6 arg7 harg7 arg8 harg8 x0 x1 x2 y
  unfold out0_A_3
  rw [View.read_writes_junk_apply_eq_canon]
  refine View.canon_apply_of_pieces (attnB x0 x1 x2) _ ?_ y hc
  unfold kernelRun0_A
  dsimp only
  sl_unfold_words
  simp only [View.readAt_eq_ld, harg1.read_unread, harg2.read_unread, harg3.read_unread]
  intro p hp x
  simp only [List.mem_cons, List.mem_nil_iff, or_false] at hp
  rcases hp with rfl | rfl | rfl | rfl | rfl | rfl | rfl | rfl
  · exact head_tile x0 x1 x2 896 7 rfl _ x
  · exact head_tile x0 x1 x2 768 6 rfl _ x
  · exact head_tile x0 x1 x2 640 5 rfl _ x
  · exact head_tile x0 x1 x2 512 4 rfl _ x
  · exact head_tile x0 x1 x2 384 3 rfl _ x
  · exact head_tile x0 x1 x2 256 2 rfl _ x
  · exact head_tile x0 x1 x2 128 1 rfl _ x
  · exact head_tile x0 x1 x2 0 0 rfl _ x

/-- The store of the keys leaves them as they came. -/
theorem out4_eq (y : S1x1x256x1024.Idx) :
    out0_A_4 c i arg1 harg1 arg2 harg2 arg3 harg3 arg6 harg6 arg7 harg7 arg8 harg8 x0 x1 x2 y = x1 (ix2 (y 2) (y 3)) := by
  have hc := cover0_A_4 c i arg1 harg1 arg2 harg2 arg3 harg3 arg6 harg6 arg7 harg7 arg8 harg8 x0 x1 x2 y
  unfold out0_A_4
  rw [View.read_writes_junk_apply_eq_canon]
  refine View.canon_apply_of_pieces (fun y => x1 (ix2 (y 2) (y 3))) _ ?_ y hc
  unfold kernelRun0_A
  dsimp only
  sl_unfold_words
  simp only [View.readAt_eq_ld, harg1.read_unread, harg2.read_unread, harg3.read_unread]
  intro p hp x
  simp only [List.mem_cons, List.mem_nil_iff, or_false] at hp
  subst hp
  idx_vars x
  pointwise [k0_pay44]
  refine congrArg _ ?_
  congr 1 <;> exact Fin.ext (by show _ = 0 + 1 * _; simp)

/-- The store of the values likewise. -/
theorem out5_eq (y : S1x1x256x1024.Idx) :
    out0_A_5 c i arg1 harg1 arg2 harg2 arg3 harg3 arg6 harg6 arg7 harg7 arg8 harg8 x0 x1 x2 y = x2 (ix2 (y 2) (y 3)) := by
  have hc := cover0_A_5 c i arg1 harg1 arg2 harg2 arg3 harg3 arg6 harg6 arg7 harg7 arg8 harg8 x0 x1 x2 y
  unfold out0_A_5
  rw [View.read_writes_junk_apply_eq_canon]
  refine View.canon_apply_of_pieces (fun y => x2 (ix2 (y 2) (y 3))) _ ?_ y hc
  unfold kernelRun0_A
  dsimp only
  sl_unfold_words
  simp only [View.readAt_eq_ld, harg1.read_unread, harg2.read_unread, harg3.read_unread]
  intro p hp x
  simp only [List.mem_cons, List.mem_nil_iff, or_false] at hp
  subst hp
  idx_vars x
  pointwise [k0_pay1]
  refine congrArg _ ?_
  congr 1 <;> exact Fin.ext (by show _ = 0 + 1 * _; simp)

end Cert.Kernel8Ideal.Cached

end
-- ==== Proof.Cached.Array.lean ====
/-
  What the second layer's context attention's three result arrays hold after the run: the attention of each prompt's 256
  rows, and the two caches with the rows' keys and values in the second layer's slot and the first layer's as they came.
-/
module

public import proofs.«01_k».proof.Proof.Cached.Block
public import Idealize.ShloMosaic.Lib.Pipeline.ValueKit

@[expose] public section

set_option maxRecDepth 16384

noncomputable section

namespace Cert.Kernel8Ideal.Cached

open Idealize.ShloMosaic Idealize.ShloMosaic.TcCoe Idealize.SL.Sem
open Idealize.ShloMosaic.Pipeline (Dat)
open Cert.Kernel8Ideal Cert.Kernel8Ideal.Gen Cert.Softmax
open Cert.KernelIdeal.Attn (cell cell_eq scoreA attnA attnB scoreB headOf)

variable (m : (ℓ : Loc nD τ sig) → Buf (Elt Ideal) ℓ)

/-- The projection as the run finds it. -/
abbrev proj (c : Dev nD) : FVec Ideal S12288x12816 .f32 := m ((c : Thread nD τ).loc main_arg0)

/-- The two caches as the run finds them. -/
abbrev keys0 (c : Dev nD) : FVec Ideal S32x2x256x1024 .f32 := m ((c : Thread nD τ).loc main_arg1)
abbrev vals0 (c : Dev nD) : FVec Ideal S32x2x256x1024 .f32 := m ((c : Thread nD τ).loc main_arg2)

/-- The windows' block indices: point `t` is prompt `t`. -/
theorem idx : ∀ t : Fin cfg0.N, win0_0.index t = ![t.val, 0] ∧ win0_1.index t = ![t.val, 1] ∧ win0_2.index t = ![t.val, 2]
    ∧ win0_3.index t = ![t.val, 0] ∧ win0_4.index t = ![t.val, 1, 0, 0] ∧ win0_5.index t = ![t.val, 1, 0, 0] :=
  (by decide +kernel : ∀ t : Fin grid0.N, _)

/-- The three input blocks of point `t`: its rows of the queries, keys and values. -/
theorem q_apply (c : Dev nD) (t : Fin cfg0.N) (r : Fin 256) (e : Fin 1024) :
    X0_0 m c t (ix2 r e) = cell (proj m c) (t.val * 256 + r.val) e.val := by
  unfold X0_0 Pipeline.Window.fill
  rw [dif_pos (moved0_0 t _)]
  unfold iblk
  rw [View.read_apply]
  refine cell_eq _ _ _ _ ?_ ?_
  · show win0_0.index t 0 * 256 + 1 * r.val = _
    rw [(idx t).1]; simp
  · show win0_0.index t 1 * 1024 + 1 * e.val = _
    rw [(idx t).1]; simp

theorem k_apply (c : Dev nD) (t : Fin cfg0.N) (r : Fin 256) (e : Fin 1024) :
    X0_1 m c t (ix2 r e) = cell (proj m c) (t.val * 256 + r.val) (1024 + e.val) := by
  unfold X0_1 Pipeline.Window.fill
  rw [dif_pos (moved0_1 t _)]
  unfold iblk
  rw [View.read_apply]
  refine cell_eq _ _ _ _ ?_ ?_
  · show win0_1.index t 0 * 256 + 1 * r.val = _
    rw [(idx t).2.1]; simp
  · show win0_1.index t 1 * 1024 + 1 * e.val = _
    rw [(idx t).2.1]; simp

theorem v_apply (c : Dev nD) (t : Fin cfg0.N) (r : Fin 256) (e : Fin 1024) :
    X0_2 m c t (ix2 r e) = cell (proj m c) (t.val * 256 + r.val) (2048 + e.val) := by
  unfold X0_2 Pipeline.Window.fill
  rw [dif_pos (moved0_2 t _)]
  unfold iblk
  rw [View.read_apply]
  refine cell_eq _ _ _ _ ?_ ?_
  · show win0_2.index t 0 * 256 + 1 * r.val = _
    rw [(idx t).2.2.1]; simp
  · show win0_2.index t 1 * 1024 + 1 * e.val = _
    rw [(idx t).2.2.1]; simp

/-- What the three arrays hold where the attention writes them. -/
def G3 (c : Dev nD) : Buf (Elt Ideal) ((c : Thread nD τ).loc main_v0_0) :=
  fun i : S12288x1024.Idx => attnA (proj m c) (i 0).val (i 1).val
def G4 (c : Dev nD) : Buf (Elt Ideal) ((c : Thread nD τ).loc main_v0_1) :=
  fun i : S32x2x256x1024.Idx => cell (proj m c) ((i 0).val * 256 + (i 2).val) (1024 + (i 3).val)
def G5 (c : Dev nD) : Buf (Elt Ideal) ((c : Thread nD τ).loc main_v0_2) :=
  fun i : S32x2x256x1024.Idx => cell (proj m c) ((i 0).val * 256 + (i 2).val) (2048 + (i 3).val)

theorem flush3 (c : Dev nD) (t : Fin cfg0.N) : (dats m 0 c).flushed 3 t = ((cfg0.win 3).blk t).view.read (Elt Ideal) (G3 m c) := by
  rw [Cert.Kernel8Ideal.Value.flushed3_A, out3_eq]
  funext y
  rw [View.read_apply]
  obtain ⟨r, e, rfl⟩ : ∃ (r : Fin 256) (e : Fin 1024), y = ix2 r e := ⟨y 0, y 1, by funext a; fin_cases a <;> rfl⟩
  show attnB _ _ _ (ix2 r e) = attnA (proj m c) (win0_3.index t 0 * 256 + 1 * r.val) (win0_3.index t 1 * 1024 + 1 * e.val)
  rw [(idx t).2.2.2.1]
  have e0 : (![t.val, 0] : Fin 2 → Nat) 0 * 256 + 1 * r.val = t.val * 256 + r.val := by simp
  have e1 : (![t.val, 0] : Fin 2 → Nat) 1 * 1024 + 1 * e.val = e.val := by simp
  rw [e0, e1]
  have d0 : (t.val * 256 + r.val) / 256 = t.val := by have := r.isLt; omega
  have d1 : (t.val * 256 + r.val) % 256 = r.val := by have := r.isLt; omega
  unfold attnA
  rw [d0, d1]
  have hs : scoreB (X0_0 m c t) (X0_1 m c t) (headOf e) r = scoreA (proj m c) t.val (e.val / 128) r.val :=
    funext fun j => Finset.sum_congr rfl fun d _ => by rw [q_apply, k_apply]
  show Ideal.div (∑ j, weight (scoreB (X0_0 m c t) (X0_1 m c t) (headOf e) r) j * X0_2 m c t (ix2 j e))
    (total (scoreB (X0_0 m c t) (X0_1 m c t) (headOf e) r)) = _
  rw [hs]
  exact congrArg (Ideal.div · _) (Finset.sum_congr rfl fun j _ => by rw [v_apply])

theorem flush4 (c : Dev nD) (t : Fin cfg0.N) : (dats m 0 c).flushed 4 t = ((cfg0.win 4).blk t).view.read (Elt Ideal) (G4 m c) := by
  rw [Cert.Kernel8Ideal.Value.flushed4_A]
  funext y
  rw [View.read_apply]
  obtain ⟨a, b, r, e, rfl⟩ : ∃ (a b : Fin 1) (r : Fin 256) (e : Fin 1024), y = ix4 a b r e :=
    ⟨y 0, y 1, y 2, y 3, by funext a; fin_cases a <;> rfl⟩
  refine (out4_eq ..).trans ?_
  show X0_1 m c t (ix2 r e) = cell (proj m c) ((win0_4.index t 0 * 1 + 1 * a.val) * 256 + (win0_4.index t 2 * 256 + 1 * r.val)) (1024 + (win0_4.index t 3 * 1024 + 1 * e.val))
  rw [k_apply, (idx t).2.2.2.2.1]
  simp

theorem flush5 (c : Dev nD) (t : Fin cfg0.N) : (dats m 0 c).flushed 5 t = ((cfg0.win 5).blk t).view.read (Elt Ideal) (G5 m c) := by
  rw [Cert.Kernel8Ideal.Value.flushed5_A]
  funext y
  rw [View.read_apply]
  obtain ⟨a, b, r, e, rfl⟩ : ∃ (a b : Fin 1) (r : Fin 256) (e : Fin 1024), y = ix4 a b r e :=
    ⟨y 0, y 1, y 2, y 3, by funext a; fin_cases a <;> rfl⟩
  refine (out5_eq ..).trans ?_
  show X0_2 m c t (ix2 r e) = cell (proj m c) ((win0_5.index t 0 * 1 + 1 * a.val) * 256 + (win0_5.index t 2 * 256 + 1 * r.val)) (2048 + (win0_5.index t 3 * 1024 + 1 * e.val))
  rw [v_apply, (idx t).2.2.2.2.2]
  simp

/-- Every point writes back. -/
theorem fl : ∀ t : Fin cfg0.N, (cfg0.win 3).flush t = true ∧ (cfg0.win 4).flush t = true ∧ (cfg0.win 5).flush t = true :=
  (by decide +kernel : ∀ t : Fin grid0.N, _)

theorem final3 (c : Dev nD) (i : S12288x1024.Idx) (hi : (i 0).val < 8192) : (dats m 0 c).arrAt 3 cfg0.N i = G3 m c i := by
  have h1 : (i 1).val < 1024 := (i 1).isLt
  have hN : cfg0.N = 32 := N_0
  let t : Fin cfg0.N := ⟨(i 0).val / 256, by rw [hN]; omega⟩
  refine (dats m 0 c).arrAt_apply_of_mem 3 (G3 m c) (fun t _ => flush3 m c t) cfg0.N t i t.isLt (fl t).1 ?_
  show i ∈ ((View.whole main_v0_0).slice (win0_3.rect t)).set
  rw [View.set_slice_whole, Rect.mem_set_unit]
  intro a
  have e := (idx t).2.2.2.1
  fin_cases a
  · show win0_3.index t 0 * 256 ≤ (i 0).val ∧ (i 0).val < win0_3.index t 0 * 256 + 256
    rw [e]; show (i 0).val / 256 * 256 ≤ _ ∧ _ < (i 0).val / 256 * 256 + 256; omega
  · show win0_3.index t 1 * 1024 ≤ (i 1).val ∧ (i 1).val < win0_3.index t 1 * 1024 + 1024
    rw [e]; show 0 * 1024 ≤ _ ∧ _ < 0 * 1024 + 1024; omega

theorem final4 (c : Dev nD) (i : S32x2x256x1024.Idx) (hi : 1 ≤ (i 1).val) : (dats m 0 c).arrAt 4 cfg0.N i = G4 m c i := by
  have h0 : (i 0).val < 32 := (i 0).isLt
  have hl : (i 1).val < 2 := (i 1).isLt
  have h2 : (i 2).val < 256 := (i 2).isLt
  have h3 : (i 3).val < 1024 := (i 3).isLt
  have hN : cfg0.N = 32 := N_0
  let t : Fin cfg0.N := ⟨(i 0).val, by rw [hN]; omega⟩
  refine (dats m 0 c).arrAt_apply_of_mem 4 (G4 m c) (fun t _ => flush4 m c t) cfg0.N t i t.isLt (fl t).2.1 ?_
  show i ∈ ((View.whole main_v0_1).slice (win0_4.rect t)).set
  rw [View.set_slice_whole, Rect.mem_set_unit]
  intro a
  have e := (idx t).2.2.2.2.1
  fin_cases a
  · show win0_4.index t 0 * 1 ≤ (i 0).val ∧ (i 0).val < win0_4.index t 0 * 1 + 1
    rw [e]; show (i 0).val * 1 ≤ _ ∧ _ < (i 0).val * 1 + 1; omega
  · show win0_4.index t 1 * 1 ≤ (i 1).val ∧ (i 1).val < win0_4.index t 1 * 1 + 1
    rw [e]; show 1 * 1 ≤ _ ∧ _ < 1 * 1 + 1; omega
  · show win0_4.index t 2 * 256 ≤ (i 2).val ∧ (i 2).val < win0_4.index t 2 * 256 + 256
    rw [e]; show 0 * 256 ≤ _ ∧ _ < 0 * 256 + 256; omega
  · show win0_4.index t 3 * 1024 ≤ (i 3).val ∧ (i 3).val < win0_4.index t 3 * 1024 + 1024
    rw [e]; show 0 * 1024 ≤ _ ∧ _ < 0 * 1024 + 1024; omega

theorem final5 (c : Dev nD) (i : S32x2x256x1024.Idx) (hi : 1 ≤ (i 1).val) : (dats m 0 c).arrAt 5 cfg0.N i = G5 m c i := by
  have h0 : (i 0).val < 32 := (i 0).isLt
  have hl : (i 1).val < 2 := (i 1).isLt
  have h2 : (i 2).val < 256 := (i 2).isLt
  have h3 : (i 3).val < 1024 := (i 3).isLt
  have hN : cfg0.N = 32 := N_0
  let t : Fin cfg0.N := ⟨(i 0).val, by rw [hN]; omega⟩
  refine (dats m 0 c).arrAt_apply_of_mem 5 (G5 m c) (fun t _ => flush5 m c t) cfg0.N t i t.isLt (fl t).2.2 ?_
  show i ∈ ((View.whole main_v0_2).slice (win0_5.rect t)).set
  rw [View.set_slice_whole, Rect.mem_set_unit]
  intro a
  have e := (idx t).2.2.2.2.2
  fin_cases a
  · show win0_5.index t 0 * 1 ≤ (i 0).val ∧ (i 0).val < win0_5.index t 0 * 1 + 1
    rw [e]; show (i 0).val * 1 ≤ _ ∧ _ < (i 0).val * 1 + 1; omega
  · show win0_5.index t 1 * 1 ≤ (i 1).val ∧ (i 1).val < win0_5.index t 1 * 1 + 1
    rw [e]; show 1 * 1 ≤ _ ∧ _ < 1 * 1 + 1; omega
  · show win0_5.index t 2 * 256 ≤ (i 2).val ∧ (i 2).val < win0_5.index t 2 * 256 + 256
    rw [e]; show 0 * 256 ≤ _ ∧ _ < 0 * 256 + 256; omega
  · show win0_5.index t 3 * 1024 ≤ (i 3).val ∧ (i 3).val < win0_5.index t 3 * 1024 + 1024
    rw [e]; show 0 * 1024 ≤ _ ∧ _ < 0 * 1024 + 1024; omega

/-- The result array starts as the cache it replaces. -/
theorem entry4_eq (c : Dev nD) : V m c (Pipeline.arrRef spec0 4) = keys0 m c := by
  show StableHlo.after hostOps0 _ (Proc.devRef .tc main_v0_1) = _
  after_results
  rfl

/-- The result array starts as the cache it replaces. -/
theorem entry5_eq (c : Dev nD) : V m c (Pipeline.arrRef spec0 5) = vals0 m c := by
  show StableHlo.after hostOps0 _ (Proc.devRef .tc main_v0_2) = _
  after_results
  rfl

/-- The first layer's slot keeps what it held. -/
theorem kept4 (c : Dev nD) (i : S32x2x256x1024.Idx) (hi : (i 1).val < 1) : (dats m 0 c).arrAt 4 cfg0.N i = keys0 m c i := by
  refine (Cert.Kernel8Ideal.Value.entry4 m c i fun t _ hm => ?_).trans (congrFun (entry4_eq m c) i)
  have hm' : i ∈ ((View.whole main_v0_1).slice (win0_4.rect t)).set := hm
  rw [View.set_slice_whole, Rect.mem_set_unit] at hm'
  have h := (hm' 1).1
  have e := (idx t).2.2.2.2.1
  have h' : win0_4.index t 1 * 1 ≤ (i 1).val := h
  rw [e] at h'
  have h'' : 1 * 1 ≤ (i 1).val := h'
  omega

/-- The first layer's slot keeps what it held. -/
theorem kept5 (c : Dev nD) (i : S32x2x256x1024.Idx) (hi : (i 1).val < 1) : (dats m 0 c).arrAt 5 cfg0.N i = vals0 m c i := by
  refine (Cert.Kernel8Ideal.Value.entry5 m c i fun t _ hm => ?_).trans (congrFun (entry5_eq m c) i)
  have hm' : i ∈ ((View.whole main_v0_2).slice (win0_5.rect t)).set := hm
  rw [View.set_slice_whole, Rect.mem_set_unit] at hm'
  have h := (hm' 1).1
  have e := (idx t).2.2.2.2.2
  have h' : win0_5.index t 1 * 1 ≤ (i 1).val := h
  rw [e] at h'
  have h'' : 1 * 1 ≤ (i 1).val := h'
  omega

end Cert.Kernel8Ideal.Cached

end
-- ==== Proof.Cached.Reference.lean ====
/-
  What the reference of the second layer's attention computes: the first layer's reference's attention, word for word, and the
  two caches with the second layer's slot filled.
-/
module

public import proofs.«01_k».proof.Proof.Attn.Reference
public import proofs.«01_k».proof.Proof.Gen.Reference8Ideal.Run
public import proofs.«01_k».proof.Proof.Gen.Reference8Ideal.Read

@[expose] public section

set_option maxRecDepth 16384

noncomputable section

namespace Cert.Reference8Ideal.Cached

open Idealize.ShloMosaic Idealize.ShloMosaic.TcCoe Idealize.SL.Sem
open Cert.Reference8Ideal Cert.Reference8Ideal.Gen Cert.Reference8Ideal.Read Cert.Softmax
open Cert.KernelIdeal.Attn (cell cell_eq)

variable (A : FVec Ideal S12288x12816 .f32) (C : FVec Ideal S32x2x256x1024 .f32)

/-- The two references compute the attention by the same operations. -/
theorem y_eq : val_main_v24 (F := Ideal) A = Cert.ReferenceIdeal.Read.val_main_v24 (F := Ideal) A := rfl

/-- The second layer's slot holds the keys. -/
theorem r1_new (i : S32x2x256x1024.Idx) (hi : 1 ≤ (i 1).val) :
    val_main_v30 (F := Ideal) A C i = cell A ((i 0).val * 256 + (i 2).val) (1024 + (i 3).val) := by
  obtain ⟨b, l, r, e, rfl⟩ : ∃ (b : Fin 32) (l : Fin 2) (r : Fin 256) (e : Fin 1024), i = ix4 b l r e :=
    ⟨i 0, i 1, i 2, i 3, by funext a; fin_cases a <;> rfl⟩
  have hb := b.isLt; have hr := r.isLt; have he := e.isLt; have hl := l.isLt
  have hi' : 1 ≤ l.val := hi
  have key : val_main_v29 (F := Ideal) A (ix4 b (0 : Fin 1) r e) = cell A (b.val * 256 + r.val) (1024 + e.val) := by
    rw [val_main_v29_apply, val_main_v27_apply, val_main_v3_apply, val_main_v2_apply]
    refine cell_eq _ _ _ _ ?_ ?_
    · show ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) / 1024 = _; omega
    · show 1024 + ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) % 1024 = _; omega
  unfold val_main_v30
  revert key
  generalize val_main_v29 (F := Ideal) A = Y
  generalize val_main_v28 (F := Ideal) C = Z
  intro key
  pointwise
  exact (dif_neg (by show ¬ l.val < 1; omega)).trans ((congrArg Y (by congr 1; exact Fin.ext (by show l.val - 1 = 0; omega))).trans key)

/-- The first layer's slot is the cache's. -/
theorem r1_old (i : S32x2x256x1024.Idx) (hi : (i 1).val < 1) : val_main_v30 (F := Ideal) A C i = C i := by
  obtain ⟨b, l, r, e, rfl⟩ : ∃ (b : Fin 32) (l : Fin 2) (r : Fin 256) (e : Fin 1024), i = ix4 b l r e :=
    ⟨i 0, i 1, i 2, i 3, by funext a; fin_cases a <;> rfl⟩
  have hb := b.isLt; have hr := r.isLt; have he := e.isLt; have hl := l.isLt
  have hi' : l.val < 1 := hi
  have key : val_main_v28 (F := Ideal) C (ix4 b (0 : Fin 1) r e) = C (ix4 b l r e) := by
    rw [val_main_v28_apply, val_main_v26_apply, val_main_v25_apply]
    refine congrArg C (funext fun a => ?_)
    fin_cases a
    · exact Fin.ext (by show ((b.val * 256 + r.val) * 1024 + e.val) / 262144 = b.val; omega)
    · exact Fin.ext (by show 0 = l.val; omega)
    · exact Fin.ext (by show ((b.val * 256 + r.val) * 1024 + e.val) / 1024 % 256 = r.val; omega)
    · exact Fin.ext (by show ((b.val * 256 + r.val) * 1024 + e.val) % 1024 = e.val; omega)
  unfold val_main_v30
  revert key
  generalize val_main_v29 (F := Ideal) A = Y
  generalize val_main_v28 (F := Ideal) C = Z
  intro key
  pointwise
  exact (dif_pos hi').trans ((congrArg Z (by congr 1; exact Fin.ext (by show l.val = 0; omega))).trans key)

/-- The second layer's slot holds the values. -/
theorem r2_new (i : S32x2x256x1024.Idx) (hi : 1 ≤ (i 1).val) :
    val_main_v36 (F := Ideal) A C i = cell A ((i 0).val * 256 + (i 2).val) (2048 + (i 3).val) := by
  obtain ⟨b, l, r, e, rfl⟩ : ∃ (b : Fin 32) (l : Fin 2) (r : Fin 256) (e : Fin 1024), i = ix4 b l r e :=
    ⟨i 0, i 1, i 2, i 3, by funext a; fin_cases a <;> rfl⟩
  have hb := b.isLt; have hr := r.isLt; have he := e.isLt; have hl := l.isLt
  have hi' : 1 ≤ l.val := hi
  have key : val_main_v35 (F := Ideal) A (ix4 b (0 : Fin 1) r e) = cell A (b.val * 256 + r.val) (2048 + e.val) := by
    rw [val_main_v35_apply, val_main_v33_apply, val_main_v5_apply, val_main_v4_apply]
    refine cell_eq _ _ _ _ ?_ ?_
    · show ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) / 1024 = _; omega
    · show 2048 + ((((((b.val * 256 + r.val) * 1024 + e.val) / 262144) * 256 + ((b.val * 256 + r.val) * 1024 + e.val) / 1024 % 256) * 8 + ((b.val * 256 + r.val) * 1024 + e.val) / 128 % 8) * 128 + ((b.val * 256 + r.val) * 1024 + e.val) % 128) % 1024 = _; omega
  unfold val_main_v36
  revert key
  generalize val_main_v35 (F := Ideal) A = Y
  generalize val_main_v34 (F := Ideal) C = Z
  intro key
  pointwise
  exact (dif_neg (by show ¬ l.val < 1; omega)).trans ((congrArg Y (by congr 1; exact Fin.ext (by show l.val - 1 = 0; omega))).trans key)

/-- The first layer's slot is the cache's. -/
theorem r2_old (i : S32x2x256x1024.Idx) (hi : (i 1).val < 1) : val_main_v36 (F := Ideal) A C i = C i := by
  obtain ⟨b, l, r, e, rfl⟩ : ∃ (b : Fin 32) (l : Fin 2) (r : Fin 256) (e : Fin 1024), i = ix4 b l r e :=
    ⟨i 0, i 1, i 2, i 3, by funext a; fin_cases a <;> rfl⟩
  have hb := b.isLt; have hr := r.isLt; have he := e.isLt; have hl := l.isLt
  have hi' : l.val < 1 := hi
  have key : val_main_v34 (F := Ideal) C (ix4 b (0 : Fin 1) r e) = C (ix4 b l r e) := by
    rw [val_main_v34_apply, val_main_v32_apply, val_main_v31_apply]
    refine congrArg C (funext fun a => ?_)
    fin_cases a
    · exact Fin.ext (by show ((b.val * 256 + r.val) * 1024 + e.val) / 262144 = b.val; omega)
    · exact Fin.ext (by show 0 = l.val; omega)
    · exact Fin.ext (by show ((b.val * 256 + r.val) * 1024 + e.val) / 1024 % 256 = r.val; omega)
    · exact Fin.ext (by show ((b.val * 256 + r.val) * 1024 + e.val) % 1024 = e.val; omega)
  unfold val_main_v36
  revert key
  generalize val_main_v35 (F := Ideal) A = Y
  generalize val_main_v34 (F := Ideal) C = Z
  intro key
  pointwise
  exact (dif_pos hi').trans ((congrArg Z (by congr 1; exact Fin.ext (by show l.val = 0; omega))).trans key)

end Cert.Reference8Ideal.Cached

end
-- ==== Proof.Cached.Equation.lean ====
/-
  The equation: where the queries and keys are finite, both programs' three results agree on the prompts' rows and on the
  whole of the two caches.
-/
module

public import proofs.«01_k».proof.Proof.Cached.Array
public import proofs.«01_k».proof.Proof.Cached.Reference
public import proofs.«01_k».proof.Proof.Attn.Equation
public import proofs.«01_k».proof.Proof.Gen.On_written_cached

@[expose] public section

set_option maxRecDepth 16384

noncomputable section

namespace Cert.Cached

open Idealize.ShloMosaic Idealize.ShloMosaic.TcCoe Idealize.SL.Sem
open Cert.Kernel8Ideal.Cached (proj keys0 vals0)

/-- What the precondition's program states of shapes. -/
theorem preFacts : Cert.Pre_finite_cached.Facts where
  slices_S12288x12816_S8192x2048_0_0 := by decide
  bcast_S_S8192x2048 := by decide

attribute [local instance] Cert.Attn.preFacts

/-- This precondition is the first layer's, of the projection alone. -/
theorem pre_eq [Cert.Pre_finite_cached.Facts] (A : FVec Ideal (⟨2, ![12288, 12816]⟩ : Shape) .f32)
    (B C : FVec Ideal (⟨4, ![32, 2, 256, 1024]⟩ : Shape) .f32) (h : Cert.Pre_finite_cached.fn (F := Ideal) A B C = fun _ => 1#1) :
    Cert.Pre_finite_qk.fn (F := Ideal) A = fun _ => 1#1 := h

/-- Where the mask is set, the row is a prompt's. -/
theorem mask0 (A : FVec Ideal (⟨2, ![12288, 12816]⟩ : Shape) .f32) (B C : FVec Ideal (⟨4, ![32, 2, 256, 1024]⟩ : Shape) .f32)
    (i : (⟨2, ![12288, 1024]⟩ : Shape).Idx) (h : (Cert.On_written_cached.fn (F := Ideal) A B C).1 i = 1#1) : (i 0).val < 8192 := by
  have hi : (i 0).val < 12288 := (i 0).isLt
  pointwise [Cert.On_written_cached.fn] at h
  exact (WordCmp.cmpi_slt_ofNat_eq_one_iff (by omega) (by omega)).1 h

variable (m : (ℓ : Loc Cert.Kernel8Ideal.nD Cert.Kernel8Ideal.τ Cert.Kernel8Ideal.sig) → Buf (Elt Ideal) ℓ)

/-- The two caches agree in both slots. -/
theorem keys_eq (c : Dev Cert.Kernel8Ideal.nD) (i : (⟨4, ![32, 2, 256, 1024]⟩ : Shape).Idx) :
    (Cert.Kernel8Ideal.Gen.dats m 0 c).arrAt 4 Cert.Kernel8Ideal.cfg0.N i
      = Cert.Reference8Ideal.Read.val_main_v30 (F := Ideal) (proj m c) (keys0 m c) i := by
  by_cases hi : (i 1).val < 1
  · exact (Cert.Kernel8Ideal.Cached.kept4 m c i hi).trans (Cert.Reference8Ideal.Cached.r1_old _ _ i hi).symm
  · exact (Cert.Kernel8Ideal.Cached.final4 m c i (by omega)).trans (Cert.Reference8Ideal.Cached.r1_new _ _ i (by omega)).symm

theorem vals_eq (c : Dev Cert.Kernel8Ideal.nD) (i : (⟨4, ![32, 2, 256, 1024]⟩ : Shape).Idx) :
    (Cert.Kernel8Ideal.Gen.dats m 0 c).arrAt 5 Cert.Kernel8Ideal.cfg0.N i
      = Cert.Reference8Ideal.Read.val_main_v36 (F := Ideal) (proj m c) (vals0 m c) i := by
  by_cases hi : (i 1).val < 1
  · exact (Cert.Kernel8Ideal.Cached.kept5 m c i hi).trans (Cert.Reference8Ideal.Cached.r2_old _ _ i hi).symm
  · exact (Cert.Kernel8Ideal.Cached.final5 m c i (by omega)).trans (Cert.Reference8Ideal.Cached.r2_new _ _ i (by omega)).symm

/-- The two programs end with equal results on the prompts' rows and in both caches. -/
theorem algebraic [hPre : Cert.Pre_finite_cached.Facts] : Cert.algebraic_Kernel8Ideal_Reference8Ideal_on_written_cached_pre_finite_cached := by
  intro m g m' g' hpre hagree
  refine ⟨fun c => Cert.Reference8Ideal.Read.val_main_v24 (F := Ideal) (proj m c),
    fun c => Cert.Reference8Ideal.Read.val_main_v30 (F := Ideal) (proj m c) (keys0 m c),
    fun c => Cert.Reference8Ideal.Read.val_main_v36 (F := Ideal) (proj m c) (vals0 m c), ?_, ?_⟩
  · refine (θ_run _ _ _).mono (fun r h c => ⟨fun i hi => ?_, fun i _ => ?_, fun i _ => ?_, (h c).2.2.2⟩)
      (Cert.Kernel8Ideal.Value.run_blocks m g)
    · have hm := mask0 _ _ _ i hi
      exact (congrFun (h c).1 i).trans ((Cert.Kernel8Ideal.Cached.final3 m c i hm).trans
        ((congrFun (Cert.Reference8Ideal.Cached.y_eq (proj m c)) i).trans
          (Cert.Attn.result0 _ (pre_eq _ _ _ (hpre c)) i hm)).symm)
    · exact (congrFun (h c).2.1 i).trans (keys_eq m c i)
    · exact (congrFun (h c).2.2.1 i).trans (vals_eq m c i)
  · refine (θ_run _ _ _).mono (fun r h c => ⟨fun i _ => ?_, fun i _ => ?_, fun i _ => ?_, (h c).2.2.2⟩)
      (Cert.Reference8Ideal.Value.run m' g')
    · exact congrFun ((h c).1.trans ((Cert.Reference8Ideal.Read.val_main_v24_eq _).trans (congrArg _ (hagree c).1))) i
    · exact congrFun ((h c).2.1.trans ((Cert.Reference8Ideal.Read.val_main_v30_eq _ _).trans
        (by rw [(hagree c).1, (hagree c).2.1]))) i
    · exact congrFun ((h c).2.2.1.trans ((Cert.Reference8Ideal.Read.val_main_v36_eq _ _).trans
        (by rw [(hagree c).1, (hagree c).2.2]))) i

end Cert.Cached

end
-- ==== Proof.Mod.Block.lean ====
/-
  What the modulation table's body leaves in its staging buffer at one grid point: the eight conditions through the layer's
  weights, and the bias.
-/
module

public import proofs.«01_k».proof.Proof.Gen.Kernel9Ideal.Value
public import proofs.«01_k».proof.Proof.Layer
public import Idealize.ShloMosaic.Lib.Pointwise
public import Idealize.ShloMosaic.Lib.Pipeline.ValueKit

@[expose] public section

set_option maxRecDepth 16384

noncomputable section

namespace Cert.Kernel9Ideal.Mod

open Idealize.ShloMosaic Cert.Kernel9Ideal Cert.Kernel9Ideal.Gen Cert.Layer

variable (x : Vec Ideal S8x2048 .f32) (w : Vec Ideal S1x2048x1024 .f32) (b : Vec Ideal S1x1x1024 .f32)

theorem out3_apply (n : Fin 8) (e : Fin 1024) : out0_3 (F := Ideal) x w b (ix3 0 n e)
    = (∑ k : Fin 2048, ((x (ix2 n k) : EReal) * Ideal.logistic (x (ix2 n k))) * w (ix3 0 k e)) + b (ix3 0 0 e) := by
  unfold out0_3
  rw [View.canon_cons_unit_lit _ _ _ (by decide), View.ld_unit_lit _ x (by decide), View.ld_unit_lit _ w (by decide),
    View.ld_unit_lit _ b (by decide)]
  unfold k0_pay1
  pointwise
  try rfl

end Cert.Kernel9Ideal.Mod

end
-- ==== Proof.Mod.Array.lean ====
/-
  What the modulation table holds after the run, element by element.
-/
module

public import proofs.«01_k».proof.Proof.Mod.Block

@[expose] public section

set_option maxRecDepth 16384

noncomputable section

namespace Cert.Layer

open Idealize.ShloMosaic

/-- An element of the modulation table: condition `n`, times its own logistic, through column `f` of layer `l`'s weights, and
    the bias. -/
def modEntry (C : (⟨2, ![8, 2048]⟩ : Shape).Idx → EReal) (w : (⟨3, ![2, 2048, 12288]⟩ : Shape).Idx → EReal)
    (b : (⟨2, ![2, 12288]⟩ : Shape).Idx → EReal) (l n f : Nat) : EReal :=
  (∑ k : Fin 2048, (at2 C n k.val * Ideal.logistic (at2 C n k.val)) * at3 w l k.val f) + at2 b l f

end Cert.Layer

namespace Cert.Kernel9Ideal.Mod

open Idealize.ShloMosaic Idealize.ShloMosaic.TcCoe Idealize.SL.Sem
open Idealize.ShloMosaic.Pipeline (Dat)
open Cert.Kernel9Ideal Cert.Kernel9Ideal.Gen Cert.Layer

variable (m : (ℓ : Loc nD τ sig) → Buf (Elt Ideal) ℓ)

/-- The arguments as the run finds them. -/
abbrev cond (c : Dev nD) : FVec Ideal S4x2048 .f32 := m ((c : Thread nD τ).loc main_arg0)
abbrev ctx (c : Dev nD) : FVec Ideal S2048 .f32 := m ((c : Thread nD τ).loc main_arg1)
abbrev wMod (c : Dev nD) : FVec Ideal S2x2048x12288 .f32 := m ((c : Thread nD τ).loc main_arg2)
abbrev bMod (c : Dev nD) : FVec Ideal S2x12288 .f32 := m ((c : Thread nD τ).loc main_arg3)

/-- The eight conditions: the context's, the four sequences', and three rows of zeros. -/
def conds (x0 : FVec Ideal S4x2048 .f32) (x1 : FVec Ideal S2048 .f32) : FVec Ideal S8x2048 .f32 :=
  concatenate S8x2048 0 [⟨S1x2048, broadcastInDim S1x2048 ![1] bcast_S2048_S1x2048_1 x1⟩, ⟨S4x2048, x0⟩,
    ⟨S3x2048, broadcastInDim S3x2048 ![] bcast_S_S3x2048 (constant S_ .f32 0x00000000#32)⟩] concatenates_S1x2048_S4x2048_S3x2048_S8x2048_d0

theorem c_entry (c : Dev nD) : V m c main_v2 = conds (cond m c) (ctx m c) := by
  show StableHlo.after hostOps0 _ (Proc.devRef .tc main_v2) = _
  after_results
  rfl

theorem b_entry (c : Dev nD) (l : Fin 2) (k : Fin 12288) : V m c main_v3 (ix3 l 0 k) = bMod m c (ix2 l k) := by
  have : V m c main_v3 = shapeCast S2x1x12288 (bMod m c) shapeCasts_S2x12288_S2x1x12288 := by
    show StableHlo.after hostOps0 _ (Proc.devRef .tc main_v3) = _
    after_results
    rfl
  rw [this]; pointwise

/-- The windows' block indices. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

theorem c_apply (c : Dev nD) (t : Fin cfg0.N) (n : Fin 8) (k : Fin 2048) :
    iblk m c 0 t (ix2 n k) = at2 (conds (cond m c) (ctx m c)) n.val k.val := by
  unfold iblk
  rw [View.read_apply]
  refine (congrFun (c_entry m c) _).trans (at2_eq (conds (cond m c) (ctx m c)) _ _ _ ?_ ?_)
  · show win0_0.index t 0 * 8 + 1 * n.val = _
    rw [(idx t).1]; simp
  · show win0_0.index t 1 * 2048 + 1 * k.val = _
    rw [(idx t).1]; simp

theorem w_apply (c : Dev nD) (t : Fin cfg0.N) (k : Fin 2048) (e : Fin 1024) :
    iblk m c 1 t (ix3 0 k e) = at3 (wMod m c) (t.val / 12) k.val (t.val % 12 * 1024 + e.val) := by
  unfold iblk
  rw [View.read_apply]
  refine (congrFun (V_main_arg2 m c) _).trans (at3_eq (wMod m c) _ _ _ _ ?_ ?_ ?_)
  · show win0_1.index t 0 * 1 + 1 * 0 = _
    rw [(idx t).2.1]; simp
  · show win0_1.index t 1 * 2048 + 1 * k.val = _
    rw [(idx t).2.1]; simp
  · show win0_1.index t 2 * 1024 + 1 * e.val = _
    rw [(idx t).2.1]; simp

theorem b_apply (c : Dev nD) (t : Fin cfg0.N) (e : Fin 1024) :
    iblk m c 2 t (ix3 0 0 e) = at2 (bMod m c) (t.val / 12) (t.val % 12 * 1024 + e.val) := by
  unfold iblk
  rw [View.read_apply]
  have hN : t.val < 24 := t.isLt
  have he := e.isLt
  have h : (((cfg0.win 2).blk t).view.emb (ix3 0 0 e) : S2x1x12288.Idx)
      = ix3 (⟨t.val / 12, by omega⟩ : Fin 2) 0 (⟨t.val % 12 * 1024 + e.val, by omega⟩ : Fin 12288) := by
    funext a
    have e2 := (idx t).2.2.1
    fin_cases a
    · exact Fin.ext (by show win0_2.index t 0 * 1 + 1 * 0 = t.val / 12; rw [e2]; simp)
    · exact Fin.ext (by show win0_2.index t 1 * 1 + 1 * 0 = 0; rw [e2]; simp)
    · exact Fin.ext (by show win0_2.index t 2 * 1024 + 1 * e.val = t.val % 12 * 1024 + e.val; rw [e2]; simp)
  refine (congrArg (V m c main_v3) h).trans ((b_entry m c _ _).trans (at2_eq (bMod m c) _ _ _ rfl rfl))

/-- What the table holds. -/
def G3 (c : Dev nD) : Buf (Elt Ideal) ((c : Thread nD τ).loc main_v4) :=
  fun i : S2x8x12288.Idx => modEntry (conds (cond m c) (ctx m c)) (wMod m c) (bMod m c) (i 0).val (i 1).val (i 2).val

theorem emb3 (t : Fin cfg0.N) (n : Fin 8) (e : Fin 1024) (l : Fin 2) (f : Fin 12288) (hl : l.val = t.val / 12)
    (hf : f.val = t.val % 12 * 1024 + e.val) : (((cfg0.win 3).blk t).view.emb (ix3 0 n e) : S2x8x12288.Idx) = ix3 l n f := by
  funext a
  have e3 := (idx t).2.2.2
  fin_cases a
  · exact Fin.ext (by show win0_3.index t 0 * 1 + 1 * 0 = l.val; rw [e3, hl]; simp)
  · exact Fin.ext (by show win0_3.index t 1 * 8 + 1 * n.val = n.val; rw [e3]; simp)
  · exact Fin.ext (by show win0_3.index t 2 * 1024 + 1 * e.val = f.val; rw [e3, hf]; simp)

theorem flush3 (c : Dev nD) (t : Fin cfg0.N) : (dats m 0 c).flushed 3 t = ((cfg0.win 3).blk t).view.read (Elt Ideal) (G3 m c) := by
  rw [Cert.Kernel9Ideal.Value.flushed3]
  funext y
  rw [View.read_apply]
  obtain ⟨n, e, rfl⟩ : ∃ (n : Fin 8) (e : Fin 1024), y = ix3 0 n e :=
    ⟨y 1, y 2, by
      funext a
      fin_cases a
      · exact Fin.ext (by have := (y 0).isLt; show (y 0).val = 0; change (y 0).val < 1 at this; omega)
      · rfl
      · rfl⟩
  have hN : t.val < 24 := t.isLt
  have he := e.isLt
  refine (out3_apply _ _ _ n e).trans ?_
  refine Eq.trans ?_ (congrArg (G3 m c) (emb3 t n e ⟨t.val / 12, by omega⟩ ⟨t.val % 12 * 1024 + e.val, by omega⟩ rfl rfl)).symm
  show _ = modEntry (conds (cond m c) (ctx m c)) (wMod m c) (bMod m c) (t.val / 12) n.val (t.val % 12 * 1024 + e.val)
  unfold modEntry
  refine congrArg₂ (· + ·) (Finset.sum_congr rfl fun k _ => ?_) (b_apply m c t e)
  rw [c_apply m c t n k, w_apply m c t k e]

/-- Every point writes back. -/
theorem fl : ∀ t : Fin cfg0.N, (cfg0.win 3).flush t = true := (by decide +kernel : ∀ t : Fin grid0.N, _)

theorem final3 (c : Dev nD) (i : S2x8x12288.Idx) : (dats m 0 c).arrAt 3 cfg0.N i = G3 m c i := by
  have h0 : (i 0).val < 2 := (i 0).isLt
  have h1 : (i 1).val < 8 := (i 1).isLt
  have h2 : (i 2).val < 12288 := (i 2).isLt
  have hN : cfg0.N = 24 := by decide
  let t : Fin cfg0.N := ⟨(i 0).val * 12 + (i 2).val / 1024, by rw [hN]; omega⟩
  refine (dats m 0 c).arrAt_apply_of_mem 3 (G3 m c) (fun t _ => flush3 m c t) cfg0.N t i t.isLt (fl t) ?_
  show i ∈ ((View.whole main_v4).slice (win0_3.rect t)).set
  rw [View.set_slice_whole, Rect.mem_set_unit]
  intro a
  have e := (idx t).2.2.2
  fin_cases a
  · show win0_3.index t 0 * 1 ≤ (i 0).val ∧ (i 0).val < win0_3.index t 0 * 1 + 1
    rw [e]
    show ((i 0).val * 12 + (i 2).val / 1024) / 12 * 1 ≤ _ ∧ _ < ((i 0).val * 12 + (i 2).val / 1024) / 12 * 1 + 1
    omega
  · show win0_3.index t 1 * 8 ≤ (i 1).val ∧ (i 1).val < win0_3.index t 1 * 8 + 8
    rw [e]; show 0 * 8 ≤ _ ∧ _ < 0 * 8 + 8; omega
  · show win0_3.index t 2 * 1024 ≤ (i 2).val ∧ (i 2).val < win0_3.index t 2 * 1024 + 1024
    rw [e]
    show ((i 0).val * 12 + (i 2).val / 1024) % 12 * 1024 ≤ _ ∧ _ < ((i 0).val * 12 + (i 2).val / 1024) % 12 * 1024 + 1024
    omega

end Cert.Kernel9Ideal.Mod

end
-- ==== Proof.Mod.Reference.lean ====
/-
  What the modulation table's reference computes, element by element.
-/
module

public import proofs.«01_k».proof.Proof.Mod.Array
public import proofs.«01_k».proof.Proof.Gen.Reference9Ideal.Run
public import proofs.«01_k».proof.Proof.Gen.Reference9Ideal.Read

@[expose] public section

set_option maxRecDepth 16384

noncomputable section

namespace Cert.Reference9Ideal.Mod

open Idealize.ShloMosaic Idealize.ShloMosaic.TcCoe Idealize.SL.Sem
open Cert.Reference9Ideal Cert.Reference9Ideal.Gen Cert.Reference9Ideal.Read Cert.Layer
open Cert.Kernel9Ideal.Mod (conds)

variable (x0 : FVec Ideal S4x2048 .f32) (x1 : FVec Ideal S2048 .f32) (x2 : FVec Ideal S2x2048x12288 .f32) (x3 : FVec Ideal S2x12288 .f32)

theorem conds_eq : val_main_v2 (F := Ideal) x0 x1 = conds x0 x1 := rfl

/-- A condition times its own logistic. -/
theorem act_eq (n : Fin 8) (k : Fin 2048) : val_main_v3 (F := Ideal) x0 x1 (ix2 n k)
    = at2 (conds x0 x1) n.val k.val * Ideal.logistic (at2 (conds x0 x1) n.val k.val) := by
  rw [val_main_v3_apply, val_main_call0_v5_apply, val_main_call0_v4_apply, val_main_call0_v3_apply, val_main_call0_v2_apply,
    val_main_call0_v1_apply, val_main_call0_v0_apply, conds_eq]
  have h : conds x0 x1 (ix2 n k) = at2 (conds x0 x1) n.val k.val := at2_eq (conds x0 x1) _ _ _ rfl rfl
  rw [h]
  have one : ∀ i, val_main_call0_cst (F := Ideal) i = 1 := fun _ => Ideal.ofBits_one_f32
  have one' : ∀ i, val_main_call0_cst_0 (F := Ideal) i = 1 := fun _ => Ideal.ofBits_one_f32
  rw [one, one']
  rfl

theorem rows (l : Fin 2) (n : Fin 8) (f : Fin 12288) :
    val_main_v8 (F := Ideal) x0 x1 x2 x3 (ix3 l n f) = modEntry (conds x0 x1) x2 x3 l.val n.val f.val := by
  rw [val_main_v8_apply, val_main_v5_apply, val_main_v7_apply, val_main_v6_apply, val_main_v4_apply]
  unfold modEntry
  refine congrArg₂ (· + ·) (Finset.sum_congr rfl fun k _ => ?_) (at2_eq x3 _ _ _ rfl rfl)
  have er : ridx_main_v4 (idx_main_v5 (ix3 l n f)) k = ix2 n k := funext fun a => by fin_cases a <;> rfl
  have el : lidx_main_v4 (idx_main_v5 (ix3 l n f)) k = ix3 l k f := funext fun a => by fin_cases a <;> rfl
  rw [er, el, act_eq x0 x1 n k, mul_comm]
  exact congrArg (fun z => _ * z) (at3_eq x2 _ _ _ _ rfl rfl rfl)

end Cert.Reference9Ideal.Mod

end
-- ==== Proof.Mod.Equation.lean ====
/-
  The modulation table and its reference end with equal arrays.
-/
module

public import proofs.«01_k».proof.Defs
public import proofs.«01_k».proof.Proof.Mod.Reference

@[expose] public section

set_option maxRecDepth 16384

noncomputable section

namespace Cert.Mod

open Idealize.ShloMosaic Idealize.ShloMosaic.TcCoe Idealize.SL.Sem
open Cert.Kernel9Ideal.Mod (cond ctx wMod bMod)
open Cert.Reference9Ideal.Read (val_main_v8)

variable (m : (ℓ : Loc Cert.Kernel9Ideal.nD Cert.Kernel9Ideal.τ Cert.Kernel9Ideal.sig) → Buf (Elt Ideal) ℓ)

theorem mod_eq (c : Dev Cert.Kernel9Ideal.nD) :
    Cert.Kernel9Ideal.Mod.G3 m c = val_main_v8 (F := Ideal) (cond m c) (ctx m c) (wMod m c) (bMod m c) := by
  funext i
  obtain ⟨l, n, f, rfl⟩ : ∃ (l : Fin 2) (n : Fin 8) (f : Fin 12288), i = ix3 l n f :=
    ⟨i 0, i 1, i 2, by funext a; fin_cases a <;> rfl⟩
  exact (Cert.Reference9Ideal.Mod.rows _ _ _ _ l n f).symm

theorem algebraic : Cert.algebraic_Kernel9Ideal_Reference9Ideal := by
  intro m g m' g' hpre hagree
  refine ⟨fun c => val_main_v8 (F := Ideal) (cond m c) (ctx m c) (wMod m c) (bMod m c), ?_, ?_⟩
  · refine (θ_run _ _ _).mono (fun r h c => ⟨?_, (h c).2⟩) (Cert.Kernel9Ideal.Value.run_blocks m g)
    exact (h c).1.trans ((funext fun i => Cert.Kernel9Ideal.Mod.final3 m c i).trans (mod_eq m c))
  · refine (θ_run _ _ _).mono (fun r h c => ⟨?_, (h c).2⟩) (Cert.Reference9Ideal.Value.run m' g')
    obtain ⟨h0, h1, h2, h3⟩ := hagree c
    refine (h c).1.trans ((Cert.Reference9Ideal.Read.val_main_v8_eq _ _ _ _).trans ?_)
    rw [h0, h1, h2, h3]

end Cert.Mod

end
-- ==== Proof.Norm.Block.lean ====
/-
  What the first normalization's body leaves in its staging buffer at one grid point: the rows it picks from one of two blocks,
  normed and modulated.
-/
module

public import proofs.«01_k».proof.Proof.Gen.Kernel10Ideal.Value
public import proofs.«01_k».proof.Proof.MixFirst.Block
public import Idealize.ShloMosaic.Lib.Pointwise
public import Idealize.ShloMosaic.Lib.Pipeline.ValueKit

@[expose] public section

set_option maxRecDepth 16384

noncomputable section

namespace Cert.Kernel10Ideal.Norm

open Idealize.ShloMosaic Cert.Kernel10Ideal Cert.Kernel10Ideal.Gen Cert.Layer

variable (i : grid0.Coords) (a b : Vec Ideal S1024x2048 .f32) (g shift scl : Vec Ideal S1x1x2048 .f32)

/-- The rows at point `i`. -/
abbrev sel : Vec Ideal S1024x2048 .f32 := Scalar.select (Scalar.cmpi .slt (BitVec.ofNat 32 (i 0).val) 8#32) a b

theorem out5_apply (r : Fin 1024) (e : Fin 2048) : out0_5 (F := Ideal) i a b g shift scl (ix2 r e)
    = normed (fun k => sel i a b (ix2 r k)) (fun k => g (ix3 0 0 k)) (fun k => shift (ix3 0 0 k)) (fun k => scl (ix3 0 0 k)) e := by
  unfold out0_5
  rw [View.canon_cons_unit_lit _ _ _ (by decide), View.ld_unit_lit _ a (by decide), View.ld_unit_lit _ b (by decide),
    View.ld_unit_lit _ g (by decide), View.ld_unit_lit _ shift (by decide), View.ld_unit_lit _ scl (by decide)]
  unfold k0_pay1 sel
  dsimp only
  generalize Scalar.select (Scalar.cmpi .slt (BitVec.ofNat 32 (i 0).val) 8#32) a b = X
  pointwise
  try rfl

end Cert.Kernel10Ideal.Norm

end
-- ==== Proof.Norm.Array.lean ====
/-
  What the normalized rows before the first layer hold after the run, element by element.
-/
module

public import proofs.«01_k».proof.Proof.Norm.Block

@[expose] public section

set_option maxRecDepth 16384

noncomputable section

namespace Cert.Layer

open Idealize.ShloMosaic

/-- Row `n` of the residual normed with the first layer's gain, modulated by its shift and scale. -/
def firstNorm (x : (⟨2, ![12288, 2048]⟩ : Shape).Idx → EReal) (mod : (⟨3, ![16, 1, 12288]⟩ : Shape).Idx → EReal)
    (g : (⟨2, ![2, 2048]⟩ : Shape).Idx → EReal) (n : Nat) (e : Fin 2048) : EReal :=
  normed (fun k => at2 x n k.val) (fun k => at2 g 0 k.val) (fun k => at3 mod (condRow n) 0 k.val)
    (fun k => at3 mod (condRow n) 0 (2048 + k.val)) e

end Cert.Layer

namespace Cert.Kernel10Ideal.Norm

open Idealize.ShloMosaic Idealize.ShloMosaic.TcCoe Idealize.SL.Sem
open Idealize.ShloMosaic.Pipeline (Dat)
open Cert.Kernel10Ideal Cert.Kernel10Ideal.Gen Cert.Layer

variable (m : (ℓ : Loc nD τ sig) → Buf (Elt Ideal) ℓ)

/-- The arguments as the run finds them. -/
abbrev xp (c : Dev nD) : FVec Ideal S8192x2048 .f32 := m ((c : Thread nD τ).loc main_arg0)
abbrev xs (c : Dev nD) : FVec Ideal S4096x2048 .f32 := m ((c : Thread nD τ).loc main_arg1)
abbrev modT (c : Dev nD) : FVec Ideal S16x1x12288 .f32 := m ((c : Thread nD τ).loc main_arg2)
abbrev gain (c : Dev nD) : FVec Ideal S2x2048 .f32 := m ((c : Thread nD τ).loc main_arg3)
abbrev xRes (c : Dev nD) : S12288x2048.Idx → EReal := joined (xp m c) (xs m c)

theorem gain_entry (c : Dev nD) (l : Fin 2) (k : Fin 2048) : V m c main_v0 (ix3 l 0 k) = gain m c (ix2 l k) := by
  have : V m c main_v0 = shapeCast S2x1x2048 (gain m c) shapeCasts_S2x2048_S2x1x2048 := by
    show StableHlo.after hostOps0 _ (Proc.devRef .tc main_v0) = _
    after_results
    rfl
  rw [this]; pointwise

/-- The windows' block indices. -/
theorem idx : ∀ t : Fin cfg0.N, win0_0.index t = ![min t.val 7, 0] ∧ win0_1.index t = ![t.val - 8, 0]
    ∧ win0_2.index t = ![0, 0, 0] ∧ win0_3.index t = ![condRow (t.val * 1024), 0, 0]
    ∧ win0_4.index t = ![condRow (t.val * 1024), 0, 1] ∧ win0_5.index t = ![t.val, 0] :=
  (by decide +kernel : ∀ t : Fin grid0.N, _)

theorem first : ∀ t : Fin cfg0.N, Scalar.cmpi .slt (BitVec.ofNat 32 (grid0.coords t 0).val) 8#32 = if t.val < 8 then 1#1 else 0#1 :=
  (by decide +kernel : ∀ t : Fin grid0.N, _)

/-- The rows of one block read one row of the modulation table. -/
theorem cond_block (t r : Nat) (hr : r < 1024) : condRow (t * 1024 + r) = condRow (t * 1024) := by
  unfold condRow
  split <;> split <;> omega

theorem xp_apply (c : Dev nD) (t : Fin cfg0.N) (ht : t.val < 8) (r : Fin 1024) (k : Fin 2048) :
    iblk m c 0 t (ix2 r k) = at2 (xp m c) (t.val * 1024 + r.val) k.val := by
  unfold iblk
  rw [View.read_apply]
  refine (congrFun (V_main_arg0 m c) _).trans (at2_eq (xp m c) _ _ _ ?_ ?_)
  · show win0_0.index t 0 * 1024 + 1 * r.val = _
    rw [(idx t).1]
    show min t.val 7 * 1024 + 1 * r.val = _
    omega
  · show win0_0.index t 1 * 2048 + 1 * k.val = _
    rw [(idx t).1]; simp

theorem xs_apply (c : Dev nD) (t : Fin cfg0.N) (r : Fin 1024) (k : Fin 2048) :
    iblk m c 1 t (ix2 r k) = at2 (xs m c) ((t.val - 8) * 1024 + r.val) k.val := by
  unfold iblk
  rw [View.read_apply]
  refine (congrFun (V_main_arg1 m c) _).trans (at2_eq (xs m c) _ _ _ ?_ ?_)
  · show win0_1.index t 0 * 1024 + 1 * r.val = _
    rw [(idx t).2.1]; simp
  · show win0_1.index t 1 * 2048 + 1 * k.val = _
    rw [(idx t).2.1]; simp

/-- An element of the joined residual. -/
theorem at_joined (c : Dev nD) (n k : Nat) (hn : n < 12288) (hk : k < 2048) :
    at2 (xRes m c) n k = if n < 8192 then at2 (xp m c) n k else at2 (xs m c) (n - 8192) k := by
  unfold at2 xRes joined
  rw [dif_pos ⟨hn, hk⟩]
  rfl

/-- The rows that the body picks are the joined residual's. -/
theorem x_apply (c : Dev nD) (t : Fin cfg0.N) (r : Fin 1024) (k : Fin 2048) :
    sel (grid0.coords t) (iblk m c 0 t) (iblk m c 1 t) (ix2 r k) = at2 (xRes m c) (t.val * 1024 + r.val) k.val := by
  have hN : t.val < 12 := t.isLt
  have hr := r.isLt
  rw [at_joined m c _ _ (by omega) k.isLt]
  unfold sel
  rw [first t]
  by_cases ht : t.val < 8
  · rw [if_pos ht, if_pos (by omega)]
    exact xp_apply m c t ht r k
  · rw [if_neg ht, if_neg (by omega)]
    refine (xs_apply m c t r k).trans ?_
    rw [show t.val * 1024 + r.val - 8192 = (t.val - 8) * 1024 + r.val from by omega]

theorem gain_apply (c : Dev nD) (t : Fin cfg0.N) (e : Fin 2048) : iblk m c 2 t (ix3 0 0 e) = at2 (gain m c) 0 e.val := by
  unfold iblk
  rw [View.read_apply]
  have h : (((cfg0.win 2).blk t).view.emb (ix3 0 0 e) : S2x1x2048.Idx) = ix3 0 0 e := by
    funext a
    have ei := (idx t).2.2.1
    fin_cases a
    · exact Fin.ext (by show win0_2.index t 0 * 1 + 1 * 0 = 0; rw [ei]; simp)
    · exact Fin.ext (by show win0_2.index t 1 * 1 + 1 * 0 = 0; rw [ei]; simp)
    · exact Fin.ext (by show win0_2.index t 2 * 2048 + 1 * e.val = e.val; rw [ei]; simp)
  refine (congrArg (V m c main_v0) h).trans ((gain_entry m c 0 e).trans (at2_eq (gain m c) _ _ _ rfl rfl))

theorem shift_apply (c : Dev nD) (t : Fin cfg0.N) (e : Fin 2048) :
    iblk m c 3 t (ix3 0 0 e) = at3 (modT m c) (condRow (t.val * 1024)) 0 e.val := by
  unfold iblk
  rw [View.read_apply]
  refine (congrFun (V_main_arg2 m c) _).trans (at3_eq (modT m c) _ _ _ _ ?_ ?_ ?_)
  · show win0_3.index t 0 * 1 + 1 * 0 = _
    rw [(idx t).2.2.2.1]; simp
  · show win0_3.index t 1 * 1 + 1 * 0 = _
    rw [(idx t).2.2.2.1]; simp
  · show win0_3.index t 2 * 2048 + 1 * e.val = _
    rw [(idx t).2.2.2.1]; simp

theorem scale_apply (c : Dev nD) (t : Fin cfg0.N) (e : Fin 2048) :
    iblk m c 4 t (ix3 0 0 e) = at3 (modT m c) (condRow (t.val * 1024)) 0 (2048 + e.val) := by
  unfold iblk
  rw [View.read_apply]
  refine (congrFun (V_main_arg2 m c) _).trans (at3_eq (modT m c) _ _ _ _ ?_ ?_ ?_)
  · show win0_4.index t 0 * 1 + 1 * 0 = _
    rw [(idx t).2.2.2.2.1]; simp
  · show win0_4.index t 1 * 1 + 1 * 0 = _
    rw [(idx t).2.2.2.2.1]; simp
  · show win0_4.index t 2 * 2048 + 1 * e.val = _
    rw [(idx t).2.2.2.2.1]; simp

/-- What the array holds. -/
def G5 (c : Dev nD) : Buf (Elt Ideal) ((c : Thread nD τ).loc main_v1) :=
  fun i : S12288x2048.Idx => firstNorm (xRes m c) (modT m c) (gain m c) (i 0).val (i 1)

theorem emb5 (t : Fin cfg0.N) (r : Fin 1024) (e : Fin 2048) (n : Fin 12288) (hn : n.val = t.val * 1024 + r.val) :
    (((cfg0.win 5).blk t).view.emb (ix2 r e) : S12288x2048.Idx) = ix2 n e := by
  funext a
  have e5 := (idx t).2.2.2.2.2
  fin_cases a
  · exact Fin.ext (by show win0_5.index t 0 * 1024 + 1 * r.val = n.val; rw [e5, hn]; simp)
  · exact Fin.ext (by show win0_5.index t 1 * 2048 + 1 * e.val = e.val; rw [e5]; simp)

theorem flush5 (c : Dev nD) (t : Fin cfg0.N) : (dats m 0 c).flushed 5 t = ((cfg0.win 5).blk t).view.read (Elt Ideal) (G5 m c) := by
  rw [Cert.Kernel10Ideal.Value.flushed5]
  funext y
  rw [View.read_apply]
  obtain ⟨r, e, rfl⟩ : ∃ (r : Fin 1024) (e : Fin 2048), y = ix2 r e := ⟨y 0, y 1, by funext a; fin_cases a <;> rfl⟩
  have hN : t.val < 12 := t.isLt
  have hr := r.isLt
  have hb : t.val * 1024 + r.val < 12288 := by omega
  refine (out5_apply _ _ _ _ _ _ r e).trans ?_
  refine Eq.trans ?_ (congrArg (G5 m c) (emb5 t r e ⟨_, hb⟩ rfl)).symm
  show _ = firstNorm (xRes m c) (modT m c) (gain m c) (t.val * 1024 + r.val) e
  unfold firstNorm
  rw [cond_block _ _ hr]
  congr 1
  · exact funext fun k => x_apply m c t r k
  · exact funext fun k => gain_apply m c t k
  · exact funext fun k => shift_apply m c t k
  · exact funext fun k => scale_apply m c t k

/-- Every point writes back. -/
theorem fl : ∀ t : Fin cfg0.N, (cfg0.win 5).flush t = true := (by decide +kernel : ∀ t : Fin grid0.N, _)

theorem final5 (c : Dev nD) (i : S12288x2048.Idx) : (dats m 0 c).arrAt 5 cfg0.N i = G5 m c i := by
  have h0 : (i 0).val < 12288 := (i 0).isLt
  have h1 : (i 1).val < 2048 := (i 1).isLt
  have hN : cfg0.N = 12 := by decide
  let t : Fin cfg0.N := ⟨(i 0).val / 1024, by rw [hN]; omega⟩
  refine (dats m 0 c).arrAt_apply_of_mem 5 (G5 m c) (fun t _ => flush5 m c t) cfg0.N t i t.isLt (fl t) ?_
  show i ∈ ((View.whole main_v1).slice (win0_5.rect t)).set
  rw [View.set_slice_whole, Rect.mem_set_unit]
  intro a
  have e := (idx t).2.2.2.2.2
  fin_cases a
  · show win0_5.index t 0 * 1024 ≤ (i 0).val ∧ (i 0).val < win0_5.index t 0 * 1024 + 1024
    rw [e]; show (i 0).val / 1024 * 1024 ≤ _ ∧ _ < (i 0).val / 1024 * 1024 + 1024; omega
  · show win0_5.index t 1 * 2048 ≤ (i 1).val ∧ (i 1).val < win0_5.index t 1 * 2048 + 2048
    rw [e]; show 0 * 2048 ≤ _ ∧ _ < 0 * 2048 + 2048; omega

end Cert.Kernel10Ideal.Norm

end
-- ==== Proof.Norm.Reference.lean ====
/-
  What the first normalization's reference computes, element by element.
-/
module

public import proofs.«01_k».proof.Proof.Norm.Array
public import proofs.«01_k».proof.Proof.Gen.Reference10Ideal.Run
public import proofs.«01_k».proof.Proof.Gen.Reference10Ideal.Read

@[expose] public section

set_option maxRecDepth 16384

noncomputable section

namespace Cert.Reference10Ideal.Norm

open Idealize.ShloMosaic Idealize.ShloMosaic.TcCoe Idealize.SL.Sem
open Cert.Reference10Ideal Cert.Reference10Ideal.Gen Cert.Reference10Ideal.Read Cert.Layer

variable (x0 : FVec Ideal S8192x2048 .f32) (x1 : FVec Ideal S4096x2048 .f32) (x2 : FVec Ideal S16x1x12288 .f32) (x3 : FVec Ideal S2x2048 .f32)

/-- The two arrays of the residual one after the other. -/
theorem xRow (n : Fin 12288) (e : Fin 2048) : val_main_v22 (F := Ideal) x0 x1 (ix2 n e) = at2 (joined x0 x1) n.val e.val := by
  have hn := n.isLt
  refine Eq.trans ?_ (at2_eq (joined x0 x1) (ix2 n e) _ _ rfl rfl)
  unfold val_main_v22 joined
  pointwise
  by_cases h : n.val < 8192
  · refine (dif_pos h).trans (Eq.trans ?_ (if_pos h).symm)
    exact at2_eq x0 _ _ _ rfl rfl
  · refine (dif_neg h).trans (Eq.trans ?_ (if_neg h).symm)
    exact at2_eq x1 _ _ _ rfl rfl

/-- Each token's row of one chunk of the modulation table. -/
theorem shiftRow (n : Fin 12288) (e : Fin 2048) :
    val_main_v10 (F := Ideal) x2 (ix2 n e) = at3 x2 (condRow n.val) 0 (e.val) := by
  have ha : ∀ n : Fin 8192, val_main_v8 (F := Ideal) x2 (ix2 n e) = at3 x2 0 0 (e.val) := by
    intro n
    have hn := n.isLt
    have he := e.isLt
    rw [val_main_v8_apply, val_main_v5_apply, val_main_v4_apply, val_main_v2_apply, val_main_v1_apply, val_main_v0_apply]
    refine at3_eq x2 _ _ _ _ ?_ rfl ?_
    · show ((0 * 2048 + (n.val * 2048 + e.val) % 2048) / 2048) = _; omega
    · show ((0 * 2048 + (n.val * 2048 + e.val) % 2048) % 2048) = _; omega
  have hb : ∀ n : Fin 4096, val_main_v9 (F := Ideal) x2 (ix2 n e) = at3 x2 (1 + n.val / 1024) 0 (e.val) := by
    intro n
    have hn := n.isLt
    have he := e.isLt
    rw [val_main_v9_apply, val_main_v7_apply, val_main_v6_apply, val_main_v3_apply, val_main_v1_apply, val_main_v0_apply]
    refine at3_eq x2 _ _ _ _ ?_ rfl ?_
    · show (((1 + (n.val * 2048 + e.val) / 2097152) * 2048 + (n.val * 2048 + e.val) % 2048) / 2048) = _; omega
    · show (((1 + (n.val * 2048 + e.val) / 2097152) * 2048 + (n.val * 2048 + e.val) % 2048) % 2048) = _; omega
  have hn := n.isLt
  unfold val_main_v10
  revert ha hb
  generalize val_main_v8 (F := Ideal) x2 = Y
  generalize val_main_v9 (F := Ideal) x2 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

/-- Each token's row of one chunk of the modulation table. -/
theorem scaleRow (n : Fin 12288) (e : Fin 2048) :
    val_main_v21 (F := Ideal) x2 (ix2 n e) = at3 x2 (condRow n.val) 0 (2048 + e.val) := by
  have ha : ∀ n : Fin 8192, val_main_v19 (F := Ideal) x2 (ix2 n e) = at3 x2 0 0 (2048 + e.val) := by
    intro n
    have hn := n.isLt
    have he := e.isLt
    rw [val_main_v19_apply, val_main_v16_apply, val_main_v15_apply, val_main_v13_apply, val_main_v12_apply, val_main_v11_apply]
    refine at3_eq x2 _ _ _ _ ?_ rfl ?_
    · show ((0 * 2048 + (n.val * 2048 + e.val) % 2048) / 2048) = _; omega
    · show 2048 + ((0 * 2048 + (n.val * 2048 + e.val) % 2048) % 2048) = _; omega
  have hb : ∀ n : Fin 4096, val_main_v20 (F := Ideal) x2 (ix2 n e) = at3 x2 (1 + n.val / 1024) 0 (2048 + e.val) := by
    intro n
    have hn := n.isLt
    have he := e.isLt
    rw [val_main_v20_apply, val_main_v18_apply, val_main_v17_apply, val_main_v14_apply, val_main_v12_apply, val_main_v11_apply]
    refine at3_eq x2 _ _ _ _ ?_ rfl ?_
    · show (((1 + (n.val * 2048 + e.val) / 2097152) * 2048 + (n.val * 2048 + e.val) % 2048) / 2048) = _; omega
    · show 2048 + (((1 + (n.val * 2048 + e.val) / 2097152) * 2048 + (n.val * 2048 + e.val) % 2048) % 2048) = _; omega
  have hn := n.isLt
  unfold val_main_v21
  revert ha hb
  generalize val_main_v19 (F := Ideal) x2 = Y
  generalize val_main_v20 (F := Ideal) x2 = Z
  intro ha hb
  pointwise
  by_cases h : n.val < 8192
  · rw [show condRow n.val = 0 from by unfold condRow; split <;> omega]
    exact (dif_pos h).trans (ha ⟨n.val, h⟩)
  · refine (dif_neg h).trans ?_
    refine (hb ⟨n.val - 8192, by omega⟩).trans ?_
    rw [show condRow n.val = 1 + (n.val - 8192) / 1024 from by unfold condRow; split <;> omega]

theorem gainRow (n : Fin 12288) (e : Fin 2048) : val_main_v36 (F := Ideal) x3 (ix2 n e) = at2 x3 0 e.val := by
  rw [val_main_v36_apply, val_main_v35_apply, val_main_v34_apply, val_main_v33_apply]
  refine at2_eq x3 _ _ _ rfl ?_
  show e.val % 2048 = _; omega

theorem rows (n : Fin 12288) (e : Fin 2048) :
    val_main_v42 (F := Ideal) x0 x1 x2 x3 (ix2 n e) = firstNorm (joined x0 x1) x2 x3 n.val e := by
  have hsum : val_main_v24 (F := Ideal) x0 x1 (ix1 n)
      = ∑ k : Fin 2048, at2 (joined x0 x1) n.val k.val * at2 (joined x0 x1) n.val k.val := by
    rw [val_main_v24_apply]
    have z : val_main_cst (F := Ideal) (Shape.Idx.first h_S_) = 0 := Ideal.ofBits_zero_f32
    rw [z, zero_add]
    refine Finset.sum_congr rfl fun k _ => ?_
    have e : idx_main_v24 (ix1 n) k = ix2 n k := funext fun a => by fin_cases a <;> rfl
    rw [e, val_main_v23_apply, xRow]
    rfl
  have hr : val_main_v31 (F := Ideal) x0 x1 (ix2 n e)
      = Ideal.rsqrt (meanSq (fun k => at2 (joined x0 x1) n.val k.val) + Ideal.ofBits .f32 0x358637BD#32) := by
    rw [val_main_v31_apply, val_main_v30_apply, val_main_v29_apply, val_main_v27_apply, val_main_v25_apply]
    have e : idx_main_v25 (idx_main_v31 (ix2 n e)) = ix1 n := funext fun a => by fin_cases a; rfl
    rw [e, hsum]
    rfl
  rw [val_main_v42_apply, val_main_v41_apply, val_main_v40_apply, val_main_v37_apply, val_main_v32_apply,
    shiftRow, gainRow, xRow, hr, val_main_v39_apply, scaleRow, val_main_v38_apply]
  have one : ∀ i, val_main_cst_2 (F := Ideal) i = 1 := fun _ => Ideal.ofBits_one_f32
  rw [one]
  rfl

end Cert.Reference10Ideal.Norm

end
-- ==== Proof.Norm.Equation.lean ====
/-
  The first normalization and its reference end with equal arrays.
-/
module

public import proofs.«01_k».proof.Defs
public import proofs.«01_k».proof.Proof.Norm.Reference

@[expose] public section

set_option maxRecDepth 16384

noncomputable section

namespace Cert.Norm

open Idealize.ShloMosaic Idealize.ShloMosaic.TcCoe Idealize.SL.Sem
open Cert.Kernel10Ideal.Norm (xp xs modT gain)
open Cert.Reference10Ideal.Read (val_main_v42)

variable (m : (ℓ : Loc Cert.Kernel10Ideal.nD Cert.Kernel10Ideal.τ Cert.Kernel10Ideal.sig) → Buf (Elt Ideal) ℓ)

theorem norm_eq (c : Dev Cert.Kernel10Ideal.nD) :
    Cert.Kernel10Ideal.Norm.G5 m c = val_main_v42 (F := Ideal) (xp m c) (xs m c) (modT m c) (gain m c) := by
  funext i
  obtain ⟨n, e, rfl⟩ : ∃ (n : Fin 12288) (e : Fin 2048), i = ix2 n e := ⟨i 0, i 1, by funext a; fin_cases a <;> rfl⟩
  exact (Cert.Reference10Ideal.Norm.rows _ _ _ _ n e).symm

theorem algebraic : Cert.algebraic_Kernel10Ideal_Reference10Ideal := by
  intro m g m' g' hpre hagree
  refine ⟨fun c => val_main_v42 (F := Ideal) (xp m c) (xs m c) (modT m c) (gain m c), ?_, ?_⟩
  · refine (θ_run _ _ _).mono (fun r h c => ⟨?_, (h c).2⟩) (Cert.Kernel10Ideal.Value.run_blocks m g)
    exact (h c).1.trans ((funext fun i => Cert.Kernel10Ideal.Norm.final5 m c i).trans (norm_eq m c))
  · refine (θ_run _ _ _).mono (fun r h c => ⟨?_, (h c).2⟩) (Cert.Reference10Ideal.Value.run m' g')
    obtain ⟨h0, h1, h2, h3⟩ := hagree c
    refine (h c).1.trans ((Cert.Reference10Ideal.Read.val_main_v42_eq _ _ _ _).trans ?_)
    rw [h0, h1, h2, h3]

end Cert.Norm

end
-- ==== Proof.lean ====
/-
  The certificate: the frames, the idealization's preservation, and the value claim of each call, assembled from the
  modules under Proof/.
-/
module

public import proofs.«01_k».proof.Proof.Attn.Equation
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.On_written
public import proofs.«01_k».proof.Proof.InProj.Equation
public import proofs.«01_k».proof.Proof.Gen.Reference2Ideal.Run
public import proofs.«01_k».proof.Proof.Gen.Reference2Ideal
public import proofs.«01_k».proof.Proof.InProj.Frame
public import proofs.«01_k».proof.Proof.InProj.FrameBits
public import proofs.«01_k».proof.Proof.Gen.Kernel2
public import proofs.«01_k».proof.Proof.Gen.Kernel2Ideal
public import proofs.«01_k».proof.Proof.Up.Equation
public import proofs.«01_k».proof.Proof.Gen.Reference3Ideal.Run
public import proofs.«01_k».proof.Proof.Gen.Reference3Ideal
public import proofs.«01_k».proof.Proof.Gen.Kernel3.Frame
public import proofs.«01_k».proof.Proof.Gen.Kernel3Ideal.Frame
public import proofs.«01_k».proof.Proof.Down.Equation
public import proofs.«01_k».proof.Proof.Gen.Reference4Ideal.Run
public import proofs.«01_k».proof.Proof.Gen.Reference4Ideal
public import proofs.«01_k».proof.Proof.Gen.Kernel4.Frame
public import proofs.«01_k».proof.Proof.Gen.Kernel4Ideal.Frame
public import proofs.«01_k».proof.Proof.Mix.Equation
public import proofs.«01_k».proof.Proof.Gen.Reference5Ideal.Run
public import proofs.«01_k».proof.Proof.Gen.Reference5Ideal
public import proofs.«01_k».proof.Proof.Mix.Point
public import proofs.«01_k».proof.Proof.Mix.FrameBits
public import proofs.«01_k».proof.Proof.Gen.Kernel5
public import proofs.«01_k».proof.Proof.Gen.Kernel5Ideal
public import proofs.«01_k».proof.Proof.Final.Equation
public import proofs.«01_k».proof.Proof.Gen.Reference6Ideal.Run
public import proofs.«01_k».proof.Proof.Gen.Reference6Ideal
public import proofs.«01_k».proof.Proof.Final.Point
public import proofs.«01_k».proof.Proof.Final.FrameBits
public import proofs.«01_k».proof.Proof.Gen.Kernel6
public import proofs.«01_k».proof.Proof.Gen.Kernel6Ideal
public import proofs.«01_k».proof.Proof.MixFirst.Equation
public import proofs.«01_k».proof.Proof.Gen.Reference7Ideal.Run
public import proofs.«01_k».proof.Proof.Gen.Reference7Ideal
public import proofs.«01_k».proof.Proof.MixFirst.Point
public import proofs.«01_k».proof.Proof.MixFirst.FrameBits
public import proofs.«01_k».proof.Proof.Gen.Kernel7
public import proofs.«01_k».proof.Proof.Gen.Kernel7Ideal
public import proofs.«01_k».proof.Proof.Cached.Equation
public import proofs.«01_k».proof.Proof.Gen.Reference8Ideal.Run
public import proofs.«01_k».proof.Proof.Gen.Reference8Ideal
public import proofs.«01_k».proof.Proof.Gen.Kernel8.Frame
public import proofs.«01_k».proof.Proof.Gen.Kernel8Ideal.Frame
public import proofs.«01_k».proof.Proof.Gen.On_written_cached
public import proofs.«01_k».proof.Proof.Mod.Equation
public import proofs.«01_k».proof.Proof.Gen.Reference9Ideal.Run
public import proofs.«01_k».proof.Proof.Gen.Reference9Ideal
public import proofs.«01_k».proof.Proof.Gen.Kernel9.Frame
public import proofs.«01_k».proof.Proof.Gen.Kernel9Ideal.Frame
public import proofs.«01_k».proof.Proof.Norm.Equation
public import proofs.«01_k».proof.Proof.Gen.Reference10Ideal.Run
public import proofs.«01_k».proof.Proof.Gen.Reference10Ideal
public import proofs.«01_k».proof.Proof.Gen.Kernel10.Frame
public import proofs.«01_k».proof.Proof.Gen.Kernel10Ideal.Frame
public import proofs.«01_k».proof.Defs
public import Idealize.ShloMosaic.Adequacy
public import Idealize.ShloMosaic.Init

@[expose] public section

noncomputable section

namespace Cert.Proof

open Idealize.ShloMosaic Idealize.SL.Sem

/-- The reference ends with its arguments unchanged and no semaphore raised. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The reference of program 2 ends with its arguments unchanged and no semaphore raised. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference of program 3 ends with its arguments unchanged and no semaphore raised. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The reference of program 4 ends with its arguments unchanged and no semaphore raised. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The reference of program 5 ends with its arguments unchanged and no semaphore raised. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- The reference of program 6 ends with its arguments unchanged and no semaphore raised. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The reference of program 7 ends with its arguments unchanged and no semaphore raised. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

/-- The reference of program 8 ends with its arguments unchanged and no semaphore raised. -/
theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run m ρ)

/-- The reference of program 9 ends with its arguments unchanged and no semaphore raised. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The reference of program 10 ends with its arguments unchanged and no semaphore raised. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Attn.preFacts,
    Cert.Cached.preFacts,
    Cert.On_written.Gen.facts,
    Cert.On_written_cached.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.InProj.frame_bits m ρ,
    fun m ρ _ => Cert.InProj.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Mix.frame_bits m ρ,
    fun m ρ _ => Cert.Mix.frame m ρ,
    frame_reference5,
    fun m ρ _ => Cert.Final.frame_bits m ρ,
    fun m ρ _ => Cert.Final.frame m ρ,
    frame_reference6,
    fun m ρ _ => Cert.MixFirst.frame_bits m ρ,
    fun m ρ _ => Cert.MixFirst.frame m ρ,
    frame_reference7,
    fun m ρ _ => Cert.Kernel8.Gen.frame m ρ,
    fun m ρ _ => Cert.Kernel8Ideal.Gen.frame m ρ,
    fun m ρ _ => Cert.Kernel8Ideal.Gen.frame m ρ,
    frame_reference8,
    fun m ρ _ => frame_reference8 m ρ trivial,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    trivial,
    Cert.Attn.algebraic (hPre := Cert.Attn.preFacts),
    trivial,
    Cert.InProj.algebraic,
    trivial,
    Cert.Up.algebraic,
    trivial,
    Cert.Down.algebraic,
    trivial,
    Cert.Mix.algebraic,
    trivial,
    Cert.Final.algebraic,
    trivial,
    Cert.MixFirst.algebraic,
    trivial,
    Cert.Cached.algebraic (hPre := Cert.Cached.preFacts),
    trivial,
    Cert.Mod.algebraic,
    trivial,
    Cert.Norm.algebraic⟩

end Cert.Proof

end
